-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_qk_a [hPre_finite_qk_a : Cert.Pre_finite_qk_a.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_qk_a.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite_qk_a.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_qk_a [hPre_finite_qk_a : Cert.Pre_finite_qk_a.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_qk_a.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite_qk_a.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_qk_a [hKernel5Ideal : Cert.Kernel5Ideal.Facts] [hPre_finite_qk_a : Cert.Pre_finite_qk_a.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_qk_a m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_qk_a [hReference5Ideal : Cert.Reference5Ideal.Facts] [hPre_finite_qk_a : Cert.Pre_finite_qk_a.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_qk_a m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "scale_a" .f32 0x3E0293EE#32 (((Real.sqrt 128)⁻¹ * (Real.log 2)⁻¹ : ℝ) : EReal)
  ∧ IdealRules.named_const.Statement Cert.Kernel2Ideal.κ "scale_b" .f32 0x3DD53B95#32 (((Real.sqrt 192)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v64_0)) (v1 : (c : Dev Cert.Kernel2Ideal.nD) → Buf (Elt Ideal) ((c.tc : Thread Cert.Kernel2Ideal.nD Cert.Kernel2Ideal.τ).loc Cert.Kernel2Ideal.main_v64_1)) (v2 : (c : Dev Cert.Kernel2Ideal.nD) → Buf (Elt Ideal) ((c.tc : Thread Cert.Kernel2Ideal.nD Cert.Kernel2Ideal.τ).loc Cert.Kernel2Ideal.main_v64_2)) (v3 : (c : Dev Cert.Kernel2Ideal.nD) → Buf (Elt Ideal) ((c.tc : Thread Cert.Kernel2Ideal.nD Cert.Kernel2Ideal.τ).loc Cert.Kernel2Ideal.main_v64_3)) (v4 : (c : Dev Cert.Kernel2Ideal.nD) → Buf (Elt Ideal) ((c.tc : Thread Cert.Kernel2Ideal.nD Cert.Kernel2Ideal.τ).loc Cert.Kernel2Ideal.main_v64_4)) (v5 : (c : Dev Cert.Kernel2Ideal.nD) → Buf (Elt Ideal) ((c.tc : Thread Cert.Kernel2Ideal.nD Cert.Kernel2Ideal.τ).loc Cert.Kernel2Ideal.main_v64_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v64_0) = v0 c
          ∧ r.2.mem ((c.tc : Thread Cert.Kernel2Ideal.nD Cert.Kernel2Ideal.τ).loc Cert.Kernel2Ideal.main_v64_1) = v1 c
          ∧ r.2.mem ((c.tc : Thread Cert.Kernel2Ideal.nD Cert.Kernel2Ideal.τ).loc Cert.Kernel2Ideal.main_v64_2) = v2 c
          ∧ r.2.mem ((c.tc : Thread Cert.Kernel2Ideal.nD Cert.Kernel2Ideal.τ).loc Cert.Kernel2Ideal.main_v64_3) = v3 c
          ∧ r.2.mem ((c.tc : Thread Cert.Kernel2Ideal.nD Cert.Kernel2Ideal.τ).loc Cert.Kernel2Ideal.main_v64_4) = v4 c
          ∧ r.2.mem ((c.tc : Thread Cert.Kernel2Ideal.nD Cert.Kernel2Ideal.τ).loc Cert.Kernel2Ideal.main_v64_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v238) = v0 c
          ∧ r.2.mem ((c.tc : Thread Cert.Reference2Ideal.nD Cert.Reference2Ideal.τ).loc Cert.Reference2Ideal.main_v239) = v1 c
          ∧ r.2.mem ((c.tc : Thread Cert.Reference2Ideal.nD Cert.Reference2Ideal.τ).loc Cert.Reference2Ideal.main_v240) = v2 c
          ∧ r.2.mem ((c.tc : Thread Cert.Reference2Ideal.nD Cert.Reference2Ideal.τ).loc Cert.Reference2Ideal.main_v241) = v3 c
          ∧ r.2.mem ((c.tc : Thread Cert.Reference2Ideal.nD Cert.Reference2Ideal.τ).loc Cert.Reference2Ideal.main_v242) = v4 c
          ∧ r.2.mem ((c.tc : Thread Cert.Reference2Ideal.nD Cert.Reference2Ideal.τ).loc Cert.Reference2Ideal.main_v243) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "alpha" .f32 0x3F9837F0#32 ((Real.sqrt (Real.sqrt 2) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_v109) = v1 c
          ∧ r.2.mem ((c.tc : Thread Cert.Reference3Ideal.nD Cert.Reference3Ideal.τ).loc Cert.Reference3Ideal.main_v111) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "alpha" .f32 0x3F9837F0#32 ((Real.sqrt (Real.sqrt 2) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_qk_a [hKernel5Ideal : Cert.Kernel5Ideal.Facts] [hReference5Ideal : Cert.Reference5Ideal.Facts] [hPre_finite_qk_a : Cert.Pre_finite_qk_a.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_qk_a m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v55)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v55) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_qk_a : Cert.Pre_finite_qk_a.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_qk_a (hKernel5Ideal := hKernel5Ideal) (hPre_finite_qk_a := hPre_finite_qk_a)
    ∧ quiescent_Reference5Ideal (hReference5Ideal := hReference5Ideal)
    ∧ quiescent_Reference5Ideal_pre_finite_qk_a (hReference5Ideal := hReference5Ideal) (hPre_finite_qk_a := hPre_finite_qk_a)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_qk_a (hKernel5Ideal := hKernel5Ideal) (hReference5Ideal := hReference5Ideal) (hPre_finite_qk_a := hPre_finite_qk_a)
-- ==== Pre_finite_qk.lean ====
abbrev S16x2048x8x128 : Shape := ⟨4, ![16, 2048, 8, 128]⟩
abbrev S16x2048x8x64 : Shape := ⟨4, ![16, 2048, 8, 64]⟩
abbrev S16x2048x64 : Shape := ⟨3, ![16, 2048, 64]⟩
abbrev S_ : Shape := ⟨0, ![]⟩

class Facts : Prop where
  bcast_S_S16x2048x8x128 : S_.BroadcastsInDim S16x2048x8x128 (![] : Fin 0 → Fin S16x2048x8x128.rank)
  bcast_S_S16x2048x8x64 : S_.BroadcastsInDim S16x2048x8x64 (![] : Fin 0 → Fin S16x2048x8x64.rank)
  bcast_S_S16x2048x64 : S_.BroadcastsInDim S16x2048x64 (![] : Fin 0 → Fin S16x2048x64.rank)

variable [Facts]

def fn {F : FTy → Type} [FloatOps F] (main_arg0 : FVec F S16x2048x8x128 .f32) (main_arg1 : FVec F S16x2048x8x64 .f32) (main_arg2 : FVec F S16x2048x8x128 .f32) (main_arg3 : FVec F S16x2048x64 .f32) (main_arg4 : FVec F S16x2048x8x128 .f32) : IVec S16x2048x8x128 1 × IVec S16x2048x8x64 1 × IVec S16x2048x8x128 1 × IVec S16x2048x64 1 :=
  let main_v0 : FVec F S16x2048x8x128 .f32 := Host.absf main_arg0
  let main_cst : FVec F S_ .f32 := constant S_ .f32 0x7F800000#32
  let main_v1 : FVec F S16x2048x8x128 .f32 := broadcastInDim S16x2048x8x128 ![] bcast_S_S16x2048x8x128 main_cst
  let main_v2 : IVec S16x2048x8x128 1 := cmpf .olt main_v0 main_v1
  let main_v3 : FVec F S16x2048x8x64 .f32 := Host.absf main_arg1
  let main_cst_0 : FVec F S_ .f32 := constant S_ .f32 0x7F800000#32
  let main_v4 : FVec F S16x2048x8x64 .f32 := broadcastInDim S16x2048x8x64 ![] bcast_S_S16x2048x8x64 main_cst_0
  let main_v5 : IVec S16x2048x8x64 1 := cmpf .olt main_v3 main_v4
  let main_v6 : FVec F S16x2048x8x128 .f32 := Host.absf main_arg2
  let main_cst_1 : FVec F S_ .f32 := constant S_ .f32 0x7F800000#32
  let main_v7 : FVec F S16x2048x8x128 .f32 := broadcastInDim S16x2048x8x128 ![] bcast_S_S16x2048x8x128 main_cst_1
  let main_v8 : IVec S16x2048x8x128 1 := cmpf .olt main_v6 main_v7
  let main_v9 : FVec F S16x2048x64 .f32 := Host.absf main_arg3
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  (main_v2, main_v5, main_v8, main_v11)
-- ==== Pre_finite_qk_a.lean ====
abbrev S16x2048x8x128 : Shape := ⟨4, ![16, 2048, 8, 128]⟩
abbrev S_ : Shape := ⟨0, ![]⟩

class Facts : Prop where
  bcast_S_S16x2048x8x128 : S_.BroadcastsInDim S16x2048x8x128 (![] : Fin 0 → Fin S16x2048x8x128.rank)

variable [Facts]

def fn {F : FTy → Type} [FloatOps F] (main_arg0 : FVec F S16x2048x8x128 .f32) (main_arg1 : FVec F S16x2048x8x128 .f32) (main_arg2 : FVec F S16x2048x8x128 .f32) : IVec S16x2048x8x128 1 × IVec S16x2048x8x128 1 :=
  let main_v0 : FVec F S16x2048x8x128 .f32 := Host.absf main_arg0
  let main_cst : FVec F S_ .f32 := constant S_ .f32 0x7F800000#32
  let main_v1 : FVec F S16x2048x8x128 .f32 := broadcastInDim S16x2048x8x128 ![] bcast_S_S16x2048x8x128 main_cst
  let main_v2 : IVec S16x2048x8x128 1 := cmpf .olt main_v0 main_v1
  let main_v3 : FVec F S16x2048x8x128 .f32 := Host.absf main_arg1
  let main_cst_0 : FVec F S_ .f32 := constant S_ .f32 0x7F800000#32
  let main_v4 : FVec F S16x2048x8x128 .f32 := broadcastInDim S16x2048x8x128 ![] bcast_S_S16x2048x8x128 main_cst_0
  let main_v5 : IVec S16x2048x8x128 1 := cmpf .olt main_v3 main_v4
  (main_v2, main_v5)
-- ==== Kernel.lean ====
abbrev S16x2048x8x128 : Shape := ⟨4, ![16, 2048, 8, 128]⟩
abbrev S16x2048x8x64 : Shape := ⟨4, ![16, 2048, 8, 64]⟩
abbrev S16x2048x64 : Shape := ⟨3, ![16, 2048, 64]⟩
abbrev S_ : Shape := ⟨0, ![]⟩
abbrev S16x2048x1x64 : Shape := ⟨4, ![16, 2048, 1, 64]⟩
abbrev S16x2048x8x256 : Shape := ⟨4, ![16, 2048, 8, 256]⟩
abbrev S32768x2048 : Shape := ⟨2, ![32768, 2048]⟩
abbrev S32768x1024 : Shape := ⟨2, ![32768, 1024]⟩
abbrev S1024x32768 : Shape := ⟨2, ![1024, 32768]⟩
abbrev S512 : Shape := ⟨1, ![512]⟩
abbrev S1x512 : Shape := ⟨2, ![1, 512]⟩
abbrev S2048 : Shape := ⟨1, ![2048]⟩
abbrev S2048x1 : Shape := ⟨2, ![2048, 1]⟩
abbrev S2048x512 : Shape := ⟨2, ![2048, 512]⟩
abbrev S512x512 : Shape := ⟨2, ![512, 512]⟩
abbrev S2048x256 : Shape := ⟨2, ![2048, 256]⟩
abbrev S128x2048 : Shape := ⟨2, ![128, 2048]⟩
abbrev S2048x128 : Shape := ⟨2, ![2048, 128]⟩
abbrev S512x256 : Shape := ⟨2, ![512, 256]⟩
abbrev S128x512 : Shape := ⟨2, ![128, 512]⟩
abbrev S512x128 : Shape := ⟨2, ![512, 128]⟩
abbrev S1024x256 : Shape := ⟨2, ![1024, 256]⟩
abbrev S1024x512 : Shape := ⟨2, ![1024, 512]⟩
abbrev S1536x256 : Shape := ⟨2, ![1536, 256]⟩
abbrev S1536x512 : Shape := ⟨2, ![1536, 512]⟩
abbrev S128x1024 : Shape := ⟨2, ![128, 1024]⟩
abbrev S128x1536 : Shape := ⟨2, ![128, 1536]⟩

abbrev nBuf : Space → Nat
  | .hbm => 128
  | .vmem => 9
  | .smem => 0
  | _ => 0

abbrev bufTy : (tb : Table) → Fin (tcTables nBuf tb) → BufTy
  | .hbm, ⟨0, _⟩ => ⟨S16x2048x8x128, .f32⟩
  | .hbm, ⟨1, _⟩ => ⟨S16x2048x8x64, .f32⟩
  | .hbm, ⟨2, _⟩ => ⟨S16x2048x8x128, .f32⟩
  | .hbm, ⟨3, _⟩ => ⟨S16x2048x64, .f32⟩
  | .hbm, ⟨4, _⟩ => ⟨S16x2048x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x2048x8x64, .f32⟩
  | .hbm, ⟨12, _⟩ => ⟨S16x2048x1x64, .f32⟩
  | .hbm, ⟨13, _⟩ => ⟨S16x2048x8x64, .f32⟩
  | .hbm, ⟨14, _⟩ => ⟨S16x2048x8x256, .f32⟩
  | .hbm, ⟨15, _⟩ => ⟨S16x2048x8x256, .f32⟩
  | .hbm, ⟨16, _⟩ => ⟨S16x2048x8x256, .f32⟩
  | .hbm, ⟨17, _⟩ => ⟨S16x2048x8x256, .bf16⟩
  | .hbm, ⟨18, _⟩ => ⟨S32768x2048, .bf16⟩
  | .hbm, ⟨19, _⟩ => ⟨S16x2048x8x256, .f32⟩
  | .hbm, ⟨20, _⟩ => ⟨S16x2048x8x256, .bf16⟩
  | .hbm, ⟨21, _⟩ => ⟨S32768x2048, .bf16⟩
  | .hbm, ⟨22, _⟩ => ⟨S32768x1024, .f32⟩
  | .hbm, ⟨23, _⟩ => ⟨S32768x1024, .bf16⟩
  | .hbm, ⟨24, _⟩ => ⟨S1024x32768, .bf16⟩
  | .hbm, ⟨25, _⟩ => ⟨S512, .i32⟩
  | .hbm, ⟨26, _⟩ => ⟨S1x512, .i32⟩
  | .hbm, ⟨27, _⟩ => ⟨S_, .i32⟩
  | .hbm, ⟨28, _⟩ => ⟨S1x512, .i32⟩
  | .hbm, ⟨29, _⟩ => ⟨S1x512, .i32⟩
  | .hbm, ⟨30, _⟩ => ⟨S2048, .i32⟩
  | .hbm, ⟨31, _⟩ => ⟨S2048x1, .i32⟩
  | .hbm, ⟨32, _⟩ => ⟨S2048x512, .i32⟩
  | .hbm, ⟨33, _⟩ => ⟨S2048x512, .i32⟩
  | .hbm, ⟨34, _⟩ => ⟨S2048x512, .i32⟩
  | .hbm, ⟨35, _⟩ => ⟨S_, .i32⟩
  | .hbm, ⟨36, _⟩ => ⟨S2048x512, .i32⟩
  | .hbm, ⟨37, _⟩ => ⟨S2048x512, .i1⟩
  | .hbm, ⟨38, _⟩ => ⟨S_, .i32⟩
  | .hbm, ⟨39, _⟩ => ⟨S2048x512, .i32⟩
  | .hbm, ⟨40, _⟩ => ⟨S2048x512, .i1⟩
  | .hbm, ⟨41, _⟩ => ⟨S2048x512, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S2048x512, .i32⟩
  | .hbm, ⟨49, _⟩ => ⟨S2048x512, .i32⟩
  | .hbm, ⟨50, _⟩ => ⟨S_, .i32⟩
  | .hbm, ⟨51, _⟩ => ⟨S2048x512, .i32⟩
  | .hbm, ⟨52, _⟩ => ⟨S2048x512, .i1⟩
  | .hbm, ⟨53, _⟩ => ⟨S_, .i32⟩
  | .hbm, ⟨54, _⟩ => ⟨S2048x512, .i32⟩
  | .hbm, ⟨55, _⟩ => ⟨S2048x512, .i1⟩
  | .hbm, ⟨56, _⟩ => ⟨S_, .i32⟩
  | .hbm, ⟨57, _⟩ => ⟨S_, .i1⟩
  | .hbm, ⟨58, _⟩ => ⟨S2048x512, .i1⟩
  | .hbm, ⟨59, _⟩ => ⟨S2048x512, .i1⟩
  | .hbm, ⟨60, _⟩ => ⟨S2048x512, .i1⟩
  | .hbm, ⟨61, _⟩ => ⟨S2048x512, .i32⟩
  | .hbm, ⟨62, _⟩ => ⟨S2048x512, .i32⟩
  | .hbm, ⟨63, _⟩ => ⟨S2048x512, .i32⟩
  | .hbm, ⟨64, _⟩ => ⟨S_, .i32⟩
  | .hbm, ⟨65, _⟩ => ⟨S2048x512, .i32⟩
  | .hbm, ⟨66, _⟩ => ⟨S2048x512, .i1⟩
  | .hbm, ⟨67, _⟩ => ⟨S_, .i32⟩
  | .hbm, ⟨68, _⟩ => ⟨S2048x512, .i32⟩
  | .hbm, ⟨69, _⟩ => ⟨S2048x512, .i1⟩
  | .hbm, ⟨70, _⟩ => ⟨S2048x512, .i1⟩
  | .hbm, ⟨71, _⟩ => ⟨S2048x512, .f32⟩
  | .hbm, ⟨72, _⟩ => ⟨S2048x512, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S2048x512, .i32⟩
  | .hbm, ⟨80, _⟩ => ⟨S2048x512, .i32⟩
  | .hbm, ⟨81, _⟩ => ⟨S_, .i32⟩
  | .hbm, ⟨82, _⟩ => ⟨S2048x512, .i32⟩
  | .hbm, ⟨83, _⟩ => ⟨S2048x512, .i1⟩
  | .hbm, ⟨84, _⟩ => ⟨S_, .i32⟩
  | .hbm, ⟨85, _⟩ => ⟨S2048x512, .i32⟩
  | .hbm, ⟨86, _⟩ => ⟨S2048x512, .i1⟩
  | .hbm, ⟨87, _⟩ => ⟨S_, .i32⟩
  | .hbm, ⟨88, _⟩ => ⟨S_, .i1⟩
  | .hbm, ⟨89, _⟩ => ⟨S2048x512, .i1⟩
  | .hbm, ⟨90, _⟩ => ⟨S2048x512, .i1⟩
  | .hbm, ⟨91, _⟩ => ⟨S2048x512, .i1⟩
  | .hbm, ⟨92, _⟩ => ⟨S2048x512, .i32⟩
  | .hbm, ⟨93, _⟩ => ⟨S2048x512, .i32⟩
  | .hbm, ⟨94, _⟩ => ⟨S2048x512, .i32⟩
  | .hbm, ⟨95, _⟩ => ⟨S_, .i32⟩
  | .hbm, ⟨96, _⟩ => ⟨S2048x512, .i32⟩
  | .hbm, ⟨97, _⟩ => ⟨S2048x512, .i1⟩
  | .hbm, ⟨98, _⟩ => ⟨S_, .i32⟩
  | .hbm, ⟨99, _⟩ => ⟨S2048x512, .i32⟩
  | .hbm, ⟨100, _⟩ => ⟨S2048x512, .i1⟩
  | .hbm, ⟨101, _⟩ => ⟨S2048x512, .i1⟩
  | .hbm, ⟨102, _⟩ => ⟨S2048x512, .f32⟩
  | .hbm, ⟨103, _⟩ => ⟨S2048x512, .f32⟩
  | .hbm, ⟨104, _⟩ => ⟨S_, .f32⟩
  | .hbm, ⟨105, _⟩ => ⟨S2048x512, .f32⟩
  | .hbm, ⟨106, _⟩ => ⟨S2048x512, .i1⟩
  | .hbm, ⟨107, _⟩ => ⟨S2048x512, .i1⟩
  | .hbm, ⟨108, _⟩ => ⟨S_, .f32⟩
  | .hbm, ⟨109, _⟩ => ⟨S2048x512, .f32⟩
  | .hbm, ⟨110, _⟩ => ⟨S2048x512, .f32⟩
  | .hbm, ⟨111, _⟩ => ⟨S2048x512, .f32⟩
  | .hbm, ⟨112, _⟩ => ⟨S_, .f32⟩
  | .hbm, ⟨113, _⟩ => ⟨S_, .f32⟩
  | .hbm, ⟨114, _⟩ => ⟨S2048x512, .f32⟩
  | .hbm, ⟨115, _⟩ => ⟨S2048x512, .f32⟩
  | .hbm, ⟨116, _⟩ => ⟨S_, .f32⟩
  | .hbm, ⟨117, _⟩ => ⟨S_, .f32⟩
  | .hbm, ⟨118, _⟩ => ⟨S2048x512, .f32⟩
  | .hbm, ⟨119, _⟩ => ⟨S2048x512, .f32⟩
  | .hbm, ⟨120, _⟩ => ⟨S512x512, .i1⟩
  | .hbm, ⟨121, _⟩ => ⟨S_, .f32⟩
  | .hbm, ⟨122, _⟩ => ⟨S_, .f32⟩
  | .hbm, ⟨123, _⟩ => ⟨S512x512, .f32⟩
  | .hbm, ⟨124, _⟩ => ⟨S512x512, .f32⟩
  | .hbm, ⟨125, _⟩ => ⟨S512x512, .f32⟩
  | .hbm, ⟨126, _⟩ => ⟨S512x512, .f32⟩
  | .hbm, ⟨127, _⟩ => ⟨S32768x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S128x2048, .bf16⟩
  | .local _ .vmem, ⟨5, _⟩ => ⟨S128x2048, .bf16⟩
  | .local _ .vmem, ⟨6, _⟩ => ⟨S512x512, .f32⟩
  | .local _ .vmem, ⟨7, _⟩ => ⟨S2048x128, .f32⟩
  | .local _ .vmem, ⟨8, _⟩ => ⟨S2048x128, .f32⟩
  | _, _ => ⟨S16x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_1 : Ref sig .tc := ⟨.hbm, 50, rfl⟩
abbrev main_call0_v5 : Ref sig .tc := ⟨.hbm, 51, rfl⟩
abbrev main_call0_v6 : Ref sig .tc := ⟨.hbm, 52, rfl⟩
abbrev main_call0_c_2 : Ref sig .tc := ⟨.hbm, 53, rfl⟩
abbrev main_call0_v7 : Ref sig .tc := ⟨.hbm, 54, rfl⟩
abbrev main_call0_v8 : Ref sig .tc := ⟨.hbm, 55, rfl⟩
abbrev main_call0_c_3 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_v31 : Ref sig .tc := ⟨.hbm, 63, rfl⟩
abbrev main_c_5 : Ref sig .tc := ⟨.hbm, 64, rfl⟩
abbrev main_v32 : Ref sig .tc := ⟨.hbm, 65, rfl⟩
abbrev main_v33 : Ref sig .tc := ⟨.hbm, 66, rfl⟩
abbrev main_c_6 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_7 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_v5 : Ref sig .tc := ⟨.hbm, 82, rfl⟩
abbrev main_call1_v6 : Ref sig .tc := ⟨.hbm, 83, rfl⟩
abbrev main_call1_c_2 : Ref sig .tc := ⟨.hbm, 84, rfl⟩
abbrev main_call1_v7 : Ref sig .tc := ⟨.hbm, 85, rfl⟩
abbrev main_call1_v8 : Ref sig .tc := ⟨.hbm, 86, rfl⟩
abbrev main_call1_c_3 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_v39 : Ref sig .tc := ⟨.hbm, 94, rfl⟩
abbrev main_c_8 : Ref sig .tc := ⟨.hbm, 95, rfl⟩
abbrev main_v40 : Ref sig .tc := ⟨.hbm, 96, rfl⟩
abbrev main_v41 : Ref sig .tc := ⟨.hbm, 97, rfl⟩
abbrev main_c_9 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_cst_10 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_cst_11 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_cst_12 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_13 : Ref sig .tc := ⟨.hbm, 116, rfl⟩
abbrev main_call2_v0 : Ref sig .tc := ⟨.hbm, 117, rfl⟩
abbrev main_call2_v1 : Ref sig .tc := ⟨.hbm, 118, rfl⟩
abbrev main_v56 : Ref sig .tc := ⟨.hbm, 119, rfl⟩
abbrev main_v57 : Ref sig .tc := ⟨.hbm, 120, rfl⟩
abbrev main_cst_14 : Ref sig .tc := ⟨.hbm, 121, rfl⟩
abbrev main_cst_15 : Ref sig .tc := ⟨.hbm, 122, rfl⟩
abbrev main_call3_v0 : Ref sig .tc := ⟨.hbm, 123, rfl⟩
abbrev main_call3_v1 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x8x128 : Shape := ⟨4, ![16, 2048, 8, 128]⟩
abbrev S16x2048x8x64 : Shape := ⟨4, ![16, 2048, 8, 64]⟩
abbrev S16x2048x64 : Shape := ⟨3, ![16, 2048, 64]⟩
abbrev S_ : Shape := ⟨0, ![]⟩
abbrev S16x8x2048x2048 : Shape := ⟨4, ![16, 8, 2048, 2048]⟩
abbrev S16x2048x2048x8 : Shape := ⟨4, ![16, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x8x128, .f32⟩
  | .hbm, ⟨1, _⟩ => ⟨S16x2048x8x64, .f32⟩
  | .hbm, ⟨2, _⟩ => ⟨S16x2048x8x128, .f32⟩
  | .hbm, ⟨3, _⟩ => ⟨S16x2048x64, .f32⟩
  | .hbm, ⟨4, _⟩ => ⟨S16x2048x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x8x2048x2048, .f32⟩
  | .hbm, ⟨10, _⟩ => ⟨S16x2048x2048x8, .f32⟩
  | .hbm, ⟨11, _⟩ => ⟨S16x8x2048x2048, .f32⟩
  | .hbm, ⟨12, _⟩ => ⟨S16x8x2048x2048, .f32⟩
  | .hbm, ⟨13, _⟩ => ⟨S16x8x2048x2048, .f32⟩
  | .hbm, ⟨14, _⟩ => ⟨S16x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S16x8x2048x2048, .i1⟩
  | .hbm, ⟨24, _⟩ => ⟨S16x8x2048x2048, .f32⟩
  | .hbm, ⟨25, _⟩ => ⟨S16x8x2048x2048, .f32⟩
  | .hbm, ⟨26, _⟩ => ⟨S_, .f32⟩
  | .hbm, ⟨27, _⟩ => ⟨S16x8x2048, .f32⟩
  | .hbm, ⟨28, _⟩ => ⟨S_, .f32⟩
  | .hbm, ⟨29, _⟩ => ⟨S16x8x2048, .f32⟩
  | .hbm, ⟨30, _⟩ => ⟨S16x8x2048, .f32⟩
  | .hbm, ⟨31, _⟩ => ⟨S16x8x2048x1, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S_, .f32⟩
  | .hbm, ⟨36, _⟩ => ⟨S16x8x2048, .f32⟩
  | .hbm, ⟨37, _⟩ => ⟨S16x8x2048x1, .f32⟩
  | .hbm, ⟨38, _⟩ => ⟨S16x8x2048x2048, .f32⟩
  | .hbm, ⟨39, _⟩ => ⟨S16x8x2048x2048, .f32⟩
  | .hbm, ⟨40, _⟩ => ⟨S16x8x128x2048, .f32⟩
  | .hbm, ⟨41, _⟩ => ⟨S16x2048x8x128, .f32⟩
  | .hbm, ⟨42, _⟩ => ⟨S32768x1024, .f32⟩
  | _, _ => ⟨S16x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel2.lean ====
abbrev S16x2048x2048 : Shape := ⟨3, ![16, 2048, 2048]⟩
abbrev S16x12288 : Shape := ⟨2, ![16, 12288]⟩
abbrev S2048x4160 : Shape := ⟨2, ![2048, 4160]⟩
abbrev S512 : Shape := ⟨1, ![512]⟩
abbrev S512x1536 : Shape := ⟨2, ![512, 1536]⟩
abbrev S512x1024 : Shape := ⟨2, ![512, 1024]⟩
abbrev S32768x2048 : Shape := ⟨2, ![32768, 2048]⟩
abbrev S96x1x2048 : Shape := ⟨3, ![96, 1, 2048]⟩
abbrev S2048x2048 : Shape := ⟨2, ![2048, 2048]⟩
abbrev S2048x1088 : Shape := ⟨2, ![2048, 1088]⟩
abbrev S2048x3136 : Shape := ⟨2, ![2048, 3136]⟩
abbrev S_ : Shape := ⟨0, ![]⟩
abbrev S2048x3200 : Shape := ⟨2, ![2048, 3200]⟩
abbrev S2048x1024 : Shape := ⟨2, ![2048, 1024]⟩
abbrev S1024x2048 : Shape := ⟨2, ![1024, 2048]⟩
abbrev S512x8x192 : Shape := ⟨3, ![512, 8, 192]⟩
abbrev S512x8x256 : Shape := ⟨3, ![512, 8, 256]⟩
abbrev S512x2048 : Shape := ⟨2, ![512, 2048]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S32 : Shape := ⟨1, ![32]⟩
abbrev S1x32 : Shape := ⟨2, ![1, 32]⟩
abbrev S2048x32 : Shape := ⟨2, ![2048, 32]⟩
abbrev S2048x64 : Shape := ⟨2, ![2048, 64]⟩
abbrev S1024x512 : Shape := ⟨2, ![1024, 512]⟩
abbrev S1x512 : Shape := ⟨2, ![1, 512]⟩
abbrev S32768x1024 : Shape := ⟨2, ![32768, 1024]⟩
abbrev S1024x32768 : Shape := ⟨2, ![1024, 32768]⟩
abbrev S1x1x2048 : Shape := ⟨3, ![1, 1, 2048]⟩
abbrev S512x128 : Shape := ⟨2, ![512, 128]⟩
abbrev S512x1 : Shape := ⟨2, ![512, 1]⟩
abbrev S1x2048 : Shape := ⟨2, ![1, 2048]⟩
abbrev S2048x512 : Shape := ⟨2, ![2048, 512]⟩
abbrev S512x512 : Shape := ⟨2, ![512, 512]⟩

abbrev nBuf : Space → Nat
  | .hbm => 94
  | .vmem => 37
  | .smem => 0
  | _ => 0

abbrev bufTy : (tb : Table) → Fin (tcTables nBuf tb) → BufTy
  | .hbm, ⟨0, _⟩ => ⟨S16x2048x2048, .f32⟩
  | .hbm, ⟨1, _⟩ => ⟨S16x12288, .f32⟩
  | .hbm, ⟨2, _⟩ => ⟨S2048x4160, .f32⟩
  | .hbm, ⟨3, _⟩ => ⟨S512, .f32⟩
  | .hbm, ⟨4, _⟩ => ⟨S512, .f32⟩
  | .hbm, ⟨5, _⟩ => ⟨S512x1536, .f32⟩
  | .hbm, ⟨6, _⟩ => ⟨S512x1024, .f32⟩
  | .hbm, ⟨7, _⟩ => ⟨S512x1024, .f32⟩
  | .hbm, ⟨8, _⟩ => ⟨S32768x2048, .f32⟩
  | .hbm, ⟨9, _⟩ => ⟨S96x1x2048, .f32⟩
  | .hbm, ⟨10, _⟩ => ⟨S2048x4160, .bf16⟩
  | .hbm, ⟨11, _⟩ => ⟨S2048x2048, .bf16⟩
  | .hbm, ⟨12, _⟩ => ⟨S2048x1088, .bf16⟩
  | .hbm, ⟨13, _⟩ => ⟨S2048x3136, .bf16⟩
  | .hbm, ⟨14, _⟩ => ⟨S_, .i32⟩
  | .hbm, ⟨15, _⟩ => ⟨S_, .bf16⟩
  | .hbm, ⟨16, _⟩ => ⟨S2048x3200, .bf16⟩
  | .hbm, ⟨17, _⟩ => ⟨S2048x1024, .bf16⟩
  | .hbm, ⟨18, _⟩ => ⟨S1024x2048, .bf16⟩
  | .hbm, ⟨19, _⟩ => ⟨S512x1536, .bf16⟩
  | .hbm, ⟨20, _⟩ => ⟨S512x8x192, .bf16⟩
  | .hbm, ⟨21, _⟩ => ⟨S_, .i32⟩
  | .hbm, ⟨22, _⟩ => ⟨S_, .bf16⟩
  | .hbm, ⟨23, _⟩ => ⟨S512x8x256, .bf16⟩
  | .hbm, ⟨24, _⟩ => ⟨S512x2048, .bf16⟩
  | .hbm, ⟨25, _⟩ => ⟨S2048, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S2048x1, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S_, .f32⟩
  | .hbm, ⟨45, _⟩ => ⟨S2048x96, .f32⟩
  | .hbm, ⟨46, _⟩ => ⟨S_, .f32⟩
  | .hbm, ⟨47, _⟩ => ⟨S2048x96, .f32⟩
  | .hbm, ⟨48, _⟩ => ⟨S_, .f32⟩
  | .hbm, ⟨49, _⟩ => ⟨S2048x16, .f32⟩
  | .hbm, ⟨50, _⟩ => ⟨S2048x128, .f32⟩
  | .hbm, ⟨51, _⟩ => ⟨S2048x16, .f32⟩
  | .hbm, ⟨52, _⟩ => ⟨S2048x128, .f32⟩
  | .hbm, ⟨53, _⟩ => ⟨S2048x128, .f32⟩
  | .hbm, ⟨54, _⟩ => ⟨S2048, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2048x1, .f32⟩
  | .hbm, ⟨67, _⟩ => ⟨S1x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S_, .f32⟩
  | .hbm, ⟨74, _⟩ => ⟨S2048x64, .f32⟩
  | .hbm, ⟨75, _⟩ => ⟨S_, .f32⟩
  | .hbm, ⟨76, _⟩ => ⟨S2048x64, .f32⟩
  | .hbm, ⟨77, _⟩ => ⟨S_, .f32⟩
  | .hbm, ⟨78, _⟩ => ⟨S2048x32, .f32⟩
  | .hbm, ⟨79, _⟩ => ⟨S2048x128, .f32⟩
  | .hbm, ⟨80, _⟩ => ⟨S2048x32, .f32⟩
  | .hbm, ⟨81, _⟩ => ⟨S2048x128, .f32⟩
  | .hbm, ⟨82, _⟩ => ⟨S2048x128, .f32⟩
  | .hbm, ⟨83, _⟩ => ⟨S512x1024, .bf16⟩
  | .hbm, ⟨84, _⟩ => ⟨S512x1024, .bf16⟩
  | .hbm, ⟨85, _⟩ => ⟨S1024x512, .bf16⟩
  | .hbm, ⟨86, _⟩ => ⟨S1x512, .f32⟩
  | .hbm, ⟨87, _⟩ => ⟨S1x512, .f32⟩
  | .hbm, ⟨88, _⟩ => ⟨S32768x1024, .bf16⟩
  | .hbm, ⟨89, _⟩ => ⟨S32768x1024, .bf16⟩
  | .hbm, ⟨90, _⟩ => ⟨S1024x32768, .bf16⟩
  | .hbm, ⟨91, _⟩ => ⟨S32768x2048, .bf16⟩
  | .hbm, ⟨92, _⟩ => ⟨S32768x2048, .bf16⟩
  | .hbm, ⟨93, _⟩ => ⟨S1024x32768, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x3200, .bf16⟩
  | .local _ .vmem, ⟨7, _⟩ => ⟨S1024x2048, .bf16⟩
  | .local _ .vmem, ⟨8, _⟩ => ⟨S512x2048, .bf16⟩
  | .local _ .vmem, ⟨9, _⟩ => ⟨S512x1024, .bf16⟩
  | .local _ .vmem, ⟨10, _⟩ => ⟨S1024x512, .bf16⟩
  | .local _ .vmem, ⟨11, _⟩ => ⟨S1x512, .f32⟩
  | .local _ .vmem, ⟨12, _⟩ => ⟨S1x512, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1024x512, .bf16⟩
  | .local _ .vmem, ⟨30, _⟩ => ⟨S1024x512, .bf16⟩
  | .local _ .vmem, ⟨31, _⟩ => ⟨S512x2048, .bf16⟩
  | .local _ .vmem, ⟨32, _⟩ => ⟨S512x2048, .bf16⟩
  | .local _ .vmem, ⟨33, _⟩ => ⟨S512x2048, .bf16⟩
  | .local _ .vmem, ⟨34, _⟩ => ⟨S512x2048, .bf16⟩
  | .local _ .vmem, ⟨35, _⟩ => ⟨S1024x512, .bf16⟩
  | .local _ .vmem, ⟨36, _⟩ => ⟨S1024x512, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64_0 : Ref sig .tc := ⟨.hbm, 88, rfl⟩
abbrev main_v64_1 : Ref sig .tc := ⟨.hbm, 89, rfl⟩
abbrev main_v64_2 : Ref sig .tc := ⟨.hbm, 90, rfl⟩
abbrev main_v64_3 : Ref sig .tc := ⟨.hbm, 91, rfl⟩
abbrev main_v64_4 : Ref sig .tc := ⟨.hbm, 92, rfl⟩
abbrev main_v64_5 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel2Ideal.lean ====
variable {F : FTy → Type} [FloatOps F] [Named F]
def κ : String → Option EReal := fun
  | "scale_a" => some (((Real.sqrt 128)⁻¹ * (Real.log 2)⁻¹ : ℝ) : EReal)
  | "scale_b" => some (((Real.sqrt 192)⁻¹ * (Real.log 2)⁻¹ : ℝ) : EReal)
  | _ => none
-- ==== Reference2Ideal.lean ====
abbrev S16x2048x2048 : Shape := ⟨3, ![16, 2048, 2048]⟩
abbrev S16x12288 : Shape := ⟨2, ![16, 12288]⟩
abbrev S2048x4160 : Shape := ⟨2, ![2048, 4160]⟩
abbrev S512 : Shape := ⟨1, ![512]⟩
abbrev S512x1536 : Shape := ⟨2, ![512, 1536]⟩
abbrev S512x1024 : Shape := ⟨2, ![512, 1024]⟩
abbrev S2048 : Shape := ⟨1, ![2048]⟩
abbrev S16x2048 : Shape := ⟨2, ![16, 2048]⟩
abbrev S16x1x2048 : Shape := ⟨3, ![16, 1, 2048]⟩
abbrev S_ : Shape := ⟨0, ![]⟩
abbrev S16x2048x1 : Shape := ⟨3, ![16, 2048, 1]⟩
abbrev S16x2048x4160 : Shape := ⟨3, ![16, 2048, 4160]⟩
abbrev S16x2048x1024 : Shape := ⟨3, ![16, 2048, 1024]⟩
abbrev S16x2048x512 : Shape := ⟨3, ![16, 2048, 512]⟩
abbrev S16x2048x64 : Shape := ⟨3, ![16, 2048, 64]⟩
abbrev S16x2048x8x128 : Shape := ⟨4, ![16, 2048, 8, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S16x2048x8x96 : Shape := ⟨4, ![16, 2048, 8, 96]⟩
abbrev S1x1x512 : Shape := ⟨3, ![1, 1, 512]⟩
abbrev S16x2048x1536 : Shape := ⟨3, ![16, 2048, 1536]⟩
abbrev S16x2048x8x192 : Shape := ⟨4, ![16, 2048, 8, 192]⟩
abbrev S16x2048x8x64 : Shape := ⟨4, ![16, 2048, 8, 64]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S16x2048x8x32 : Shape := ⟨4, ![16, 2048, 8, 32]⟩
abbrev S1x2048x1x32 : Shape := ⟨4, ![1, 2048, 1, 32]⟩
abbrev S16x2048x8x0 : Shape := ⟨4, ![16, 2048, 8, 0]⟩
abbrev S16x2048x1x64 : Shape := ⟨4, ![16, 2048, 1, 64]⟩
abbrev S16x2048x1x32 : Shape := ⟨4, ![16, 2048, 1, 32]⟩
abbrev S16x2048x1x0 : Shape := ⟨4, ![16, 2048, 1, 0]⟩
abbrev S16x2048x8x256 : Shape := ⟨4, ![16, 2048, 8, 256]⟩
abbrev S32768x1024 : Shape := ⟨2, ![32768, 1024]⟩
abbrev S1024x32768 : Shape := ⟨2, ![1024, 32768]⟩
abbrev S32768x2048 : Shape := ⟨2, ![32768, 2048]⟩

abbrev nBuf : Space → Nat
  | .hbm => 281
  | .vmem => 0
  | .smem => 0
  | _ => 0

abbrev hbmTy0_0 (i : Nat) : BufTy := match i % 128 with
  | 0 => ⟨S16x2048x2048, .f32⟩
  | 1 => ⟨S16x12288, .f32⟩
  | 2 => ⟨S2048x4160, .f32⟩
  | 3 => ⟨S512, .f32⟩
  | 4 => ⟨S512, .f32⟩
  | 5 => ⟨S512x1536, .f32⟩
  | 6 => ⟨S512x1024, .f32⟩
  | 7 => ⟨S512x1024, .f32⟩
  | 8 => ⟨S2048, .f32⟩
  | 9 => ⟨S16x2048, .f32⟩
  | 10 => ⟨S16x2048, .f32⟩
  | 11 => ⟨S16x2048, .f32⟩
  | 12 => ⟨S16x2048, .f32⟩
  | 13 => ⟨S16x2048, .f32⟩
  | 14 => ⟨S16x2048, .f32⟩
  | 15 => ⟨S16x1x2048, .f32⟩
  | 16 => ⟨S16x1x2048, .f32⟩
  | 17 => ⟨S_, .f32⟩
  | 18 => ⟨S16x2048, .f32⟩
  | 19 => ⟨S16x2048x1, .f32⟩
  | 20 => ⟨S_, .f32⟩
  | 21 => ⟨S16x2048x1, .f32⟩
  | 22 => ⟨S16x2048x1, .f32⟩
  | 23 => ⟨S16x2048x2048, .f32⟩
  | 24 => ⟨S16x2048x2048, .f32⟩
  | 25 => ⟨S16x2048x2048, .f32⟩
  | 26 => ⟨S_, .f32⟩
  | 27 => ⟨S16x2048, .f32⟩
  | 28 => ⟨S16x2048x1, .f32⟩
  | 29 => ⟨S_, .f32⟩
  | 30 => ⟨S16x2048x1, .f32⟩
  | 31 => ⟨S16x2048x1, .f32⟩
  | 32 => ⟨S16x2048x2048, .f32⟩
  | 33 => ⟨S16x2048x2048, .f32⟩
  | 34 => ⟨S_, .f32⟩
  | 35 => ⟨S16x2048x1, .f32⟩
  | 36 => ⟨S16x2048x1, .f32⟩
  | 37 => ⟨S16x2048x1, .f32⟩
  | 38 => ⟨S16x2048x2048, .f32⟩
  | 39 => ⟨S16x2048x2048, .f32⟩
  | 40 => ⟨S_, .f32⟩
  | 41 => ⟨S16x1x2048, .f32⟩
  | 42 => ⟨S16x1x2048, .f32⟩
  | 43 => ⟨S16x2048x2048, .f32⟩
  | 44 => ⟨S16x2048x2048, .f32⟩
  | 45 => ⟨S16x2048x2048, .f32⟩
  | 46 => ⟨S16x2048x2048, .f32⟩
  | 47 => ⟨S16x2048x4160, .f32⟩
  | 48 => ⟨S16x2048x1024, .f32⟩
  | 49 => ⟨S16x2048x1024, .f32⟩
  | 50 => ⟨S16x2048x1024, .f32⟩
  | 51 => ⟨S16x2048x512, .f32⟩
  | 52 => ⟨S16x2048x512, .f32⟩
  | 53 => ⟨S16x2048x64, .f32⟩
  | 54 => ⟨S16x2048x8x128, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S2048x1, .f32⟩
  | 67 => ⟨S1x16, .f32⟩
  | 68 => ⟨S2048x16, .f32⟩
  | 69 => ⟨S2048x16, .f32⟩
  | 70 => ⟨S2048x16, .f32⟩
  | 71 => ⟨S2048x16, .f32⟩
  | 72 => ⟨S2048x1x16, .f32⟩
  | 73 => ⟨S2048x16, .f32⟩
  | 74 => ⟨S2048x1x16, .f32⟩
  | 75 => ⟨S16x2048x8x16, .f32⟩
  | 76 => ⟨S16x2048x8x16, .f32⟩
  | 77 => ⟨S1x2048x1x16, .f32⟩
  | 78 => ⟨S16x2048x8x16, .f32⟩
  | 79 => ⟨S16x2048x8x16, .f32⟩
  | 80 => ⟨S1x2048x1x16, .f32⟩
  | 81 => ⟨S16x2048x8x16, .f32⟩
  | 82 => ⟨S16x2048x8x16, .f32⟩
  | 83 => ⟨S16x2048x8x16, .f32⟩
  | 84 => ⟨S1x2048x1x16, .f32⟩
  | 85 => ⟨S16x2048x8x16, .f32⟩
  | 86 => ⟨S16x2048x8x16, .f32⟩
  | 87 => ⟨S1x2048x1x16, .f32⟩
  | 88 => ⟨S16x2048x8x16, .f32⟩
  | 89 => ⟨S16x2048x8x16, .f32⟩
  | 90 => ⟨S16x2048x8x16, .f32⟩
  | 91 => ⟨S16x2048x8x96, .f32⟩
  | 92 => ⟨S16x2048x8x128, .f32⟩
  | 93 => ⟨S16x2048x8x128, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S2048x1, .f32⟩
  | 106 => ⟨S1x16, .f32⟩
  | 107 => ⟨S2048x16, .f32⟩
  | 108 => ⟨S2048x16, .f32⟩
  | 109 => ⟨S2048x16, .f32⟩
  | 110 => ⟨S2048x16, .f32⟩
  | 111 => ⟨S2048x1x16, .f32⟩
  | 112 => ⟨S2048x16, .f32⟩
  | 113 => ⟨S2048x1x16, .f32⟩
  | 114 => ⟨S16x2048x8x16, .f32⟩
  | 115 => ⟨S16x2048x8x16, .f32⟩
  | 116 => ⟨S1x2048x1x16, .f32⟩
  | 117 => ⟨S16x2048x8x16, .f32⟩
  | 118 => ⟨S16x2048x8x16, .f32⟩
  | 119 => ⟨S1x2048x1x16, .f32⟩
  | 120 => ⟨S16x2048x8x16, .f32⟩
  | 121 => ⟨S16x2048x8x16, .f32⟩
  | 122 => ⟨S16x2048x8x16, .f32⟩
  | 123 => ⟨S1x2048x1x16, .f32⟩
  | 124 => ⟨S16x2048x8x16, .f32⟩
  | 125 => ⟨S16x2048x8x16, .f32⟩
  | 126 => ⟨S1x2048x1x16, .f32⟩
  | 127 => ⟨S16x2048x8x16, .f32⟩
  | _ => ⟨S16x2048x2048, .f32⟩

abbrev hbmTy0_1 (i : Nat) : BufTy := match i % 128 with
  | 0 => ⟨S16x2048x8x16, .f32⟩
  | 1 => ⟨S16x2048x8x16, .f32⟩
  | 2 => ⟨S16x2048x8x96, .f32⟩
  | 3 => ⟨S16x2048x8x128, .f32⟩
  | 4 => ⟨S16x2048x512, .f32⟩
  | 5 => ⟨S_, .f32⟩
  | 6 => ⟨S16x2048, .f32⟩
  | 7 => ⟨S16x2048x1, .f32⟩
  | 8 => ⟨S_, .f32⟩
  | 9 => ⟨S16x2048x1, .f32⟩
  | 10 => ⟨S16x2048x1, .f32⟩
  | 11 => ⟨S_, .f32⟩
  | 12 => ⟨S16x2048x1, .f32⟩
  | 13 => ⟨S16x2048x1, .f32⟩
  | 14 => ⟨S16x2048x1, .f32⟩
  | 15 => ⟨S16x2048x512, .f32⟩
  | 16 => ⟨S16x2048x512, .f32⟩
  | 17 => ⟨S1x1x512, .f32⟩
  | 18 => ⟨S16x2048x512, .f32⟩
  | 19 => ⟨S16x2048x512, .f32⟩
  | 20 => ⟨S16x2048x512, .f32⟩
  | 21 => ⟨S_, .f32⟩
  | 22 => ⟨S16x2048, .f32⟩
  | 23 => ⟨S16x2048x1, .f32⟩
  | 24 => ⟨S_, .f32⟩
  | 25 => ⟨S16x2048x1, .f32⟩
  | 26 => ⟨S16x2048x1, .f32⟩
  | 27 => ⟨S_, .f32⟩
  | 28 => ⟨S16x2048x1, .f32⟩
  | 29 => ⟨S16x2048x1, .f32⟩
  | 30 => ⟨S16x2048x1, .f32⟩
  | 31 => ⟨S16x2048x512, .f32⟩
  | 32 => ⟨S16x2048x512, .f32⟩
  | 33 => ⟨S1x1x512, .f32⟩
  | 34 => ⟨S16x2048x512, .f32⟩
  | 35 => ⟨S16x2048x512, .f32⟩
  | 36 => ⟨S16x2048x1536, .f32⟩
  | 37 => ⟨S16x2048x8x192, .f32⟩
  | 38 => ⟨S16x2048x8x64, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S2048x1x32, .f32⟩
  | 57 => ⟨S2048x32, .f32⟩
  | 58 => ⟨S2048x1x32, .f32⟩
  | 59 => ⟨S16x2048x8x32, .f32⟩
  | 60 => ⟨S16x2048x8x32, .f32⟩
  | 61 => ⟨S1x2048x1x32, .f32⟩
  | 62 => ⟨S16x2048x8x32, .f32⟩
  | 63 => ⟨S16x2048x8x32, .f32⟩
  | 64 => ⟨S1x2048x1x32, .f32⟩
  | 65 => ⟨S16x2048x8x32, .f32⟩
  | 66 => ⟨S16x2048x8x32, .f32⟩
  | 67 => ⟨S16x2048x8x32, .f32⟩
  | 68 => ⟨S1x2048x1x32, .f32⟩
  | 69 => ⟨S16x2048x8x32, .f32⟩
  | 70 => ⟨S16x2048x8x32, .f32⟩
  | 71 => ⟨S1x2048x1x32, .f32⟩
  | 72 => ⟨S16x2048x8x32, .f32⟩
  | 73 => ⟨S16x2048x8x32, .f32⟩
  | 74 => ⟨S16x2048x8x32, .f32⟩
  | 75 => ⟨S16x2048x8x0, .f32⟩
  | 76 => ⟨S16x2048x8x64, .f32⟩
  | 77 => ⟨S16x2048x1024, .f32⟩
  | 78 => ⟨S16x2048x8x128, .f32⟩
  | 79 => ⟨S16x2048x1024, .f32⟩
  | 80 => ⟨S16x2048x1x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S2048x1, .f32⟩
  | 93 => ⟨S1x32, .f32⟩
  | 94 => ⟨S2048x32, .f32⟩
  | 95 => ⟨S2048x32, .f32⟩
  | 96 => ⟨S2048x32, .f32⟩
  | 97 => ⟨S2048x32, .f32⟩
  | 98 => ⟨S2048x1x32, .f32⟩
  | 99 => ⟨S2048x32, .f32⟩
  | 100 => ⟨S2048x1x32, .f32⟩
  | 101 => ⟨S16x2048x1x32, .f32⟩
  | 102 => ⟨S16x2048x1x32, .f32⟩
  | 103 => ⟨S1x2048x1x32, .f32⟩
  | 104 => ⟨S16x2048x1x32, .f32⟩
  | 105 => ⟨S16x2048x1x32, .f32⟩
  | 106 => ⟨S1x2048x1x32, .f32⟩
  | 107 => ⟨S16x2048x1x32, .f32⟩
  | 108 => ⟨S16x2048x1x32, .f32⟩
  | 109 => ⟨S16x2048x1x32, .f32⟩
  | 110 => ⟨S1x2048x1x32, .f32⟩
  | 111 => ⟨S16x2048x1x32, .f32⟩
  | 112 => ⟨S16x2048x1x32, .f32⟩
  | 113 => ⟨S1x2048x1x32, .f32⟩
  | 114 => ⟨S16x2048x1x32, .f32⟩
  | 115 => ⟨S16x2048x1x32, .f32⟩
  | 116 => ⟨S16x2048x1x32, .f32⟩
  | 117 => ⟨S16x2048x1x0, .f32⟩
  | 118 => ⟨S16x2048x1x64, .f32⟩
  | 119 => ⟨S16x2048x8x64, .f32⟩
  | 120 => ⟨S_, .f32⟩
  | 121 => ⟨S16x2048x8x64, .f32⟩
  | 122 => ⟨S_, .f32⟩
  | 123 => ⟨S_, .f32⟩
  | 124 => ⟨S_, .f32⟩
  | 125 => ⟨S_, .f32⟩
  | 126 => ⟨S_, .f32⟩
  | 127 => ⟨S16x2048x8x128, .f32⟩
  | _ => ⟨S16x2048x2048, .f32⟩

abbrev hbmTy0_2 (i : Nat) : BufTy := match i % 128 with
  | 0 => ⟨S16x2048x8x128, .f32⟩
  | 1 => ⟨S16x2048x8x128, .f32⟩
  | 2 => ⟨S16x2048x8x256, .f32⟩
  | 3 => ⟨S_, .f32⟩
  | 4 => ⟨S_, .f32⟩
  | 5 => ⟨S_, .f32⟩
  | 6 => ⟨S_, .f32⟩
  | 7 => ⟨S_, .f32⟩
  | 8 => ⟨S16x2048x8x256, .f32⟩
  | 9 => ⟨S16x2048x8x256, .f32⟩
  | 10 => ⟨S16x2048x8x256, .f32⟩
  | 11 => ⟨S32768x1024, .f32⟩
  | 12 => ⟨S32768x1024, .f32⟩
  | 13 => ⟨S32768x1024, .f32⟩
  | 14 => ⟨S1024x32768, .f32⟩
  | 15 => ⟨S32768x2048, .f32⟩
  | 16 => ⟨S32768x2048, .f32⟩
  | 17 => ⟨S32768x1024, .f32⟩
  | 18 => ⟨S1024x32768, .f32⟩
  | 19 => ⟨S32768x1024, .bf16⟩
  | 20 => ⟨S32768x1024, .bf16⟩
  | 21 => ⟨S1024x32768, .bf16⟩
  | 22 => ⟨S32768x2048, .bf16⟩
  | 23 => ⟨S32768x2048, .bf16⟩
  | 24 => ⟨S1024x32768, .bf16⟩
  | _ => ⟨S16x2048x2048, .f32⟩

abbrev hbmTy (i : Nat) : BufTy := match i / 128 with
  | 0 => hbmTy0_0 i
  | 1 => hbmTy0_1 i
  | 2 => hbmTy0_2 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_8 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_11 : Ref sig .tc := ⟨.hbm, 133, rfl⟩
abbrev main_v113 : Ref sig .tc := ⟨.hbm, 134, rfl⟩
abbrev main_v114 : Ref sig .tc := ⟨.hbm, 135, rfl⟩
abbrev main_cst_12 : Ref sig .tc := ⟨.hbm, 136, rfl⟩
abbrev main_v115 : Ref sig .tc := ⟨.hbm, 137, rfl⟩
abbrev main_v116 : Ref sig .tc := ⟨.hbm, 138, rfl⟩
abbrev main_cst_13 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_14 : Ref sig .tc := ⟨.hbm, 149, rfl⟩
abbrev main_v126 : Ref sig .tc := ⟨.hbm, 150, rfl⟩
abbrev main_v127 : Ref sig .tc := ⟨.hbm, 151, rfl⟩
abbrev main_cst_15 : Ref sig .tc := ⟨.hbm, 152, rfl⟩
abbrev main_v128 : Ref sig .tc := ⟨.hbm, 153, rfl⟩
abbrev main_v129 : Ref sig .tc := ⟨.hbm, 154, rfl⟩
abbrev main_cst_16 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_17 : Ref sig .tc := ⟨.hbm, 169, rfl⟩
abbrev main_v143 : Ref sig .tc := ⟨.hbm, 170, rfl⟩
abbrev main_v144 : Ref sig .tc := ⟨.hbm, 171, rfl⟩
abbrev main_cst_18 : Ref sig .tc := ⟨.hbm, 172, rfl⟩
abbrev main_v145 : Ref sig .tc := ⟨.hbm, 173, rfl⟩
abbrev main_v146 : Ref sig .tc := ⟨.hbm, 174, rfl⟩
abbrev main_cst_19 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_cst_20 : Ref sig .tc := ⟨.hbm, 211, rfl⟩
abbrev main_v182 : Ref sig .tc := ⟨.hbm, 212, rfl⟩
abbrev main_v183 : Ref sig .tc := ⟨.hbm, 213, rfl⟩
abbrev main_cst_21 : Ref sig .tc := ⟨.hbm, 214, rfl⟩
abbrev main_v184 : Ref sig .tc := ⟨.hbm, 215, rfl⟩
abbrev main_v185 : Ref sig .tc := ⟨.hbm, 216, rfl⟩
abbrev main_cst_22 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_cst_23 : Ref sig .tc := ⟨.hbm, 248, rfl⟩
abbrev main_v216 : Ref sig .tc := ⟨.hbm, 249, rfl⟩
abbrev main_cst_24 : Ref sig .tc := ⟨.hbm, 250, rfl⟩
abbrev main_v217 : Ref sig .tc := ⟨.hbm, 251, rfl⟩
abbrev main_cst_25 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_cst_26 : Ref sig .tc := ⟨.hbm, 259, rfl⟩
abbrev main_v224 : Ref sig .tc := ⟨.hbm, 260, rfl⟩
abbrev main_cst_27 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x2048 : Shape := ⟨3, ![16, 2048, 2048]⟩
abbrev S16x12288 : Shape := ⟨2, ![16, 12288]⟩
abbrev S1024 : Shape := ⟨1, ![1024]⟩
abbrev S2048x2048 : Shape := ⟨2, ![2048, 2048]⟩
abbrev S2048 : Shape := ⟨1, ![2048]⟩
abbrev S128x128 : Shape := ⟨2, ![128, 128]⟩
abbrev S32768x2048 : Shape := ⟨2, ![32768, 2048]⟩
abbrev S96x1x2048 : Shape := ⟨3, ![96, 1, 2048]⟩
abbrev S1x128x128 : Shape := ⟨3, ![1, 128, 128]⟩
abbrev S2x128x128 : Shape := ⟨3, ![2, 128, 128]⟩
abbrev S32768x1024 : Shape := ⟨2, ![32768, 1024]⟩
abbrev S1x1024 : Shape := ⟨2, ![1, 1024]⟩
abbrev S1x2048 : Shape := ⟨2, ![1, 2048]⟩
abbrev S2048x32768 : Shape := ⟨2, ![2048, 32768]⟩
abbrev S512x1024 : Shape := ⟨2, ![512, 1024]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S1024x2048 : Shape := ⟨2, ![1024, 2048]⟩
abbrev S512x128 : Shape := ⟨2, ![512, 128]⟩
abbrev S128x512 : Shape := ⟨2, ![128, 512]⟩

abbrev nBuf : Space → Nat
  | .hbm => 29
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x2048, .f32⟩
  | .hbm, ⟨3, _⟩ => ⟨S16x12288, .f32⟩
  | .hbm, ⟨4, _⟩ => ⟨S1024, .f32⟩
  | .hbm, ⟨5, _⟩ => ⟨S1024, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048x2048, .f32⟩
  | .hbm, ⟨10, _⟩ => ⟨S128x128, .f32⟩
  | .hbm, ⟨11, _⟩ => ⟨S128x128, .f32⟩
  | .hbm, ⟨12, _⟩ => ⟨S32768x2048, .f32⟩
  | .hbm, ⟨13, _⟩ => ⟨S96x1x2048, .f32⟩
  | .hbm, ⟨14, _⟩ => ⟨S1x128x128, .f32⟩
  | .hbm, ⟨15, _⟩ => ⟨S1x128x128, .f32⟩
  | .hbm, ⟨16, _⟩ => ⟨S2x128x128, .f32⟩
  | .hbm, ⟨17, _⟩ => ⟨S2x128x128, .bf16⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S1x1024, .f32⟩
  | .hbm, ⟨22, _⟩ => ⟨S2048x2048, .bf16⟩
  | .hbm, ⟨23, _⟩ => ⟨S1x2048, .f32⟩
  | .hbm, ⟨24, _⟩ => ⟨S1x2048, .f32⟩
  | .hbm, ⟨25, _⟩ => ⟨S2048x2048, .bf16⟩
  | .hbm, ⟨26, _⟩ => ⟨S32768x2048, .f32⟩
  | .hbm, ⟨27, _⟩ => ⟨S32768x2048, .fp8e4m3⟩
  | .hbm, ⟨28, _⟩ => ⟨S2048x32768, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1024, .f32⟩
  | .local _ .vmem, ⟨13, _⟩ => ⟨S1x1024, .f32⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S2048x2048, .bf16⟩
  | .local _ .vmem, ⟨18, _⟩ => ⟨S2x128x128, .bf16⟩
  | .local _ .vmem, ⟨19, _⟩ => ⟨S512x2048, .f32⟩
  | .local _ .vmem, ⟨20, _⟩ => ⟨S512x2048, .f32⟩
  | .local _ .vmem, ⟨21, _⟩ => ⟨S512x2048, .fp8e4m3⟩
  | .local _ .vmem, ⟨22, _⟩ => ⟨S512x2048, .fp8e4m3⟩
  | .local _ .vmem, ⟨23, _⟩ => ⟨S2048x512, .f32⟩
  | .local _ .vmem, ⟨24, _⟩ => ⟨S2048x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32_4 : BitVec 32 := 4#32
  let v18 : BitVec 32 := Scalar.addi v17 c4_i32_4
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel3Ideal.lean ====
variable {F : FTy → Type} [FloatOps F] [Named F]
def κ : String → Option EReal := fun
  | "alpha" => some ((Real.sqrt (Real.sqrt 2) : ℝ) : EReal)
  | _ => none
-- ==== Reference3Ideal.lean ====
abbrev S16x2048x1024 : Shape := ⟨3, ![16, 2048, 1024]⟩
abbrev S16x2048x2048 : Shape := ⟨3, ![16, 2048, 2048]⟩
abbrev S16x12288 : Shape := ⟨2, ![16, 12288]⟩
abbrev S1024 : Shape := ⟨1, ![1024]⟩
abbrev S2048x2048 : Shape := ⟨2, ![2048, 2048]⟩
abbrev S2048 : Shape := ⟨1, ![2048]⟩
abbrev S128x128 : Shape := ⟨2, ![128, 128]⟩
abbrev S16x2048 : Shape := ⟨2, ![16, 2048]⟩
abbrev S16x1x2048 : Shape := ⟨3, ![16, 1, 2048]⟩
abbrev S_ : Shape := ⟨0, ![]⟩
abbrev S16x2048x1 : Shape := ⟨3, ![16, 2048, 1]⟩
abbrev S1x1x1024 : Shape := ⟨3, ![1, 1, 1024]⟩
abbrev S1x1x2048 : Shape := ⟨3, ![1, 1, 2048]⟩
abbrev S16x2048x8x2x128 : Shape := ⟨5, ![16, 2048, 8, 2, 128]⟩
abbrev S16x2048x8x1x128 : Shape := ⟨5, ![16, 2048, 8, 1, 128]⟩
abbrev S16x2048x8x128 : Shape := ⟨4, ![16, 2048, 8, 128]⟩
abbrev S32768x2048 : Shape := ⟨2, ![32768, 2048]⟩
abbrev S2048x32768 : Shape := ⟨2, ![2048, 32768]⟩

abbrev nBuf : Space → Nat
  | .hbm => 149
  | .vmem => 0
  | .smem => 0
  | _ => 0

abbrev hbmTy0_0 (i : Nat) : BufTy := match i % 128 with
  | 0 => ⟨S16x2048x1024, .f32⟩
  | 1 => ⟨S16x2048x1024, .f32⟩
  | 2 => ⟨S16x2048x2048, .f32⟩
  | 3 => ⟨S16x12288, .f32⟩
  | 4 => ⟨S1024, .f32⟩
  | 5 => ⟨S1024, .f32⟩
  | 6 => ⟨S2048x2048, .f32⟩
  | 7 => ⟨S2048, .f32⟩
  | 8 => ⟨S2048, .f32⟩
  | 9 => ⟨S2048x2048, .f32⟩
  | 10 => ⟨S128x128, .f32⟩
  | 11 => ⟨S128x128, .f32⟩
  | 12 => ⟨S16x2048, .f32⟩
  | 13 => ⟨S16x2048, .f32⟩
  | 14 => ⟨S16x2048, .f32⟩
  | 15 => ⟨S16x2048, .f32⟩
  | 16 => ⟨S16x2048, .f32⟩
  | 17 => ⟨S16x2048, .f32⟩
  | 18 => ⟨S16x1x2048, .f32⟩
  | 19 => ⟨S16x1x2048, .f32⟩
  | 20 => ⟨S16x1x2048, .f32⟩
  | 21 => ⟨S16x1x2048, .f32⟩
  | 22 => ⟨S16x1x2048, .f32⟩
  | 23 => ⟨S16x1x2048, .f32⟩
  | 24 => ⟨S16x2048x1024, .f32⟩
  | 25 => ⟨S_, .f32⟩
  | 26 => ⟨S16x2048, .f32⟩
  | 27 => ⟨S16x2048x1, .f32⟩
  | 28 => ⟨S_, .f32⟩
  | 29 => ⟨S16x2048x1, .f32⟩
  | 30 => ⟨S16x2048x1, .f32⟩
  | 31 => ⟨S_, .f32⟩
  | 32 => ⟨S16x2048x1, .f32⟩
  | 33 => ⟨S16x2048x1, .f32⟩
  | 34 => ⟨S16x2048x1, .f32⟩
  | 35 => ⟨S16x2048x1024, .f32⟩
  | 36 => ⟨S16x2048x1024, .f32⟩
  | 37 => ⟨S1x1x1024, .f32⟩
  | 38 => ⟨S16x2048x1024, .f32⟩
  | 39 => ⟨S16x2048x1024, .f32⟩
  | 40 => ⟨S16x2048x1024, .f32⟩
  | 41 => ⟨S_, .f32⟩
  | 42 => ⟨S16x2048, .f32⟩
  | 43 => ⟨S16x2048x1, .f32⟩
  | 44 => ⟨S_, .f32⟩
  | 45 => ⟨S16x2048x1, .f32⟩
  | 46 => ⟨S16x2048x1, .f32⟩
  | 47 => ⟨S_, .f32⟩
  | 48 => ⟨S16x2048x1, .f32⟩
  | 49 => ⟨S16x2048x1, .f32⟩
  | 50 => ⟨S16x2048x1, .f32⟩
  | 51 => ⟨S16x2048x1024, .f32⟩
  | 52 => ⟨S16x2048x1024, .f32⟩
  | 53 => ⟨S1x1x1024, .f32⟩
  | 54 => ⟨S16x2048x1024, .f32⟩
  | 55 => ⟨S16x2048x1024, .f32⟩
  | 56 => ⟨S16x2048x2048, .f32⟩
  | 57 => ⟨S16x2048x2048, .f32⟩
  | 58 => ⟨S_, .f32⟩
  | 59 => ⟨S_, .f32⟩
  | 60 => ⟨S_, .f32⟩
  | 61 => ⟨S16x2048x2048, .f32⟩
  | 62 => ⟨S16x2048x2048, .f32⟩
  | 63 => ⟨S16x2048x2048, .f32⟩
  | 64 => ⟨S16x2048x2048, .f32⟩
  | 65 => ⟨S16x2048x2048, .f32⟩
  | 66 => ⟨S_, .f32⟩
  | 67 => ⟨S16x2048, .f32⟩
  | 68 => ⟨S16x2048x1, .f32⟩
  | 69 => ⟨S_, .f32⟩
  | 70 => ⟨S16x2048x1, .f32⟩
  | 71 => ⟨S16x2048x1, .f32⟩
  | 72 => ⟨S16x2048x2048, .f32⟩
  | 73 => ⟨S16x2048x2048, .f32⟩
  | 74 => ⟨S16x2048x2048, .f32⟩
  | 75 => ⟨S_, .f32⟩
  | 76 => ⟨S16x2048, .f32⟩
  | 77 => ⟨S16x2048x1, .f32⟩
  | 78 => ⟨S_, .f32⟩
  | 79 => ⟨S16x2048x1, .f32⟩
  | 80 => ⟨S16x2048x1, .f32⟩
  | 81 => ⟨S16x2048x2048, .f32⟩
  | 82 => ⟨S16x2048x2048, .f32⟩
  | 83 => ⟨S_, .f32⟩
  | 84 => ⟨S16x2048x1, .f32⟩
  | 85 => ⟨S16x2048x1, .f32⟩
  | 86 => ⟨S16x2048x1, .f32⟩
  | 87 => ⟨S16x2048x2048, .f32⟩
  | 88 => ⟨S16x2048x2048, .f32⟩
  | 89 => ⟨S1x1x2048, .f32⟩
  | 90 => ⟨S16x2048x2048, .f32⟩
  | 91 => ⟨S16x2048x2048, .f32⟩
  | 92 => ⟨S1x1x2048, .f32⟩
  | 93 => ⟨S16x2048x2048, .f32⟩
  | 94 => ⟨S16x2048x2048, .f32⟩
  | 95 => ⟨S_, .f32⟩
  | 96 => ⟨S16x2048, .f32⟩
  | 97 => ⟨S16x2048x1, .f32⟩
  | 98 => ⟨S_, .f32⟩
  | 99 => ⟨S16x2048x1, .f32⟩
  | 100 => ⟨S16x2048x1, .f32⟩
  | 101 => ⟨S16x2048x2048, .f32⟩
  | 102 => ⟨S16x2048x2048, .f32⟩
  | 103 => ⟨S16x2048x2048, .f32⟩
  | 104 => ⟨S_, .f32⟩
  | 105 => ⟨S16x2048, .f32⟩
  | 106 => ⟨S16x2048x1, .f32⟩
  | 107 => ⟨S_, .f32⟩
  | 108 => ⟨S16x2048x1, .f32⟩
  | 109 => ⟨S16x2048x1, .f32⟩
  | 110 => ⟨S16x2048x2048, .f32⟩
  | 111 => ⟨S16x2048x2048, .f32⟩
  | 112 => ⟨S_, .f32⟩
  | 113 => ⟨S16x2048x1, .f32⟩
  | 114 => ⟨S16x2048x1, .f32⟩
  | 115 => ⟨S16x2048x1, .f32⟩
  | 116 => ⟨S16x2048x2048, .f32⟩
  | 117 => ⟨S16x2048x2048, .f32⟩
  | 118 => ⟨S_, .f32⟩
  | 119 => ⟨S16x1x2048, .f32⟩
  | 120 => ⟨S16x1x2048, .f32⟩
  | 121 => ⟨S16x2048x2048, .f32⟩
  | 122 => ⟨S16x2048x2048, .f32⟩
  | 123 => ⟨S16x2048x2048, .f32⟩
  | 124 => ⟨S16x2048x2048, .f32⟩
  | 125 => ⟨S16x2048x2048, .f32⟩
  | 126 => ⟨S16x2048x8x2x128, .f32⟩
  | 127 => ⟨S16x2048x8x1x128, .f32⟩
  | _ => ⟨S16x2048x1024, .f32⟩

abbrev hbmTy0_1 (i : Nat) : BufTy := match i % 128 with
  | 0 => ⟨S16x2048x8x128, .f32⟩
  | 1 => ⟨S16x2048x8x128, .f32⟩
  | 2 => ⟨S16x2048x8x1x128, .f32⟩
  | 3 => ⟨S16x2048x8x128, .f32⟩
  | 4 => ⟨S16x2048x8x128, .f32⟩
  | 5 => ⟨S16x2048x8x1x128, .f32⟩
  | 6 => ⟨S16x2048x8x1x128, .f32⟩
  | 7 => ⟨S16x2048x8x2x128, .f32⟩
  | 8 => ⟨S32768x2048, .f32⟩
  | 9 => ⟨S_, .f32⟩
  | 10 => ⟨S_, .f32⟩
  | 11 => ⟨S_, .f32⟩
  | 12 => ⟨S16x2048x2048, .f32⟩
  | 13 => ⟨S16x2048x2048, .f32⟩
  | 14 => ⟨S_, .f32⟩
  | 15 => ⟨S16x2048x2048, .f32⟩
  | 16 => ⟨S16x2048x2048, .f32⟩
  | 17 => ⟨S16x2048x2048, .fp8e4m3⟩
  | 18 => ⟨S32768x2048, .fp8e4m3⟩
  | 19 => ⟨S32768x2048, .f32⟩
  | 20 => ⟨S2048x32768, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_17 : Ref sig .tc := ⟨.hbm, 137, rfl⟩
abbrev main_cst_18 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_call0_v3 : Ref sig .tc := ⟨.hbm, 142, rfl⟩
abbrev main_call0_v4 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩

abbrev nD : Nat := 1
abbrev τ : Topo := Topo.v7x

variable {F : FTy → Type} [FloatOps F]
-- ==== Kernel4.lean ====
abbrev S16x2048x2048 : Shape := ⟨3, ![16, 2048, 2048]⟩
abbrev S16x12288 : Shape := ⟨2, ![16, 12288]⟩
abbrev S2048 : Shape := ⟨1, ![2048]⟩
abbrev S32768x2048 : Shape := ⟨2, ![32768, 2048]⟩
abbrev S2048x32768 : Shape := ⟨2, ![2048, 32768]⟩
abbrev S96x1x2048 : Shape := ⟨3, ![96, 1, 2048]⟩
abbrev S1x2048 : Shape := ⟨2, ![1, 2048]⟩
abbrev S512x2048 : Shape := ⟨2, ![512, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x12288, .f32⟩
  | .hbm, ⟨3, _⟩ => ⟨S2048, .f32⟩
  | .hbm, ⟨4, _⟩ => ⟨S2048, .f32⟩
  | .hbm, ⟨5, _⟩ => ⟨S32768x2048, .f32⟩
  | .hbm, ⟨6, _⟩ => ⟨S32768x2048, .f32⟩
  | .hbm, ⟨7, _⟩ => ⟨S2048x32768, .f32⟩
  | .hbm, ⟨8, _⟩ => ⟨S96x1x2048, .f32⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
variable {F : FTy → Type} [FloatOps F] [Named F]
def κ : String → Option EReal := fun
  | "alpha" => some ((Real.sqrt (Real.sqrt 2) : ℝ) : EReal)
  | _ => none
-- ==== Reference4Ideal.lean ====
abbrev S16x2048x2048 : Shape := ⟨3, ![16, 2048, 2048]⟩
abbrev S16x12288 : Shape := ⟨2, ![16, 12288]⟩
abbrev S2048 : Shape := ⟨1, ![2048]⟩
abbrev S16x2048 : Shape := ⟨2, ![16, 2048]⟩
abbrev S16x1x2048 : Shape := ⟨3, ![16, 1, 2048]⟩
abbrev S_ : Shape := ⟨0, ![]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x12288, .f32⟩
  | .hbm, ⟨3, _⟩ => ⟨S2048, .f32⟩
  | .hbm, ⟨4, _⟩ => ⟨S2048, .f32⟩
  | .hbm, ⟨5, _⟩ => ⟨S16x2048, .f32⟩
  | .hbm, ⟨6, _⟩ => ⟨S16x1x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x2048, .f32⟩
  | .hbm, ⟨37, _⟩ => ⟨S16x2048x2048, .f32⟩
  | .hbm, ⟨38, _⟩ => ⟨S1x1x2048, .f32⟩
  | .hbm, ⟨39, _⟩ => ⟨S16x2048x2048, .f32⟩
  | .hbm, ⟨40, _⟩ => ⟨S16x2048x2048, .f32⟩
  | .hbm, ⟨41, _⟩ => ⟨S1x1x2048, .f32⟩
  | .hbm, ⟨42, _⟩ => ⟨S16x2048x2048, .f32⟩
  | .hbm, ⟨43, _⟩ => ⟨S16x2048x2048, .f32⟩
  | .hbm, ⟨44, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel5.lean ====
abbrev S16x2048x8x128 : Shape := ⟨4, ![16, 2048, 8, 128]⟩
abbrev S_ : Shape := ⟨0, ![]⟩
abbrev S32768x1024 : Shape := ⟨2, ![32768, 1024]⟩
abbrev S1024x32768 : Shape := ⟨2, ![1024, 32768]⟩
abbrev S512 : Shape := ⟨1, ![512]⟩
abbrev S1x512 : Shape := ⟨2, ![1, 512]⟩
abbrev S2048 : Shape := ⟨1, ![2048]⟩
abbrev S2048x1 : Shape := ⟨2, ![2048, 1]⟩
abbrev S2048x512 : Shape := ⟨2, ![2048, 512]⟩
abbrev S512x512 : Shape := ⟨2, ![512, 512]⟩
abbrev S2048x128 : Shape := ⟨2, ![2048, 128]⟩
abbrev S128x2048 : Shape := ⟨2, ![128, 2048]⟩
abbrev S512x128 : Shape := ⟨2, ![512, 128]⟩
abbrev S1024x128 : Shape := ⟨2, ![1024, 128]⟩
abbrev S1024x512 : Shape := ⟨2, ![1024, 512]⟩
abbrev S128x512 : Shape := ⟨2, ![128, 512]⟩
abbrev S1536x128 : Shape := ⟨2, ![1536, 128]⟩
abbrev S1536x512 : Shape := ⟨2, ![1536, 512]⟩
abbrev S128x1024 : Shape := ⟨2, ![128, 1024]⟩
abbrev S128x1536 : Shape := ⟨2, ![128, 1536]⟩

abbrev nBuf : Space → Nat
  | .hbm => 120
  | .vmem => 9
  | .smem => 0
  | _ => 0

abbrev bufTy : (tb : Table) → Fin (tcTables nBuf tb) → BufTy
  | .hbm, ⟨0, _⟩ => ⟨S16x2048x8x128, .f32⟩
  | .hbm, ⟨1, _⟩ => ⟨S16x2048x8x128, .f32⟩
  | .hbm, ⟨2, _⟩ => ⟨S16x2048x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x2048x8x128, .f32⟩
  | .hbm, ⟨9, _⟩ => ⟨S16x2048x8x128, .f32⟩
  | .hbm, ⟨10, _⟩ => ⟨S16x2048x8x128, .bf16⟩
  | .hbm, ⟨11, _⟩ => ⟨S32768x1024, .bf16⟩
  | .hbm, ⟨12, _⟩ => ⟨S16x2048x8x128, .bf16⟩
  | .hbm, ⟨13, _⟩ => ⟨S32768x1024, .bf16⟩
  | .hbm, ⟨14, _⟩ => ⟨S32768x1024, .f32⟩
  | .hbm, ⟨15, _⟩ => ⟨S32768x1024, .bf16⟩
  | .hbm, ⟨16, _⟩ => ⟨S1024x32768, .bf16⟩
  | .hbm, ⟨17, _⟩ => ⟨S512, .i32⟩
  | .hbm, ⟨18, _⟩ => ⟨S1x512, .i32⟩
  | .hbm, ⟨19, _⟩ => ⟨S_, .i32⟩
  | .hbm, ⟨20, _⟩ => ⟨S1x512, .i32⟩
  | .hbm, ⟨21, _⟩ => ⟨S1x512, .i32⟩
  | .hbm, ⟨22, _⟩ => ⟨S2048, .i32⟩
  | .hbm, ⟨23, _⟩ => ⟨S2048x1, .i32⟩
  | .hbm, ⟨24, _⟩ => ⟨S2048x512, .i32⟩
  | .hbm, ⟨25, _⟩ => ⟨S2048x512, .i32⟩
  | .hbm, ⟨26, _⟩ => ⟨S2048x512, .i32⟩
  | .hbm, ⟨27, _⟩ => ⟨S_, .i32⟩
  | .hbm, ⟨28, _⟩ => ⟨S2048x512, .i32⟩
  | .hbm, ⟨29, _⟩ => ⟨S2048x512, .i1⟩
  | .hbm, ⟨30, _⟩ => ⟨S_, .i32⟩
  | .hbm, ⟨31, _⟩ => ⟨S2048x512, .i32⟩
  | .hbm, ⟨32, _⟩ => ⟨S2048x512, .i1⟩
  | .hbm, ⟨33, _⟩ => ⟨S2048x512, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S2048x512, .i32⟩
  | .hbm, ⟨41, _⟩ => ⟨S2048x512, .i32⟩
  | .hbm, ⟨42, _⟩ => ⟨S_, .i32⟩
  | .hbm, ⟨43, _⟩ => ⟨S2048x512, .i32⟩
  | .hbm, ⟨44, _⟩ => ⟨S2048x512, .i1⟩
  | .hbm, ⟨45, _⟩ => ⟨S_, .i32⟩
  | .hbm, ⟨46, _⟩ => ⟨S2048x512, .i32⟩
  | .hbm, ⟨47, _⟩ => ⟨S2048x512, .i1⟩
  | .hbm, ⟨48, _⟩ => ⟨S_, .i32⟩
  | .hbm, ⟨49, _⟩ => ⟨S_, .i1⟩
  | .hbm, ⟨50, _⟩ => ⟨S2048x512, .i1⟩
  | .hbm, ⟨51, _⟩ => ⟨S2048x512, .i1⟩
  | .hbm, ⟨52, _⟩ => ⟨S2048x512, .i1⟩
  | .hbm, ⟨53, _⟩ => ⟨S2048x512, .i32⟩
  | .hbm, ⟨54, _⟩ => ⟨S2048x512, .i32⟩
  | .hbm, ⟨55, _⟩ => ⟨S2048x512, .i32⟩
  | .hbm, ⟨56, _⟩ => ⟨S_, .i32⟩
  | .hbm, ⟨57, _⟩ => ⟨S2048x512, .i32⟩
  | .hbm, ⟨58, _⟩ => ⟨S2048x512, .i1⟩
  | .hbm, ⟨59, _⟩ => ⟨S_, .i32⟩
  | .hbm, ⟨60, _⟩ => ⟨S2048x512, .i32⟩
  | .hbm, ⟨61, _⟩ => ⟨S2048x512, .i1⟩
  | .hbm, ⟨62, _⟩ => ⟨S2048x512, .i1⟩
  | .hbm, ⟨63, _⟩ => ⟨S2048x512, .f32⟩
  | .hbm, ⟨64, _⟩ => ⟨S2048x512, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S2048x512, .i32⟩
  | .hbm, ⟨72, _⟩ => ⟨S2048x512, .i32⟩
  | .hbm, ⟨73, _⟩ => ⟨S_, .i32⟩
  | .hbm, ⟨74, _⟩ => ⟨S2048x512, .i32⟩
  | .hbm, ⟨75, _⟩ => ⟨S2048x512, .i1⟩
  | .hbm, ⟨76, _⟩ => ⟨S_, .i32⟩
  | .hbm, ⟨77, _⟩ => ⟨S2048x512, .i32⟩
  | .hbm, ⟨78, _⟩ => ⟨S2048x512, .i1⟩
  | .hbm, ⟨79, _⟩ => ⟨S_, .i32⟩
  | .hbm, ⟨80, _⟩ => ⟨S_, .i1⟩
  | .hbm, ⟨81, _⟩ => ⟨S2048x512, .i1⟩
  | .hbm, ⟨82, _⟩ => ⟨S2048x512, .i1⟩
  | .hbm, ⟨83, _⟩ => ⟨S2048x512, .i1⟩
  | .hbm, ⟨84, _⟩ => ⟨S2048x512, .i32⟩
  | .hbm, ⟨85, _⟩ => ⟨S2048x512, .i32⟩
  | .hbm, ⟨86, _⟩ => ⟨S2048x512, .i32⟩
  | .hbm, ⟨87, _⟩ => ⟨S_, .i32⟩
  | .hbm, ⟨88, _⟩ => ⟨S2048x512, .i32⟩
  | .hbm, ⟨89, _⟩ => ⟨S2048x512, .i1⟩
  | .hbm, ⟨90, _⟩ => ⟨S_, .i32⟩
  | .hbm, ⟨91, _⟩ => ⟨S2048x512, .i32⟩
  | .hbm, ⟨92, _⟩ => ⟨S2048x512, .i1⟩
  | .hbm, ⟨93, _⟩ => ⟨S2048x512, .i1⟩
  | .hbm, ⟨94, _⟩ => ⟨S2048x512, .f32⟩
  | .hbm, ⟨95, _⟩ => ⟨S2048x512, .f32⟩
  | .hbm, ⟨96, _⟩ => ⟨S_, .f32⟩
  | .hbm, ⟨97, _⟩ => ⟨S2048x512, .f32⟩
  | .hbm, ⟨98, _⟩ => ⟨S2048x512, .i1⟩
  | .hbm, ⟨99, _⟩ => ⟨S2048x512, .i1⟩
  | .hbm, ⟨100, _⟩ => ⟨S_, .f32⟩
  | .hbm, ⟨101, _⟩ => ⟨S2048x512, .f32⟩
  | .hbm, ⟨102, _⟩ => ⟨S2048x512, .f32⟩
  | .hbm, ⟨103, _⟩ => ⟨S2048x512, .f32⟩
  | .hbm, ⟨104, _⟩ => ⟨S_, .f32⟩
  | .hbm, ⟨105, _⟩ => ⟨S_, .f32⟩
  | .hbm, ⟨106, _⟩ => ⟨S2048x512, .f32⟩
  | .hbm, ⟨107, _⟩ => ⟨S2048x512, .f32⟩
  | .hbm, ⟨108, _⟩ => ⟨S_, .f32⟩
  | .hbm, ⟨109, _⟩ => ⟨S_, .f32⟩
  | .hbm, ⟨110, _⟩ => ⟨S2048x512, .f32⟩
  | .hbm, ⟨111, _⟩ => ⟨S2048x512, .f32⟩
  | .hbm, ⟨112, _⟩ => ⟨S512x512, .i1⟩
  | .hbm, ⟨113, _⟩ => ⟨S_, .f32⟩
  | .hbm, ⟨114, _⟩ => ⟨S_, .f32⟩
  | .hbm, ⟨115, _⟩ => ⟨S512x512, .f32⟩
  | .hbm, ⟨116, _⟩ => ⟨S512x512, .f32⟩
  | .hbm, ⟨117, _⟩ => ⟨S512x512, .f32⟩
  | .hbm, ⟨118, _⟩ => ⟨S512x512, .f32⟩
  | .hbm, ⟨119, _⟩ => ⟨S32768x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S128x2048, .bf16⟩
  | .local _ .vmem, ⟨5, _⟩ => ⟨S128x2048, .bf16⟩
  | .local _ .vmem, ⟨6, _⟩ => ⟨S2048x512, .f32⟩
  | .local _ .vmem, ⟨7, _⟩ => ⟨S2048x128, .f32⟩
  | .local _ .vmem, ⟨8, _⟩ => ⟨S2048x128, .f32⟩
  | _, _ => ⟨S16x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_6 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_1 : Ref sig .tc := ⟨.hbm, 73, rfl⟩
abbrev main_call1_v5 : Ref sig .tc := ⟨.hbm, 74, rfl⟩
abbrev main_call1_v6 : Ref sig .tc := ⟨.hbm, 75, rfl⟩
abbrev main_call1_c_2 : Ref sig .tc := ⟨.hbm, 76, rfl⟩
abbrev main_call1_v7 : Ref sig .tc := ⟨.hbm, 77, rfl⟩
abbrev main_call1_v8 : Ref sig .tc := ⟨.hbm, 78, rfl⟩
abbrev main_call1_c_3 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_v34 : Ref sig .tc := ⟨.hbm, 86, rfl⟩
abbrev main_c_7 : Ref sig .tc := ⟨.hbm, 87, rfl⟩
abbrev main_v35 : Ref sig .tc := ⟨.hbm, 88, rfl⟩
abbrev main_v36 : Ref sig .tc := ⟨.hbm, 89, rfl⟩
abbrev main_c_8 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_cst_9 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_cst_10 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_11 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_12 : Ref sig .tc := ⟨.hbm, 108, rfl⟩
abbrev main_call2_v0 : Ref sig .tc := ⟨.hbm, 109, rfl⟩
abbrev main_call2_v1 : Ref sig .tc := ⟨.hbm, 110, rfl⟩
abbrev main_v51 : Ref sig .tc := ⟨.hbm, 111, rfl⟩
abbrev main_v52 : Ref sig .tc := ⟨.hbm, 112, rfl⟩
abbrev main_cst_13 : Ref sig .tc := ⟨.hbm, 113, rfl⟩
abbrev main_cst_14 : Ref sig .tc := ⟨.hbm, 114, rfl⟩
abbrev main_call3_v0 : Ref sig .tc := ⟨.hbm, 115, rfl⟩
abbrev main_call3_v1 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16x2048x8x128 : Shape := ⟨4, ![16, 2048, 8, 128]⟩
abbrev S3 : Shape := ⟨1, ![3]⟩
abbrev S_ : Shape := ⟨0, ![]⟩
abbrev S16x8x2048x2048 : Shape := ⟨4, ![16, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S3x1x1 : Shape := ⟨3, ![3, 1, 1]⟩
abbrev S1x2048x2048 : Shape := ⟨3, ![1, 2048, 2048]⟩
abbrev S3x2048x2048 : Shape := ⟨3, ![3, 2048, 2048]⟩
abbrev S3x1x1x2048x2048 : Shape := ⟨5, ![3, 1, 1, 2048, 2048]⟩
abbrev S3x16x8x2048x2048 : Shape := ⟨5, ![3, 16, 8, 2048, 2048]⟩
abbrev S3x16x8x2048 : Shape := ⟨4, ![3, 16, 8, 2048]⟩
abbrev S3x16x8x2048x1 : Shape := ⟨5, ![3, 16, 8, 2048, 1]⟩
abbrev S16x8x128x3x2048 : Shape := ⟨5, ![16, 8, 128, 3, 2048]⟩
abbrev S3x16x8x2048x128 : Shape := ⟨5, ![3, 16, 8, 2048, 128]⟩
abbrev S16x8x2048x1 : Shape := ⟨4, ![16, 8, 2048, 1]⟩
abbrev S1x16x8x2048x1 : Shape := ⟨5, ![1, 16, 8, 2048, 1]⟩
abbrev S16x8x2048x128 : Shape := ⟨4, ![16, 8, 2048, 128]⟩
abbrev S32768x1024 : Shape := ⟨2, ![32768, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16x2048x8x128, .f32⟩
  | .hbm, ⟨1, _⟩ => ⟨S16x2048x8x128, .f32⟩
  | .hbm, ⟨2, _⟩ => ⟨S16x2048x8x128, .f32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i32⟩
  | .hbm, ⟨7, _⟩ => ⟨S_, .i32⟩
  | .hbm, ⟨8, _⟩ => ⟨S3, .i32⟩
  | .hbm, ⟨9, _⟩ => ⟨S3, .i32⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S16x8x2048x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x8x2048x2048, .f32⟩
  | .hbm, ⟨19, _⟩ => ⟨S16x8x2048x2048, .f32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i1⟩
  | .hbm, ⟨30, _⟩ => ⟨S3x1x1, .i32⟩
  | .hbm, ⟨31, _⟩ => ⟨S1x2048x2048, .i32⟩
  | .hbm, ⟨32, _⟩ => ⟨S3x2048x2048, .i32⟩
  | .hbm, ⟨33, _⟩ => ⟨S3x2048x2048, .i32⟩
  | .hbm, ⟨34, _⟩ => ⟨S3x2048x2048, .i1⟩
  | .hbm, ⟨35, _⟩ => ⟨S1x2048x2048, .i1⟩
  | .hbm, ⟨36, _⟩ => ⟨S3x2048x2048, .i1⟩
  | .hbm, ⟨37, _⟩ => ⟨S3x2048x2048, .i1⟩
  | .hbm, ⟨38, _⟩ => ⟨S3x1x1, .i32⟩
  | .hbm, ⟨39, _⟩ => ⟨S1x2048x2048, .i32⟩
  | .hbm, ⟨40, _⟩ => ⟨S_, .i32⟩
  | .hbm, ⟨41, _⟩ => ⟨S3x1x1, .i32⟩
  | .hbm, ⟨42, _⟩ => ⟨S3x1x1, .i1⟩
  | .hbm, ⟨43, _⟩ => ⟨S_, .i32⟩
  | .hbm, ⟨44, _⟩ => ⟨S3x1x1, .i32⟩
  | .hbm, ⟨45, _⟩ => ⟨S3x1x1, .i32⟩
  | .hbm, ⟨46, _⟩ => ⟨S3x2048x2048, .i32⟩
  | .hbm, ⟨47, _⟩ => ⟨S3x2048x2048, .i32⟩
  | .hbm, ⟨48, _⟩ => ⟨S3x2048x2048, .i32⟩
  | .hbm, ⟨49, _⟩ => ⟨S_, .i32⟩
  | .hbm, ⟨50, _⟩ => ⟨S3x2048x2048, .i32⟩
  | .hbm, ⟨51, _⟩ => ⟨S3x2048x2048, .i1⟩
  | .hbm, ⟨52, _⟩ => ⟨S_, .i32⟩
  | .hbm, ⟨53, _⟩ => ⟨S3x2048x2048, .i32⟩
  | .hbm, ⟨54, _⟩ => ⟨S3x2048x2048, .i1⟩
  | .hbm, ⟨55, _⟩ => ⟨S_, .i32⟩
  | .hbm, ⟨56, _⟩ => ⟨S3x1x1, .i32⟩
  | .hbm, ⟨57, _⟩ => ⟨S3x1x1, .i1⟩
  | .hbm, ⟨58, _⟩ => ⟨S3x2048x2048, .i1⟩
  | .hbm, ⟨59, _⟩ => ⟨S3x2048x2048, .i1⟩
  | .hbm, ⟨60, _⟩ => ⟨S3x2048x2048, .i1⟩
  | .hbm, ⟨61, _⟩ => ⟨S3x2048x2048, .i32⟩
  | .hbm, ⟨62, _⟩ => ⟨S3x2048x2048, .i32⟩
  | .hbm, ⟨63, _⟩ => ⟨S3x2048x2048, .i32⟩
  | .hbm, ⟨64, _⟩ => ⟨S_, .i32⟩
  | .hbm, ⟨65, _⟩ => ⟨S3x2048x2048, .i32⟩
  | .hbm, ⟨66, _⟩ => ⟨S3x2048x2048, .i1⟩
  | .hbm, ⟨67, _⟩ => ⟨S3x2048x2048, .i1⟩
  | .hbm, ⟨68, _⟩ => ⟨S3x1x1x2048x2048, .i1⟩
  | .hbm, ⟨69, _⟩ => ⟨S_, .f32⟩
  | .hbm, ⟨70, _⟩ => ⟨S_, .f32⟩
  | .hbm, ⟨71, _⟩ => ⟨S3x16x8x2048x2048, .i1⟩
  | .hbm, ⟨72, _⟩ => ⟨S3x16x8x2048x2048, .f32⟩
  | .hbm, ⟨73, _⟩ => ⟨S3x16x8x2048x2048, .f32⟩
  | .hbm, ⟨74, _⟩ => ⟨S3x16x8x2048x2048, .f32⟩
  | .hbm, ⟨75, _⟩ => ⟨S_, .f32⟩
  | .hbm, ⟨76, _⟩ => ⟨S3x16x8x2048, .f32⟩
  | .hbm, ⟨77, _⟩ => ⟨S3x16x8x2048x1, .f32⟩
  | .hbm, ⟨78, _⟩ => ⟨S3x16x8x2048x2048, .f32⟩
  | .hbm, ⟨79, _⟩ => ⟨S3x16x8x2048x2048, .f32⟩
  | .hbm, ⟨80, _⟩ => ⟨S3x16x8x2048x2048, .f32⟩
  | .hbm, ⟨81, _⟩ => ⟨S_, .f32⟩
  | .hbm, ⟨82, _⟩ => ⟨S3x16x8x2048, .f32⟩
  | .hbm, ⟨83, _⟩ => ⟨S3x16x8x2048x1, .f32⟩
  | .hbm, ⟨84, _⟩ => ⟨S16x8x128x3x2048, .f32⟩
  | .hbm, ⟨85, _⟩ => ⟨S3x16x8x2048x128, .f32⟩
  | .hbm, ⟨86, _⟩ => ⟨S3x16x8x2048x128, .f32⟩
  | .hbm, ⟨87, _⟩ => ⟨S3x16x8x2048x128, .f32⟩
  | .hbm, ⟨88, _⟩ => ⟨S3x16x8x2048x1, .f32⟩
  | .hbm, ⟨89, _⟩ => ⟨S3x16x8x2048x1, .f32⟩
  | .hbm, ⟨90, _⟩ => ⟨S_, .f32⟩
  | .hbm, ⟨91, _⟩ => ⟨S16x8x2048x1, .f32⟩
  | .hbm, ⟨92, _⟩ => ⟨S_, .f32⟩
  | .hbm, ⟨93, _⟩ => ⟨S16x8x2048x1, .f32⟩
  | .hbm, ⟨94, _⟩ => ⟨S16x8x2048x1, .f32⟩
  | .hbm, ⟨95, _⟩ => ⟨S1x16x8x2048x1, .f32⟩
  | .hbm, ⟨96, _⟩ => ⟨S3x16x8x2048x1, .f32⟩
  | .hbm, ⟨97, _⟩ => ⟨S3x16x8x2048x1, .f32⟩
  | .hbm, ⟨98, _⟩ => ⟨S3x16x8x2048x1, .f32⟩
  | .hbm, ⟨99, _⟩ => ⟨S_, .f32⟩
  | .hbm, ⟨100, _⟩ => ⟨S16x8x2048x1, .f32⟩
  | .hbm, ⟨101, _⟩ => ⟨S1x16x8x2048x1, .f32⟩
  | .hbm, ⟨102, _⟩ => ⟨S3x16x8x2048x1, .f32⟩
  | .hbm, ⟨103, _⟩ => ⟨S3x16x8x2048x1, .f32⟩
  | .hbm, ⟨104, _⟩ => ⟨S3x16x8x2048x128, .f32⟩
  | .hbm, ⟨105, _⟩ => ⟨S3x16x8x2048x128, .f32⟩
  | .hbm, ⟨106, _⟩ => ⟨S_, .f32⟩
  | .hbm, ⟨107, _⟩ => ⟨S16x8x2048x128, .f32⟩
  | .hbm, ⟨108, _⟩ => ⟨S16x2048x8x128, .f32⟩
  | .hbm, ⟨109, _⟩ => ⟨S32768x1024, .f32⟩
  | _, _ => ⟨S16x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_c_0 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_c_1 : Ref sig .tc := ⟨.hbm, 49, rfl⟩
abbrev main_call0_v8 : Ref sig .tc := ⟨.hbm, 50, rfl⟩
abbrev main_call0_v9 : Ref sig .tc := ⟨.hbm, 51, rfl⟩
abbrev main_call0_c_2 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_call0_v17 : Ref sig .tc := ⟨.hbm, 61, rfl⟩
abbrev main_call0_v18 : Ref sig .tc := ⟨.hbm, 62, rfl⟩
abbrev main_v30 : Ref sig .tc := ⟨.hbm, 63, rfl⟩
abbrev main_c_4 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_v35 : Ref sig .tc := ⟨.hbm, 74, rfl⟩
abbrev main_cst_6 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_7 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_8 : Ref sig .tc := ⟨.hbm, 90, rfl⟩
abbrev main_v49 : Ref sig .tc := ⟨.hbm, 91, rfl⟩
abbrev main_cst_9 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_10 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_11 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩

abbrev nD : Nat := 1
abbrev τ : Topo := Topo.v7x

variable {F : FTy → Type} [FloatOps F]
-- ==== Proof.Softmax.lean ====
/-
  Softmax weights over the extended reals.

  A row of scores is a function `b : ℕ → EReal` read below a length `n`: a masked score is `⊥`, every other score is a
  real number, and at least one score is not masked. The weighted mean `mean n w v` of the values `v` with the real
  weights `w` is what both programs compute: the kernel as `(∑ v p) · (1 / ∑ p)` with `p` a power of two
  (`kernelRow_eq`), the reference as `∑ v (p / ∑ p)` with `p` an exponential (`refRow_eq`). The values `v` may be
  infinite: a nonnegative real factor distributes over every sum of extended reals.
-/
module

public import Idealize.ShloMosaic.PureOps.Ideal.Laws

@[expose] public section

noncomputable section

namespace Cert.Softmax

open Idealize.ShloMosaic
open scoped BigOperators

/-! ## Sums of extended reals under a nonnegative real factor -/

/-- A nonnegative real factor distributes over a sum. -/
theorem sum_mul_coe {ι : Type*} (s : Finset ι) (f : ι → EReal) (c : ℝ) (hc : 0 ≤ c) :
    (∑ i ∈ s, f i) * (c : EReal) = ∑ i ∈ s, f i * (c : EReal) := by
  classical
  refine Finset.induction_on s (by simp) fun a t ha ih => ?_
  rw [Finset.sum_insert ha, Finset.sum_insert ha, ← ih]
  exact EReal.right_distrib_of_nonneg_of_ne_top (by exact_mod_cast hc) (EReal.coe_ne_top c) _ _

/-- A sum of real numbers is the real sum. -/
theorem sum_coe {ι : Type*} (s : Finset ι) (f : ι → ℝ) : ∑ i ∈ s, (f i : EReal) = ((∑ i ∈ s, f i : ℝ) : EReal) := by
  classical
  refine Finset.induction_on s (by simp) fun a t ha ih => ?_
  rw [Finset.sum_insert ha, Finset.sum_insert ha, ih, EReal.coe_add]

/-- One value under a sum of nonnegative weights. -/
theorem mul_sum_coe {ι : Type*} (s : Finset ι) (f : ι → ℝ) (hf : ∀ i ∈ s, 0 ≤ f i) (x : EReal) :
    ∑ i ∈ s, x * (f i : EReal) = x * ((∑ i ∈ s, f i : ℝ) : EReal) := by
  classical
  revert hf
  refine Finset.induction_on s (by simp) fun a t ha ih hf => ?_
  rw [Finset.sum_insert ha, Finset.sum_insert ha, ih fun i hi => hf i (Finset.mem_insert_of_mem hi), EReal.coe_add]
  exact (EReal.left_distrib_of_nonneg (by exact_mod_cast hf a (Finset.mem_insert_self _ _))
    (by exact_mod_cast Finset.sum_nonneg fun i hi => hf i (Finset.mem_insert_of_mem hi))).symm

/-! ## Splitting a range -/

/-- The greatest score below `n + m` is the greater of those of the two parts. -/
theorem sup_range_add (b : ℕ → EReal) (n m : ℕ) :
    (Finset.range (n + m)).sup b = max ((Finset.range n).sup b) ((Finset.range m).sup fun k => b (n + k)) := by
  apply le_antisymm
  · refine Finset.sup_le fun k hk => ?_
    rcases lt_or_ge k n with h | h
    · exact le_max_of_le_left (Finset.le_sup (f := b) (Finset.mem_range.mpr h))
    · refine le_max_of_le_right ?_
      have hk' := Finset.mem_range.mp hk
      have := Finset.le_sup (f := fun k => b (n + k)) (Finset.mem_range.mpr (show k - n < m by omega))
      simpa [Nat.add_sub_cancel' h] using this
  · refine max_le (Finset.sup_mono (Finset.range_mono (by omega))) (Finset.sup_le fun k hk => ?_)
    exact Finset.le_sup (f := b) (Finset.mem_range.mpr (by have := Finset.mem_range.mp hk; omega))

/-- A supremum over `Fin n` is the one over the range. -/
theorem sup_univ_fin (b : ℕ → EReal) (n : ℕ) : (Finset.univ : Finset (Fin n)).sup (fun k => b k.val) = (Finset.range n).sup b := by
  apply le_antisymm
  · exact Finset.sup_le fun k _ => Finset.le_sup (f := b) (Finset.mem_range.mpr k.isLt)
  · exact Finset.sup_le fun k hk =>
      Finset.le_sup (f := fun k : Fin n => b k.val) (Finset.mem_univ ⟨k, Finset.mem_range.mp hk⟩)

/-! ## Scores -/

/-- A row of `n` scores: each a real number or masked, and some score not masked. -/
structure Row (n : ℕ) (b : ℕ → EReal) : Prop where
  ne_top : ∀ k < n, b k ≠ ⊤
  some_real : ∃ k < n, b k ≠ ⊥

/-- The greatest score of a row is a real number. -/
theorem Row.sup_real {n : ℕ} {b : ℕ → EReal} (h : Row n b) : ∃ M : ℝ, (Finset.range n).sup b = (M : EReal) := by
  have hbot : (Finset.range n).sup b ≠ ⊥ := by
    obtain ⟨k, hk, hb⟩ := h.some_real
    intro e
    exact hb (le_bot_iff.mp (e ▸ Finset.le_sup (f := b) (Finset.mem_range.mpr hk)))
  have htop : (Finset.range n).sup b ≠ ⊤ := by
    have : (Finset.range n).sup b < ⊤ := (Finset.sup_lt_iff (by exact bot_lt_top)).mpr fun k hk =>
      lt_top_iff_ne_top.mpr (h.ne_top k (Finset.mem_range.mp hk))
    exact this.ne
  exact ⟨_, (EReal.coe_toReal htop hbot).symm⟩

/-- The weight of a score, base `e`. -/
def wexp (x : EReal) : ℝ := (Ideal.exp x).toReal

/-- The weight of a score, base two. -/
def wexp2 (x : EReal) : ℝ := (Ideal.exp2 x).toReal

@[simp] theorem wexp_bot : wexp ⊥ = 0 := by simp [wexp]
@[simp] theorem wexp_coe (r : ℝ) : wexp (r : EReal) = Real.exp r := by simp [wexp]
@[simp] theorem wexp2_bot : wexp2 ⊥ = 0 := by simp [wexp2]
@[simp] theorem wexp2_coe (r : ℝ) : wexp2 (r : EReal) = (2 : ℝ) ^ r := by
  simp [wexp2]

theorem wexp_nonneg (x : EReal) : 0 ≤ wexp x := by
  induction x using EReal.rec with
  | bot => simp
  | coe r => simpa using (Real.exp_pos r).le
  | top => simp [wexp]

theorem wexp2_nonneg (x : EReal) : 0 ≤ wexp2 x := by
  induction x using EReal.rec with
  | bot => simp
  | coe r => simpa using Real.rpow_nonneg (by norm_num) r
  | top => simp [wexp2]

/-- A score's weight in base two is the weight of the score times `log 2` in base `e`. -/
theorem wexp2_eq (r : ℝ) : wexp2 ((r / Real.log 2 : ℝ) : EReal) = Real.exp r := by
  have h2 : Real.log 2 ≠ 0 := (Real.log_pos (by norm_num)).ne'
  rw [wexp2_coe, Real.rpow_def_of_pos (by norm_num), mul_div_cancel₀ _ h2]

/-- A shifted score's exponential. -/
theorem exp_sub_coe {x : EReal} (hx : x ≠ ⊤) (M : ℝ) : Ideal.exp (x - (M : EReal)) = ((wexp x * Real.exp (-M) : ℝ) : EReal) := by
  induction x using EReal.rec with
  | bot => simp [EReal.bot_sub]
  | coe r => rw [← EReal.coe_sub, Ideal.exp_coe, wexp_coe, sub_eq_add_neg, Real.exp_add]
  | top => exact absurd rfl hx

/-- A shifted score's power of two. -/
theorem exp2_sub_coe {x : EReal} (hx : x ≠ ⊤) (M : ℝ) : Ideal.exp2 (x - (M : EReal)) = ((wexp2 x * (2 : ℝ) ^ (-M) : ℝ) : EReal) := by
  induction x using EReal.rec with
  | bot => simp [EReal.bot_sub]
  | coe r =>
    rw [← EReal.coe_sub, Ideal.exp2_coe, wexp2_coe, sub_eq_add_neg, ← Real.rpow_add (by norm_num)]
    rfl
  | top => exact absurd rfl hx

theorem wexp_pos {x : EReal} (h1 : x ≠ ⊤) (h2 : x ≠ ⊥) : 0 < wexp x := by
  induction x using EReal.rec with
  | bot => exact absurd rfl h2
  | coe r => simpa using Real.exp_pos r
  | top => exact absurd rfl h1

theorem wexp2_pos {x : EReal} (h1 : x ≠ ⊤) (h2 : x ≠ ⊥) : 0 < wexp2 x := by
  induction x using EReal.rec with
  | bot => exact absurd rfl h2
  | coe r => simpa using Real.rpow_pos_of_pos (by norm_num) r
  | top => exact absurd rfl h1

theorem Row.sum_wexp_pos {n : ℕ} {b : ℕ → EReal} (h : Row n b) : 0 < ∑ k ∈ Finset.range n, wexp (b k) := by
  obtain ⟨k, hk, hb⟩ := h.some_real
  exact Finset.sum_pos' (fun i _ => wexp_nonneg _) ⟨k, Finset.mem_range.mpr hk, wexp_pos (h.ne_top k hk) hb⟩

theorem Row.sum_wexp2_pos {n : ℕ} {b : ℕ → EReal} (h : Row n b) : 0 < ∑ k ∈ Finset.range n, wexp2 (b k) := by
  obtain ⟨k, hk, hb⟩ := h.some_real
  exact Finset.sum_pos' (fun i _ => wexp2_nonneg _) ⟨k, Finset.mem_range.mpr hk, wexp2_pos (h.ne_top k hk) hb⟩

/-! ## The weighted mean -/

/-- The mean of the values `v` with the weights `w`. -/
def mean (n : ℕ) (w : ℕ → ℝ) (v : ℕ → EReal) : EReal :=
  ∑ k ∈ Finset.range n, v k * ((w k / ∑ j ∈ Finset.range n, w j : ℝ) : EReal)

/-- The mean depends on the weights and values below `n` alone. -/
theorem mean_congr {n : ℕ} {w w' : ℕ → ℝ} {v v' : ℕ → EReal} (hw : ∀ k < n, w k = w' k) (hv : ∀ k < n, v k = v' k) :
    mean n w v = mean n w' v' := by
  have e : ∑ j ∈ Finset.range n, w j = ∑ j ∈ Finset.range n, w' j :=
    Finset.sum_congr rfl fun k hk => hw k (Finset.mem_range.mp hk)
  unfold mean
  rw [e]
  exact Finset.sum_congr rfl fun k hk => by rw [hw k (Finset.mem_range.mp hk), hv k (Finset.mem_range.mp hk)]

/-- Values of weight zero at the end of a row do not count. -/
theorem mean_extend {n N : ℕ} (hn : n ≤ N) (w : ℕ → ℝ) (v : ℕ → EReal) (hw : ∀ k < N, n ≤ k → w k = 0) : mean n w v = mean N w v := by
  have e : ∑ j ∈ Finset.range n, w j = ∑ j ∈ Finset.range N, w j :=
    Finset.sum_subset (Finset.range_mono hn) fun k hk hk' =>
      hw k (Finset.mem_range.mp hk) (not_lt.mp fun h => hk' (Finset.mem_range.mpr h))
  unfold mean
  rw [e]
  refine Finset.sum_subset (Finset.range_mono hn) fun k hk hk' => ?_
  rw [hw k (Finset.mem_range.mp hk) (not_lt.mp fun h => hk' (Finset.mem_range.mpr h)), zero_div, EReal.coe_zero, mul_zero]

/-- What the kernel computes for one row of scores: the sum of the values weighted by powers of two of the scores less
    their greatest, times the reciprocal of the weights' sum. -/
def kernelRow (n : ℕ) (b v : ℕ → EReal) : EReal :=
  (∑ k ∈ Finset.range n, v k * Ideal.exp2 (b k - (Finset.range n).sup b))
    * Ideal.div 1 (∑ k ∈ Finset.range n, Ideal.exp2 (b k - (Finset.range n).sup b))

/-- The kernel's row is the mean with the scores' base-two weights. -/
theorem kernelRow_eq {n : ℕ} {b : ℕ → EReal} (h : Row n b) (v : ℕ → EReal) :
    kernelRow n b v = mean n (fun k => wexp2 (b k)) v := by
  obtain ⟨M, hM⟩ := h.sup_real
  have hS := h.sum_wexp2_pos
  have hc : (0 : ℝ) < (2 : ℝ) ^ (-M) := Real.rpow_pos_of_pos (by norm_num) _
  have hp : ∀ k ∈ Finset.range n, Ideal.exp2 (b k - (Finset.range n).sup b) = ((wexp2 (b k) * (2 : ℝ) ^ (-M) : ℝ) : EReal) :=
    fun k hk => by rw [hM]; exact exp2_sub_coe (h.ne_top k (Finset.mem_range.mp hk)) M
  have hl : ∑ k ∈ Finset.range n, wexp2 (b k) * (2 : ℝ) ^ (-M) ≠ 0 := by
    rw [← Finset.sum_mul]; exact (mul_pos hS hc).ne'
  unfold kernelRow mean
  rw [Finset.sum_congr rfl hp, sum_coe, Ideal.div_coe hl, one_mul,
    Finset.sum_congr rfl fun k hk => by rw [hp k hk], sum_mul_coe _ _ _ (by
      rw [← Finset.sum_mul]; exact (one_div_pos.mpr (mul_pos hS hc)).le)]
  refine Finset.sum_congr rfl fun k _ => ?_
  rw [mul_assoc, ← EReal.coe_mul, ← Finset.sum_mul]
  congr 2
  field_simp

/-- What a reference computes for one row of scores: the values times the weights divided by their sum. -/
theorem refRow_eq {n : ℕ} {a : ℕ → EReal} (h : Row n a) (v : ℕ → EReal) :
    ∑ k ∈ Finset.range n, v k * Ideal.div (Ideal.exp (a k - (Finset.range n).sup a))
        (∑ j ∈ Finset.range n, Ideal.exp (a j - (Finset.range n).sup a))
      = mean n (fun k => wexp (a k)) v := by
  obtain ⟨M, hM⟩ := h.sup_real
  have hS := h.sum_wexp_pos
  have hp : ∀ k ∈ Finset.range n, Ideal.exp (a k - (Finset.range n).sup a) = ((wexp (a k) * Real.exp (-M) : ℝ) : EReal) :=
    fun k hk => by rw [hM]; exact exp_sub_coe (h.ne_top k (Finset.mem_range.mp hk)) M
  have hl : ∑ k ∈ Finset.range n, wexp (a k) * Real.exp (-M) ≠ 0 := by
    rw [← Finset.sum_mul]; exact (mul_pos hS (Real.exp_pos _)).ne'
  unfold mean
  rw [Finset.sum_congr rfl hp, sum_coe]
  refine Finset.sum_congr rfl fun k hk => ?_
  rw [hp k hk, Ideal.div_coe hl, ← EReal.coe_mul, ← Finset.sum_mul]
  congr 2
  have := Real.exp_pos (-M)
  field_simp

end Cert.Softmax

end
-- ==== Proof.At.lean ====
/-
  Reading an array of two, three or four dimensions at natural-number coordinates, and a load of one of the rectangles of
  a two-dimensional one there.
-/
module

public import proofs.«01_k».proof.Proof.Softmax
public import Idealize.ShloMosaic.Lib.ValueLayout
public import Idealize.ShloMosaic.Lib.Pipeline.ValueKit.Tiles

@[expose] public section

noncomputable section

namespace Cert.At

open Idealize.ShloMosaic Idealize.ShloMosaic.ValueIdx

/-- The element of a vector; zero outside. -/
def at1 {A : ℕ} (x : (⟨1, ![A]⟩ : Shape).Idx → EReal) (i : ℕ) : EReal :=
  if h : i < A then x (ix1 ⟨i, h⟩) else 0

theorem at1_eq {A : ℕ} (x : (⟨1, ![A]⟩ : Shape).Idx → EReal) (y : (⟨1, ![A]⟩ : Shape).Idx) {i : ℕ} (hi : (y 0).val = i) :
    at1 x i = x y := by
  subst hi
  unfold at1
  rw [dif_pos (show (y 0).val < A from (y 0).isLt)]
  congr 1
  funext a
  match a with
  | ⟨0, _⟩ => rfl

/-- The element at row `i`, column `j`; zero outside the array. -/
def at2 {A B : ℕ} (x : (⟨2, ![A, B]⟩ : Shape).Idx → EReal) (i j : ℕ) : EReal :=
  if h : i < A ∧ j < B then x (ix2 ⟨i, h.1⟩ ⟨j, h.2⟩) else 0

theorem at2_of_lt {A B : ℕ} (x : (⟨2, ![A, B]⟩ : Shape).Idx → EReal) {i j : ℕ} (hi : i < A) (hj : j < B) :
    at2 x i j = x (ix2 ⟨i, hi⟩ ⟨j, hj⟩) := dif_pos ⟨hi, hj⟩

/-- The element at an index of these coordinates. -/
theorem at2_eq {A B : ℕ} (x : (⟨2, ![A, B]⟩ : Shape).Idx → EReal) (y : (⟨2, ![A, B]⟩ : Shape).Idx) {i j : ℕ}
    (hi : (y 0).val = i) (hj : (y 1).val = j) : at2 x i j = x y := by
  subst hi hj
  rw [at2_of_lt x (y 0).isLt (y 1).isLt]
  congr 1
  funext a
  match a with
  | ⟨0, _⟩ => rfl
  | ⟨1, _⟩ => rfl

/-- A load of a rectangle of unit stride, at an index of the rectangle. -/
theorem ld_at2 {A B n m : ℕ} (X : (⟨2, ![A, B]⟩ : Shape).Idx → EReal) (o p : ℕ)
    (inb : ∀ a, (![o, p] : Fin 2 → ℕ) a + (![n, m] : Fin 2 → ℕ) a ≤ (![A, B] : Fin 2 → ℕ) a) (i : Fin n) (j : Fin m) :
    X ((Rect.unit (s := ⟨2, ![A, B]⟩) ![o, p] ![n, m] inb).idx (ix2 i j)) = at2 X (o + i.val) (p + j.val) :=
  (at2_eq X _ (Rect.idx_unit_val (s := ⟨2, ![A, B]⟩) ![o, p] ![n, m] inb (ix2 i j) 0)
    (Rect.idx_unit_val (s := ⟨2, ![A, B]⟩) ![o, p] ![n, m] inb (ix2 i j) 1)).symm

/-- The element of a three-dimensional array; zero outside. -/
def at3 {A B C : ℕ} (x : (⟨3, ![A, B, C]⟩ : Shape).Idx → EReal) (i j k : ℕ) : EReal :=
  if h : i < A ∧ j < B ∧ k < C then x (ix3 ⟨i, h.1⟩ ⟨j, h.2.1⟩ ⟨k, h.2.2⟩) else 0

theorem at3_eq {A B C : ℕ} (x : (⟨3, ![A, B, C]⟩ : Shape).Idx → EReal) (y : (⟨3, ![A, B, C]⟩ : Shape).Idx) {i j k : ℕ}
    (hi : (y 0).val = i) (hj : (y 1).val = j) (hk : (y 2).val = k) : at3 x i j k = x y := by
  subst hi hj hk
  unfold at3
  rw [dif_pos ⟨(y 0).isLt, (y 1).isLt, (y 2).isLt⟩]
  congr 1
  funext a
  match a with
  | ⟨0, _⟩ => rfl
  | ⟨1, _⟩ => rfl
  | ⟨2, _⟩ => rfl

theorem at3_of_lt {A B C : ℕ} (x : (⟨3, ![A, B, C]⟩ : Shape).Idx → EReal) {i j k : ℕ} (hi : i < A) (hj : j < B) (hk : k < C) :
    at3 x i j k = x (ix3 ⟨i, hi⟩ ⟨j, hj⟩ ⟨k, hk⟩) := dif_pos ⟨hi, hj, hk⟩

/-- The element of a four-dimensional array; zero outside. -/
def at4 {A B C D : ℕ} (x : (⟨4, ![A, B, C, D]⟩ : Shape).Idx → EReal) (i j k l : ℕ) : EReal :=
  if h : i < A ∧ j < B ∧ k < C ∧ l < D then x (ix4 ⟨i, h.1⟩ ⟨j, h.2.1⟩ ⟨k, h.2.2.1⟩ ⟨l, h.2.2.2⟩) else 0

theorem at4_eq {A B C D : ℕ} (x : (⟨4, ![A, B, C, D]⟩ : Shape).Idx → EReal) (y : (⟨4, ![A, B, C, D]⟩ : Shape).Idx)
    {i j k l : ℕ} (hi : (y 0).val = i) (hj : (y 1).val = j) (hk : (y 2).val = k) (hl : (y 3).val = l) :
    at4 x i j k l = x y := by
  subst hi hj hk hl
  unfold at4
  rw [dif_pos ⟨(y 0).isLt, (y 1).isLt, (y 2).isLt, (y 3).isLt⟩]
  congr 1
  funext a
  match a with
  | ⟨0, _⟩ => rfl
  | ⟨1, _⟩ => rfl
  | ⟨2, _⟩ => rfl
  | ⟨3, _⟩ => rfl

end Cert.At

end
-- ==== Proof.Host.lean ====
/-
  The arrays that the host code hands to the latent attention, at an index: packed queries, keys, transposed values and the
  causal bias, as elements of the arguments.
-/
module

public import proofs.«01_k».proof.Proof.At
public import proofs.«01_k».proof.Proof.Gen.KernelIdeal.Value
public import Idealize.ShloMosaic.Lib.StableHlo.ReadAt
public import Idealize.ShloMosaic.Lib.Claim
public import Idealize.ShloMosaic.Lib.WordCmp

@[expose] public section

noncomputable section

namespace Cert.Host

open Idealize.ShloMosaic Idealize.ShloMosaic.TcCoe Cert.At Cert.KernelIdeal Cert.KernelIdeal.Gen
open scoped BigOperators

variable (m : (ℓ : Loc nD τ sig) → Buf (Elt Ideal) ℓ) (c : Dev nD)

theorem ofBits_192 : Ideal.ofBits .f32 0x43400000#32 = ((192 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

/-- A sum of two index words is the word of the sum. -/
theorem addi_ofNat (a b : ℕ) : IntOp.addi (BitVec.ofNat 32 a) (BitVec.ofNat 32 b) = BitVec.ofNat 32 (a + b) :=
  (BitVec.ofNat_add a b).symm

/-- A difference of two small index words, as an integer. -/
theorem subi_toInt (a b : ℕ) (ha : a < 4096) (hb : b < 4096) :
    (IntOp.subi (BitVec.ofNat 32 a) (BitVec.ofNat 32 b)).toInt = (a : ℤ) - b := by
  show (BitVec.ofNat 32 a - BitVec.ofNat 32 b).toInt = _
  rw [BitVec.toInt_sub, BitVec.toInt_ofNat', BitVec.toInt_ofNat']
  simp only [Int.bmod_def]
  omega

theorem bias_at (i j : Fin 512) : V m c main_v59 (ValueIdx.ix2 i j) = if i.val ≤ j.val then (0 : EReal) else ⊥ := by
  unfold V
  after_reads_at
  show select _ _ _ _ = _
  pointwise
  show Scalar.select (IntOp.cmpi CmpIPredicate.sge (IntOp.subi (IntOp.addi 1536#32 (BitVec.ofNat 32 j.val)) (BitVec.ofNat 32 (1536 + i.val))) 0#32)
    (Ideal.ofBits .f32 0#32) (Ideal.ofBits .f32 0xFF800000#32) = _
  rw [ofBits_bot, Ideal.ofBits_zero_f32]
  unfold Scalar.select
  have hi := i.isLt
  have hj := j.isLt
  rw [addi_ofNat, show ∀ x : BitVec 32, IntOp.cmpi .sge x 0#32 = BitVec.ofBool (decide ((0#32).toInt ≤ x.toInt)) from fun _ => rfl, subi_toInt _ _ (by omega) (by omega), BitVec.toInt_zero]
  by_cases h : i.val ≤ j.val
  · rw [if_pos h, decide_eq_true (by push_cast; omega)]
    rfl
  · rw [if_neg h, decide_eq_false (by push_cast; omega)]
    rfl

theorem v_at (i : Fin 1024) (j : Fin 32768) :
    V m c main_v16 (ValueIdx.ix2 i j) = at4 (m ((c.tc : Thread nD τ).loc main_arg4)) (j.val / 2048) (j.val % 2048) (i.val / 128) (i.val % 128) := by
  unfold V
  after_reads_at
  refine (show _ = m (c, Proc.tc.devRef main_arg4) _ from rfl).trans ?_
  exact (at4_eq _ _ rfl rfl rfl rfl).symm

theorem k_at (i : Fin 32768) (j : Fin 2048) :
    V m c main_v13 (ValueIdx.ix2 i j)
      = if j.val % 256 < 128 then at4 (m ((c.tc : Thread nD τ).loc main_arg2)) (i.val / 2048) (i.val % 2048) (j.val / 256) (j.val % 256)
        else if j.val % 256 - 128 < 64 then at3 (m ((c.tc : Thread nD τ).loc main_arg3)) (i.val / 2048) (i.val % 2048) (j.val % 256 - 128)
        else 0 := by
  unfold V
  after_reads_at
  after_reads_at
  rw [Ideal.truncf_def]
  by_cases h : j.val % 256 < 128
  · exact (dif_pos h).trans ((at4_eq _ _ rfl rfl rfl rfl).symm.trans (if_pos h).symm)
  · refine (dif_neg h).trans (Eq.trans ?_ (if_neg h).symm)
    by_cases h' : j.val % 256 - 128 < 64
    · exact (dif_pos h').trans ((at3_eq _ _ rfl rfl rfl).symm.trans (if_pos h').symm)
    · exact (dif_neg h').trans (Ideal.ofBits_zero_f32.trans (if_neg h').symm)

theorem q_at (i : Fin 32768) (j : Fin 2048) :
    V m c main_v10 (ValueIdx.ix2 i j)
      = Ideal.div (if j.val % 256 < 128 then at4 (m ((c.tc : Thread nD τ).loc main_arg0)) (i.val / 2048) (i.val % 2048) (j.val / 256) (j.val % 256)
        else if j.val % 256 - 128 < 64 then at4 (m ((c.tc : Thread nD τ).loc main_arg1)) (i.val / 2048) (i.val % 2048) (j.val / 256) (j.val % 256 - 128)
        else 0) ((Real.sqrt 192 * Real.log 2 : ℝ) : EReal) := by
  unfold V
  after_reads_at
  after_reads_at
  rw [Ideal.truncf_def, Ideal.hostDivf_def]
  refine congrArg₂ Ideal.div ?_ ?_
  · by_cases h : j.val % 256 < 128
    · exact (dif_pos h).trans ((at4_eq _ _ rfl rfl rfl rfl).symm.trans (if_pos h).symm)
    · refine (dif_neg h).trans (Eq.trans ?_ (if_neg h).symm)
      by_cases h' : j.val % 256 - 128 < 64
      · exact (dif_pos h').trans ((at4_eq _ _ rfl rfl rfl rfl).symm.trans (if_pos h').symm)
      · exact (dif_neg h').trans (Ideal.ofBits_zero_f32.trans (if_neg h').symm)
  · show Ideal.sqrt (Ideal.ofBits .f32 0x43400000#32) * Ideal.log (Ideal.ofBits .f32 0x40000000#32) = _
    rw [ofBits_192, ofBits_2, Ideal.sqrt_coe, Ideal.log_coe]
    norm_num

end Cert.Host
end
-- ==== Proof.Tile.lean ====
/-
  The attention body's operations, each read at one index.

  A tile of scores has a key per row and a query per column. For the query of column `j` the column of the tile is a row
  of scores `b : ℕ → EReal`. These lemmas read the body's operations on a tile of `n` keys and 512 queries: the products,
  the columns' greatest score, the weights, the weights' sum, the weighted sum of the values and the last normalisation.
-/
module

public import proofs.«01_k».proof.Proof.Softmax
public import Idealize.ShloMosaic.Lib.MatmulPlain
public import Idealize.ShloMosaic.Lib.ValueLayout
public import Idealize.ShloMosaic.Lib.IdealHost

@[expose] public section

noncomputable section

namespace Cert.Tile

open Idealize.ShloMosaic Idealize.ShloMosaic.ValueIdx Cert.Softmax
open scoped BigOperators

/-- A sum over `Fin n` of a function of the value. -/
theorem sum_fin_range (n : ℕ) (f : ℕ → EReal) : ∑ k : Fin n, f k.val = ∑ k ∈ Finset.range n, f k :=
  Fin.sum_univ_eq_sum_range f n

/-- The word of `-∞`. -/
theorem ofBits_neg_inf : (FloatOps.ofBits .f32 0xFF800000#32 : Ideal .f32) = (⊥ : EReal) := by
  show Ideal.ofBits .f32 0xFF800000#32 = ⊥
  simp [Ideal.ofBits, Ideal.ieee]

/-- A column's greatest score. -/
theorem colMax {n : ℕ} (s : FVec Ideal ⟨2, ![n, 512]⟩ .f32) (h : (⟨2, ![n, 512]⟩ : Shape).Reduces [0] ⟨1, ![512]⟩)
    (hφ : FKind.Formats .f32) (hacc : 0xFF800000#32 = FKind.maximumf.neutral .f32 hφ)
    (hc : (⟨1, ![512]⟩ : Shape).ShapeCasts ⟨2, ![1, 512]⟩) (j : Fin 512) (b : ℕ → EReal)
    (hb : ∀ k : Fin n, s (ix2 k j) = b k.val) :
    shapeCast ⟨2, ![1, 512]⟩ (multiReduction .maximumf [0] ⟨1, ![512]⟩ s 0xFF800000#32 h hφ hacc) hc (ix2 (0 : Fin 1) j)
      = (Finset.range n).sup b := by
  rw [shapeCast_a_1a_apply, Ideal.multiReduction_maximumf_single, ofBits_neg_inf, ← sup_univ_fin]
  show (Finset.univ : Finset (Fin n)).sup _ = _
  refine Finset.sup_congr rfl fun k _ => ?_
  rw [← hb k]
  show s (h.lift (ix1 j) k) = _
  congr 1
  funext a
  match a with
  | ⟨0, _⟩ => rfl
  | ⟨1, _⟩ => rfl

/-- A column's sum. -/
theorem colSum {n : ℕ} (s : FVec Ideal ⟨2, ![n, 512]⟩ .f32) (h : (⟨2, ![n, 512]⟩ : Shape).Reduces [0] ⟨1, ![512]⟩)
    (hφ : FKind.Formats .f32) (hacc : 0x00000000#32 = FKind.add.neutral .f32 hφ)
    (hc : (⟨1, ![512]⟩ : Shape).ShapeCasts ⟨2, ![1, 512]⟩) (j : Fin 512) (b : ℕ → EReal)
    (hb : ∀ k : Fin n, s (ix2 k j) = b k.val) :
    shapeCast ⟨2, ![1, 512]⟩ (multiReduction .add [0] ⟨1, ![512]⟩ s 0x00000000#32 h hφ hacc) hc (ix2 (0 : Fin 1) j)
      = ∑ k ∈ Finset.range n, b k := by
  rw [shapeCast_a_1a_apply, Ideal.multiReduction_add_single, ← sum_fin_range]
  refine Finset.sum_congr rfl fun k _ => ?_
  rw [← hb k]
  show s (h.lift (ix1 j) k) = _
  congr 1
  funext a
  match a with
  | ⟨0, _⟩ => rfl
  | ⟨1, _⟩ => rfl

/-- A weight: the power of two of the score less the column's greatest. -/
theorem weight {n : ℕ} (s : FVec Ideal ⟨2, ![n, 512]⟩ .f32) (m : FVec Ideal ⟨2, ![1, 512]⟩ .f32)
    (hb : (⟨2, ![1, 512]⟩ : Shape).Broadcasts ⟨2, ![n, 512]⟩) (k : Fin n) (j : Fin 512) :
    exp2 (subf s (broadcastTo ⟨2, ![n, 512]⟩ m hb)) (ix2 k j) = Ideal.exp2 (s (ix2 k j) - m (ix2 (0 : Fin 1) j)) := by
  show Ideal.exp2 (s (ix2 k j) - broadcastTo ⟨2, ![n, 512]⟩ m hb (ix2 k j)) = _
  rw [broadcastTo_1b_ab_apply]

/-- A product of a key block with the query block. -/
theorem scores {n E : ℕ} {φ₁ φ₂ : FTy} (K : FVec Ideal ⟨2, ![n, E]⟩ φ₁) (Q : FVec Ideal ⟨2, ![512, E]⟩ φ₂) (k : Fin n) (j : Fin 512) :
    FloatOps.matmul (DotDims.transposedRhs n E 512) none K Q (constant ⟨2, ![n, 512]⟩ .f32 0x00000000#32) (ix2 k j)
      = ∑ e : Fin E, K (ix2 k e) * Q (ix2 j e) := by
  rw [Ideal.matmul_transposedRhs_apply]
  show Ideal.ofBits .f32 0x00000000#32 + _ = _
  rw [Ideal.ofBits_zero_f32, zero_add]

/-- The values weighted and summed. -/
theorem valueSum {n E : ℕ} {φ₁ φ₂ : FTy} (V : FVec Ideal ⟨2, ![E, n]⟩ φ₁) (p : FVec Ideal ⟨2, ![n, 512]⟩ φ₂) (e : Fin E) (j : Fin 512)
    (v w : ℕ → EReal) (hv : ∀ k : Fin n, V (ix2 e k) = v k.val) (hw : ∀ k : Fin n, p (ix2 k j) = w k.val) :
    FloatOps.matmul (DotDims.plain E n 512) none V p (constant ⟨2, ![E, 512]⟩ .f32 0x00000000#32) (ix2 e j)
      = ∑ k ∈ Finset.range n, v k * w k := by
  rw [Ideal.matmul_plain_apply]
  show Ideal.ofBits .f32 0x00000000#32 + _ = _
  rw [Ideal.ofBits_zero_f32, zero_add, ← sum_fin_range]
  exact Finset.sum_congr rfl fun k _ => by rw [hv, hw]

/-- The stored tile: the weighted sums times the reciprocals of the weights' sums, with the queries in rows. -/
theorem stored {E : ℕ} (o : FVec Ideal ⟨2, ![E, 512]⟩ .f32) (l : FVec Ideal ⟨2, ![1, 512]⟩ .f32)
    (hb : (⟨2, ![1, 512]⟩ : Shape).Broadcasts ⟨2, ![E, 512]⟩) (ht : (⟨2, ![E, 512]⟩ : Shape).Transposes [1, 0] ⟨2, ![512, E]⟩)
    (e : Fin E) (j : Fin 512) :
    transpose ⟨2, ![512, E]⟩ [1, 0]
        (mulf o (broadcastTo ⟨2, ![E, 512]⟩ (divf (broadcast ⟨2, ![1, 512]⟩ (Scalar.ofBits .f32 0x3F800000#32 : Ideal .f32)) l) hb)) ht (ix2 j e)
      = o (ix2 e j) * Ideal.div 1 (l (ix2 (0 : Fin 1) j)) := by
  rw [transpose_ix2_apply]
  show o (ix2 e j) * broadcastTo ⟨2, ![E, 512]⟩ (divf (broadcast ⟨2, ![1, 512]⟩ (Scalar.ofBits .f32 0x3F800000#32 : Ideal .f32)) l) hb (ix2 e j) = _
  rw [broadcastTo_1b_ab_apply]
  show _ * Ideal.div (Ideal.ofBits .f32 0x3F800000#32) _ = _
  rw [Ideal.ofBits_one_f32]

/-- A zero start of a sum. -/
theorem zeroStart {s : Shape} (x : FVec Ideal s .f32) (i : s.Idx) :
    addf (broadcast s (Scalar.ofBits .f32 0x00000000#32 : Ideal .f32)) x i = x i := by
  show Ideal.ofBits .f32 0x00000000#32 + _ = _
  rw [Ideal.ofBits_zero_f32, zero_add]

/-! ## The kernel's row from one part and from two parts -/

/-- A row in one part. -/
theorem onePart {n : ℕ} (b v : ℕ → EReal) {o l M : EReal} (hM : M = (Finset.range n).sup b)
    (ho : o = ∑ k ∈ Finset.range n, v k * Ideal.exp2 (b k - M)) (hl : l = ∑ k ∈ Finset.range n, Ideal.exp2 (b k - M)) :
    o * Ideal.div 1 l = kernelRow n b v := by
  subst hM ho hl; rfl

/-- A row in two parts. -/
theorem twoParts {n m : ℕ} (b v : ℕ → EReal) {o₁ o₂ l₁ l₂ M : EReal}
    (hM : M = max ((Finset.range n).sup b) ((Finset.range m).sup fun k => b (n + k)))
    (ho₁ : o₁ = ∑ k ∈ Finset.range n, v k * Ideal.exp2 (b k - M)) (hl₁ : l₁ = ∑ k ∈ Finset.range n, Ideal.exp2 (b k - M))
    (ho₂ : o₂ = ∑ k ∈ Finset.range m, v (n + k) * Ideal.exp2 (b (n + k) - M))
    (hl₂ : l₂ = ∑ k ∈ Finset.range m, Ideal.exp2 (b (n + k) - M)) :
    (o₁ + o₂) * Ideal.div 1 (l₁ + l₂) = kernelRow (n + m) b v := by
  rw [← sup_range_add] at hM
  subst ho₁ hl₁ ho₂ hl₂
  unfold kernelRow
  rw [Finset.sum_range_add, Finset.sum_range_add, hM]

end Cert.Tile

end
-- ==== Proof.Block.lean ====
/-
  One grid step of the latent attention: the output block of one batch entry and head.

  The body takes four tiles of 512 queries one after another. The tile of number `i` sees the keys below `512 (i + 1)`, in
  two parts (one for the first tile): the keys of the tiles before, whose scores are taken as they are, and the last 512
  keys, to whose scores the bias is added. Every row of the block is the kernel's row of these scores.
-/
module

public import proofs.«01_k».proof.Proof.Tile
public import proofs.«01_k».proof.Proof.At
public import proofs.«01_k».proof.Proof.Gen.KernelIdeal.Value

@[expose] public section

noncomputable section

namespace Cert.Block

open Idealize.ShloMosaic Idealize.ShloMosaic.ValueIdx Cert.Softmax Cert.Tile Cert.At Cert.KernelIdeal Cert.KernelIdeal.Gen
open scoped BigOperators

variable (x0 x1 : Vec Ideal S2048x256 .bf16) (x2 : Vec Ideal S128x2048 .bf16) (x3 : Vec Ideal S512x512 .f32)

/-- The product of query `r` with key `k`. -/
def score (r k : ℕ) : EReal := ∑ e : Fin 256, at2 (A := 2048) (B := 256) x1 k e.val * at2 (A := 2048) (B := 256) x0 r e.val

/-- The score with its bias, which the last 512 keys that the query's tile sees have. -/
def biased (r k : ℕ) : EReal :=
  score x0 x1 r k + if r / 512 * 512 ≤ k then at2 (A := 512) (B := 512) x3 (k - r / 512 * 512) (r % 512) else 0

/-- The block: the kernel's row of every query. -/
def out : Vec Ideal S2048x128 .f32 := fun y =>
  kernelRow (((y 0).val / 512 + 1) * 512) (biased x0 x1 x3 (y 0).val) (fun k => at2 (A := 128) (B := 2048) x2 (y 1).val k)

/-! ## The stored tiles, from their score tiles -/

section Rows

variable (j : Fin 512) (e : Fin 128) (b v : ℕ → EReal)

theorem row0 (q k : Vec Ideal S512x256 .bf16) (bias : Vec Ideal S512x512 .f32) (vt : Vec Ideal S128x512 .bf16)
    (hb : ∀ i : Fin 512, (∑ t : Fin 256, k (ix2 i t) * q (ix2 j t)) + bias (ix2 i j) = b i.val)
    (hv : ∀ i : Fin 512, vt (ix2 e i) = v i.val) :
    k0_pay8 (k0_pay6 q k bias) (k0_pay7 q k bias vt) (ix2 j e) = kernelRow 512 b v := by
  unfold k0_pay8 k0_pay6 k0_pay7 k0_pay5
  simp only [shapeCast_self]
  have hs : ∀ i : Fin 512, (addf (matmul (F := Ideal) (φ₁ := .bf16) (φ₂ := .bf16) dot_S512x256_S512x256_S512x512_1_1_0_0_n_n none (k : FVec Ideal S512x256 .bf16) (q : FVec Ideal S512x256 .bf16) (constant S512x512 .f32 0x00000000#32)) bias : FVec Ideal S512x512 .f32) (ix2 i j) = b i.val :=
    fun i => (congrArg (fun z : EReal => z + bias (ix2 i j)) (scores (φ₁ := .bf16) (φ₂ := .bf16) k q i j)).trans (hb i)
  have hM := colMax _ reduces_S512x512_S512 (.inl rfl) rfl shapeCasts_S512_S1x512 j b hs
  refine (stored _ _ _ _ e j).trans (onePart b v hM ?_ ?_)
  · refine (zeroStart _ _).trans (valueSum vt _ e j v (fun i => Ideal.exp2 (b i - _)) hv fun i => ?_)
    exact (weight _ _ _ i j).trans (by rw [hs])
  · refine (zeroStart _ _).trans (colSum _ _ _ _ _ j (fun i => Ideal.exp2 (b i - _)) fun i => ?_)
    exact (weight _ _ _ i j).trans (by rw [hs])

theorem row1 (s₁ : FVec Ideal S512x512 .f32) (s₂ : FVec Ideal S512x512 .f32) (v₁ : Vec Ideal S128x512 .bf16) (v₂ : Vec Ideal S128x512 .bf16)
    (h₁ : ∀ i : Fin 512, s₁ (ix2 i j) = b i.val) (h₂ : ∀ i : Fin 512, s₂ (ix2 i j) = b (512 + i.val))
    (hv₁ : ∀ i : Fin 512, v₁ (ix2 e i) = v i.val) (hv₂ : ∀ i : Fin 512, v₂ (ix2 e i) = v (512 + i.val)) :
    k0_pay17 (k0_pay14 s₁ s₂) (k0_pay15 s₁ s₂ v₁) (k0_pay16 s₁ s₂) v₂ (ix2 j e) = kernelRow (512 + 512) b v := by
  unfold k0_pay17 k0_pay14 k0_pay15 k0_pay16 k0_pay13
  simp only [shapeCast_self]
  have hM : k0_pay12 s₁ s₂ (ix2 (0 : Fin 1) j) = max ((Finset.range 512).sup b) ((Finset.range 512).sup fun i => b (512 + i)) :=
    congrArg₂ max (colMax s₁ _ _ _ _ j b h₁) (colMax s₂ _ _ _ _ j (fun i => b (512 + i)) h₂)
  refine (stored _ _ _ _ e j).trans (twoParts b v hM ?_ ?_ ?_ ?_)
  · refine (zeroStart _ _).trans (valueSum v₁ _ e j v (fun i => Ideal.exp2 (b i - _)) hv₁ fun i => ?_)
    exact (weight _ _ _ i j).trans (by rw [h₁])
  · refine (zeroStart _ _).trans (colSum _ _ _ _ _ j (fun i => Ideal.exp2 (b i - _)) fun i => ?_)
    exact (weight _ _ _ i j).trans (by rw [h₁])
  · refine valueSum v₂ _ e j (fun i => v (512 + i)) (fun i => Ideal.exp2 (b (512 + i) - _)) hv₂ fun i => ?_
    exact (weight _ _ _ i j).trans (by rw [h₂])
  · refine colSum _ _ _ _ _ j (fun i => Ideal.exp2 (b (512 + i) - _)) fun i => ?_
    exact (weight _ _ _ i j).trans (by rw [h₂])

theorem row2 (s₁ : FVec Ideal S1024x512 .f32) (s₂ : FVec Ideal S512x512 .f32) (v₁ : Vec Ideal S128x1024 .bf16) (v₂ : Vec Ideal S128x512 .bf16)
    (h₁ : ∀ i : Fin 1024, s₁ (ix2 i j) = b i.val) (h₂ : ∀ i : Fin 512, s₂ (ix2 i j) = b (1024 + i.val))
    (hv₁ : ∀ i : Fin 1024, v₁ (ix2 e i) = v i.val) (hv₂ : ∀ i : Fin 512, v₂ (ix2 e i) = v (1024 + i.val)) :
    k0_pay26 s₂ (k0_pay21 s₁ s₂) (k0_pay22 (F := Ideal)) (k0_pay23 (F := Ideal)) (k0_pay24 s₁ s₂) (k0_pay25 s₁ s₂) v₁ v₂ (ix2 j e)
      = kernelRow (1024 + 512) b v := by
  unfold k0_pay26 k0_pay22 k0_pay23 k0_pay25 k0_pay24
  simp only [shapeCast_self]
  have hM : k0_pay21 s₁ s₂ (ix2 (0 : Fin 1) j) = max ((Finset.range 1024).sup b) ((Finset.range 512).sup fun i => b (1024 + i)) :=
    congrArg₂ max (colMax s₁ _ _ _ _ j b h₁) (colMax s₂ _ _ _ _ j (fun i => b (1024 + i)) h₂)
  refine (stored _ _ _ _ e j).trans (twoParts b v hM ?_ ?_ ?_ ?_)
  · refine (zeroStart _ _).trans (valueSum v₁ _ e j v (fun i => Ideal.exp2 (b i - _)) hv₁ fun i => ?_)
    exact (weight _ _ _ i j).trans (by rw [h₁])
  · refine (zeroStart _ _).trans (colSum _ _ _ _ _ j (fun i => Ideal.exp2 (b i - _)) fun i => ?_)
    exact (weight _ _ _ i j).trans (by rw [h₁])
  · refine valueSum v₂ _ e j (fun i => v (1024 + i)) (fun i => Ideal.exp2 (b (1024 + i) - _)) hv₂ fun i => ?_
    exact (weight _ _ _ i j).trans (by rw [h₂])
  · refine colSum _ _ _ _ _ j (fun i => Ideal.exp2 (b (1024 + i) - _)) fun i => ?_
    exact (weight _ _ _ i j).trans (by rw [h₂])

theorem row3 (s₁ : FVec Ideal S1536x512 .f32) (s₂ : FVec Ideal S512x512 .f32) (v₁ : Vec Ideal S128x1536 .bf16) (v₂ : Vec Ideal S128x512 .bf16)
    (h₁ : ∀ i : Fin 1536, s₁ (ix2 i j) = b i.val) (h₂ : ∀ i : Fin 512, s₂ (ix2 i j) = b (1536 + i.val))
    (hv₁ : ∀ i : Fin 1536, v₁ (ix2 e i) = v i.val) (hv₂ : ∀ i : Fin 512, v₂ (ix2 e i) = v (1536 + i.val)) :
    k0_pay1 s₂ (k0_pay27 s₁ s₂) (k0_pay29 s₁ s₂) (k0_pay30 s₁ s₂ v₁) v₂ (ix2 j e) = kernelRow (1536 + 512) b v := by
  unfold k0_pay1 k0_pay29 k0_pay30 k0_pay28
  simp only [shapeCast_self]
  have hM : k0_pay27 s₁ s₂ (ix2 (0 : Fin 1) j) = max ((Finset.range 1536).sup b) ((Finset.range 512).sup fun i => b (1536 + i)) :=
    congrArg₂ max (colMax s₁ _ _ _ _ j b h₁) (colMax s₂ _ _ _ _ j (fun i => b (1536 + i)) h₂)
  refine (stored _ _ _ _ e j).trans (twoParts b v hM ?_ ?_ ?_ ?_)
  · refine (zeroStart _ _).trans (valueSum v₁ _ e j v (fun i => Ideal.exp2 (b i - _)) hv₁ fun i => ?_)
    exact (weight _ _ _ i j).trans (by rw [h₁])
  · refine (zeroStart _ _).trans (colSum _ _ _ _ _ j (fun i => Ideal.exp2 (b i - _)) fun i => ?_)
    exact (weight _ _ _ i j).trans (by rw [h₁])
  · refine valueSum v₂ _ e j (fun i => v (1536 + i)) (fun i => Ideal.exp2 (b (1536 + i) - _)) hv₂ fun i => ?_
    exact (weight _ _ _ i j).trans (by rw [h₂])
  · refine colSum _ _ _ _ _ j (fun i => Ideal.exp2 (b (1536 + i) - _)) fun i => ?_
    exact (weight _ _ _ i j).trans (by rw [h₂])

end Rows

end Cert.Block

end
-- ==== Proof.Out.lean ====
/-
  The output block of one grid step is the kernel's row of every query (`out_eq`): the stored tiles of Block.lean put
  together.
-/
module

public import proofs.«01_k».proof.Proof.Block

@[expose] public section

noncomputable section

namespace Cert.Block

open Idealize.ShloMosaic Idealize.ShloMosaic.ValueIdx Cert.Softmax Cert.Tile Cert.At Cert.KernelIdeal Cert.KernelIdeal.Gen
open scoped BigOperators

variable (x0 x1 : Vec Ideal S2048x256 .bf16) (x2 : Vec Ideal S128x2048 .bf16) (x3 : Vec Ideal S512x512 .f32)

/-- A score tile of the keys from row `o` and the queries from row `p`. -/
theorem tileScore {n : ℕ} (o p : ℕ) (ho : ∀ a, (![o, 0] : Fin 2 → ℕ) a + (![n, 256] : Fin 2 → ℕ) a ≤ (![2048, 256] : Fin 2 → ℕ) a)
    (hp : ∀ a, (![p, 0] : Fin 2 → ℕ) a + (![512, 256] : Fin 2 → ℕ) a ≤ (![2048, 256] : Fin 2 → ℕ) a) (i : Fin n) (j : Fin 512) :
    ∑ e : Fin 256, x1 ((Rect.unit (s := ⟨2, ![2048, 256]⟩) ![o, 0] ![n, 256] ho).idx (ix2 i e))
        * x0 ((Rect.unit (s := ⟨2, ![2048, 256]⟩) ![p, 0] ![512, 256] hp).idx (ix2 j e))
      = score x0 x1 (p + j.val) (o + i.val) := by
  refine Finset.sum_congr rfl fun e _ => congrArg₂ (fun a b : EReal => a * b) ((ld_at2 x1 o 0 ho i e).trans ?_) ((ld_at2 x0 p 0 hp j e).trans ?_)
  all_goals rw [Nat.zero_add]

/-- The scores of the earlier keys have no bias. -/
theorem biased_lo (m : ℕ) (j : Fin 512) {k : ℕ} (hk : k < 512 * m) :
    biased x0 x1 x3 (512 * m + j.val) k = score x0 x1 (512 * m + j.val) k := by
  have := j.isLt
  unfold biased
  rw [if_neg (by omega), add_zero]

/-- The scores of the last keys have the bias tile added. -/
theorem biased_hi (m : ℕ) (j i : Fin 512) :
    biased x0 x1 x3 (512 * m + j.val) (512 * m + i.val)
      = score x0 x1 (512 * m + j.val) (512 * m + i.val) + at2 (A := 512) (B := 512) x3 i.val j.val := by
  have := j.isLt
  have := i.isLt
  unfold biased
  have e : (512 * m + j.val) / 512 * 512 = 512 * m := by omega
  have e2 : (512 * m + j.val) % 512 = j.val := by omega
  rw [e, e2, if_pos (by omega), Nat.add_sub_cancel_left]

/-- The bias tile, loaded whole. -/
theorem ldBias (i j : Fin 512) : View.ld (Val := Elt Ideal) (e' := .f32) x3 r0_1 (ix2 i j) = at2 (A := 512) (B := 512) x3 i.val j.val := by
  refine (ld_at2 x3 0 0 inb_S512x512_S512x512_0_0 i j).trans ?_
  rw [Nat.zero_add, Nat.zero_add]

/-- The values of the keys from column `o`. -/
theorem ldVal {n : ℕ} (o : ℕ) (ho : ∀ a, (![0, o] : Fin 2 → ℕ) a + (![128, n] : Fin 2 → ℕ) a ≤ (![128, 2048] : Fin 2 → ℕ) a) (e : Fin 128) (i : Fin n) :
    x2 ((Rect.unit (s := ⟨2, ![128, 2048]⟩) ![0, o] ![128, n] ho).idx (ix2 e i)) = at2 (A := 128) (B := 2048) x2 e.val (o + i.val) := by
  refine (ld_at2 x2 0 o ho e i).trans ?_
  rw [Nat.zero_add]

/-- What `out` is at the index of a stored tile. -/
theorem out_at (m : ℕ) (hm : m < 4) (j : Fin 512) (e : Fin 128) (y : S2048x128.Idx) (h0 : (y 0).val = 512 * m + j.val) (h1 : (y 1).val = e.val) :
    kernelRow (512 * m + 512) (biased x0 x1 x3 (512 * m + j.val)) (fun k => at2 (A := 128) (B := 2048) x2 e.val k) = out x0 x1 x2 x3 y := by
  unfold out
  have := j.isLt
  rw [h0, h1, show (512 * m + j.val) / 512 = m by omega, show (m + 1) * 512 = 512 * m + 512 by omega]

theorem piece0 (x : S512x128.Idx) :
    k0_pay8 (k0_pay6 (View.ld x0 r0_0) (View.ld x1 r0_0) (View.ld x3 r0_1)) (k0_pay7 (View.ld x0 r0_0) (View.ld x1 r0_0) (View.ld x3 r0_1) (View.ld x2 r0_3)) x
      = out x0 x1 x2 x3 (r0_4.emb x) := by
  rw [eq_ix2 x]
  refine (row0 (x 0) (x 1) (biased x0 x1 x3 (512 * 0 + (x 0).val)) (fun k => at2 (A := 128) (B := 2048) x2 (x 1).val k) _ _ _ _ ?_ ?_).trans
    (out_at x0 x1 x2 x3 0 (by norm_num) (x 0) (x 1) _ ?_ ?_)
  · intro i
    have h := biased_hi x0 x1 x3 0 (x 0) i
    rw [Nat.mul_zero, Nat.zero_add, Nat.zero_add] at h
    rw [Nat.mul_zero, Nat.zero_add]
    rw [h]
    refine congrArg₂ (fun a b : EReal => a + b) ((tileScore x0 x1 0 0 inb_S2048x256_S512x256_0_0 inb_S2048x256_S512x256_0_0 i (x 0)).trans ?_) (ldBias x3 i (x 0))
    rw [Nat.zero_add, Nat.zero_add]
  · intro i
    exact (ldVal x2 0 inb_S128x2048_S128x512_0_0 (x 1) i).trans (by rw [Nat.zero_add])
  · exact Rect.idx_unit_val (s := S2048x128) ![0, 0] S512x128.size inb_S2048x128_S512x128_0_0 x 0
  · exact (Rect.idx_unit_val (s := S2048x128) ![0, 0] S512x128.size inb_S2048x128_S512x128_0_0 x 1).trans (Nat.zero_add _)

theorem piece1 (x : S512x128.Idx) :
    k0_pay17 (k0_pay14 (k0_pay31 x0 x1 x2 x3) (k0_pay32 x0 x1 x2 x3)) (k0_pay15 (k0_pay31 x0 x1 x2 x3) (k0_pay32 x0 x1 x2 x3) (View.ld x2 r0_3))
        (k0_pay16 (k0_pay31 x0 x1 x2 x3) (k0_pay32 x0 x1 x2 x3)) (View.ld x2 r0_7) x
      = out x0 x1 x2 x3 (r0_8.emb x) := by
  rw [eq_ix2 x]
  refine (row1 (x 0) (x 1) (biased x0 x1 x3 (512 * 1 + (x 0).val)) (fun k => at2 (A := 128) (B := 2048) x2 (x 1).val k) _ _ _ _ ?_ ?_ ?_ ?_).trans
    (out_at x0 x1 x2 x3 1 (by norm_num) (x 0) (x 1) _ ?_ ?_)
  · intro i
    rw [biased_lo x0 x1 x3 1 (x 0) (by have := i.isLt; omega)]
    unfold k0_pay31 k0_pay3 k0_pay2
    simp only [shapeCast_self]
    refine (scores (φ₁ := .bf16) (φ₂ := .bf16) _ _ i (x 0)).trans ((tileScore x0 x1 0 512 inb_S2048x256_S512x256_0_0 inb_S2048x256_S512x256_512_0 i (x 0)).trans ?_)
    rw [Nat.zero_add]
  · intro i
    refine Eq.trans ?_ (biased_hi x0 x1 x3 1 (x 0) i).symm
    unfold k0_pay32 k0_pay4 k0_pay2
    simp only [shapeCast_self]
    exact congrArg₂ (fun a b : EReal => a + b) ((scores (φ₁ := .bf16) (φ₂ := .bf16) _ _ i (x 0)).trans
      (tileScore x0 x1 512 512 inb_S2048x256_S512x256_512_0 inb_S2048x256_S512x256_512_0 i (x 0))) (ldBias x3 i (x 0))
  · intro i
    exact (ldVal x2 0 inb_S128x2048_S128x512_0_0 (x 1) i).trans (by rw [Nat.zero_add])
  · intro i
    exact ldVal x2 512 inb_S128x2048_S128x512_0_512 (x 1) i
  · exact Rect.idx_unit_val (s := S2048x128) ![512, 0] S512x128.size inb_S2048x128_S512x128_512_0 x 0
  · exact (Rect.idx_unit_val (s := S2048x128) ![512, 0] S512x128.size inb_S2048x128_S512x128_512_0 x 1).trans (Nat.zero_add _)

theorem piece2 (x : S512x128.Idx) :
    k0_pay26 (k0_pay34 x0 x1 x2 x3) (k0_pay21 (k0_pay33 x0 x1 x2 x3) (k0_pay34 x0 x1 x2 x3)) (k0_pay22 (F := Ideal)) (k0_pay23 (F := Ideal))
        (k0_pay24 (k0_pay33 x0 x1 x2 x3) (k0_pay34 x0 x1 x2 x3)) (k0_pay25 (k0_pay33 x0 x1 x2 x3) (k0_pay34 x0 x1 x2 x3)) (View.ld x2 r0_11) (View.ld x2 r0_12) x
      = out x0 x1 x2 x3 (r0_13.emb x) := by
  rw [eq_ix2 x]
  refine (row2 (x 0) (x 1) (biased x0 x1 x3 (512 * 2 + (x 0).val)) (fun k => at2 (A := 128) (B := 2048) x2 (x 1).val k) _ _ _ _ ?_ ?_ ?_ ?_).trans
    (out_at x0 x1 x2 x3 2 (by norm_num) (x 0) (x 1) _ ?_ ?_)
  · intro i
    rw [biased_lo x0 x1 x3 2 (x 0) (by have := i.isLt; omega)]
    unfold k0_pay33 k0_pay10 k0_pay9
    simp only [shapeCast_self]
    refine (scores (φ₁ := .bf16) (φ₂ := .bf16) _ _ i (x 0)).trans ((tileScore x0 x1 0 1024 inb_S2048x256_S1024x256_0_0 inb_S2048x256_S512x256_1024_0 i (x 0)).trans ?_)
    rw [Nat.zero_add]
  · intro i
    refine Eq.trans ?_ (biased_hi x0 x1 x3 2 (x 0) i).symm
    unfold k0_pay34 k0_pay11 k0_pay9
    simp only [shapeCast_self]
    exact congrArg₂ (fun a b : EReal => a + b) ((scores (φ₁ := .bf16) (φ₂ := .bf16) _ _ i (x 0)).trans
      (tileScore x0 x1 1024 1024 inb_S2048x256_S512x256_1024_0 inb_S2048x256_S512x256_1024_0 i (x 0))) (ldBias x3 i (x 0))
  · intro i
    exact (ldVal x2 0 inb_S128x2048_S128x1024_0_0 (x 1) i).trans (by rw [Nat.zero_add])
  · intro i
    exact ldVal x2 1024 inb_S128x2048_S128x512_0_1024 (x 1) i
  · exact Rect.idx_unit_val (s := S2048x128) ![1024, 0] S512x128.size inb_S2048x128_S512x128_1024_0 x 0
  · exact (Rect.idx_unit_val (s := S2048x128) ![1024, 0] S512x128.size inb_S2048x128_S512x128_1024_0 x 1).trans (Nat.zero_add _)

theorem piece3 (x : S512x128.Idx) :
    k0_pay1 (k0_pay36 x0 x1 x2 x3) (k0_pay27 (k0_pay35 x0 x1 x2 x3) (k0_pay36 x0 x1 x2 x3)) (k0_pay29 (k0_pay35 x0 x1 x2 x3) (k0_pay36 x0 x1 x2 x3))
        (k0_pay30 (k0_pay35 x0 x1 x2 x3) (k0_pay36 x0 x1 x2 x3) (View.ld x2 r0_14)) (View.ld x2 r0_15) x
      = out x0 x1 x2 x3 (r0_16.emb x) := by
  rw [eq_ix2 x]
  refine (row3 (x 0) (x 1) (biased x0 x1 x3 (512 * 3 + (x 0).val)) (fun k => at2 (A := 128) (B := 2048) x2 (x 1).val k) _ _ _ _ ?_ ?_ ?_ ?_).trans
    (out_at x0 x1 x2 x3 3 (by norm_num) (x 0) (x 1) _ ?_ ?_)
  · intro i
    rw [biased_lo x0 x1 x3 3 (x 0) (by have := i.isLt; omega)]
    unfold k0_pay35 k0_pay19 k0_pay18
    simp only [shapeCast_self]
    refine (scores (φ₁ := .bf16) (φ₂ := .bf16) _ _ i (x 0)).trans ((tileScore x0 x1 0 1536 inb_S2048x256_S1536x256_0_0 inb_S2048x256_S512x256_1536_0 i (x 0)).trans ?_)
    rw [Nat.zero_add]
  · intro i
    refine Eq.trans ?_ (biased_hi x0 x1 x3 3 (x 0) i).symm
    unfold k0_pay36 k0_pay20 k0_pay18
    simp only [shapeCast_self]
    exact congrArg₂ (fun a b : EReal => a + b) ((scores (φ₁ := .bf16) (φ₂ := .bf16) _ _ i (x 0)).trans
      (tileScore x0 x1 1536 1536 inb_S2048x256_S512x256_1536_0 inb_S2048x256_S512x256_1536_0 i (x 0))) (ldBias x3 i (x 0))
  · intro i
    exact (ldVal x2 0 inb_S128x2048_S128x1536_0_0 (x 1) i).trans (by rw [Nat.zero_add])
  · intro i
    exact ldVal x2 1536 inb_S128x2048_S128x512_0_1536 (x 1) i
  · exact Rect.idx_unit_val (s := S2048x128) ![1536, 0] S512x128.size inb_S2048x128_S512x128_1536_0 x 0
  · exact (Rect.idx_unit_val (s := S2048x128) ![1536, 0] S512x128.size inb_S2048x128_S512x128_1536_0 x 1).trans (Nat.zero_add _)

/-- The block that the body leaves. -/
theorem out_eq : out0_4 x0 x1 x2 x3 = out x0 x1 x2 x3 := by
  funext y
  unfold out0_4
  refine View.canon_apply_of_pieces (out x0 x1 x2 x3) _ ?_ y (cover0_4 _ _ _ _ y)
  exact List.forall_mem_cons.mpr ⟨piece3 x0 x1 x2 x3, List.forall_mem_cons.mpr ⟨piece2 x0 x1 x2 x3,
    List.forall_mem_cons.mpr ⟨piece1 x0 x1 x2 x3, List.forall_mem_cons.mpr ⟨piece0 x0 x1 x2 x3, fun _ h => absurd h List.not_mem_nil⟩⟩⟩⟩

end Cert.Block

end
-- ==== Proof.Array.lean ====
/-
  The array that the latent attention's launch leaves, at every index: the row of its batch, query and head, over the
  arguments of the program.
-/
module

public import proofs.«01_k».proof.Proof.Host
public import proofs.«01_k».proof.Proof.Out
public import Idealize.ShloMosaic.Lib.Pipeline.ValueKit

@[expose] public section

noncomputable section

namespace Cert.Array

open Idealize.ShloMosaic Idealize.ShloMosaic.TcCoe Cert.Softmax Cert.At Cert.Block Cert.KernelIdeal Cert.KernelIdeal.Gen
open scoped BigOperators

variable (m : (ℓ : Loc nD τ sig) → Buf (Elt Ideal) ℓ) (c : Dev nD)

/-- The block that a point stages or writes: point `t` is batch `t / 8`, head `t % 8`. -/
theorem idx : ∀ t : Fin cfg0.N, win0_0.index t = ![t.val / 8, t.val % 8] ∧ win0_1.index t = ![t.val / 8, t.val % 8]
    ∧ win0_2.index t = ![t.val % 8, t.val / 8] ∧ win0_3.index t = ![0, 0] ∧ win0_4.index t = ![t.val / 8, t.val % 8] :=
  (by decide +kernel : ∀ t : Fin grid0.N, _)

theorem blk0 (t : Fin cfg0.N) (i : Fin 2048) (j : Fin 256) :
    at2 (A := 2048) (B := 256) (iblk m c 0 t) i.val j.val
      = at2 (A := 32768) (B := 2048) (V m c main_v10) (t.val / 8 * 2048 + i.val) (t.val % 8 * 256 + j.val) := by
  rw [at2_of_lt _ i.isLt j.isLt]
  refine Eq.trans ?_ (at2_eq (A := 32768) (B := 2048) (V m c main_v10) (((cfg0.win 0).blk t).view.emb (ValueIdx.ix2 i j)) ?_ ?_).symm
  · rfl
  · blk_simp [idx t]
  · blk_simp [idx t]

theorem blk1 (t : Fin cfg0.N) (i : Fin 2048) (j : Fin 256) :
    at2 (A := 2048) (B := 256) (iblk m c 1 t) i.val j.val
      = at2 (A := 32768) (B := 2048) (V m c main_v13) (t.val / 8 * 2048 + i.val) (t.val % 8 * 256 + j.val) := by
  rw [at2_of_lt _ i.isLt j.isLt]
  refine Eq.trans ?_ (at2_eq (A := 32768) (B := 2048) (V m c main_v13) (((cfg0.win 1).blk t).view.emb (ValueIdx.ix2 i j)) ?_ ?_).symm
  · rfl
  · blk_simp [idx t]
  · blk_simp [idx t]

theorem blk2 (t : Fin cfg0.N) (i : Fin 128) (j : Fin 2048) :
    at2 (A := 128) (B := 2048) (iblk m c 2 t) i.val j.val
      = at2 (A := 1024) (B := 32768) (V m c main_v16) (t.val % 8 * 128 + i.val) (t.val / 8 * 2048 + j.val) := by
  rw [at2_of_lt _ i.isLt j.isLt]
  refine Eq.trans ?_ (at2_eq (A := 1024) (B := 32768) (V m c main_v16) (((cfg0.win 2).blk t).view.emb (ValueIdx.ix2 i j)) ?_ ?_).symm
  · rfl
  · blk_simp [idx t]
  · blk_simp [idx t]

theorem blk3 (t : Fin cfg0.N) (i j : Fin 512) :
    at2 (A := 512) (B := 512) (iblk m c 3 t) i.val j.val = at2 (A := 512) (B := 512) (V m c main_v59) i.val j.val := by
  rw [at2_of_lt _ i.isLt j.isLt]
  refine Eq.trans ?_ (at2_eq (A := 512) (B := 512) (V m c main_v59) (((cfg0.win 3).blk t).view.emb (ValueIdx.ix2 i j)) ?_ ?_).symm
  · rfl
  · blk_simp [idx t]
  · blk_simp [idx t]

/-! ## The rows, over the arguments -/

section Rows

variable (a0 a1 a2 a4 : ℕ → ℕ → ℕ → ℕ → EReal) (a3 : ℕ → ℕ → ℕ → EReal)

/-- A packed query: its two parts and zeros, over the constant that the kernel folds in. -/
def query (b r h e : ℕ) : EReal :=
  Ideal.div (if e < 128 then a0 b r h e else if e - 128 < 64 then a1 b r h (e - 128) else 0) ((Real.sqrt 192 * Real.log 2 : ℝ) : EReal)

/-- A packed key: its own part, the part that all heads share, and zeros. -/
def key (b k h e : ℕ) : EReal :=
  if e < 128 then a2 b k h e else if e - 128 < 64 then a3 b k (e - 128) else 0

/-- The kernel's score of a key, with the causal bias on the tile that holds the query. -/
def rowScore (b h r k : ℕ) : EReal :=
  (∑ e : Fin 256, key a2 a3 b k h e.val * query a0 a1 b r h e.val)
    + if r / 512 * 512 ≤ k then (if k - r / 512 * 512 ≤ r % 512 then 0 else ⊥) else 0

/-- An element of the result: over the keys up to the end of the query's tile. -/
def rowOut (b r h e : ℕ) : EReal :=
  kernelRow ((r / 512 + 1) * 512) (rowScore a0 a1 a2 a3 b h r) (fun k => a4 b k h e)

end Rows

/-- The result array. -/
def result : Vec Ideal S32768x1024 .f32 := fun i =>
  rowOut (at4 (A := 16) (B := 2048) (C := 8) (D := 128) (m ((c.tc : Thread nD τ).loc main_arg0)))
    (at4 (A := 16) (B := 2048) (C := 8) (D := 64) (m ((c.tc : Thread nD τ).loc main_arg1)))
    (at4 (A := 16) (B := 2048) (C := 8) (D := 128) (m ((c.tc : Thread nD τ).loc main_arg2)))
    (at4 (A := 16) (B := 2048) (C := 8) (D := 128) (m ((c.tc : Thread nD τ).loc main_arg4)))
    (at3 (A := 16) (B := 2048) (C := 64) (m ((c.tc : Thread nD τ).loc main_arg3)))
    ((i 0).val / 2048) ((i 0).val % 2048) ((i 1).val / 128) ((i 1).val % 128)

theorem kernelRow_congr {n : ℕ} {b b' v v' : ℕ → EReal} (hb : ∀ k < n, b k = b' k) (hv : ∀ k < n, v k = v' k) :
    kernelRow n b v = kernelRow n b' v' := by
  unfold kernelRow
  have hs : (Finset.range n).sup b = (Finset.range n).sup b' := Finset.sup_congr rfl fun k hk => hb k (Finset.mem_range.1 hk)
  rw [hs, Finset.sum_congr rfl fun k hk => by rw [hv k (Finset.mem_range.1 hk), hb k (Finset.mem_range.1 hk)],
    Finset.sum_congr (f := fun k => Ideal.exp2 (b k - _)) rfl fun k hk => by rw [hb k (Finset.mem_range.1 hk)]]

/-- What a point's body leaves, at an index of its block, is the result there. -/
theorem out_row (t : Fin cfg0.N) (y : S2048x128.Idx) (i : S32768x1024.Idx)
    (h0 : (i 0).val = t.val / 8 * 2048 + (y 0).val) (h1 : (i 1).val = t.val % 8 * 128 + (y 1).val) :
    out (iblk m c 0 t) (iblk m c 1 t) (iblk m c 2 t) (iblk m c 3 t) y = result m c i := by
  have hy0 : (y 0).val < 2048 := (y 0).isLt
  have hy1 : (y 1).val < 128 := (y 1).isLt
  have ht : t.val < 128 := t.isLt
  unfold out result rowOut
  rw [h0, h1, show (t.val / 8 * 2048 + (y 0).val) / 2048 = t.val / 8 by omega,
    show (t.val / 8 * 2048 + (y 0).val) % 2048 = (y 0).val by omega, show (t.val % 8 * 128 + (y 1).val) / 128 = t.val % 8 by omega,
    show (t.val % 8 * 128 + (y 1).val) % 128 = (y 1).val by omega]
  refine kernelRow_congr (fun k hk => ?_) (fun k hk => ?_)
  · have hk' : k < 2048 := by omega
    unfold biased rowScore
    refine congrArg₂ (fun a b : EReal => a + b) ?_ ?_
    · unfold score
      refine Finset.sum_congr rfl fun e _ => congrArg₂ (fun a b : EReal => a * b) ?_ ?_
      · have he := e.isLt
        refine (blk1 m c t ⟨k, hk'⟩ e).trans ?_
        rw [at2_of_lt _ (show t.val / 8 * 2048 + k < 32768 by omega) (show t.val % 8 * 256 + e.val < 2048 by omega), Host.k_at]
        simp only
        rw [show (t.val / 8 * 2048 + k) / 2048 = t.val / 8 by omega, show (t.val / 8 * 2048 + k) % 2048 = k by omega,
          show (t.val % 8 * 256 + e.val) / 256 = t.val % 8 by omega, show (t.val % 8 * 256 + e.val) % 256 = e.val by omega]
        rfl
      · have he := e.isLt
        refine (blk0 m c t (y 0) e).trans ?_
        rw [at2_of_lt _ (show t.val / 8 * 2048 + (y 0).val < 32768 by omega) (show t.val % 8 * 256 + e.val < 2048 by omega), Host.q_at]
        simp only
        rw [show (t.val / 8 * 2048 + (y 0).val) / 2048 = t.val / 8 by omega, show (t.val / 8 * 2048 + (y 0).val) % 2048 = (y 0).val by omega,
          show (t.val % 8 * 256 + e.val) / 256 = t.val % 8 by omega, show (t.val % 8 * 256 + e.val) % 256 = e.val by omega]
        rfl
    · split_ifs with h h'
      · refine (blk3 m c t ⟨k - (y 0).val / 512 * 512, by omega⟩ ⟨(y 0).val % 512, by omega⟩).trans ?_
        rw [at2_of_lt _ (by omega) (by omega), Host.bias_at]
        exact if_pos h'
      · refine (blk3 m c t ⟨k - (y 0).val / 512 * 512, by omega⟩ ⟨(y 0).val % 512, by omega⟩).trans ?_
        rw [at2_of_lt _ (by omega) (by omega), Host.bias_at]
        exact if_neg h'
      · rfl
  · have hk' : k < 2048 := by omega
    refine (blk2 m c t (y 1) ⟨k, hk'⟩).trans ?_
    rw [at2_of_lt _ (show t.val % 8 * 128 + (y 1).val < 1024 by omega) (show t.val / 8 * 2048 + k < 32768 by omega), Host.v_at]
    simp only
    rw [show (t.val / 8 * 2048 + k) / 2048 = t.val / 8 by omega, show (t.val / 8 * 2048 + k) % 2048 = k by omega,
      show (t.val % 8 * 128 + (y 1).val) / 128 = t.val % 8 by omega, show (t.val % 8 * 128 + (y 1).val) % 128 = (y 1).val by omega]

/-- The array after the run. -/
theorem final : (dats m 0 c).arrAt 4 cfg0.N = result m c := by
  refine (dats m 0 c).arrAt_eq_of_covers 4 _ (by decide +kernel) fun t hf y => ?_
  have h := out_row m c t y (((cfg0.win 4).blk t).view.emb y) (by blk_simp [idx t]) (by blk_simp [idx t])
  refine Eq.trans ?_ h
  rw [after0_4, out_eq]
  rfl

end Cert.Array
end
-- ==== Proof.Ref.lean ====
/-
  The reference's latent attention at an index of its result: a softmax row over all the keys, the later ones masked.
-/
module

public import proofs.«01_k».proof.Proof.At
public import proofs.«01_k».proof.Proof.Gen.ReferenceIdeal.Read
public import Idealize.ShloMosaic.Lib.Pointwise
public import Idealize.ShloMosaic.Lib.WordCmp

@[expose] public section

noncomputable section

namespace Cert.Ref

open Idealize.ShloMosaic Idealize.ShloMosaic.TcCoe Cert.Softmax Cert.At Cert.ReferenceIdeal Cert.ReferenceIdeal.Gen Cert.ReferenceIdeal.Read
open scoped BigOperators

section Rows

variable (a0 a1 a2 : ℕ → ℕ → ℕ → ℕ → EReal) (a3 : ℕ → ℕ → ℕ → EReal)

/-- The reference's score of a key: both products, scaled, where the key is not later than the query. -/
def refScore (b h r k : ℕ) : EReal :=
  if k ≤ r then ((∑ e : Fin 128, a0 b r h e.val * a2 b k h e.val) + ∑ e : Fin 64, a3 b k e.val * a1 b r h e.val) * ((1 / Real.sqrt 192 : ℝ) : EReal)
  else ⊥

end Rows

variable (x0 : (⟨S16x2048x8x128, .f32⟩ : BufTy).Contents (Elt Ideal)) (x1 : (⟨S16x2048x8x64, .f32⟩ : BufTy).Contents (Elt Ideal))
  (x2 : (⟨S16x2048x8x128, .f32⟩ : BufTy).Contents (Elt Ideal)) (x3 : (⟨S16x2048x64, .f32⟩ : BufTy).Contents (Elt Ideal))
  (x4 : (⟨S16x2048x8x128, .f32⟩ : BufTy).Contents (Elt Ideal))

/-- The scores of a query, over the reference's arguments. -/
abbrev sc (b h r : ℕ) : ℕ → EReal :=
  refScore (at4 (A := 16) (B := 2048) (C := 8) (D := 128) x0) (at4 (A := 16) (B := 2048) (C := 8) (D := 64) x1)
    (at4 (A := 16) (B := 2048) (C := 8) (D := 128) x2) (at3 (A := 16) (B := 2048) (C := 64) x3) b h r

theorem ofBits_192 : Ideal.ofBits .f32 0x43400000#32 = ((192 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

theorem scale (i : S_.Idx) : val_main_v1 (F := Ideal) i = ((1 / Real.sqrt 192 : ℝ) : EReal) := by
  have h : Real.sqrt 192 ≠ 0 := (Real.sqrt_pos.2 (by norm_num)).ne'
  show Ideal.div (Ideal.ofBits .f32 0x3F800000#32) (Ideal.sqrt (Ideal.ofBits .f32 0x43400000#32)) = _
  rw [ofBits_192, Ideal.ofBits_one_f32, Ideal.sqrt_coe, if_neg (by norm_num), Ideal.div_coe h, one_mul]

theorem score_at (i : S16x8x2048x2048.Idx) :
    val_main_v14 (F := Ideal) x0 x1 x2 x3 i = sc x0 x1 x2 x3 (i 0).val (i 1).val (i 2).val (i 3).val := by
  have h2 : (i 2).val < 2048 := (i 2).isLt
  have h3 : (i 3).val < 2048 := (i 3).isLt
  rw [val_main_v14_apply, val_main_call0_v1_apply, val_main_v13_apply, val_main_v11_apply, val_main_v12_apply, val_main_v9_apply, val_main_v10_apply,
    val_main_v8_apply, val_main_v8_apply, val_main_call0_v2_apply, val_main_call0_v0_apply, val_main_cst_1_apply, val_main_v7_apply,
    val_main_v6_apply, scale, val_main_v5_apply, val_main_v2_apply, val_main_v4_apply, val_main_v3_apply]
  unfold sc refScore Scalar.select
  show (if IntOp.cmpi .sle (BitVec.ofNat 32 (i 3).val) (BitVec.ofNat 32 (i 2).val) = 1 then _ else Ideal.ofBits .f32 0xFF800000#32) = _
  rw [WordCmp.cmpi_sle_ofNat (by omega) (by omega), ofBits_bot]
  by_cases h : (i 3).val ≤ (i 2).val
  · rw [if_pos h, decide_eq_true h, if_pos (by rfl)]
    refine congrArg (fun a : EReal => a * ((1 / Real.sqrt 192 : ℝ) : EReal)) (congrArg₂ (fun a b : EReal => a + b) ?_ ?_)
    · exact Finset.sum_congr rfl fun e _ => congrArg₂ (fun a b : EReal => a * b) (at4_eq x0 _ rfl rfl rfl rfl).symm (at4_eq x2 _ rfl rfl rfl rfl).symm
    · exact Finset.sum_congr rfl fun e _ => congrArg₂ (fun a b : EReal => a * b) (at3_eq x3 _ rfl rfl rfl).symm (at4_eq x1 _ rfl rfl rfl rfl).symm
  · rw [if_neg h, decide_eq_false h, if_neg (by decide)]

theorem max_at (i : S16x8x2048.Idx) :
    val_main_v17 (F := Ideal) x0 x1 x2 x3 i = (Finset.range 2048).sup (sc x0 x1 x2 x3 (i 0).val (i 1).val (i 2).val) := by
  rw [val_main_v17_apply, val_main_v16_apply, val_main_cst_3_apply]
  unfold val_main_v15
  have hs : ∀ i, val_main_v14 (F := Ideal) x0 x1 x2 x3 i = sc x0 x1 x2 x3 (i 0).val (i 1).val (i 2).val (i 3).val := score_at x0 x1 x2 x3
  generalize val_main_v14 (F := Ideal) x0 x1 x2 x3 = y at hs
  generalize hc : val_main_cst_2 (F := Ideal) = z
  pointwise
  rw [ofBits_bot, max_eq_right bot_le, ← hc, ← sup_univ_fin]
  show Finset.fold max (Ideal.ofBits .f32 0xFF800000#32) _ _ = Finset.fold max (⊥ : EReal) _ _
  rw [ofBits_bot]
  exact congrArg (fun f => Finset.fold max (⊥ : EReal) f Finset.univ) (funext fun k => hs _)

theorem exp_at (i : S16x8x2048x2048.Idx) :
    val_main_v21 (F := Ideal) x0 x1 x2 x3 i
      = Ideal.exp (sc x0 x1 x2 x3 (i 0).val (i 1).val (i 2).val (i 3).val - (Finset.range 2048).sup (sc x0 x1 x2 x3 (i 0).val (i 1).val (i 2).val)) := by
  rw [val_main_v21_apply, val_main_v20_apply, score_at, val_main_v19_apply, val_main_v18_apply, max_at]
  rfl

theorem den_at (i : S16x8x2048.Idx) :
    val_main_v22 (F := Ideal) x0 x1 x2 x3 i
      = ∑ k ∈ Finset.range 2048, Ideal.exp (sc x0 x1 x2 x3 (i 0).val (i 1).val (i 2).val k - (Finset.range 2048).sup (sc x0 x1 x2 x3 (i 0).val (i 1).val (i 2).val)) := by
  rw [val_main_v22_apply, val_main_cst_4_apply]
  show Ideal.ofBits .f32 0x00000000#32 + _ = _
  rw [Ideal.ofBits_zero_f32, zero_add, ← Fin.sum_univ_eq_sum_range
    (fun k => Ideal.exp (sc x0 x1 x2 x3 (i 0).val (i 1).val (i 2).val k - (Finset.range 2048).sup (sc x0 x1 x2 x3 (i 0).val (i 1).val (i 2).val)))]
  exact Finset.sum_congr rfl fun k _ => exp_at x0 x1 x2 x3 (idx_main_v22 i k)

/-- A softmax row. -/
def softRow (n : ℕ) (a v : ℕ → EReal) : EReal :=
  ∑ k ∈ Finset.range n, v k * Ideal.div (Ideal.exp (a k - (Finset.range n).sup a)) (∑ j ∈ Finset.range n, Ideal.exp (a j - (Finset.range n).sup a))

theorem head_at (i : S16x8x128x2048.Idx) :
    val_main_v26 (F := Ideal) x0 x1 x2 x3 x4 i
      = softRow 2048 (sc x0 x1 x2 x3 (i 0).val (i 1).val (i 3).val)
          (fun k => at4 (A := 16) (B := 2048) (C := 8) (D := 128) x4 (i 0).val k (i 1).val (i 2).val) := by
  rw [val_main_v26_apply]
  unfold softRow
  rw [← Fin.sum_univ_eq_sum_range (fun k => at4 (A := 16) (B := 2048) (C := 8) (D := 128) x4 (i 0).val k (i 1).val (i 2).val * Ideal.div
    (Ideal.exp (sc x0 x1 x2 x3 (i 0).val (i 1).val (i 3).val k - (Finset.range 2048).sup (sc x0 x1 x2 x3 (i 0).val (i 1).val (i 3).val)))
    (∑ j ∈ Finset.range 2048, Ideal.exp (sc x0 x1 x2 x3 (i 0).val (i 1).val (i 3).val j - (Finset.range 2048).sup (sc x0 x1 x2 x3 (i 0).val (i 1).val (i 3).val))))]
  refine Finset.sum_congr rfl fun k _ => congrArg₂ (fun a b : EReal => a * b) (at4_eq x4 _ rfl rfl rfl rfl).symm ?_
  rw [val_main_v25_apply, exp_at, val_main_v24_apply, val_main_v23_apply, den_at]
  rfl

/-- The reference's result at an index. -/
theorem result_at (i : S32768x1024.Idx) :
    val_main_v28 (F := Ideal) x0 x1 x2 x3 x4 i
      = softRow 2048 (sc x0 x1 x2 x3 ((i 0).val / 2048) ((i 1).val / 128) ((i 0).val % 2048))
          (fun k => at4 (A := 16) (B := 2048) (C := 8) (D := 128) x4 ((i 0).val / 2048) k ((i 1).val / 128) ((i 1).val % 128)) := by
  have h0 : (i 0).val < 32768 := (i 0).isLt
  have h1 : (i 1).val < 1024 := (i 1).isLt
  rw [val_main_v28_apply, val_main_v27_apply, head_at]
  show softRow 2048 (sc x0 x1 x2 x3 (((i 0).val * 1024 + (i 1).val) / 2097152) (((i 0).val * 1024 + (i 1).val) / 128 % 8) (((i 0).val * 1024 + (i 1).val) / 1024 % 2048))
    (fun k => at4 (A := 16) (B := 2048) (C := 8) (D := 128) x4 (((i 0).val * 1024 + (i 1).val) / 2097152) k (((i 0).val * 1024 + (i 1).val) / 128 % 8) (((i 0).val * 1024 + (i 1).val) % 128)) = _
  rw [show ((i 0).val * 1024 + (i 1).val) / 2097152 = (i 0).val / 2048 by omega,
    show ((i 0).val * 1024 + (i 1).val) / 1024 % 2048 = (i 0).val % 2048 by omega,
    show ((i 0).val * 1024 + (i 1).val) / 128 % 8 = (i 1).val / 128 by omega,
    show ((i 0).val * 1024 + (i 1).val) % 128 = (i 1).val % 128 by omega]

end Cert.Ref
end
-- ==== Proof.Equation.lean ====
/-
  The two rows are equal. On finite queries and keys the kernel's score of a key is the reference's over `log 2`, both are
  masked at the later keys, and a mean is unchanged by keys of weight zero.
-/
module

public import proofs.«01_k».proof.Proof.Array
public import proofs.«01_k».proof.Proof.Ref

@[expose] public section

noncomputable section

namespace Cert.Equation

open Idealize.ShloMosaic Cert.Softmax Cert.Array Cert.Ref
open scoped BigOperators

/-- A row whose first scores are real numbers and whose later ones are masked is a row. -/
theorem row_of_causal {n r : ℕ} (hr : r < n) {b : ℕ → EReal} (x : ℕ → ℝ) (hb : ∀ k < n, b k = if k ≤ r then (x k : EReal) else ⊥) : Row n b := by
  refine ⟨fun k hk => ?_, ⟨r, hr, ?_⟩⟩
  · rw [hb k hk]
    split_ifs
    · exact EReal.coe_ne_top _
    · exact bot_ne_top
  · rw [hb r hr, if_pos le_rfl]
    exact EReal.coe_ne_bot _

/-- The kernel's row up to the end of the query's tile is the softmax row over all the keys. -/
theorem rows_eq {n N r : ℕ} (hr : r < n) (hn : n ≤ N) {a b : ℕ → EReal} (v : ℕ → EReal) (x : ℕ → ℝ)
    (ha : ∀ k < N, a k = if k ≤ r then (x k : EReal) else ⊥)
    (hb : ∀ k < n, b k = if k ≤ r then ((x k / Real.log 2 : ℝ) : EReal) else ⊥) :
    kernelRow n b v = softRow N a v := by
  have e1 : ∀ k < n, wexp2 (b k) = if k ≤ r then Real.exp (x k) else 0 := fun k hk => by
    rw [hb k hk]
    split_ifs
    · exact wexp2_eq _
    · exact wexp2_bot
  have e2 : ∀ k < N, wexp (a k) = if k ≤ r then Real.exp (x k) else 0 := fun k hk => by
    rw [ha k hk]
    split_ifs
    · exact wexp_coe _
    · exact wexp_bot
  rw [kernelRow_eq (row_of_causal hr _ hb), mean_congr e1 fun _ _ => rfl,
    mean_extend hn _ v fun k _ hk => if_neg (by omega)]
  unfold softRow
  rw [refRow_eq (row_of_causal (hr.trans_le hn) x ha), mean_congr e2 fun _ _ => rfl]

/-- A sum over the packed width is the sum over its two parts, where the rest is zero. -/
theorem sum_packed (f : ℕ → ℝ) (hf : ∀ e, 192 ≤ e → f e = 0) :
    ∑ e : Fin 256, f e.val = (∑ e : Fin 128, f e.val) + ∑ e : Fin 64, f (128 + e.val) := by
  rw [Fin.sum_univ_eq_sum_range f, Fin.sum_univ_eq_sum_range f, Fin.sum_univ_eq_sum_range (fun e => f (128 + e)),
    show (256 : ℕ) = 128 + 64 + 64 from rfl, Finset.sum_range_add, Finset.sum_range_add,
    Finset.sum_eq_zero (s := Finset.range 64) (f := fun x => f (128 + 64 + x)) fun e _ => hf _ (by omega), add_zero]

variable {a0 a1 a2 : ℕ → ℕ → ℕ → ℕ → EReal} (a4 : ℕ → ℕ → ℕ → ℕ → EReal) {a3 : ℕ → ℕ → ℕ → EReal}
  {A0 A1 A2 : ℕ → ℕ → ℕ → ℕ → ℝ} {A3 : ℕ → ℕ → ℕ → ℝ}

/-- The scaled score, as a real number. -/
def realScore (A0 A1 A2 : ℕ → ℕ → ℕ → ℕ → ℝ) (A3 : ℕ → ℕ → ℕ → ℝ) (b h r k : ℕ) : ℝ :=
  ((∑ e : Fin 128, A0 b r h e.val * A2 b k h e.val) + ∑ e : Fin 64, A3 b k e.val * A1 b r h e.val) * (1 / Real.sqrt 192)

theorem refScore_eq (h0 : ∀ i j k l, a0 i j k l = A0 i j k l) (h1 : ∀ i j k l, a1 i j k l = A1 i j k l)
    (h2 : ∀ i j k l, a2 i j k l = A2 i j k l) (h3 : ∀ i j k, a3 i j k = A3 i j k) (b h r k : ℕ) :
    refScore a0 a1 a2 a3 b h r k = if k ≤ r then ((realScore A0 A1 A2 A3 b h r k : ℝ) : EReal) else ⊥ := by
  unfold refScore realScore
  split_ifs
  · simp only [h0, h1, h2, h3, ← EReal.coe_mul, sum_coe, ← EReal.coe_add]
  · rfl

/-- The real number that a packed product is. -/
theorem packed_eq (h0 : ∀ i j k l, a0 i j k l = A0 i j k l) (h1 : ∀ i j k l, a1 i j k l = A1 i j k l)
    (h2 : ∀ i j k l, a2 i j k l = A2 i j k l) (h3 : ∀ i j k, a3 i j k = A3 i j k) (b h r k : ℕ) :
    ∑ e : Fin 256, key a2 a3 b k h e.val * query a0 a1 b r h e.val = ((realScore A0 A1 A2 A3 b h r k / Real.log 2 : ℝ) : EReal) := by
  have hl : Real.log 2 ≠ 0 := (Real.log_pos (by norm_num)).ne'
  have hs : Real.sqrt 192 ≠ 0 := (Real.sqrt_pos.2 (by norm_num)).ne'
  have hC : Real.sqrt 192 * Real.log 2 ≠ 0 := mul_ne_zero hs hl
  have e1 : ∀ e : ℕ, key a2 a3 b k h e * query a0 a1 b r h e
      = (((if e < 128 then A2 b k h e else if e - 128 < 64 then A3 b k (e - 128) else 0)
          * ((if e < 128 then A0 b r h e else if e - 128 < 64 then A1 b r h (e - 128) else 0) * (1 / (Real.sqrt 192 * Real.log 2))) : ℝ) : EReal) := fun e => by
    unfold key query
    rw [Ideal.div_coe hC, EReal.coe_mul, EReal.coe_mul, h0, h1, h2, h3]
    split_ifs <;> simp only [EReal.coe_zero]
  rw [Finset.sum_congr rfl fun e _ => e1 e.val, sum_coe, sum_packed (fun e => (if e < 128 then A2 b k h e else if e - 128 < 64 then A3 b k (e - 128) else 0)
      * ((if e < 128 then A0 b r h e else if e - 128 < 64 then A1 b r h (e - 128) else 0) * (1 / (Real.sqrt 192 * Real.log 2)))) fun e he => by
    beta_reduce
    rw [if_neg (show ¬e < 128 by omega), if_neg (show ¬e - 128 < 64 by omega), zero_mul]]
  refine congrArg (fun r : ℝ => (r : EReal)) ?_
  unfold realScore
  rw [Finset.sum_congr (g := fun e : Fin 128 => A0 b r h e.val * A2 b k h e.val * (1 / (Real.sqrt 192 * Real.log 2))) rfl fun e _ => by
      rw [if_pos e.isLt, if_pos e.isLt]; ring,
    Finset.sum_congr (g := fun e : Fin 64 => A3 b k e.val * A1 b r h e.val * (1 / (Real.sqrt 192 * Real.log 2))) rfl fun e _ => by
      rw [if_neg (show ¬128 + e.val < 128 by omega), if_neg (show ¬128 + e.val < 128 by omega), Nat.add_sub_cancel_left, if_pos e.isLt, if_pos e.isLt]; ring,
    ← Finset.sum_mul, ← Finset.sum_mul]
  field_simp

theorem rowScore_eq (h0 : ∀ i j k l, a0 i j k l = A0 i j k l) (h1 : ∀ i j k l, a1 i j k l = A1 i j k l)
    (h2 : ∀ i j k l, a2 i j k l = A2 i j k l) (h3 : ∀ i j k, a3 i j k = A3 i j k) (b h r k : ℕ) (hk : k < (r / 512 + 1) * 512) :
    rowScore a0 a1 a2 a3 b h r k = if k ≤ r then ((realScore A0 A1 A2 A3 b h r k / Real.log 2 : ℝ) : EReal) else ⊥ := by
  unfold rowScore
  rw [packed_eq h0 h1 h2 h3]
  by_cases hkr : k ≤ r
  · rw [if_pos hkr]
    split_ifs
    · exact add_zero _
    · omega
    · exact add_zero _
  · rw [if_neg hkr, if_pos (by omega), if_neg (by omega)]
    exact EReal.add_bot _

/-- The kernel's element is the reference's. -/
theorem out_eq_ref (h0 : ∀ i j k l, a0 i j k l = A0 i j k l) (h1 : ∀ i j k l, a1 i j k l = A1 i j k l)
    (h2 : ∀ i j k l, a2 i j k l = A2 i j k l) (h3 : ∀ i j k, a3 i j k = A3 i j k) (b r h e : ℕ) (hr : r < 2048) :
    rowOut a0 a1 a2 a4 a3 b r h e = softRow 2048 (refScore a0 a1 a2 a3 b h r) (fun k => a4 b k h e) :=
  rows_eq (by omega) (by omega) _ (fun k => realScore A0 A1 A2 A3 b h r k)
    (fun k _ => refScore_eq h0 h1 h2 h3 b h r k) (fun k hk => rowScore_eq h0 h1 h2 h3 b h r k hk)

end Cert.Equation
end
-- ==== Proof.Latent.lean ====
/-
  The claims about the latent attention: the reference's run, what the precondition says of an element, and the equality of
  the two results.
-/
module

public import proofs.«01_k».proof.Defs
public import proofs.«01_k».proof.Proof.Equation
public import proofs.«01_k».proof.Proof.Gen.Pre_finite_qk
public import proofs.«01_k».proof.Proof.Gen.ReferenceIdeal.Run
public import Idealize.ShloMosaic.Lib.Quiescent

@[expose] public section

noncomputable section

namespace Cert.Latent

open Idealize.ShloMosaic Idealize.ShloMosaic.TcCoe Idealize.SL.Sem Cert.At
open scoped BigOperators

/-- The reference has no semaphore: its run ends with every counter at zero and its arguments as they were. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- An element whose magnitude is below infinity is a real number. -/
theorem real_of_lt (x : EReal) (h : FloatOps.cmpf (F := Ideal) (φ := .f32) .olt (FloatOps.absf (F := Ideal) (φ := .f32) x) (Ideal.ofBits .f32 0x7F800000#32) = 1#1) :
    ∃ r : ℝ, x = r := by
  have ht : Ideal.ofBits .f32 0x7F800000#32 = (⊤ : EReal) := by simp [Ideal.ofBits, Ideal.ieee]
  rw [ht] at h
  induction x using EReal.rec with
  | bot => simp [Ideal.cmpf_def, Ideal.absf_def, Ideal.cmp] at h
  | coe r => exact ⟨r, rfl⟩
  | top => simp [Ideal.cmpf_def, Ideal.absf_def, Ideal.cmp] at h

theorem real4 {A B C D : ℕ} (x : (⟨4, ![A, B, C, D]⟩ : Shape).Idx → EReal) (h : ∀ i, ∃ r : ℝ, x i = r) (i j k l : ℕ) :
    at4 x i j k l = ((at4 x i j k l).toReal : EReal) := by
  unfold at4
  split_ifs with hb
  · obtain ⟨r, hr⟩ := h (ValueIdx.ix4 ⟨i, hb.1⟩ ⟨j, hb.2.1⟩ ⟨k, hb.2.2.1⟩ ⟨l, hb.2.2.2⟩)
    rw [hr, EReal.toReal_coe]
  · simp

theorem real3 {A B C : ℕ} (x : (⟨3, ![A, B, C]⟩ : Shape).Idx → EReal) (h : ∀ i, ∃ r : ℝ, x i = r) (i j k : ℕ) :
    at3 x i j k = ((at3 x i j k).toReal : EReal) := by
  unfold at3
  split_ifs with hb
  · obtain ⟨r, hr⟩ := h (ValueIdx.ix3 ⟨i, hb.1⟩ ⟨j, hb.2.1⟩ ⟨k, hb.2.2⟩)
    rw [hr, EReal.toReal_coe]
  · simp

/-- The two results are one array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_qk m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v28 m' c = Cert.Array.result m c := by
  obtain ⟨p0, p1, p2, p3⟩ := hpre c
  rw [Cert.ReferenceIdeal.Read.val_main_v28_eq, h.1, h.2.1, h.2.2.1, h.2.2.2.1, h.2.2.2.2]
  funext i
  refine (Cert.Ref.result_at _ _ _ _ _ i).trans (Cert.Equation.out_eq_ref _
    (real4 _ fun j => real_of_lt _ (congrFun p0 j)) (real4 _ fun j => real_of_lt _ (congrFun p1 j))
    (real4 _ fun j => real_of_lt _ (congrFun p2 j)) (real3 _ fun j => real_of_lt _ (congrFun p3 j)) _ _ _ _ (Nat.mod_lt _ (by norm_num))).symm

theorem algebraic : Cert.algebraic_KernelIdeal_ReferenceIdeal_pre_finite_qk := fun m g m' g' hpre hargs =>
  ⟨fun c => Cert.Array.result m c,
    (θ_run Cert.KernelIdeal.defs _ _).mono (fun r h c => ⟨(h c).1.trans (Cert.Array.final m c), (h c).2⟩) (Cert.KernelIdeal.Value.run_blocks m g),
    (θ_run Cert.ReferenceIdeal.defs _ _).mono (fun r h c => ⟨(h c).1.trans (result_eq m m' hpre c (hargs c)), (h c).2⟩) (Cert.ReferenceIdeal.Value.run m' g')⟩

end Cert.Latent
end
-- ==== Proof.Mixture.lean ====
/-
  A mixture of three softmax rows, weighted by their denominators, is one weighted mean.

  A branch of the mixture has a row of scores of its own. Its output is the mean of the values with the weights of its
  scores, and the mixture weighs the branches by the softmax of their log denominators. The weight of a key in the mixture
  is then the sum of its weights in the branches (`mixRow_eq`), and where the branches mask one row of scores differently
  it is the score's weight as often as the key is seen (`mix_eq`), which the kernel's bias adds to the score.
-/
module

public import proofs.«01_k».proof.Proof.Softmax

@[expose] public section

noncomputable section

namespace Cert.Softmax

open Idealize.ShloMosaic
open scoped BigOperators

/-- The denominator of a row, its scores less their greatest. -/
def branchDen (n : ℕ) (a : ℕ → EReal) : EReal := ∑ k ∈ Finset.range n, Ideal.exp (a k - (Finset.range n).sup a)

/-- What a branch puts out: the weighted sum of the values over the denominator. -/
def branchOut (n : ℕ) (a v : ℕ → EReal) : EReal :=
  Ideal.div (∑ k ∈ Finset.range n, Ideal.exp (a k - (Finset.range n).sup a) * v k) (branchDen n a)

/-- The logarithm of a branch's denominator. -/
def branchLse (n : ℕ) (a : ℕ → EReal) : EReal := (Finset.range n).sup a + Ideal.log (branchDen n a)

/-- The branches' shares: the softmax of their log denominators. -/
def share (l : Fin 3 → EReal) (b : Fin 3) : EReal :=
  Ideal.div (Ideal.exp (l b - Finset.univ.sup l)) (∑ c, Ideal.exp (l c - Finset.univ.sup l))

/-- The mixture. -/
def mixRow (n : ℕ) (a : Fin 3 → ℕ → EReal) (v : ℕ → EReal) : EReal :=
  ∑ b, share (fun b => branchLse n (a b)) b * branchOut n (a b) v

/-- The sum of a row's weights. -/
def total (n : ℕ) (a : ℕ → EReal) : ℝ := ∑ k ∈ Finset.range n, wexp (a k)

theorem exp_row {n : ℕ} {a : ℕ → EReal} (h : Row n a) {M : ℝ} (hM : (Finset.range n).sup a = (M : EReal)) :
    ∀ k ∈ Finset.range n, Ideal.exp (a k - (Finset.range n).sup a) = ((wexp (a k) * Real.exp (-M) : ℝ) : EReal) :=
  fun k hk => by rw [hM]; exact exp_sub_coe (h.ne_top k (Finset.mem_range.mp hk)) M

theorem branchDen_eq {n : ℕ} {a : ℕ → EReal} (h : Row n a) {M : ℝ} (hM : (Finset.range n).sup a = (M : EReal)) :
    branchDen n a = ((total n a * Real.exp (-M) : ℝ) : EReal) := by
  unfold branchDen total
  rw [Finset.sum_congr rfl (exp_row h hM), sum_coe, Finset.sum_mul]

theorem branchOut_eq {n : ℕ} {a : ℕ → EReal} (h : Row n a) (v : ℕ → EReal) : branchOut n a v = mean n (fun k => wexp (a k)) v := by
  obtain ⟨M, hM⟩ := h.sup_real
  have hS : 0 < total n a := h.sum_wexp_pos
  have hc := Real.exp_pos (-M)
  unfold branchOut mean
  rw [branchDen_eq h hM, Ideal.div_coe (mul_pos hS hc).ne', sum_mul_coe _ _ _ (one_div_pos.mpr (mul_pos hS hc)).le]
  refine Finset.sum_congr rfl fun k hk => ?_
  rw [exp_row h hM k hk, mul_comm (Real.toEReal _) (v k), mul_assoc, ← EReal.coe_mul]
  refine congrArg (fun r : ℝ => v k * (r : EReal)) ?_
  change _ = wexp (a k) / total n a
  field_simp

theorem branchLse_eq {n : ℕ} {a : ℕ → EReal} (h : Row n a) : branchLse n a = ((Real.log (total n a) : ℝ) : EReal) := by
  obtain ⟨M, hM⟩ := h.sup_real
  have hS : 0 < total n a := h.sum_wexp_pos
  have hc := Real.exp_pos (-M)
  unfold branchLse
  rw [branchDen_eq h hM, hM, Ideal.log_coe, if_neg (not_le.2 (mul_pos hS hc)), ← EReal.coe_add, Real.log_mul hS.ne' hc.ne', Real.log_exp]
  refine congrArg (fun r : ℝ => (r : EReal)) ?_
  ring

theorem share_eq {l : Fin 3 → EReal} {W : Fin 3 → ℝ} (hW : ∀ b, 0 < W b) (hl : ∀ b, l b = ((Real.log (W b) : ℝ) : EReal)) (b : Fin 3) :
    share l b = ((W b / ∑ c, W c : ℝ) : EReal) := by
  obtain ⟨i, _, hi⟩ := Finset.exists_mem_eq_sup (Finset.univ : Finset (Fin 3)) ⟨0, Finset.mem_univ _⟩ l
  have hM : Finset.univ.sup l = ((Real.log (W i) : ℝ) : EReal) := hi.trans (hl i)
  have hc := Real.exp_pos (-Real.log (W i))
  have hT : 0 < ∑ c, W c := Finset.sum_pos (fun c _ => hW c) ⟨0, Finset.mem_univ _⟩
  have hp : ∀ c, Ideal.exp (l c - Finset.univ.sup l) = ((W c * Real.exp (-Real.log (W i)) : ℝ) : EReal) := fun c => by
    rw [hM, hl c, exp_sub_coe (EReal.coe_ne_top _), wexp_coe, Real.exp_log (hW c)]
  unfold share
  rw [Finset.sum_congr rfl fun c _ => hp c, sum_coe, hp b, ← Finset.sum_mul, Ideal.div_coe (mul_pos hT hc).ne', ← EReal.coe_mul]
  refine congrArg (fun r : ℝ => (r : EReal)) ?_
  field_simp

/-- The mixture is the mean with the summed weights. -/
theorem mixRow_eq {n : ℕ} {a : Fin 3 → ℕ → EReal} (h : ∀ b, Row n (a b)) (v : ℕ → EReal) :
    mixRow n a v = mean n (fun k => ∑ b, wexp (a b k)) v := by
  have hW : ∀ b, 0 < total n (a b) := fun b => (h b).sum_wexp_pos
  have hT : 0 < ∑ c, total n (a c) := Finset.sum_pos (fun c _ => hW c) ⟨0, Finset.mem_univ _⟩
  have eT : ∑ j ∈ Finset.range n, ∑ b, wexp (a b j) = ∑ c, total n (a c) := Finset.sum_comm
  unfold mixRow
  rw [Finset.sum_congr rfl fun b _ => by
    rw [share_eq hW (fun b => branchLse_eq (h b)) b, branchOut_eq (h b) v, mul_comm, mean, sum_mul_coe _ _ _ (div_pos (hW b) hT).le],
    Finset.sum_comm]
  unfold mean
  refine Finset.sum_congr rfl fun k _ => ?_
  beta_reduce
  rw [eT, Finset.sum_div, ← mul_sum_coe _ _ (fun b _ => div_nonneg (wexp_nonneg _) hT.le)]
  refine Finset.sum_congr rfl fun b _ => ?_
  rw [mul_assoc, ← EReal.coe_mul]
  refine congrArg (fun r : ℝ => v k * (r : EReal)) ?_
  change wexp (a b k) / total n (a b) * _ = _
  have := (hW b).ne'
  field_simp

/-- How many branches see a key. -/
def seen (p : Fin 3 → Bool) : ℝ := ∑ b, if p b then 1 else 0

/-- The bias that stands for seeing a key several times: the base-two logarithm of the number, `⊥` of zero. -/
def seenBias (p : Fin 3 → Bool) : EReal := if 0 < seen p then ((Real.log (seen p) / Real.log 2 : ℝ) : EReal) else ⊥

theorem seen_nonneg (p : Fin 3 → Bool) : 0 ≤ seen p := Finset.sum_nonneg fun b _ => by split_ifs <;> norm_num

theorem wexp2_seen (p : Fin 3 → Bool) (x : ℝ) : wexp2 (((x / Real.log 2 : ℝ) : EReal) + seenBias p) = seen p * Real.exp x := by
  unfold seenBias
  split_ifs with h
  · rw [← EReal.coe_add, ← add_div, wexp2_eq, Real.exp_add, Real.exp_log h, mul_comm]
  · rw [EReal.add_bot, wexp2_bot, le_antisymm (not_lt.1 h) (seen_nonneg p), zero_mul]

/-- The kernel's row over the first `n` keys, with the bias on every score, is the mixture over all the keys. -/
theorem mix_eq {n N r : ℕ} (hr : r < n) (hn : n ≤ N) {a : Fin 3 → ℕ → EReal} {b : ℕ → EReal} (v : ℕ → EReal) (x : ℕ → ℝ) (p : ℕ → Fin 3 → Bool)
    (hp : ∀ c, p r c = true) (hz : ∀ k < N, r < k → ∀ c, p k c = false) (ha : ∀ c, ∀ k < N, a c k = if p k c then (x k : EReal) else ⊥)
    (hb : ∀ k < n, b k = ((x k / Real.log 2 : ℝ) : EReal) + seenBias (p k)) : kernelRow n b v = mixRow N a v := by
  have hrow : ∀ c, Row N (a c) := fun c => by
    refine ⟨fun k hk => ?_, ⟨r, hr.trans_le hn, ?_⟩⟩
    · rw [ha c k hk]
      split_ifs
      · exact EReal.coe_ne_top _
      · exact bot_ne_top
    · rw [ha c r (hr.trans_le hn), hp c, if_pos rfl]
      exact EReal.coe_ne_bot _
  have hs : seen (p r) = 3 := by
    unfold seen
    simp [hp]
  have hker : Row n b := by
    refine ⟨fun k hk => ?_, ⟨r, hr, ?_⟩⟩
    · rw [hb k hk]
      unfold seenBias
      split_ifs
      · rw [← EReal.coe_add]
        exact EReal.coe_ne_top _
      · rw [EReal.add_bot]
        exact bot_ne_top
    · rw [hb r hr]
      unfold seenBias
      rw [if_pos (by rw [hs]; norm_num), ← EReal.coe_add]
      exact EReal.coe_ne_bot _
  have e1 : ∀ k < n, wexp2 (b k) = seen (p k) * Real.exp (x k) := fun k hk => by rw [hb k hk, wexp2_seen]
  have e2 : ∀ k < N, ∑ c, wexp (a c k) = seen (p k) * Real.exp (x k) := fun k hk => by
    unfold seen
    rw [Finset.sum_mul]
    refine Finset.sum_congr rfl fun c _ => ?_
    rw [ha c k hk]
    split_ifs
    · rw [wexp_coe, one_mul]
    · rw [wexp_bot, zero_mul]
  rw [kernelRow_eq hker, mean_congr e1 fun _ _ => rfl, mean_extend hn _ v fun k hkN hk => by
    have : seen (p k) = 0 := by
      unfold seen
      simp [hz k hkN (by omega)]
    rw [this, zero_mul], mixRow_eq hrow, mean_congr e2 fun _ _ => rfl]

end Cert.Softmax

end
-- ==== Proof.DilMask.lean ====
/-
  The dilated attention's masks, as words.

  Whether a branch sees a key is a bit made from the word of the distance: not negative, within the branch's window, and a
  multiple of its dilation. The kernel counts the branches that see a key with the same words and adds the base-two
  logarithm of the number to the score (`bias_eq`).
-/
module

public import proofs.«01_k».proof.Proof.Mixture
public import Idealize.ShloMosaic.Lib.WordCmp
public import Idealize.ShloMosaic.Lib.Affine
public import Idealize.ShloMosaic.Lib.Pointwise

@[expose] public section

noncomputable section

namespace Cert.DilMask

open Idealize.ShloMosaic Cert.Softmax
open scoped BigOperators

/-- The divisor that the remainder takes: one for zero. -/
def divisor (c : BitVec 32) : BitVec 32 := Scalar.select (IntOp.cmpi .eq c 0#32) 1#32 c

/-- The remainder of a division rounded down. -/
def remainder (d c : BitVec 32) : BitVec 32 :=
  Scalar.select
    (IntOp.andi (IntOp.cmpi .ne (IntOp.cmpi .slt (IntOp.remsi .host d (divisor c)) 0#32) (IntOp.cmpi .slt (divisor c) 0#32))
      (IntOp.cmpi .ne (IntOp.remsi .host d (divisor c)) 0#32))
    (IntOp.addi (IntOp.remsi .host d (divisor c)) (divisor c)) (IntOp.remsi .host d (divisor c))

/-- The bit of a branch: the distance is not negative, within the window `w`, and a multiple of `c`. -/
def bit (w c d : BitVec 32) : BitVec 1 :=
  IntOp.andi (IntOp.andi (IntOp.cmpi .sge d 0#32) (IntOp.cmpi .sle d w)) (IntOp.cmpi .eq (remainder d c) 0#32)

/-- The windows of the branches. -/
def window (c : Fin 3) : BitVec 32 := ![128#32, 512#32, 2048#32] c

/-- The dilations of the branches. -/
def dilation (c : Fin 3) : BitVec 32 := ![1#32, 4#32, 16#32] c

/-- Which branches see a key at a distance. -/
def sees (d : BitVec 32) (c : Fin 3) : Bool := decide (bit (window c) (dilation c) d = 1#1)

theorem divisor_one : divisor 1#32 = 1#32 := by decide
theorem divisor_four : divisor 4#32 = 4#32 := by decide
theorem divisor_sixteen : divisor 16#32 = 16#32 := by decide

theorem remainder_one (d : BitVec 32) : remainder d 1#32 = 0#32 := by
  have h : IntOp.remsi .host d 1#32 = 0#32 := by
    rw [IntOp.remsi_of_pos .host (by decide)]
    simp
  unfold remainder
  rw [divisor_one, h]
  decide

theorem remainder_zero_four : remainder 0#32 4#32 = 0#32 := by
  have h : IntOp.remsi .host 0#32 4#32 = 0#32 := by
    rw [IntOp.remsi_of_pos .host (by decide)]
    decide
  unfold remainder
  rw [divisor_four, h]
  decide

theorem remainder_zero_sixteen : remainder 0#32 16#32 = 0#32 := by
  have h : IntOp.remsi .host 0#32 16#32 = 0#32 := by
    rw [IntOp.remsi_of_pos .host (by decide)]
    decide
  unfold remainder
  rw [divisor_sixteen, h]
  decide

/-- Every branch sees the query's own key. -/
theorem sees_self (c : Fin 3) : sees 0#32 c = true := by
  unfold sees bit
  match c with
  | 0 => show decide (IntOp.andi _ (IntOp.cmpi .eq (remainder 0#32 1#32) 0#32) = 1#1) = true; rw [remainder_one]; decide
  | 1 => show decide (IntOp.andi _ (IntOp.cmpi .eq (remainder 0#32 4#32) 0#32) = 1#1) = true; rw [remainder_zero_four]; decide
  | 2 => show decide (IntOp.andi _ (IntOp.cmpi .eq (remainder 0#32 16#32) 0#32) = 1#1) = true; rw [remainder_zero_sixteen]; decide

theorem andi_zero (a : BitVec 1) : IntOp.andi 0#1 a = 0#1 := by revert a; decide

/-- No branch sees a key at a negative distance. -/
theorem sees_neg {d : BitVec 32} (h : d.toInt < 0) (c : Fin 3) : sees d c = false := by
  unfold sees bit
  rw [WordCmp.cmpi_sge_eq, BitVec.toInt_zero, decide_eq_false (not_le.2 h)]
  show decide (IntOp.andi (IntOp.andi 0#1 _) _ = 1#1) = false
  rw [andi_zero, andi_zero]
  rfl

/-- A bit as a number. -/
def num (b : BitVec 1) : EReal := FloatOps.uitofp (F := Ideal) .f32 b

theorem num_zero : num 0#1 = ((0 : ℝ) : EReal) := by
  show (((0#1).toNat : ℝ) : EReal) = _
  norm_num

theorem num_one : num 1#1 = ((1 : ℝ) : EReal) := by
  show (((1#1).toNat : ℝ) : EReal) = _
  norm_num

/-- The kernel's bias from the distance. -/
def bias (d : BitVec 32) : EReal :=
  Scalar.select
    (IntOp.andi (IntOp.cmpi .sge d 0#32)
      (Ideal.cmp .ogt (num (IntOp.cmpi .sle d 128#32) + num (IntOp.andi (IntOp.cmpi .eq (remainder d 4#32) 0#32) (IntOp.cmpi .sle d 512#32))
        + num (IntOp.andi (IntOp.cmpi .eq (remainder d 16#32) 0#32) (IntOp.cmpi .sle d 2048#32))) 0))
    (Ideal.div (Ideal.log (max (num (IntOp.cmpi .sle d 128#32) + num (IntOp.andi (IntOp.cmpi .eq (remainder d 4#32) 0#32) (IntOp.cmpi .sle d 512#32))
        + num (IntOp.andi (IntOp.cmpi .eq (remainder d 16#32) 0#32) (IntOp.cmpi .sle d 2048#32))) 1)) ((Real.log 2 : ℝ) : EReal))
    ⊥

theorem bias_bits (g s t u : BitVec 1) (p : Fin 3 → Bool) (h0 : p 0 = decide (IntOp.andi g s = 1#1))
    (h1 : p 1 = decide (IntOp.andi g t = 1#1)) (h2 : p 2 = decide (IntOp.andi g u = 1#1)) :
    Scalar.select (IntOp.andi g (Ideal.cmp .ogt (num s + num t + num u) 0))
      (Ideal.div (Ideal.log (max (num s + num t + num u) 1)) ((Real.log 2 : ℝ) : EReal)) ⊥ = seenBias p := by
  have hl : Real.log 2 ≠ 0 := (Real.log_pos (by norm_num)).ne'
  have bits : ∀ b : BitVec 1, b = 0#1 ∨ b = 1#1 := by decide
  have main : ∀ n : ℝ, (n = 0 ∨ 1 ≤ n) → seen p = n →
      Scalar.select (IntOp.andi 1#1 (Ideal.cmp .ogt ((n : ℝ) : EReal) 0)) (Ideal.div (Ideal.log (max ((n : ℝ) : EReal) 1)) ((Real.log 2 : ℝ) : EReal)) ⊥ = seenBias p := by
    intro n hn hs
    unfold seenBias
    rw [hs, Ideal.cmp_ogt]
    rcases hn with rfl | hn
    · rw [if_neg (lt_irrefl _), decide_eq_false (by rw [EReal.coe_zero]; exact lt_irrefl _)]
      rfl
    · have hp : 0 < n := by linarith
      rw [if_pos hp, decide_eq_true (EReal.coe_pos.2 hp), max_eq_left (by exact_mod_cast hn), Ideal.log_coe, if_neg (not_le.2 hp), Ideal.div_coe hl,
        ← EReal.coe_mul, mul_one_div]
      rfl
  have hsum : seen p = (if p 0 then 1 else 0) + (if p 1 then 1 else 0) + (if p 2 then 1 else 0) := by
    unfold seen
    rw [Fin.sum_univ_three]
  rcases bits g with rfl | rfl
  · have hz : seen p = 0 := by
      rw [hsum, h0, h1, h2, andi_zero, andi_zero, andi_zero]
      norm_num
    rw [andi_zero]
    unfold seenBias
    rw [hz, if_neg (lt_irrefl _)]
    rfl
  · rw [h0, h1, h2] at hsum
    rcases bits s with rfl | rfl <;> rcases bits t with rfl | rfl <;> rcases bits u with rfl | rfl <;>
      · simp only [num_zero, num_one, ← EReal.coe_add]
        refine main _ (by norm_num) (hsum.trans ?_)
        simp [IntOp.andi]

/-- The kernel's bias is the logarithm of the number of branches that see the key. -/
theorem bias_eq (d : BitVec 32) : bias d = seenBias (sees d) := by
  have e : ∀ g a b : BitVec 1, IntOp.andi (IntOp.andi g a) b = IntOp.andi g (IntOp.andi b a) := by decide
  refine bias_bits _ _ _ _ (sees d) ?_ ?_ ?_
  · show decide (bit 128#32 1#32 d = 1#1) = _
    unfold bit
    rw [remainder_one, e]
    have : ∀ a : BitVec 1, IntOp.andi (IntOp.cmpi .eq 0#32 0#32) a = a := by decide
    rw [this]
  · show decide (bit 512#32 4#32 d = 1#1) = _
    unfold bit
    rw [e]
  · show decide (bit 2048#32 16#32 d = 1#1) = _
    unfold bit
    rw [e]

/-- The word of a distance, as an integer. -/
theorem toInt_sub (a b : ℕ) (ha : a < 4096) (hb : b < 4096) :
    (IntOp.subi (BitVec.ofNat 32 a) (BitVec.ofNat 32 b)).toInt = (a : ℤ) - b := by
  show (BitVec.ofNat 32 a - BitVec.ofNat 32 b).toInt = _
  rw [BitVec.toInt_sub, BitVec.toInt_ofNat', BitVec.toInt_ofNat']
  simp only [Int.bmod_def]
  omega

/-- Two pairs of small numbers with one difference have one word. -/
theorem sub_congr {a b c d : ℕ} (ha : a < 4096) (hb : b < 4096) (hc : c < 4096) (hd : d < 4096) (h : a + d = c + b) :
    IntOp.subi (BitVec.ofNat 32 a) (BitVec.ofNat 32 b) = IntOp.subi (BitVec.ofNat 32 c) (BitVec.ofNat 32 d) := by
  apply BitVec.eq_of_toInt_eq
  rw [toInt_sub a b ha hb, toInt_sub c d hc hd]
  omega

/-- Which branches see key `k` from query `r`. -/
def seesAt (r k : ℕ) : Fin 3 → Bool := sees (IntOp.subi (BitVec.ofNat 32 r) (BitVec.ofNat 32 k))

theorem seesAt_self (r : ℕ) (c : Fin 3) : seesAt r r c = true := by
  unfold seesAt
  rw [show IntOp.subi (BitVec.ofNat 32 r) (BitVec.ofNat 32 r) = 0#32 from BitVec.sub_self _]
  exact sees_self c

theorem seesAt_later {r k : ℕ} (h : r < k) (hk : k < 4096) (c : Fin 3) : seesAt r k c = false :=
  sees_neg (by rw [toInt_sub r k (by omega) hk]; omega) c

end Cert.DilMask

end
-- ==== Proof.DilHost.lean ====
/-
  The arrays that the host code hands to the dilated attention, at an index: packed queries and keys, transposed values and
  the bias, as elements of the arguments.
-/
module

public import proofs.«01_k».proof.Proof.At
public import proofs.«01_k».proof.Proof.DilMask
public import proofs.«01_k».proof.Proof.Gen.Kernel5Ideal.Value
public import Idealize.ShloMosaic.Lib.StableHlo.ReadAt
public import Idealize.ShloMosaic.Lib.Claim

@[expose] public section

noncomputable section

namespace Cert.DilHost

open Idealize.ShloMosaic Idealize.ShloMosaic.TcCoe Cert.At Cert.Kernel5Ideal Cert.Kernel5Ideal.Gen
open scoped BigOperators

variable (m : (ℓ : Loc nD τ sig) → Buf (Elt Ideal) ℓ) (c : Dev nD)

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

theorem log_two : Ideal.log (Ideal.ofBits .f32 0x40000000#32) = ((Real.log 2 : ℝ) : EReal) := by
  rw [ofBits_2, Ideal.log_coe, if_neg (by norm_num)]

theorem v_at (i : Fin 1024) (j : Fin 32768) :
    V m c main_v11 (ValueIdx.ix2 i j) = at4 (m ((c.tc : Thread nD τ).loc main_arg2)) (j.val / 2048) (j.val % 2048) (i.val / 128) (i.val % 128) := by
  unfold V
  after_reads_at
  refine (show _ = m (c, Proc.tc.devRef main_arg2) _ from rfl).trans ?_
  exact (at4_eq _ _ rfl rfl rfl rfl).symm

theorem k_at (i : Fin 32768) (j : Fin 1024) :
    V m c main_v8 (ValueIdx.ix2 i j) = at4 (m ((c.tc : Thread nD τ).loc main_arg1)) (i.val / 2048) (i.val % 2048) (j.val / 128) (j.val % 128) := by
  unfold V
  after_reads_at
  refine (show _ = m (c, Proc.tc.devRef main_arg1) _ from rfl).trans ?_
  exact (at4_eq _ _ rfl rfl rfl rfl).symm

theorem q_at (i : Fin 32768) (j : Fin 1024) :
    V m c main_v6 (ValueIdx.ix2 i j)
      = Ideal.div (at4 (m ((c.tc : Thread nD τ).loc main_arg0)) (i.val / 2048) (i.val % 2048) (j.val / 128) (j.val % 128))
          ((Real.sqrt 128 * Real.log 2 : ℝ) : EReal) := by
  unfold V
  after_reads_at
  refine congrArg₂ Ideal.div ?_ ?_
  · exact (at4_eq _ _ rfl rfl rfl rfl).symm
  · show Ideal.sqrt (Ideal.ofBits .f32 0x43000000#32) * Ideal.log (Ideal.ofBits .f32 0x40000000#32) = _
    rw [ofBits_128, log_two, Ideal.sqrt_coe]
    norm_num

theorem bias_at (i : Fin 2048) (j : Fin 512) :
    V m c main_v51 (ValueIdx.ix2 i j)
      = DilMask.bias (IntOp.subi (IntOp.addi 1536#32 (BitVec.ofNat 32 j.val)) (BitVec.ofNat 32 i.val)) := by
  unfold V
  after_reads_at
  refine Eq.trans (congrArg (Scalar.select _ _) (show _ = (⊥ : EReal) from ofBits_bot)) ?_
  refine congrArg₂ (fun a b => Scalar.select a b (⊥ : EReal)) ?_ ?_
  · rfl
  · refine (congrArg (Ideal.div _) log_two).trans ?_
    rfl

end Cert.DilHost
end
-- ==== Proof.DilBlock.lean ====
/-
  One grid step of the dilated attention: the output block of one batch entry and head.

  The body takes four tiles of 512 queries one after another. The tile of number `i` sees the `512 (i + 1)` keys up to its
  end, and adds a bias to the score of each: the last `512 (i + 1)` rows of the bias, the column being the query's number
  within its tile. Every row of the block is the kernel's row of these scores (`out_eq`).
-/
module

public import proofs.«01_k».proof.Proof.Tile
public import proofs.«01_k».proof.Proof.At
public import proofs.«01_k».proof.Proof.Gen.Kernel5Ideal.Value

@[expose] public section

noncomputable section

namespace Cert.DilBlock

open Idealize.ShloMosaic Idealize.ShloMosaic.ValueIdx Cert.Softmax Cert.Tile Cert.At Cert.Kernel5Ideal Cert.Kernel5Ideal.Gen
open scoped BigOperators

variable (x0 x1 : Vec Ideal S2048x128 .bf16) (x2 : Vec Ideal S128x2048 .bf16) (x3 : Vec Ideal S2048x512 .f32)

/-- The product of query `r` with key `k`. -/
def score (r k : ℕ) : EReal := ∑ e : Fin 128, at2 (A := 2048) (B := 128) x1 k e.val * at2 (A := 2048) (B := 128) x0 r e.val

/-- The score with its bias. -/
def biased (r k : ℕ) : EReal :=
  score x0 x1 r k + at2 (A := 2048) (B := 512) x3 (2048 - (r / 512 + 1) * 512 + k) (r % 512)

/-- The block: the kernel's row of every query. -/
def out : Vec Ideal S2048x128 .f32 := fun y =>
  kernelRow (((y 0).val / 512 + 1) * 512) (biased x0 x1 x3 (y 0).val) (fun k => at2 (A := 128) (B := 2048) x2 (y 1).val k)

/-! ## The stored tiles, from what they load -/

section Rows

variable (j : Fin 512) (e : Fin 128) (b v : ℕ → EReal)

theorem row0 (q : Vec Ideal S512x128 .bf16) (k : Vec Ideal S512x128 .bf16) (bias : Vec Ideal S512x512 .f32) (vt : Vec Ideal S128x512 .bf16)
    (hb : ∀ i : Fin 512, (∑ t : Fin 128, k (ix2 i t) * q (ix2 j t)) + bias (ix2 i j) = b i.val)
    (hv : ∀ i : Fin 512, vt (ix2 e i) = v i.val) :
    k0_pay3 q k bias vt (ix2 j e) = kernelRow 512 b v := by
  unfold k0_pay3
  simp only [shapeCast_self]
  have hs : ∀ i : Fin 512, (addf (matmul (F := Ideal) (φ₁ := .bf16) (φ₂ := .bf16) dot_S512x128_S512x128_S512x512_1_1_0_0_n_n none (k : FVec Ideal S512x128 .bf16) (q : FVec Ideal S512x128 .bf16) (constant S512x512 .f32 0x00000000#32)) bias : FVec Ideal S512x512 .f32) (ix2 i j) = b i.val :=
    fun i => (congrArg (fun z : EReal => z + bias (ix2 i j)) (scores (φ₁ := .bf16) (φ₂ := .bf16) k q i j)).trans (hb i)
  generalize (addf (matmul (F := Ideal) (φ₁ := .bf16) (φ₂ := .bf16) dot_S512x128_S512x128_S512x512_1_1_0_0_n_n none (k : FVec Ideal S512x128 .bf16) (q : FVec Ideal S512x128 .bf16) (constant S512x512 .f32 0x00000000#32)) bias : FVec Ideal S512x512 .f32) = s at hs ⊢
  have hM := colMax s reduces_S512x512_S512 (.inl rfl) rfl shapeCasts_S512_S1x512 j b hs
  refine (stored _ _ _ _ e j).trans (onePart b v hM ?_ ?_)
  · refine (zeroStart _ _).trans (valueSum vt _ e j v (fun i => Ideal.exp2 (b i - _)) hv fun i => ?_)
    exact (weight _ _ _ i j).trans (by rw [hs])
  · refine (zeroStart _ _).trans (colSum _ _ _ _ _ j (fun i => Ideal.exp2 (b i - _)) fun i => ?_)
    exact (weight _ _ _ i j).trans (by rw [hs])

theorem row1 (q : Vec Ideal S512x128 .bf16) (k : Vec Ideal S1024x128 .bf16) (bias : Vec Ideal S1024x512 .f32) (vt : Vec Ideal S128x1024 .bf16)
    (hb : ∀ i : Fin 1024, (∑ t : Fin 128, k (ix2 i t) * q (ix2 j t)) + bias (ix2 i j) = b i.val)
    (hv : ∀ i : Fin 1024, vt (ix2 e i) = v i.val) :
    k0_pay5 (k0_pay2 q k bias) vt (ix2 j e) = kernelRow 1024 b v := by
  unfold k0_pay5 k0_pay2
  simp only [shapeCast_self]
  have hs : ∀ i : Fin 1024, (addf (matmul (F := Ideal) (φ₁ := .bf16) (φ₂ := .bf16) dot_S1024x128_S512x128_S1024x512_1_1_0_0_n_n none (k : FVec Ideal S1024x128 .bf16) (q : FVec Ideal S512x128 .bf16) (constant S1024x512 .f32 0x00000000#32)) bias : FVec Ideal S1024x512 .f32) (ix2 i j) = b i.val :=
    fun i => (congrArg (fun z : EReal => z + bias (ix2 i j)) (scores (φ₁ := .bf16) (φ₂ := .bf16) k q i j)).trans (hb i)
  generalize (addf (matmul (F := Ideal) (φ₁ := .bf16) (φ₂ := .bf16) dot_S1024x128_S512x128_S1024x512_1_1_0_0_n_n none (k : FVec Ideal S1024x128 .bf16) (q : FVec Ideal S512x128 .bf16) (constant S1024x512 .f32 0x00000000#32)) bias : FVec Ideal S1024x512 .f32) = s at hs ⊢
  have hM := colMax s reduces_S1024x512_S512 (.inl rfl) rfl shapeCasts_S512_S1x512 j b hs
  refine (stored _ _ _ _ e j).trans (onePart b v hM ?_ ?_)
  · refine (zeroStart _ _).trans (valueSum vt _ e j v (fun i => Ideal.exp2 (b i - _)) hv fun i => ?_)
    exact (weight _ _ _ i j).trans (by rw [hs])
  · refine (zeroStart _ _).trans (colSum _ _ _ _ _ j (fun i => Ideal.exp2 (b i - _)) fun i => ?_)
    exact (weight _ _ _ i j).trans (by rw [hs])

theorem row2 (q : Vec Ideal S512x128 .bf16) (k : Vec Ideal S1536x128 .bf16) (bias : Vec Ideal S1536x512 .f32) (vt : Vec Ideal S128x1536 .bf16)
    (hb : ∀ i : Fin 1536, (∑ t : Fin 128, k (ix2 i t) * q (ix2 j t)) + bias (ix2 i j) = b i.val)
    (hv : ∀ i : Fin 1536, vt (ix2 e i) = v i.val) :
    k0_pay8 (k0_pay4 q k bias) vt (ix2 j e) = kernelRow 1536 b v := by
  unfold k0_pay8 k0_pay4
  simp only [shapeCast_self]
  have hs : ∀ i : Fin 1536, (addf (matmul (F := Ideal) (φ₁ := .bf16) (φ₂ := .bf16) dot_S1536x128_S512x128_S1536x512_1_1_0_0_n_n none (k : FVec Ideal S1536x128 .bf16) (q : FVec Ideal S512x128 .bf16) (constant S1536x512 .f32 0x00000000#32)) bias : FVec Ideal S1536x512 .f32) (ix2 i j) = b i.val :=
    fun i => (congrArg (fun z : EReal => z + bias (ix2 i j)) (scores (φ₁ := .bf16) (φ₂ := .bf16) k q i j)).trans (hb i)
  generalize (addf (matmul (F := Ideal) (φ₁ := .bf16) (φ₂ := .bf16) dot_S1536x128_S512x128_S1536x512_1_1_0_0_n_n none (k : FVec Ideal S1536x128 .bf16) (q : FVec Ideal S512x128 .bf16) (constant S1536x512 .f32 0x00000000#32)) bias : FVec Ideal S1536x512 .f32) = s at hs ⊢
  have hM := colMax s reduces_S1536x512_S512 (.inl rfl) rfl shapeCasts_S512_S1x512 j b hs
  refine (stored _ _ _ _ e j).trans (onePart b v hM ?_ ?_)
  · refine (zeroStart _ _).trans (valueSum vt _ e j v (fun i => Ideal.exp2 (b i - _)) hv fun i => ?_)
    exact (weight _ _ _ i j).trans (by rw [hs])
  · refine (zeroStart _ _).trans (colSum _ _ _ _ _ j (fun i => Ideal.exp2 (b i - _)) fun i => ?_)
    exact (weight _ _ _ i j).trans (by rw [hs])

theorem row3 (q : Vec Ideal S512x128 .bf16) (k : Vec Ideal S2048x128 .bf16) (bias : Vec Ideal S2048x512 .f32) (vt : Vec Ideal S128x2048 .bf16)
    (hb : ∀ i : Fin 2048, (∑ t : Fin 128, k (ix2 i t) * q (ix2 j t)) + bias (ix2 i j) = b i.val)
    (hv : ∀ i : Fin 2048, vt (ix2 e i) = v i.val) :
    k0_pay1 (k0_pay10 (k0_pay6 q) (k0_pay7 k) (constant S2048x512 .f32 0x00000000#32) bias) (k0_pay11 (k0_pay6 q) (k0_pay7 k) (constant S2048x512 .f32 0x00000000#32) bias vt) (ix2 j e) = kernelRow 2048 b v := by
  unfold k0_pay1 k0_pay10 k0_pay11 k0_pay9 k0_pay6 k0_pay7
  simp only [shapeCast_self]
  have hs : ∀ i : Fin 2048, (addf (matmul (F := Ideal) (φ₁ := .bf16) (φ₂ := .bf16) dot_S2048x128_S512x128_S2048x512_1_1_0_0_n_n none (k : FVec Ideal S2048x128 .bf16) (q : FVec Ideal S512x128 .bf16) (constant S2048x512 .f32 0x00000000#32)) bias : FVec Ideal S2048x512 .f32) (ix2 i j) = b i.val :=
    fun i => (congrArg (fun z : EReal => z + bias (ix2 i j)) (scores (φ₁ := .bf16) (φ₂ := .bf16) k q i j)).trans (hb i)
  generalize (addf (matmul (F := Ideal) (φ₁ := .bf16) (φ₂ := .bf16) dot_S2048x128_S512x128_S2048x512_1_1_0_0_n_n none (k : FVec Ideal S2048x128 .bf16) (q : FVec Ideal S512x128 .bf16) (constant S2048x512 .f32 0x00000000#32)) bias : FVec Ideal S2048x512 .f32) = s at hs ⊢
  have hM := colMax s reduces_S2048x512_S512 (.inl rfl) rfl shapeCasts_S512_S1x512 j b hs
  refine (stored _ _ _ _ e j).trans (onePart b v hM ?_ ?_)
  · refine (zeroStart _ _).trans (valueSum vt _ e j v (fun i => Ideal.exp2 (b i - _)) hv fun i => ?_)
    exact (weight _ _ _ i j).trans (by rw [hs])
  · refine (zeroStart _ _).trans (colSum _ _ _ _ _ j (fun i => Ideal.exp2 (b i - _)) fun i => ?_)
    exact (weight _ _ _ i j).trans (by rw [hs])

end Rows

/-! ## The pieces of the block -/

/-- A score tile of the first `n` keys and the queries from row `p`. -/
theorem tileScore {n : ℕ} (p : ℕ) (ho : ∀ a, (![0, 0] : Fin 2 → ℕ) a + (![n, 128] : Fin 2 → ℕ) a ≤ (![2048, 128] : Fin 2 → ℕ) a)
    (hp : ∀ a, (![p, 0] : Fin 2 → ℕ) a + (![512, 128] : Fin 2 → ℕ) a ≤ (![2048, 128] : Fin 2 → ℕ) a) (i : Fin n) (j : Fin 512) :
    ∑ e : Fin 128, x1 ((Rect.unit (s := ⟨2, ![2048, 128]⟩) ![0, 0] ![n, 128] ho).idx (ix2 i e))
        * x0 ((Rect.unit (s := ⟨2, ![2048, 128]⟩) ![p, 0] ![512, 128] hp).idx (ix2 j e))
      = score x0 x1 (p + j.val) i.val := by
  refine Finset.sum_congr rfl fun e _ => congrArg₂ (fun a b : EReal => a * b) ((ld_at2 x1 0 0 ho i e).trans ?_) ((ld_at2 x0 p 0 hp j e).trans ?_)
  · rw [Nat.zero_add, Nat.zero_add]
  · rw [Nat.zero_add]

/-- The bias of the tile of number `m`, from its first row `o` on. -/
theorem tileBias {n : ℕ} (m o : ℕ) (hm : 2048 - (m + 1) * 512 = o) (ho : ∀ a, (![o, 0] : Fin 2 → ℕ) a + (![n, 512] : Fin 2 → ℕ) a ≤ (![2048, 512] : Fin 2 → ℕ) a)
    (i : Fin n) (j : Fin 512) :
    x3 ((Rect.unit (s := ⟨2, ![2048, 512]⟩) ![o, 0] ![n, 512] ho).idx (ix2 i j))
      = at2 (A := 2048) (B := 512) x3 (2048 - ((512 * m + j.val) / 512 + 1) * 512 + i.val) ((512 * m + j.val) % 512) := by
  have := j.isLt
  refine (ld_at2 x3 o 0 ho i j).trans ?_
  rw [show (512 * m + j.val) / 512 = m by omega, show (512 * m + j.val) % 512 = j.val by omega, hm, Nat.zero_add]

/-- The values of the keys from column `o`. -/
theorem ldVal {n : ℕ} (o : ℕ) (ho : ∀ a, (![0, o] : Fin 2 → ℕ) a + (![128, n] : Fin 2 → ℕ) a ≤ (![128, 2048] : Fin 2 → ℕ) a) (e : Fin 128) (i : Fin n) :
    x2 ((Rect.unit (s := ⟨2, ![128, 2048]⟩) ![0, o] ![128, n] ho).idx (ix2 e i)) = at2 (A := 128) (B := 2048) x2 e.val (o + i.val) := by
  refine (ld_at2 x2 0 o ho e i).trans ?_
  rw [Nat.zero_add]

/-- What `out` is at the index of a stored tile. -/
theorem out_at (m : ℕ) (hm : m < 4) (j : Fin 512) (e : Fin 128) (y : S2048x128.Idx) (h0 : (y 0).val = 512 * m + j.val) (h1 : (y 1).val = e.val) :
    kernelRow ((m + 1) * 512) (biased x0 x1 x3 (512 * m + j.val)) (fun k => at2 (A := 128) (B := 2048) x2 e.val k) = out x0 x1 x2 x3 y := by
  unfold out
  have := j.isLt
  rw [h0, h1, show (512 * m + j.val) / 512 = m by omega]

theorem piece0 (x : S512x128.Idx) :
    k0_pay3 (View.ld x0 r0_0) (View.ld x1 r0_0) (View.ld x3 r0_1) (View.ld x2 r0_5) x
      = out x0 x1 x2 x3 (r0_0.emb x) := by
  rw [eq_ix2 x]
  refine (row0 (x 0) (x 1) (biased x0 x1 x3 (512 * 0 + (x 0).val)) (fun k => at2 (A := 128) (B := 2048) x2 (x 1).val k) _ _ _ _ ?_ ?_).trans
    (out_at x0 x1 x2 x3 0 (by norm_num) (x 0) (x 1) _ ?_ ?_)
  · intro i
    exact (congrArg₂ (fun a b : EReal => a + b)
      (tileScore x0 x1 0 inb_S2048x128_S512x128_0_0 inb_S2048x128_S512x128_0_0 i (x 0))
      (tileBias x3 0 1536 (by norm_num) inb_S2048x512_S512x512_1536_0 i (x 0)))
  · intro i
    exact (ldVal x2 0 inb_S128x2048_S128x512_0_0 (x 1) i).trans (by rw [Nat.zero_add])
  · exact Rect.idx_unit_val (s := S2048x128) ![0, 0] S512x128.size inb_S2048x128_S512x128_0_0 x 0
  · exact (Rect.idx_unit_val (s := S2048x128) ![0, 0] S512x128.size inb_S2048x128_S512x128_0_0 x 1).trans (Nat.zero_add _)

theorem piece1 (x : S512x128.Idx) :
    k0_pay5 (k0_pay2 (View.ld x0 r0_2) (View.ld x1 r0_3) (View.ld x3 r0_4)) (View.ld x2 r0_9) x
      = out x0 x1 x2 x3 (r0_2.emb x) := by
  rw [eq_ix2 x]
  refine (row1 (x 0) (x 1) (biased x0 x1 x3 (512 * 1 + (x 0).val)) (fun k => at2 (A := 128) (B := 2048) x2 (x 1).val k) _ _ _ _ ?_ ?_).trans
    (out_at x0 x1 x2 x3 1 (by norm_num) (x 0) (x 1) _ ?_ ?_)
  · intro i
    exact (congrArg₂ (fun a b : EReal => a + b)
      (tileScore x0 x1 512 inb_S2048x128_S1024x128_0_0 inb_S2048x128_S512x128_512_0 i (x 0))
      (tileBias x3 1 1024 (by norm_num) inb_S2048x512_S1024x512_1024_0 i (x 0)))
  · intro i
    exact (ldVal x2 0 inb_S128x2048_S128x1024_0_0 (x 1) i).trans (by rw [Nat.zero_add])
  · exact Rect.idx_unit_val (s := S2048x128) ![512, 0] S512x128.size inb_S2048x128_S512x128_512_0 x 0
  · exact (Rect.idx_unit_val (s := S2048x128) ![512, 0] S512x128.size inb_S2048x128_S512x128_512_0 x 1).trans (Nat.zero_add _)

theorem piece2 (x : S512x128.Idx) :
    k0_pay8 (k0_pay4 (View.ld x0 r0_6) (View.ld x1 r0_7) (View.ld x3 r0_8)) (View.ld x2 r0_13) x
      = out x0 x1 x2 x3 (r0_6.emb x) := by
  rw [eq_ix2 x]
  refine (row2 (x 0) (x 1) (biased x0 x1 x3 (512 * 2 + (x 0).val)) (fun k => at2 (A := 128) (B := 2048) x2 (x 1).val k) _ _ _ _ ?_ ?_).trans
    (out_at x0 x1 x2 x3 2 (by norm_num) (x 0) (x 1) _ ?_ ?_)
  · intro i
    exact (congrArg₂ (fun a b : EReal => a + b)
      (tileScore x0 x1 1024 inb_S2048x128_S1536x128_0_0 inb_S2048x128_S512x128_1024_0 i (x 0))
      (tileBias x3 2 512 (by norm_num) inb_S2048x512_S1536x512_512_0 i (x 0)))
  · intro i
    exact (ldVal x2 0 inb_S128x2048_S128x1536_0_0 (x 1) i).trans (by rw [Nat.zero_add])
  · exact Rect.idx_unit_val (s := S2048x128) ![1024, 0] S512x128.size inb_S2048x128_S512x128_1024_0 x 0
  · exact (Rect.idx_unit_val (s := S2048x128) ![1024, 0] S512x128.size inb_S2048x128_S512x128_1024_0 x 1).trans (Nat.zero_add _)

theorem piece3 (x : S512x128.Idx) :
    k0_pay1 (k0_pay10 (k0_pay13 x0 x1 x2 x3) (k0_pay14 x0 x1 x2 x3) (k0_pay12 x0 x1 x2 x3) (View.ld x3 r0_12))
        (k0_pay11 (k0_pay13 x0 x1 x2 x3) (k0_pay14 x0 x1 x2 x3) (k0_pay12 x0 x1 x2 x3) (View.ld x3 r0_12) (View.ld x2 r0_14)) x
      = out x0 x1 x2 x3 (r0_10.emb x) := by
  rw [eq_ix2 x]
  unfold k0_pay12 k0_pay13 k0_pay14
  refine (row3 (x 0) (x 1) (biased x0 x1 x3 (512 * 3 + (x 0).val)) (fun k => at2 (A := 128) (B := 2048) x2 (x 1).val k) _ _ _ _ ?_ ?_).trans
    (out_at x0 x1 x2 x3 3 (by norm_num) (x 0) (x 1) _ ?_ ?_)
  · intro i
    exact (congrArg₂ (fun a b : EReal => a + b)
      (tileScore x0 x1 1536 inb_S2048x128_S2048x128_0_0 inb_S2048x128_S512x128_1536_0 i (x 0))
      (tileBias x3 3 0 (by norm_num) inb_S2048x512_S2048x512_0_0 i (x 0)))
  · intro i
    exact (ldVal x2 0 inb_S128x2048_S128x2048_0_0 (x 1) i).trans (by rw [Nat.zero_add])
  · exact Rect.idx_unit_val (s := S2048x128) ![1536, 0] S512x128.size inb_S2048x128_S512x128_1536_0 x 0
  · exact (Rect.idx_unit_val (s := S2048x128) ![1536, 0] S512x128.size inb_S2048x128_S512x128_1536_0 x 1).trans (Nat.zero_add _)

/-- The block that the body leaves. -/
theorem out_eq : out0_4 x0 x1 x2 x3 = out x0 x1 x2 x3 := by
  funext y
  unfold out0_4
  refine View.canon_apply_of_pieces (out x0 x1 x2 x3) _ ?_ y (cover0_4 _ _ _ _ y)
  exact List.forall_mem_cons.mpr ⟨piece3 x0 x1 x2 x3, List.forall_mem_cons.mpr ⟨piece2 x0 x1 x2 x3,
    List.forall_mem_cons.mpr ⟨piece1 x0 x1 x2 x3, List.forall_mem_cons.mpr ⟨piece0 x0 x1 x2 x3, fun _ h => absurd h List.not_mem_nil⟩⟩⟩⟩

end Cert.DilBlock

end
-- ==== Proof.DilArray.lean ====
/-
  The array that the dilated attention's launch leaves, at every index: the row of its batch, query and head, over the
  arguments of the program.
-/
module

public import proofs.«01_k».proof.Proof.DilHost
public import proofs.«01_k».proof.Proof.DilBlock
public import Idealize.ShloMosaic.Lib.Pipeline.ValueKit

@[expose] public section

noncomputable section

namespace Cert.DilArray

open Idealize.ShloMosaic Idealize.ShloMosaic.TcCoe Cert.Softmax Cert.At Cert.DilBlock Cert.Kernel5Ideal Cert.Kernel5Ideal.Gen
open scoped BigOperators

variable (m : (ℓ : Loc nD τ sig) → Buf (Elt Ideal) ℓ) (c : Dev nD)

/-- The block that a point stages or writes: point `t` is batch `t / 8`, head `t % 8`. -/
theorem idx : ∀ t : Fin cfg0.N, win0_0.index t = ![t.val / 8, t.val % 8] ∧ win0_1.index t = ![t.val / 8, t.val % 8]
    ∧ win0_2.index t = ![t.val % 8, t.val / 8] ∧ win0_3.index t = ![0, 0] ∧ win0_4.index t = ![t.val / 8, t.val % 8] :=
  (by decide +kernel : ∀ t : Fin grid0.N, _)

theorem blk0 (t : Fin cfg0.N) (i : Fin 2048) (j : Fin 128) :
    at2 (A := 2048) (B := 128) (iblk m c 0 t) i.val j.val
      = at2 (A := 32768) (B := 1024) (V m c main_v6) (t.val / 8 * 2048 + i.val) (t.val % 8 * 128 + j.val) := by
  rw [at2_of_lt _ i.isLt j.isLt]
  refine Eq.trans ?_ (at2_eq (A := 32768) (B := 1024) (V m c main_v6) (((cfg0.win 0).blk t).view.emb (ValueIdx.ix2 i j)) ?_ ?_).symm
  · rfl
  · blk_simp [idx t]
  · blk_simp [idx t]

theorem blk1 (t : Fin cfg0.N) (i : Fin 2048) (j : Fin 128) :
    at2 (A := 2048) (B := 128) (iblk m c 1 t) i.val j.val
      = at2 (A := 32768) (B := 1024) (V m c main_v8) (t.val / 8 * 2048 + i.val) (t.val % 8 * 128 + j.val) := by
  rw [at2_of_lt _ i.isLt j.isLt]
  refine Eq.trans ?_ (at2_eq (A := 32768) (B := 1024) (V m c main_v8) (((cfg0.win 1).blk t).view.emb (ValueIdx.ix2 i j)) ?_ ?_).symm
  · rfl
  · blk_simp [idx t]
  · blk_simp [idx t]

theorem blk2 (t : Fin cfg0.N) (i : Fin 128) (j : Fin 2048) :
    at2 (A := 128) (B := 2048) (iblk m c 2 t) i.val j.val
      = at2 (A := 1024) (B := 32768) (V m c main_v11) (t.val % 8 * 128 + i.val) (t.val / 8 * 2048 + j.val) := by
  rw [at2_of_lt _ i.isLt j.isLt]
  refine Eq.trans ?_ (at2_eq (A := 1024) (B := 32768) (V m c main_v11) (((cfg0.win 2).blk t).view.emb (ValueIdx.ix2 i j)) ?_ ?_).symm
  · rfl
  · blk_simp [idx t]
  · blk_simp [idx t]

theorem blk3 (t : Fin cfg0.N) (i : Fin 2048) (j : Fin 512) :
    at2 (A := 2048) (B := 512) (iblk m c 3 t) i.val j.val = at2 (A := 2048) (B := 512) (V m c main_v51) i.val j.val := by
  rw [at2_of_lt _ i.isLt j.isLt]
  refine Eq.trans ?_ (at2_eq (A := 2048) (B := 512) (V m c main_v51) (((cfg0.win 3).blk t).view.emb (ValueIdx.ix2 i j)) ?_ ?_).symm
  · rfl
  · blk_simp [idx t]
  · blk_simp [idx t]

/-! ## The rows, over the arguments -/

section Rows

variable (a0 a1 a2 : ℕ → ℕ → ℕ → ℕ → EReal)

/-- The kernel's score of a key: the product with the scaled query, and the bias of the branches that see it. -/
def rowScore (b h r k : ℕ) : EReal :=
  (∑ e : Fin 128, a1 b k h e.val * Ideal.div (a0 b r h e.val) ((Real.sqrt 128 * Real.log 2 : ℝ) : EReal)) + seenBias (DilMask.seesAt r k)

/-- An element of the result: over the keys up to the end of the query's tile. -/
def rowOut (b r h e : ℕ) : EReal :=
  kernelRow ((r / 512 + 1) * 512) (rowScore a0 a1 b h r) (fun k => a2 b k h e)

end Rows

/-- The result array. -/
def result : Vec Ideal S32768x1024 .f32 := fun i =>
  rowOut (at4 (A := 16) (B := 2048) (C := 8) (D := 128) (m ((c.tc : Thread nD τ).loc main_arg0)))
    (at4 (A := 16) (B := 2048) (C := 8) (D := 128) (m ((c.tc : Thread nD τ).loc main_arg1)))
    (at4 (A := 16) (B := 2048) (C := 8) (D := 128) (m ((c.tc : Thread nD τ).loc main_arg2)))
    ((i 0).val / 2048) ((i 0).val % 2048) ((i 1).val / 128) ((i 1).val % 128)

theorem row_congr {n : ℕ} {b b' v v' : ℕ → EReal} (hb : ∀ k < n, b k = b' k) (hv : ∀ k < n, v k = v' k) :
    kernelRow n b v = kernelRow n b' v' := by
  unfold kernelRow
  have hs : (Finset.range n).sup b = (Finset.range n).sup b' := Finset.sup_congr rfl fun k hk => hb k (Finset.mem_range.1 hk)
  rw [hs, Finset.sum_congr rfl fun k hk => by rw [hv k (Finset.mem_range.1 hk), hb k (Finset.mem_range.1 hk)],
    Finset.sum_congr (f := fun k => Ideal.exp2 (b k - _)) rfl fun k hk => by rw [hb k (Finset.mem_range.1 hk)]]

/-- The bias that the tile of a query adds to a key's score. -/
theorem bias_row (r k : ℕ) (hr : r < 2048) (hk : k < (r / 512 + 1) * 512) :
    at2 (A := 2048) (B := 512) (V m c main_v51) (2048 - (r / 512 + 1) * 512 + k) (r % 512) = seenBias (DilMask.seesAt r k) := by
  rw [at2_of_lt _ (by omega) (by omega), DilHost.bias_at, DilMask.bias_eq]
  show seenBias (DilMask.sees (IntOp.subi (IntOp.addi 1536#32 (BitVec.ofNat 32 (r % 512))) (BitVec.ofNat 32 (2048 - (r / 512 + 1) * 512 + k)))) = _
  unfold DilMask.seesAt
  rw [WordCmp.addi_ofNat 1536 (r % 512), DilMask.sub_congr (c := r) (d := k) (by omega) (by omega) (by omega) (by omega) (by omega)]

/-- What a point's body leaves, at an index of its block, is the result there. -/
theorem out_row (t : Fin cfg0.N) (y : S2048x128.Idx) (i : S32768x1024.Idx)
    (h0 : (i 0).val = t.val / 8 * 2048 + (y 0).val) (h1 : (i 1).val = t.val % 8 * 128 + (y 1).val) :
    out (iblk m c 0 t) (iblk m c 1 t) (iblk m c 2 t) (iblk m c 3 t) y = result m c i := by
  have hy0 : (y 0).val < 2048 := (y 0).isLt
  have hy1 : (y 1).val < 128 := (y 1).isLt
  have ht : t.val < 128 := t.isLt
  unfold out result rowOut
  rw [h0, h1, show (t.val / 8 * 2048 + (y 0).val) / 2048 = t.val / 8 by omega,
    show (t.val / 8 * 2048 + (y 0).val) % 2048 = (y 0).val by omega, show (t.val % 8 * 128 + (y 1).val) / 128 = t.val % 8 by omega,
    show (t.val % 8 * 128 + (y 1).val) % 128 = (y 1).val by omega]
  refine row_congr (fun k hk => ?_) (fun k hk => ?_)
  · have hk' : k < 2048 := by omega
    unfold biased rowScore
    refine congrArg₂ (fun a b : EReal => a + b) ?_ ?_
    · unfold score
      refine Finset.sum_congr rfl fun e _ => congrArg₂ (fun a b : EReal => a * b) ?_ ?_
      · have he := e.isLt
        refine (blk1 m c t ⟨k, hk'⟩ e).trans ?_
        rw [at2_of_lt _ (show t.val / 8 * 2048 + k < 32768 by omega) (show t.val % 8 * 128 + e.val < 1024 by omega), DilHost.k_at]
        simp only
        rw [show (t.val / 8 * 2048 + k) / 2048 = t.val / 8 by omega, show (t.val / 8 * 2048 + k) % 2048 = k by omega,
          show (t.val % 8 * 128 + e.val) / 128 = t.val % 8 by omega, show (t.val % 8 * 128 + e.val) % 128 = e.val by omega]
      · have he := e.isLt
        refine (blk0 m c t (y 0) e).trans ?_
        rw [at2_of_lt _ (show t.val / 8 * 2048 + (y 0).val < 32768 by omega) (show t.val % 8 * 128 + e.val < 1024 by omega), DilHost.q_at]
        simp only
        rw [show (t.val / 8 * 2048 + (y 0).val) / 2048 = t.val / 8 by omega, show (t.val / 8 * 2048 + (y 0).val) % 2048 = (y 0).val by omega,
          show (t.val % 8 * 128 + e.val) / 128 = t.val % 8 by omega, show (t.val % 8 * 128 + e.val) % 128 = e.val by omega]
    · exact (blk3 m c t ⟨2048 - ((y 0).val / 512 + 1) * 512 + k, by omega⟩ ⟨(y 0).val % 512, by omega⟩).trans (bias_row m c (y 0).val k hy0 hk)
  · have hk' : k < 2048 := by omega
    refine (blk2 m c t (y 1) ⟨k, hk'⟩).trans ?_
    rw [at2_of_lt _ (show t.val % 8 * 128 + (y 1).val < 1024 by omega) (show t.val / 8 * 2048 + k < 32768 by omega), DilHost.v_at]
    simp only
    rw [show (t.val / 8 * 2048 + k) / 2048 = t.val / 8 by omega, show (t.val / 8 * 2048 + k) % 2048 = k by omega,
      show (t.val % 8 * 128 + (y 1).val) / 128 = t.val % 8 by omega, show (t.val % 8 * 128 + (y 1).val) % 128 = (y 1).val by omega]

/-- The array after the run. -/
theorem final : (dats m 0 c).arrAt 4 cfg0.N = result m c := by
  refine (dats m 0 c).arrAt_eq_of_covers 4 _ (by decide +kernel) fun t hf y => ?_
  have h := out_row m c t y (((cfg0.win 4).blk t).view.emb y) (by blk_simp [idx t]) (by blk_simp [idx t])
  refine Eq.trans ?_ h
  rw [after0_4, out_eq]
  rfl

end Cert.DilArray
end
-- ==== Proof.DilRef.lean ====
/-
  The reference's dilated attention at an index of its result: the mixture of the three branches, each over all the keys
  with those it does not see masked.
-/
module

public import proofs.«01_k».proof.Proof.At
public import proofs.«01_k».proof.Proof.DilMask
public import proofs.«01_k».proof.Proof.Gen.Reference5Ideal.Read
public import Idealize.ShloMosaic.Lib.Pointwise

@[expose] public section

noncomputable section

namespace Cert.DilRef

open Idealize.ShloMosaic Idealize.ShloMosaic.TcCoe Cert.Softmax Cert.At Cert.DilMask Cert.Reference5Ideal Cert.Reference5Ideal.Gen Cert.Reference5Ideal.Read
open scoped BigOperators

/-- A branch's score of a key: the scaled product, where the branch sees the key. -/
def refScore (a0 a1 : ℕ → ℕ → ℕ → ℕ → EReal) (b h r : ℕ) (c : Fin 3) (k : ℕ) : EReal :=
  if seesAt r k c then (∑ e : Fin 128, a0 b r h e.val * a1 b k h e.val) * ((1 / Real.sqrt 128 : ℝ) : EReal) else ⊥

variable (x0 x1 x2 : (⟨S16x2048x8x128, .f32⟩ : BufTy).Contents (Elt Ideal))

/-- The scores of a query, over the reference's arguments. -/
abbrev sc (b h r : ℕ) : Fin 3 → ℕ → EReal :=
  refScore (at4 (A := 16) (B := 2048) (C := 8) (D := 128) x0) (at4 (A := 16) (B := 2048) (C := 8) (D := 128) x1) b h r

theorem ofBits_128 : Ideal.ofBits .f32 0x43000000#32 = ((128 : ℝ) : EReal) := by
  simp [Ideal.ofBits, Ideal.ieee, -EReal.coe_mul]; norm_num

theorem ofBits_bot : Ideal.ofBits .f32 0xFF800000#32 = (⊥ : EReal) := by
  simp [Ideal.ofBits, Ideal.ieee]

theorem scale (i : S_.Idx) : val_main_v9 (F := Ideal) i = ((1 / Real.sqrt 128 : ℝ) : EReal) := by
  have h : Real.sqrt 128 ≠ 0 := (Real.sqrt_pos.2 (by norm_num)).ne'
  show Ideal.div (Ideal.ofBits .f32 0x3F800000#32) (Ideal.sqrt (Ideal.ofBits .f32 0x43000000#32)) = _
  rw [ofBits_128, Ideal.ofBits_one_f32, Ideal.sqrt_coe, if_neg (by norm_num), Ideal.div_coe h, one_mul]

/-! ## The masks -/

theorem dilation_at (i : S3.Idx) : val_main_v4 (F := Ideal) i = dilation (i 0) := by
  rw [val_main_v4_apply, val_main_v3_apply, val_main_c_0_apply, val_main_v2_apply, val_main_v1_apply, val_main_c_apply, val_main_v0_apply]
  generalize i 0 = c
  revert c
  show ∀ c : Fin 3, IntOp.shli .host 1#32 (IntOp.muli 2#32 (BitVec.ofNat 32 c.val)) = dilation c
  decide

theorem window_at (i : S3.Idx) : val_main_v6 (F := Ideal) i = window (i 0) := by
  rw [val_main_v6_apply, val_main_v5_apply, val_main_c_1_apply, dilation_at]
  generalize i 0 = c
  revert c
  show ∀ c : Fin 3, IntOp.muli 128#32 (dilation c) = window c
  decide

theorem bit_at (i : S3x2048x2048.Idx) :
    val_main_v33 (F := Ideal) i
      = bit (window (i 0)) (dilation (i 0)) (IntOp.subi (BitVec.ofNat 32 (i 1).val) (BitVec.ofNat 32 (i 2).val)) := by
  simp only [val_main_v33_apply, val_main_v32_apply, val_main_v31_apply, val_main_c_4_apply, val_main_v30_apply, val_main_call0_v18_apply,
    val_main_call0_v17_apply, val_main_call0_v16_apply, val_main_call0_v15_apply, val_main_call0_v14_apply, val_main_call0_v13_apply,
    val_main_call0_v12_apply, val_main_call0_c_3_apply, val_main_call0_v11_apply, val_main_call0_v10_apply, val_main_call0_c_2_apply,
    val_main_call0_v9_apply, val_main_call0_v8_apply, val_main_call0_c_1_apply, val_main_call0_v7_apply, val_main_call0_v6_apply,
    val_main_call0_v5_apply, val_main_call0_v4_apply, val_main_call0_v3_apply, val_main_call0_c_0_apply, val_main_call0_v2_apply,
    val_main_call0_v1_apply, val_main_call0_c_apply, val_main_call0_v0_apply, val_main_v29_apply, val_main_v28_apply, val_main_v27_apply,
    val_main_v26_apply, val_main_v25_apply, val_main_v24_apply, val_main_v23_apply, val_main_v22_apply, val_main_v21_apply,
    val_main_v20_apply, val_main_v19_apply, val_main_c_3_apply, val_main_v18_apply, val_main_v17_apply, val_main_v16_apply,
    val_main_v15_apply, val_main_v14_apply, val_main_v13_apply, val_main_v12_apply,
    dilation_at, window_at]
  rfl

/-! ## A branch -/

theorem score_at (i : S3x16x8x2048x2048.Idx) :
    val_main_v35 (F := Ideal) x0 x1 i = sc x0 x1 (i 1).val (i 2).val (i 3).val (i 0) (i 4).val := by
  rw [val_main_v35_apply, val_main_call1_v1_apply, val_main_v34_apply, bit_at, val_main_call1_v3_apply, val_main_call1_v0_apply, val_main_cst_5_apply,
    val_main_call1_v2_apply, val_main_v11_apply, val_main_v10_apply, scale, val_main_v7_apply]
  unfold sc refScore seesAt sees Scalar.select
  show (if bit (window (i 0)) (dilation (i 0)) (IntOp.subi (BitVec.ofNat 32 (i 3).val) (BitVec.ofNat 32 (i 4).val)) = 1#1 then _
    else Ideal.ofBits .f32 0xFF800000#32) = _
  rw [ofBits_bot]
  by_cases h : bit (window (i 0)) (dilation (i 0)) (IntOp.subi (BitVec.ofNat 32 (i 3).val) (BitVec.ofNat 32 (i 4).val)) = 1#1
  · rw [if_pos h]
    refine Eq.trans ?_ (if_pos (decide_eq_true h)).symm
    refine congrArg (fun a : EReal => a * ((1 / Real.sqrt 128 : ℝ) : EReal)) ?_
    exact Finset.sum_congr rfl fun e _ => congrArg₂ (fun a b : EReal => a * b) (at4_eq x0 _ rfl rfl rfl rfl).symm (at4_eq x1 _ rfl rfl rfl rfl).symm
  · rw [if_neg h]
    exact (if_neg fun hd => h (of_decide_eq_true hd)).symm

theorem max_at (i : S3x16x8x2048.Idx) :
    val_main_v36 (F := Ideal) x0 x1 i = (Finset.range 2048).sup (sc x0 x1 (i 1).val (i 2).val (i 3).val (i 0)) := by
  unfold val_main_v36
  have hs := score_at x0 x1
  generalize val_main_v35 (F := Ideal) x0 x1 = y at hs
  generalize hc : val_main_cst_6 (F := Ideal) = z
  pointwise
  rw [← hc, ← sup_univ_fin]
  show Finset.fold max (Ideal.ofBits .f32 0xFF800000#32) _ _ = Finset.fold max (⊥ : EReal) _ _
  rw [ofBits_bot]
  exact congrArg (fun f => Finset.fold max (⊥ : EReal) f Finset.univ) (funext fun k => hs _)

theorem exp_at (i : S3x16x8x2048x2048.Idx) :
    val_main_v40 (F := Ideal) x0 x1 i
      = Ideal.exp (sc x0 x1 (i 1).val (i 2).val (i 3).val (i 0) (i 4).val - (Finset.range 2048).sup (sc x0 x1 (i 1).val (i 2).val (i 3).val (i 0))) := by
  rw [val_main_v40_apply, val_main_v39_apply, score_at, val_main_v38_apply, val_main_v37_apply, max_at]
  rfl

theorem den_at (i : S3x16x8x2048.Idx) :
    val_main_v41 (F := Ideal) x0 x1 i = branchDen 2048 (sc x0 x1 (i 1).val (i 2).val (i 3).val (i 0)) := by
  rw [val_main_v41_apply, val_main_cst_7_apply]
  show Ideal.ofBits .f32 0x00000000#32 + _ = _
  unfold branchDen
  rw [Ideal.ofBits_zero_f32, zero_add, ← Fin.sum_univ_eq_sum_range
    (fun k => Ideal.exp (sc x0 x1 (i 1).val (i 2).val (i 3).val (i 0) k - (Finset.range 2048).sup (sc x0 x1 (i 1).val (i 2).val (i 3).val (i 0))))]
  exact Finset.sum_congr rfl fun k _ => exp_at x0 x1 (idx_main_v41 i k)

theorem lse_at (i : S3x16x8x2048x1.Idx) :
    val_main_v48 (F := Ideal) x0 x1 i = branchLse 2048 (sc x0 x1 (i 1).val (i 2).val (i 3).val (i 0)) := by
  rw [val_main_v48_apply, val_main_v47_apply, val_main_v42_apply, val_main_v37_apply, max_at, den_at]
  rfl

theorem sum_at (i : S16x8x128x3x2048.Idx) :
    val_main_v43 (F := Ideal) x0 x1 x2 i
      = ∑ k ∈ Finset.range 2048, Ideal.exp (sc x0 x1 (i 0).val (i 1).val (i 4).val (i 3) k - (Finset.range 2048).sup (sc x0 x1 (i 0).val (i 1).val (i 4).val (i 3)))
          * at4 (A := 16) (B := 2048) (C := 8) (D := 128) x2 (i 0).val k (i 1).val (i 2).val := by
  rw [val_main_v43_apply, ← Fin.sum_univ_eq_sum_range
    (fun k => Ideal.exp (sc x0 x1 (i 0).val (i 1).val (i 4).val (i 3) k - (Finset.range 2048).sup (sc x0 x1 (i 0).val (i 1).val (i 4).val (i 3)))
      * at4 (A := 16) (B := 2048) (C := 8) (D := 128) x2 (i 0).val k (i 1).val (i 2).val)]
  refine Finset.sum_congr rfl fun k _ => (mul_comm _ _).trans ?_
  exact congrArg₂ (fun a b : EReal => a * b) (exp_at x0 x1 (ridx_main_v43 i k)) (at4_eq x2 _ rfl rfl rfl rfl).symm

theorem out_at (i : S3x16x8x2048x128.Idx) :
    val_main_v46 (F := Ideal) x0 x1 x2 i
      = branchOut 2048 (sc x0 x1 (i 1).val (i 2).val (i 3).val (i 0))
          (fun k => at4 (A := 16) (B := 2048) (C := 8) (D := 128) x2 (i 1).val k (i 2).val (i 4).val) := by
  rw [val_main_v46_apply, val_main_v44_apply, val_main_v45_apply, val_main_v42_apply, sum_at, den_at]
  rfl

/-! ## The mixture -/

/-- The logarithms of the branches' denominators. -/
abbrev lses (b h r : ℕ) : Fin 3 → EReal := fun c => branchLse 2048 (sc x0 x1 b h r c)

theorem top_at (i : S16x8x2048x1.Idx) :
    val_main_v51 (F := Ideal) x0 x1 i = Finset.univ.sup (lses x0 x1 (i 0).val (i 1).val (i 2).val) := by
  rw [val_main_v51_apply, val_main_v50_apply, val_main_cst_9_apply]
  unfold val_main_v49
  have hs := lse_at x0 x1
  generalize val_main_v48 (F := Ideal) x0 x1 = y at hs
  generalize hc : val_main_cst_8 (F := Ideal) = z
  pointwise
  rw [ofBits_bot, max_eq_right bot_le, ← hc]
  show Finset.fold max (Ideal.ofBits .f32 0xFF800000#32) _ _ = Finset.fold max (⊥ : EReal) _ _
  rw [ofBits_bot]
  exact congrArg (fun f => Finset.fold max (⊥ : EReal) f Finset.univ) (funext fun k => hs _)

theorem weight_at (i : S3x16x8x2048x1.Idx) :
    val_main_v55 (F := Ideal) x0 x1 i
      = Ideal.exp (lses x0 x1 (i 1).val (i 2).val (i 3).val (i 0) - Finset.univ.sup (lses x0 x1 (i 1).val (i 2).val (i 3).val)) := by
  rw [val_main_v55_apply, val_main_v54_apply, lse_at, val_main_v53_apply, val_main_v52_apply, top_at]
  rfl

theorem weights_at (i : S16x8x2048x1.Idx) :
    val_main_v56 (F := Ideal) x0 x1 i
      = ∑ c : Fin 3, Ideal.exp (lses x0 x1 (i 0).val (i 1).val (i 2).val c - Finset.univ.sup (lses x0 x1 (i 0).val (i 1).val (i 2).val)) := by
  rw [val_main_v56_apply, val_main_cst_10_apply]
  show Ideal.ofBits .f32 0x00000000#32 + _ = _
  rw [Ideal.ofBits_zero_f32, zero_add]
  exact Finset.sum_congr rfl fun k _ => weight_at x0 x1 (idx_main_v56 i k)

theorem share_at (i : S3x16x8x2048x1.Idx) :
    val_main_v59 (F := Ideal) x0 x1 i = share (lses x0 x1 (i 1).val (i 2).val (i 3).val) (i 0) := by
  rw [val_main_v59_apply, weight_at, val_main_v58_apply, val_main_v57_apply, weights_at]
  rfl

theorem mix_at (i : S16x8x2048x128.Idx) :
    val_main_v62 (F := Ideal) x0 x1 x2 i
      = mixRow 2048 (sc x0 x1 (i 0).val (i 1).val (i 2).val)
          (fun k => at4 (A := 16) (B := 2048) (C := 8) (D := 128) x2 (i 0).val k (i 1).val (i 3).val) := by
  rw [val_main_v62_apply, val_main_cst_11_apply]
  show Ideal.ofBits .f32 0x00000000#32 + _ = _
  unfold mixRow
  rw [Ideal.ofBits_zero_f32, zero_add]
  refine Finset.sum_congr rfl fun k _ => ?_
  rw [val_main_v61_apply, val_main_v60_apply, share_at, out_at]
  rfl

/-- The reference's result at an index. -/
theorem result_at (i : S32768x1024.Idx) :
    val_main_v64 (F := Ideal) x0 x1 x2 i
      = mixRow 2048 (sc x0 x1 ((i 0).val / 2048) ((i 1).val / 128) ((i 0).val % 2048))
          (fun k => at4 (A := 16) (B := 2048) (C := 8) (D := 128) x2 ((i 0).val / 2048) k ((i 1).val / 128) ((i 1).val % 128)) := by
  have h0 : (i 0).val < 32768 := (i 0).isLt
  have h1 : (i 1).val < 1024 := (i 1).isLt
  rw [val_main_v64_apply, val_main_v63_apply, mix_at]
  show mixRow 2048 (sc x0 x1 (((i 0).val * 1024 + (i 1).val) / 2097152) (((i 0).val * 1024 + (i 1).val) / 128 % 8) (((i 0).val * 1024 + (i 1).val) / 1024 % 2048))
    (fun k => at4 (A := 16) (B := 2048) (C := 8) (D := 128) x2 (((i 0).val * 1024 + (i 1).val) / 2097152) k (((i 0).val * 1024 + (i 1).val) / 128 % 8) (((i 0).val * 1024 + (i 1).val) % 128)) = _
  rw [show ((i 0).val * 1024 + (i 1).val) / 2097152 = (i 0).val / 2048 by omega,
    show ((i 0).val * 1024 + (i 1).val) / 1024 % 2048 = (i 0).val % 2048 by omega,
    show ((i 0).val * 1024 + (i 1).val) / 128 % 8 = (i 1).val / 128 by omega,
    show ((i 0).val * 1024 + (i 1).val) % 128 = (i 1).val % 128 by omega]

end Cert.DilRef
end
-- ==== Proof.DilClaim.lean ====
/-
  The claims about the dilated attention: the reference's run and the equality of the two results. On finite queries and
  keys a branch's score of a key that it sees is a real number, and the kernel's is that number over `log 2` with the
  bias of the branches that see the key.
-/
module

public import proofs.«01_k».proof.Defs
public import proofs.«01_k».proof.Proof.DilArray
public import proofs.«01_k».proof.Proof.DilRef
public import proofs.«01_k».proof.Proof.Latent
public import proofs.«01_k».proof.Proof.Gen.Pre_finite_qk_a
public import proofs.«01_k».proof.Proof.Gen.Reference5Ideal.Run
public import Idealize.ShloMosaic.Lib.Quiescent

@[expose] public section

noncomputable section

namespace Cert.DilClaim

open Idealize.ShloMosaic Idealize.ShloMosaic.TcCoe Idealize.SL.Sem Cert.Softmax Cert.At Cert.DilMask Cert.DilArray Cert.DilRef
open scoped BigOperators

/-- The reference has no semaphore: its run ends with every counter at zero and its arguments as they were. -/
theorem frame_reference (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
        ∧ r.2.sem = fun _ => 0) :=
  (θ_run Cert.Reference5Ideal.defs _ _).mono (fun r h => ⟨fun c => (h c).2, sem_eq_zero_of_no_sems (by decide) r.2⟩)
    (Cert.Reference5Ideal.Value.run m g)

section Rows

variable {a0 a1 : ℕ → ℕ → ℕ → ℕ → EReal} (a2 : ℕ → ℕ → ℕ → ℕ → EReal) {A0 A1 : ℕ → ℕ → ℕ → ℕ → ℝ}

/-- The scaled score, as a real number. -/
def realScore (A0 A1 : ℕ → ℕ → ℕ → ℕ → ℝ) (b h r k : ℕ) : ℝ :=
  (∑ e : Fin 128, A0 b r h e.val * A1 b k h e.val) * (1 / Real.sqrt 128)

theorem refScore_eq (h0 : ∀ i j k l, a0 i j k l = A0 i j k l) (h1 : ∀ i j k l, a1 i j k l = A1 i j k l) (b h r : ℕ) (c : Fin 3) (k : ℕ) :
    refScore a0 a1 b h r c k = if seesAt r k c then ((realScore A0 A1 b h r k : ℝ) : EReal) else ⊥ := by
  unfold refScore realScore
  split_ifs
  · simp only [h0, h1, ← EReal.coe_mul, sum_coe]
  · rfl

theorem rowScore_eq (h0 : ∀ i j k l, a0 i j k l = A0 i j k l) (h1 : ∀ i j k l, a1 i j k l = A1 i j k l) (b h r k : ℕ) :
    rowScore a0 a1 b h r k = ((realScore A0 A1 b h r k / Real.log 2 : ℝ) : EReal) + seenBias (seesAt r k) := by
  have hl : Real.log 2 ≠ 0 := (Real.log_pos (by norm_num)).ne'
  have hs : Real.sqrt 128 ≠ 0 := (Real.sqrt_pos.2 (by norm_num)).ne'
  unfold rowScore
  refine congrArg (fun a : EReal => a + seenBias (seesAt r k)) ?_
  rw [Finset.sum_congr rfl fun e _ => show _ = ((A0 b r h e.val * A1 b k h e.val * (1 / (Real.sqrt 128 * Real.log 2)) : ℝ) : EReal) by
    rw [Ideal.div_coe (mul_ne_zero hs hl), h0, h1, ← EReal.coe_mul, ← EReal.coe_mul]
    exact congrArg (fun r : ℝ => (r : EReal)) (by ring), sum_coe, ← Finset.sum_mul]
  refine congrArg (fun r : ℝ => (r : EReal)) ?_
  unfold realScore
  field_simp

/-- The kernel's element is the reference's. -/
theorem out_eq_ref (h0 : ∀ i j k l, a0 i j k l = A0 i j k l) (h1 : ∀ i j k l, a1 i j k l = A1 i j k l) (b r h e : ℕ) (hr : r < 2048) :
    rowOut a0 a1 a2 b r h e = mixRow 2048 (refScore a0 a1 b h r) (fun k => a2 b k h e) :=
  mix_eq (by omega) (by omega) _ (fun k => realScore A0 A1 b h r k) (seesAt r) (seesAt_self r)
    (fun k hN hk => seesAt_later hk (by omega)) (fun c k _ => refScore_eq h0 h1 b h r c k) (fun k _ => rowScore_eq h0 h1 b h r k)

end Rows

/-- The reference's stage over the kernel's arguments is the kernel's array. -/
theorem result_eq (m : (ℓ : Loc Cert.Kernel5Ideal.nD Cert.Kernel5Ideal.τ Cert.Kernel5Ideal.sig) → Buf (Elt Ideal) ℓ)
    (hpre : Cert.Pre_Kernel5Ideal_finite_qk_a m) (c : Dev Cert.Kernel5Ideal.nD) :
    Cert.Reference5Ideal.Read.val_main_v64 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2)) = Cert.DilArray.result m c := by
  obtain ⟨p0, p1⟩ := hpre c
  funext i
  refine (Cert.DilRef.result_at _ _ _ i).trans (out_eq_ref _
    (Cert.Latent.real4 _ fun j => Cert.Latent.real_of_lt _ (congrFun p0 j))
    (Cert.Latent.real4 _ fun j => Cert.Latent.real_of_lt _ (congrFun p1 j)) _ _ _ _ (Nat.mod_lt _ (by norm_num))).symm

theorem algebraic : Cert.algebraic_Kernel5Ideal_Reference5Ideal_pre_finite_qk_a := fun m g m' g' hpre hargs =>
  ⟨fun c => Cert.DilArray.result m c,
    (θ_run Cert.Kernel5Ideal.defs _ _).mono (fun r h c => ⟨(h c).1.trans (Cert.DilArray.final m c), (h c).2⟩) (Cert.Kernel5Ideal.Value.run_blocks m g),
    (θ_run Cert.Reference5Ideal.defs _ _).mono (fun r h c => by
      obtain ⟨h0, h1, h2⟩ := hargs c
      have e0 : StableHlo.launchContents m' c (Proc.devRef .tc Cert.Reference5Ideal.main_arg0) = _ := h0
      have e1 : StableHlo.launchContents m' c (Proc.devRef .tc Cert.Reference5Ideal.main_arg1) = _ := h1
      have e2 : StableHlo.launchContents m' c (Proc.devRef .tc Cert.Reference5Ideal.main_arg2) = _ := h2
      refine ⟨(h c).1.trans ?_, (h c).2⟩
      rw [Cert.Reference5Ideal.Read.val_main_v64_eq, e0, e1, e2]
      exact result_eq m hpre c) (Cert.Reference5Ideal.Value.run m' g')⟩

end Cert.DilClaim
end
-- ==== Proof.Norm.lean ====
/-
  The normalisations of a row: the layer normalisation and the root-mean-square normalisation, without gains, as functions
  of a row `f : ℕ → EReal` of `n` elements; and the vector operations by which a kernel forms them, at an index.
-/
module

public import proofs.«01_k».proof.Proof.At
public import Idealize.ShloMosaic.Lib.MatmulPlain
public import Idealize.ShloMosaic.Lib.ValueLayout
public import Idealize.ShloMosaic.Lib.IdealHost
public import Idealize.ShloMosaic.Lib.Pointwise

@[expose] public section

noncomputable section

namespace Cert.Norm

open Idealize.ShloMosaic Cert.At
open scoped BigOperators

/-- The divisors of a mean over 1024 and over 2048 elements, and what is added under the root, as the programs write them. -/
abbrev d1024 : EReal := Ideal.ofBits .f32 0x44800000#32
abbrev d2048 : EReal := Ideal.ofBits .f32 0x45000000#32
abbrev epsRms : EReal := Ideal.ofBits .f32 0x358637BD#32
abbrev epsLayer : EReal := Ideal.ofBits .f32 0x3727C5AC#32

/-- The fourth root of two. -/
def alpha : EReal := ((Real.sqrt (Real.sqrt 2) : ℝ) : EReal)

/-- A row's first `n` elements; zero beyond. -/
def cut (n : ℕ) (f : ℕ → EReal) : ℕ → EReal := fun k => if k < n then f k else 0

theorem cut_of_lt {n : ℕ} {f : ℕ → EReal} {k : ℕ} (h : k < n) : cut n f k = f k := if_pos h

/-- The sum of `n` elements over `d`. -/
def mean (n : ℕ) (d : EReal) (f : ℕ → EReal) : EReal := Ideal.div (∑ k : Fin n, f k.val) d

/-- A layer normalisation's element: the distance from the mean over the root of the mean square distance. -/
def layer (n : ℕ) (d e : EReal) (f : ℕ → EReal) (i : ℕ) : EReal :=
  (f i - mean n d f) * Ideal.rsqrt (mean n d (fun k => (f k - mean n d f) * (f k - mean n d f)) + e)

/-- A root-mean-square normalisation's element. -/
def rms (n : ℕ) (d e : EReal) (f : ℕ → EReal) (i : ℕ) : EReal :=
  f i * Ideal.rsqrt (mean n d (fun k => f k * f k) + e)

theorem mean_congr {n : ℕ} {d : EReal} {f g : ℕ → EReal} (h : ∀ k < n, f k = g k) : mean n d f = mean n d g := by
  unfold mean
  rw [Finset.sum_congr rfl fun k _ => h k.val k.isLt]

theorem layer_congr {n : ℕ} {d e : EReal} {f g : ℕ → EReal} (h : ∀ k < n, f k = g k) {i : ℕ} (hi : i < n) :
    layer n d e f i = layer n d e g i := by
  unfold layer
  rw [h i hi, mean_congr h, mean_congr (f := fun k => (f k - _) * (f k - _)) fun k hk => by rw [h k hk]]

theorem rms_congr {n : ℕ} {d e : EReal} {f g : ℕ → EReal} (h : ∀ k < n, f k = g k) {i : ℕ} (hi : i < n) :
    rms n d e f i = rms n d e g i := by
  unfold rms
  rw [h i hi, mean_congr (f := fun k => f k * f k) fun k hk => by rw [h k hk]]

/-! ## The vector operations -/

/-- A row of an array is a row `g` that is zero beyond the array's columns and agrees with it there. -/
theorem row_ext {A B : ℕ} (x : (⟨2, ![A, B]⟩ : Shape).Idx → EReal) (i : ℕ) (g : ℕ → EReal) (h : ∀ j : Fin B, at2 x i j.val = g j.val)
    (hg : ∀ j, B ≤ j → g j = 0) : at2 x i = g := by
  funext j
  by_cases hj : j < B
  · exact h ⟨j, hj⟩
  · rw [hg j (by omega)]
    exact dif_neg fun hh => hj hh.2

theorem row3_ext {A B C : ℕ} (x : (⟨3, ![A, B, C]⟩ : Shape).Idx → EReal) (i l : ℕ) (g : ℕ → EReal) (h : ∀ j : Fin C, at3 x i l j.val = g j.val)
    (hg : ∀ j, C ≤ j → g j = 0) : at3 x i l = g := by
  funext j
  by_cases hj : j < C
  · exact h ⟨j, hj⟩
  · rw [hg j (by omega)]
    exact dif_neg fun hh => hj hh.2.2

theorem at1_out {A : ℕ} (x : (⟨1, ![A]⟩ : Shape).Idx → EReal) {i : ℕ} (h : A ≤ i) : at1 x i = 0 := dif_neg (by omega)

theorem at2_out {A B : ℕ} (x : (⟨2, ![A, B]⟩ : Shape).Idx → EReal) {i j : ℕ} (h : A ≤ i ∨ B ≤ j) : at2 x i j = 0 := dif_neg (by omega)

theorem at3_out {A B C : ℕ} (x : (⟨3, ![A, B, C]⟩ : Shape).Idx → EReal) {i j k : ℕ} (h : A ≤ i ∨ B ≤ j ∨ C ≤ k) : at3 x i j k = 0 := dif_neg (by omega)

theorem cut_out {n : ℕ} {f : ℕ → EReal} {k : ℕ} (h : n ≤ k) : cut n f k = 0 := if_neg (by omega)

/-- A product of two matrices from a zero start. -/
theorem product {M K N : ℕ} {φ₁ φ₂ : FTy} (x : FVec Ideal ⟨2, ![M, K]⟩ φ₁) (y : FVec Ideal ⟨2, ![K, N]⟩ φ₂) (i : Fin M) (j : Fin N)
    (f g : ℕ → EReal) (hx : ∀ k : Fin K, x (ValueIdx.ix2 i k) = f k.val) (hy : ∀ k : Fin K, y (ValueIdx.ix2 k j) = g k.val) :
    FloatOps.matmul (DotDims.plain M K N) none x y (constant ⟨2, ![M, N]⟩ .f32 0x00000000#32) (ValueIdx.ix2 i j) = ∑ k : Fin K, f k.val * g k.val := by
  rw [Ideal.matmul_plain_apply]
  show Ideal.ofBits .f32 0x00000000#32 + _ = _
  rw [Ideal.ofBits_zero_f32, zero_add]
  exact Finset.sum_congr rfl fun k _ => by rw [hx, hy]

/-- A product of a matrix with the transpose of another, from a zero start. -/
theorem productT {M K N : ℕ} {φ₁ φ₂ : FTy} (x : FVec Ideal ⟨2, ![M, K]⟩ φ₁) (y : FVec Ideal ⟨2, ![N, K]⟩ φ₂) (i : Fin M) (j : Fin N)
    (f g : ℕ → EReal) (hx : ∀ k : Fin K, x (ValueIdx.ix2 i k) = f k.val) (hy : ∀ k : Fin K, y (ValueIdx.ix2 j k) = g k.val) :
    FloatOps.matmul (DotDims.transposedRhs M K N) none x y (constant ⟨2, ![M, N]⟩ .f32 0x00000000#32) (ValueIdx.ix2 i j) = ∑ k : Fin K, f k.val * g k.val := by
  rw [Ideal.matmul_transposedRhs_apply]
  show Ideal.ofBits .f32 0x00000000#32 + _ = _
  rw [Ideal.ofBits_zero_f32, zero_add]
  exact Finset.sum_congr rfl fun k _ => by rw [hx, hy]

section Vectors

variable {R N : ℕ} (x : FVec Ideal ⟨2, ![R, N]⟩ .f32) (h : (⟨2, ![R, N]⟩ : Shape).Reduces [1] ⟨1, ![R]⟩)
  (hφ : FKind.Formats .f32) (hacc : 0x00000000#32 = FKind.add.neutral .f32 hφ)
  (hc : (⟨1, ![R]⟩ : Shape).ShapeCasts ⟨2, ![R, 1]⟩) (hb : (⟨2, ![R, 1]⟩ : Shape).Broadcasts ⟨2, ![R, N]⟩)
  (i : Fin R) (f : ℕ → EReal)

/-- A row's sum, kept as a column. -/
theorem rowSum (hx : ∀ k : Fin N, x (ValueIdx.ix2 i k) = f k.val) (z : Fin 1) :
    shapeCast ⟨2, ![R, 1]⟩ (multiReduction .add [1] ⟨1, ![R]⟩ x 0x00000000#32 h hφ hacc) hc (ValueIdx.ix2 i z) = ∑ k : Fin N, f k.val := by
  have hcast := shapeCast_apply (multiReduction .add [1] ⟨1, ![R]⟩ x 0x00000000#32 h hφ hacc) hc (ValueIdx.ix2 i z) (ValueIdx.ix1 i)
    (by rw [Shape.rowMajor_val_one, Shape.rowMajor_val_two]; show i.val = i.val * 1 + z.val; omega)
  rw [hcast, Ideal.multiReduction_add_single]
  refine Finset.sum_congr rfl fun k _ => ?_
  refine Eq.trans ?_ (hx k)
  congr 1
  funext a
  match a with
  | ⟨0, _⟩ => rfl
  | ⟨1, _⟩ => rfl

/-- A column spread over the rows. -/
theorem spread (y : FVec Ideal ⟨2, ![R, 1]⟩ .f32) (j : Fin N) :
    broadcastTo ⟨2, ![R, N]⟩ y hb (ValueIdx.ix2 i j) = y (ValueIdx.ix2 i (0 : Fin 1)) := by
  refine broadcastTo_apply _ _ _ _ fun a => ?_
  match a with
  | ⟨0, _⟩ =>
    show i.val = if R = 1 then 0 else i.val
    split_ifs with hR
    · subst hR; omega
    · rfl
  | ⟨1, _⟩ => rfl

/-- A mean, kept as a column. -/
theorem meanVec (w : BitVec 32) (hx : ∀ k : Fin N, x (ValueIdx.ix2 i k) = f k.val) (z : Fin 1) :
    divf (shapeCast ⟨2, ![R, 1]⟩ (multiReduction .add [1] ⟨1, ![R]⟩ x 0x00000000#32 h hφ hacc) hc)
        (broadcast ⟨2, ![R, 1]⟩ (Scalar.ofBits .f32 w : Ideal .f32)) (ValueIdx.ix2 i z)
      = mean N (Ideal.ofBits .f32 w) f :=
  congrArg (fun s => Ideal.div s (Ideal.ofBits .f32 w)) (rowSum x h hφ hacc hc i f hx z)

/-- A root-mean-square normalisation. -/
theorem rmsVec (w e : BitVec 32) (hx : ∀ k : Fin N, x (ValueIdx.ix2 i k) = f k.val) (j : Fin N) :
    mulf x (broadcastTo ⟨2, ![R, N]⟩ (rsqrt (addf (divf (shapeCast ⟨2, ![R, 1]⟩ (multiReduction .add [1] ⟨1, ![R]⟩ (mulf x x) 0x00000000#32 h hφ hacc) hc)
        (broadcast ⟨2, ![R, 1]⟩ (Scalar.ofBits .f32 w : Ideal .f32))) (broadcast ⟨2, ![R, 1]⟩ (Scalar.ofBits .f32 e : Ideal .f32)))) hb) (ValueIdx.ix2 i j)
      = rms N (Ideal.ofBits .f32 w) (Ideal.ofBits .f32 e) f j.val := by
  refine congrArg₂ (fun a b : EReal => a * b) (hx j) ((spread hb i _ j).trans ?_)
  exact congrArg (fun s => Ideal.rsqrt (s + Ideal.ofBits .f32 e))
    (meanVec (mulf x x) h hφ hacc hc i (fun k => f k * f k) w (fun k => congrArg₂ (fun a b : EReal => a * b) (hx k) (hx k)) 0)

/-- A layer normalisation from its mean. -/
theorem layerVec_of_mean (w e : BitVec 32) (μ : FVec Ideal ⟨2, ![R, 1]⟩ .f32) (hx : ∀ k : Fin N, x (ValueIdx.ix2 i k) = f k.val)
    (hμ : μ (ValueIdx.ix2 i (0 : Fin 1)) = mean N (Ideal.ofBits .f32 w) f) (j : Fin N) :
    mulf (subf x (broadcastTo ⟨2, ![R, N]⟩ μ hb)) (broadcastTo ⟨2, ![R, N]⟩ (rsqrt (addf (divf (shapeCast ⟨2, ![R, 1]⟩
        (multiReduction .add [1] ⟨1, ![R]⟩ (mulf (subf x (broadcastTo ⟨2, ![R, N]⟩ μ hb)) (subf x (broadcastTo ⟨2, ![R, N]⟩ μ hb))) 0x00000000#32 h hφ hacc) hc)
        (broadcast ⟨2, ![R, 1]⟩ (Scalar.ofBits .f32 w : Ideal .f32))) (broadcast ⟨2, ![R, 1]⟩ (Scalar.ofBits .f32 e : Ideal .f32)))) hb) (ValueIdx.ix2 i j)
      = layer N (Ideal.ofBits .f32 w) (Ideal.ofBits .f32 e) f j.val := by
  have hs : ∀ k : Fin N, subf x (broadcastTo ⟨2, ![R, N]⟩ μ hb) (ValueIdx.ix2 i k) = f k.val - mean N (Ideal.ofBits .f32 w) f :=
    fun k => congrArg₂ (fun a b : EReal => a - b) (hx k) ((spread hb i _ k).trans hμ)
  refine congrArg₂ (fun a b : EReal => a * b) (hs j) ((spread hb i _ j).trans ?_)
  exact congrArg (fun s => Ideal.rsqrt (s + Ideal.ofBits .f32 e))
    (meanVec _ h hφ hacc hc i (fun k => (f k - mean N (Ideal.ofBits .f32 w) f) * (f k - mean N (Ideal.ofBits .f32 w) f)) w
      (fun k => congrArg₂ (fun a b : EReal => a * b) (hs k) (hs k)) 0)

/-- A row of gains or shifts spread over the rows. -/
theorem spreadRow (y : FVec Ideal ⟨2, ![1, N]⟩ .f32) (hb' : (⟨2, ![1, N]⟩ : Shape).Broadcasts ⟨2, ![R, N]⟩) (j : Fin N) :
    broadcastTo ⟨2, ![R, N]⟩ y hb' (ValueIdx.ix2 i j) = y (ValueIdx.ix2 (0 : Fin 1) j) :=
  ValueIdx.broadcastTo_1b_ab_apply _ _ _ _

/-- A row stored with two leading axes of one. -/
theorem row3 (y : FVec Ideal ⟨3, ![1, 1, N]⟩ .f32) (hs : (⟨3, ![1, 1, N]⟩ : Shape).ShapeCasts ⟨2, ![1, N]⟩) (z : Fin 1) (j : Fin N) :
    shapeCast ⟨2, ![1, N]⟩ y hs (ValueIdx.ix2 z j) = at3 (A := 1) (B := 1) (C := N) y 0 0 j.val := by
  have hz : z = 0 := Subsingleton.elim _ _
  subst hz
  refine (shapeCast_apply y hs _ (ValueIdx.ix3 (0 : Fin 1) (0 : Fin 1) j) ?_).trans (at3_eq _ _ rfl rfl rfl).symm
  rw [Shape.rowMajor_val_three, Shape.rowMajor_val_two]
  show (0 * 1 + 0) * N + j.val = 0 * N + j.val
  omega

end Vectors

end Cert.Norm
end
-- ==== Proof.Proj.lean ====
/-
  The input projections of one row, twice: as the mathematics states them (`Row`, `Weights`), and as the second call forms
  them from the arrays it is handed (`Block`), where a rotation is two shifts of the lanes against three tables, the columns
  of the weights are laid out anew and padded with zeros, and a division by a root is a multiplication.  That the two agree
  is proved at the end.
-/
module

public import proofs.«01_k».proof.Proof.Norm

@[expose] public section

noncomputable section

namespace Cert.Proj

open Idealize.ShloMosaic Cert.Norm
open scoped BigOperators

/-- The divisor of a mean over 512 elements, and the one, as the programs write them. -/
abbrev d512 : EReal := Ideal.ofBits .f32 0x44000000#32
abbrev one : EReal := Ideal.ofBits .f32 0x3F800000#32

/-- What the scores of the two attentions are scaled by: the base-two factor over the root of the width. -/
def scaleA : EReal := (((Real.sqrt 128)⁻¹ * (Real.log 2)⁻¹ : ℝ) : EReal)
def scaleB : EReal := (((Real.sqrt 192)⁻¹ * (Real.log 2)⁻¹ : ℝ) : EReal)

/-- A row: its elements, its modulation, and the cosines and sines of its position's angles for the two rotations. -/
structure Row where
  x : ℕ → EReal
  scale : ℕ → EReal
  shift : ℕ → EReal
  ca : ℕ → EReal
  sa : ℕ → EReal
  cb : ℕ → EReal
  sb : ℕ → EReal

structure Weights where
  w : ℕ → ℕ → EReal
  gq : ℕ → EReal
  gkv : ℕ → EReal
  uq : ℕ → ℕ → EReal
  uk : ℕ → ℕ → EReal
  uv : ℕ → ℕ → EReal

/-! ## The mathematics -/

/-- The rotation of the first `2 n` elements by `n` angles; the others stay. -/
def rot (n : ℕ) (c s f : ℕ → EReal) (e : ℕ) : EReal :=
  if e < n then f e * c e - f (n + e) * s e else if e < 2 * n then f e * c (e - n) + f (e - n) * s (e - n) else f e

section Mathematics

variable (R : Row) (W : Weights)

/-- The modulated layer normalisation, and its product with the input weights. -/
def h (k : ℕ) : EReal := layer 2048 d2048 epsLayer R.x k * (one + R.scale k) + R.shift k
def proj (j : ℕ) : EReal := ∑ k : Fin 2048, h R k.val * W.w k.val j

/-- The two latents, normalised. -/
def cq (r : ℕ) : EReal := rms 512 d512 epsRms (fun k => proj R W (3072 + k)) r * W.gq r
def ckv (r : ℕ) : EReal := rms 512 d512 epsRms (fun k => proj R W (3584 + k)) r * W.gkv r

/-- The product of a latent with the up-projections. -/
def up (c : ℕ → EReal) (u : ℕ → ℕ → EReal) (j : ℕ) : EReal := ∑ r : Fin 512, c r.val * u r.val j

/-- The six results. -/
def qa (j : ℕ) : EReal := rot 16 R.ca R.sa (fun e => proj R W (j / 128 * 128 + e)) (j % 128) * scaleA
def ka (j : ℕ) : EReal := rot 16 R.ca R.sa (fun e => proj R W (1024 + j / 128 * 128 + e)) (j % 128)
def va (j : ℕ) : EReal := proj R W (2048 + j)
def qb (j : ℕ) : EReal :=
  (if j % 256 < 128 then up (cq R W) W.uq (j / 256 * 192 + j % 256)
    else if j % 256 < 192 then rot 32 R.cb R.sb (fun e => up (cq R W) W.uq (j / 256 * 192 + 128 + e)) (j % 256 - 128) else 0) * scaleB
def kb (j : ℕ) : EReal :=
  if j % 256 < 128 then up (ckv R W) W.uk (j / 256 * 128 + j % 256)
    else if j % 256 < 192 then rot 32 R.cb R.sb (fun e => proj R W (4096 + e)) (j % 256 - 128) else 0
def vb (j : ℕ) : EReal := up (ckv R W) W.uv j

end Mathematics

/-! ## The call's own form -/

/-- A row of what the call is handed: the row, the tables of its position by lanes, and the weights. -/
structure Block where
  x : ℕ → EReal
  scale : ℕ → EReal
  shift : ℕ → EReal
  w : ℕ → ℕ → EReal
  wv : ℕ → ℕ → EReal
  uq : ℕ → ℕ → EReal
  uk : ℕ → ℕ → EReal
  uv : ℕ → ℕ → EReal
  gq : ℕ → EReal
  gkv : ℕ → EReal
  ca : ℕ → EReal
  la : ℕ → EReal
  ha : ℕ → EReal
  cb : ℕ → EReal
  lb : ℕ → EReal
  hb : ℕ → EReal

/-- The rotation over 128 lanes by shifts of `n` lanes. -/
def lanes (n : ℕ) (c lo hi f : ℕ → EReal) (e : ℕ) : EReal :=
  f e * c e + f ((e + n) % 128) * lo e + f ((e + 128 - n) % 128) * hi e

namespace Block

variable (B : Block)

def h (k : ℕ) : EReal := layer 2048 d2048 epsLayer B.x k * (one + B.scale k) + B.shift k
def proj (j : ℕ) : EReal := ∑ k : Fin 2048, B.h k.val * B.w k.val j
def cq (r : ℕ) : EReal := rms 512 d512 epsRms (fun k => B.proj (2048 + k)) r * B.gq r
def ckv (r : ℕ) : EReal := rms 512 d512 epsRms (fun k => B.proj (2560 + k)) r * B.gkv r
def kr (e : ℕ) : EReal := lanes 32 B.cb B.lb B.hb (fun e => B.proj (3072 + e)) e
def qa (j : ℕ) : EReal := lanes 16 B.ca B.la B.ha (fun e => B.proj (j / 128 * 128 + e)) (j % 128) * scaleA
def ka (j : ℕ) : EReal := lanes 16 B.ca B.la B.ha (fun e => B.proj (1024 + j / 128 * 128 + e)) (j % 128)
def va (j : ℕ) : EReal := ∑ k : Fin 2048, B.wv j k.val * B.h k.val
def qb (j : ℕ) : EReal :=
  (if j % 256 < 128 then up B.cq B.uq (j / 256 * 256 + j % 256)
    else lanes 32 B.cb B.lb B.hb (fun e => up B.cq B.uq (j / 256 * 256 + 128 + e)) (j % 256 - 128)) * scaleB
def kb (j : ℕ) : EReal := if j % 256 < 128 then up B.ckv B.uk (j / 256 * 128 + j % 256) else B.kr (j % 256 - 128)
def vb (j : ℕ) : EReal := ∑ r : Fin 512, B.uv j r.val * B.ckv r.val

end Block

/-! ## The two agree -/

/-- The three tables of a rotation by `n` angles. -/
def tableC (n : ℕ) (c : ℕ → EReal) (e : ℕ) : EReal := if e < n then c e else if e < 2 * n then c (e - n) else one
def tableL (n : ℕ) (s : ℕ → EReal) (e : ℕ) : EReal := if e < n then -s e else 0
def tableH (n : ℕ) (s : ℕ → EReal) (e : ℕ) : EReal := if e < n then 0 else if e < 2 * n then s (e - n) else 0

/-- What the call is handed of a row and the weights. -/
def block (R : Row) (W : Weights) : Block where
  x := R.x
  scale := R.scale
  shift := R.shift
  w := fun k j => if j < 2048 then W.w k j else if j < 3136 then W.w k (1024 + j) else 0
  wv := fun j k => if j < 1024 then W.w k (2048 + j) else 0
  uq := fun r j => if j < 2048 then (if j % 256 < 192 then W.uq r (j / 256 * 192 + j % 256) else 0) else 0
  uk := W.uk
  uv := fun j r => W.uv r j
  gq := W.gq
  gkv := W.gkv
  ca := cut 128 (tableC 16 R.ca)
  la := cut 128 (tableL 16 R.sa)
  ha := cut 128 (tableH 16 R.sa)
  cb := cut 128 (tableC 32 R.cb)
  lb := cut 128 (tableL 32 R.sb)
  hb := cut 128 (tableH 32 R.sb)

/-- A rotation over the lanes by the tables is the rotation. -/
theorem lanes_eq (n : ℕ) (hn : 2 * n ≤ 128) (c s f g : ℕ → EReal) (e : ℕ) (he : e < 128) (hfg : ∀ k < 128, f k = g k) :
    lanes n (cut 128 (tableC n c)) (cut 128 (tableL n s)) (cut 128 (tableH n s)) f e = rot n c s g e := by
  unfold lanes rot
  rw [cut_of_lt he, cut_of_lt he, cut_of_lt he]
  unfold tableC tableL tableH
  by_cases h1 : e < n
  · rw [if_pos h1, if_pos h1, if_pos h1, if_pos h1, mul_zero, add_zero, show (e + n) % 128 = n + e by rw [Nat.mod_eq_of_lt (by omega)]; omega,
      mul_neg, hfg e he, hfg (n + e) (by omega)]
    rfl
  · rw [if_neg h1, if_neg h1, if_neg h1, if_neg h1, mul_zero, add_zero]
    by_cases h2 : e < 2 * n
    · rw [if_pos h2, if_pos h2, if_pos h2, show (e + 128 - n) % 128 = e - n by
        rw [show e + 128 - n = e - n + 128 by omega, Nat.add_mod_right, Nat.mod_eq_of_lt (by omega)], hfg e he, hfg (e - n) (by omega)]
    · rw [if_neg h2, if_neg h2, if_neg h2, mul_zero, add_zero, show one = 1 from Ideal.ofBits_one_f32, mul_one, hfg e he]

/-- A rotation of nothing but zeros beyond `2 n` is zero there. -/
theorem rot_zero (n : ℕ) (c s f : ℕ → EReal) (e : ℕ) (h : 2 * n ≤ e) (hf : f e = 0) : rot n c s f e = 0 := by
  unfold rot
  rw [if_neg (show ¬ e < n by omega), if_neg (show ¬ e < 2 * n by omega), hf]

theorem rot_congr (n : ℕ) (c s f g : ℕ → EReal) (e : ℕ) (h : e < 2 * n) (hf : ∀ k < 2 * n, f k = g k) : rot n c s f e = rot n c s g e := by
  unfold rot
  by_cases h1 : e < n
  · rw [if_pos h1, if_pos h1, hf e h, hf (n + e) (by omega)]
  · rw [if_neg h1, if_neg h1, if_pos h, if_pos h, hf e h, hf (e - n) (by omega)]

theorem up_congr (c d : ℕ → EReal) (u v : ℕ → ℕ → EReal) (j l : ℕ) (hc : ∀ r < 512, c r = d r) (hu : ∀ r < 512, u r j = v r l) : up c u j = up d v l := by
  unfold up
  exact Finset.sum_congr rfl fun r _ => by rw [hc r.val r.isLt, hu r.val r.isLt]

theorem up_zero (c : ℕ → EReal) (u : ℕ → ℕ → EReal) (j : ℕ) (hu : ∀ r < 512, u r j = 0) : up c u j = 0 := by
  unfold up
  exact Finset.sum_eq_zero fun r _ => by rw [hu r.val r.isLt, mul_zero]

section Agree

variable (R : Row) (W : Weights)

theorem proj_low (j : ℕ) (hj : j < 2048) : (block R W).proj j = proj R W j :=
  Finset.sum_congr rfl fun k _ => congrArg (fun a => h R k.val * a) (if_pos hj)

theorem proj_high (j : ℕ) (hj : 2048 ≤ j) (hj' : j < 3136) : (block R W).proj j = proj R W (1024 + j) :=
  Finset.sum_congr rfl fun k _ => congrArg (fun a => h R k.val * a) ((if_neg (by omega)).trans (if_pos hj'))

theorem proj_out (j : ℕ) (hj : 3136 ≤ j) : (block R W).proj j = 0 :=
  Finset.sum_eq_zero fun k _ => by
    have e : (block R W).w k.val j = 0 := (if_neg (by omega)).trans (if_neg (by omega))
    rw [e, mul_zero]

theorem qa_eq (j : ℕ) (hj : j < 1024) : (block R W).qa j = qa R W j := by
  unfold Block.qa qa
  refine congrArg (fun a : EReal => a * scaleA) ?_
  exact lanes_eq 16 (by norm_num) _ _ _ _ _ (Nat.mod_lt _ (by norm_num)) fun k hk => proj_low R W _ (by omega)

theorem ka_eq (j : ℕ) (hj : j < 1024) : (block R W).ka j = ka R W j := by
  unfold Block.ka ka
  exact lanes_eq 16 (by norm_num) _ _ _ _ _ (Nat.mod_lt _ (by norm_num)) fun k hk => proj_low R W _ (by omega)

theorem va_eq (j : ℕ) (hj : j < 1024) : (block R W).va j = va R W j := by
  unfold Block.va va proj
  refine Finset.sum_congr rfl fun k _ => ?_
  rw [mul_comm]
  exact congrArg (fun a => h R k.val * a) (if_pos hj)

theorem cq_eq (r : ℕ) (hr : r < 512) : (block R W).cq r = cq R W r := by
  unfold Block.cq cq
  refine congrArg (fun a : EReal => a * W.gq r) ?_
  refine rms_congr (fun k hk => ?_) hr
  rw [proj_high R W _ (by omega) (by omega), show 1024 + (2048 + k) = 3072 + k by omega]

theorem ckv_eq (r : ℕ) (hr : r < 512) : (block R W).ckv r = ckv R W r := by
  unfold Block.ckv ckv
  refine congrArg (fun a : EReal => a * W.gkv r) ?_
  refine rms_congr (fun k hk => ?_) hr
  rw [proj_high R W _ (by omega) (by omega), show 1024 + (2560 + k) = 3584 + k by omega]

theorem uq_in (r j : ℕ) (hj : j < 2048) (h : j % 256 < 192) : (block R W).uq r j = W.uq r (j / 256 * 192 + j % 256) :=
  (if_pos hj).trans (if_pos h)

theorem uq_out (r j : ℕ) (h : ¬ j % 256 < 192) : (block R W).uq r j = 0 := by
  show (if j < 2048 then (if j % 256 < 192 then W.uq r (j / 256 * 192 + j % 256) else 0) else 0) = 0
  rw [if_neg h, ite_self]

theorem qb_eq (j : ℕ) (hj : j < 2048) : (block R W).qb j = qb R W j := by
  unfold Block.qb qb
  refine congrArg (fun a : EReal => a * scaleB) ?_
  by_cases h1 : j % 256 < 128
  · rw [if_pos h1, if_pos h1]
    refine up_congr _ _ _ _ _ _ (cq_eq R W) fun r _ => ?_
    rw [uq_in R W r _ (by omega) (by omega), show (j / 256 * 256 + j % 256) / 256 = j / 256 by omega, show (j / 256 * 256 + j % 256) % 256 = j % 256 by omega]
  · rw [if_neg h1, if_neg h1]
    refine (lanes_eq 32 (by norm_num) _ _ _ _ _ (by omega) fun _ _ => rfl).trans ?_
    by_cases h2 : j % 256 < 192
    · rw [if_pos h2]
      refine rot_congr 32 _ _ _ _ _ (by omega) fun k hk => up_congr _ _ _ _ _ _ (cq_eq R W) fun r _ => ?_
      rw [uq_in R W r _ (by omega) (by omega), show (j / 256 * 256 + 128 + k) / 256 = j / 256 by omega,
        show (j / 256 * 256 + 128 + k) % 256 = 128 + k by omega, ← Nat.add_assoc]
    · rw [if_neg h2]
      exact rot_zero 32 _ _ _ _ (by omega) (up_zero _ _ _ fun r _ => uq_out R W r _ (by omega))

theorem kb_eq (j : ℕ) (hj : j < 2048) : (block R W).kb j = kb R W j := by
  unfold Block.kb kb Block.kr
  by_cases h1 : j % 256 < 128
  · rw [if_pos h1, if_pos h1]
    exact up_congr _ _ _ _ _ _ (ckv_eq R W) fun _ _ => rfl
  · rw [if_neg h1, if_neg h1]
    refine (lanes_eq 32 (by norm_num) _ _ _ _ _ (by omega) fun _ _ => rfl).trans ?_
    by_cases h2 : j % 256 < 192
    · rw [if_pos h2]
      refine rot_congr 32 _ _ _ _ _ (by omega) fun k hk => ?_
      rw [proj_high R W _ (by omega) (by omega), show 1024 + (3072 + k) = 4096 + k by omega]
    · rw [if_neg h2]
      exact rot_zero 32 _ _ _ _ (by omega) (proj_out R W _ (by omega))

theorem vb_eq (j : ℕ) : (block R W).vb j = vb R W j := by
  unfold Block.vb vb up
  exact Finset.sum_congr rfl fun r _ => by rw [mul_comm, ckv_eq R W r.val r.isLt]; rfl

end Agree

end Cert.Proj
end
-- ==== Proof.InFrameIdeal.lean ====
/-
  The run of the input projections, idealized: what each window holds after the body, the body's triple, and the launch.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel2Ideal.In

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## @main up to the region -/

/-- The contents of core `c`'s buffers when the call begins: those after the host code. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- The host code runs, and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The host code leaves `main_arg0` alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host code leaves `main_arg1` alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host code leaves `main_arg2` alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host code leaves `main_arg3` alone. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host code leaves `main_arg4` alone. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host code leaves `main_arg5` alone. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host code leaves `main_arg6` alone. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The host code leaves `main_arg7` alone. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read from its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 1320000 in
/-- A run that keeps every buffer outside the call leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S512x2048 := Rect.unit (s := S512x2048) ![0, 0] S512x2048.size inb_S512x2048_S512x2048_0_0
abbrev r0_1 : Rect S1x1x2048 := Rect.unit (s := S1x1x2048) ![0, 0, 0] S1x1x2048.size inb_S1x1x2048_S1x1x2048_0_0_0
abbrev r0_2 : Rect S512x128 := Rect.unit (s := S512x128) ![0, 0] S512x128.size inb_S512x128_S512x128_0_0
abbrev r0_3 : Rect S2048x3200 := Rect.unit (s := S2048x3200) ![0, 0] S2048x512.size inb_S2048x3200_S2048x512_0_0
abbrev r0_4 : Rect S512x1024 := Rect.unit (s := S512x1024) ![0, 0] S512x128.size inb_S512x1024_S512x128_0_0
abbrev r0_5 : Rect S512x1024 := Rect.unit (s := S512x1024) ![0, 128] S512x128.size inb_S512x1024_S512x128_0_128
abbrev r0_6 : Rect S512x1024 := Rect.unit (s := S512x1024) ![0, 256] S512x128.size inb_S512x1024_S512x128_0_256
abbrev r0_7 : Rect S512x1024 := Rect.unit (s := S512x1024) ![0, 384] S512x128.size inb_S512x1024_S512x128_0_384
abbrev r0_8 : Rect S2048x3200 := Rect.unit (s := S2048x3200) ![0, 512] S2048x512.size inb_S2048x3200_S2048x512_0_512
abbrev r0_9 : Rect S512x1024 := Rect.unit (s := S512x1024) ![0, 512] S512x128.size inb_S512x1024_S512x128_0_512
abbrev r0_10 : Rect S512x1024 := Rect.unit (s := S512x1024) ![0, 640] S512x128.size inb_S512x1024_S512x128_0_640
abbrev r0_11 : Rect S512x1024 := Rect.unit (s := S512x1024) ![0, 768] S512x128.size inb_S512x1024_S512x128_0_768
abbrev r0_12 : Rect S512x1024 := Rect.unit (s := S512x1024) ![0, 896] S512x128.size inb_S512x1024_S512x128_0_896
abbrev r0_13 : Rect S2048x3200 := Rect.unit (s := S2048x3200) ![0, 1024] S2048x512.size inb_S2048x3200_S2048x512_0_1024
abbrev r0_14 : Rect S2048x3200 := Rect.unit (s := S2048x3200) ![0, 1536] S2048x512.size inb_S2048x3200_S2048x512_0_1536
abbrev r0_15 : Rect S1024x2048 := Rect.unit (s := S1024x2048) ![0, 0] S1024x2048.size inb_S1024x2048_S1024x2048_0_0
abbrev r0_16 : Rect S1024x512 := Rect.unit (s := S1024x512) ![0, 0] S1024x512.size inb_S1024x512_S1024x512_0_0
abbrev r0_17 : Rect S2048x3200 := Rect.unit (s := S2048x3200) ![0, 2048] S2048x512.size inb_S2048x3200_S2048x512_0_2048
abbrev r0_18 : Rect S1x512 := Rect.unit (s := S1x512) ![0, 0] S1x512.size inb_S1x512_S1x512_0_0
abbrev r0_19 : Rect S2048x3200 := Rect.unit (s := S2048x3200) ![0, 2560] S2048x512.size inb_S2048x3200_S2048x512_0_2560
abbrev r0_20 : Rect S2048x3200 := Rect.unit (s := S2048x3200) ![0, 3072] S2048x128.size inb_S2048x3200_S2048x128_0_3072
abbrev r0_21 : Rect S512x2048 := Rect.unit (s := S512x2048) ![0, 0] S512x512.size inb_S512x2048_S512x512_0_0
abbrev r0_22 : Rect S512x2048 := Rect.unit (s := S512x2048) ![0, 0] S512x128.size inb_S512x2048_S512x128_0_0
abbrev r0_23 : Rect S512x2048 := Rect.unit (s := S512x2048) ![0, 128] S512x128.size inb_S512x2048_S512x128_0_128
abbrev r0_24 : Rect S512x2048 := Rect.unit (s := S512x2048) ![0, 256] S512x128.size inb_S512x2048_S512x128_0_256
abbrev r0_25 : Rect S512x2048 := Rect.unit (s := S512x2048) ![0, 384] S512x128.size inb_S512x2048_S512x128_0_384
abbrev r0_26 : Rect S512x2048 := Rect.unit (s := S512x2048) ![0, 512] S512x512.size inb_S512x2048_S512x512_0_512
abbrev r0_27 : Rect S512x2048 := Rect.unit (s := S512x2048) ![0, 512] S512x128.size inb_S512x2048_S512x128_0_512
abbrev r0_28 : Rect S512x2048 := Rect.unit (s := S512x2048) ![0, 640] S512x128.size inb_S512x2048_S512x128_0_640
abbrev r0_29 : Rect S512x2048 := Rect.unit (s := S512x2048) ![0, 768] S512x128.size inb_S512x2048_S512x128_0_768
abbrev r0_30 : Rect S512x2048 := Rect.unit (s := S512x2048) ![0, 896] S512x128.size inb_S512x2048_S512x128_0_896
abbrev r0_31 : Rect S512x2048 := Rect.unit (s := S512x2048) ![0, 1024] S512x512.size inb_S512x2048_S512x512_0_1024
abbrev r0_32 : Rect S512x2048 := Rect.unit (s := S512x2048) ![0, 1024] S512x128.size inb_S512x2048_S512x128_0_1024
abbrev r0_33 : Rect S512x2048 := Rect.unit (s := S512x2048) ![0, 1152] S512x128.size inb_S512x2048_S512x128_0_1152
abbrev r0_34 : Rect S512x2048 := Rect.unit (s := S512x2048) ![0, 1280] S512x128.size inb_S512x2048_S512x128_0_1280
abbrev r0_35 : Rect S512x2048 := Rect.unit (s := S512x2048) ![0, 1408] S512x128.size inb_S512x2048_S512x128_0_1408
abbrev r0_36 : Rect S512x2048 := Rect.unit (s := S512x2048) ![0, 1536] S512x512.size inb_S512x2048_S512x512_0_1536
abbrev r0_37 : Rect S512x2048 := Rect.unit (s := S512x2048) ![0, 1536] S512x128.size inb_S512x2048_S512x128_0_1536
abbrev r0_38 : Rect S512x2048 := Rect.unit (s := S512x2048) ![0, 1664] S512x128.size inb_S512x2048_S512x128_0_1664
abbrev r0_39 : Rect S512x2048 := Rect.unit (s := S512x2048) ![0, 1792] S512x128.size inb_S512x2048_S512x128_0_1792
abbrev r0_40 : Rect S512x2048 := Rect.unit (s := S512x2048) ![0, 1920] S512x128.size inb_S512x2048_S512x128_0_1920
abbrev r0_41 : Rect S512x1024 := Rect.unit (s := S512x1024) ![0, 0] S512x512.size inb_S512x1024_S512x512_0_0
abbrev r0_42 : Rect S512x1024 := Rect.unit (s := S512x1024) ![0, 512] S512x512.size inb_S512x1024_S512x512_0_512

/-! ## What the body leaves in each output window's buffer -/

/-! ### Values that several stores use -/

/-- The normed and modulated rows. -/
def normed (x0 : Vec F S512x2048 .f32) (x1 : Vec F S1x1x2048 .f32) (x2 : Vec F S1x1x2048 .f32) : FVec F S512x2048 .bf16 :=
  k0_pay2 (View.ld x0 r0_0) (View.ld x1 r0_1) (View.ld x2 r0_1)
/-- The first rotary tables of the block. -/
def cosA (x10 : Vec F S512x128 .f32) : FVec F S512x128 .f32 :=
  k0_pay3 (View.ld x10 r0_2)
def sinLoA (x11 : Vec F S512x128 .f32) : FVec F S512x128 .f32 :=
  k0_pay4 (View.ld x11 r0_2)
def sinHiA (x12 : Vec F S512x128 .f32) : FVec F S512x128 .f32 :=
  k0_pay5 (View.ld x12 r0_2)
/-- The second rotary tables of the block. -/
def cosB (x13 : Vec F S512x128 .f32) : FVec F S512x128 .f32 :=
  k0_pay6 (View.ld x13 r0_2)
def sinLoB (x14 : Vec F S512x128 .f32) : FVec F S512x128 .f32 :=
  k0_pay7 (View.ld x14 r0_2)
def sinHiB (x15 : Vec F S512x128 .f32) : FVec F S512x128 .f32 :=
  k0_pay8 (View.ld x15 r0_2)
/-- The projections of two later chunks of columns. -/
def accQ (x0 : Vec F S512x2048 .f32) (x1 : Vec F S1x1x2048 .f32) (x2 : Vec F S1x1x2048 .f32) (x3 : Vec F S2048x3200 .bf16) : FVec F S512x512 .f32 :=
  k0_pay15 (normed x0 x1 x2) (View.ld x3 r0_8)
def accK (x0 : Vec F S512x2048 .f32) (x1 : Vec F S1x1x2048 .f32) (x2 : Vec F S1x1x2048 .f32) (x3 : Vec F S2048x3200 .bf16) : FVec F S512x512 .f32 :=
  k0_pay21 (normed x0 x1 x2) (View.ld x3 r0_13)
def accK2 (x0 : Vec F S512x2048 .f32) (x1 : Vec F S1x1x2048 .f32) (x2 : Vec F S1x1x2048 .f32) (x3 : Vec F S2048x3200 .bf16) : FVec F S512x512 .f32 :=
  k0_pay27 (normed x0 x1 x2) (View.ld x3 r0_14)
/-- The normed latents. -/
def latentQ (x0 : Vec F S512x2048 .f32) (x1 : Vec F S1x1x2048 .f32) (x2 : Vec F S1x1x2048 .f32) (x3 : Vec F S2048x3200 .bf16) (x8 : Vec F S1x512 .f32) : FVec F S512x512 .bf16 :=
  k0_pay37 (normed x0 x1 x2) (View.ld x3 r0_17) (View.ld x8 r0_18)
def latentKV (x0 : Vec F S512x2048 .f32) (x1 : Vec F S1x1x2048 .f32) (x2 : Vec F S1x1x2048 .f32) (x3 : Vec F S2048x3200 .bf16) (x9 : Vec F S1x512 .f32) : FVec F S512x512 .bf16 :=
  k0_pay38 (normed x0 x1 x2) (View.ld x3 r0_19) (View.ld x9 r0_18)
/-- The rotated key columns shared by the heads. -/
def keyRot (x0 : Vec F S512x2048 .f32) (x1 : Vec F S1x1x2048 .f32) (x2 : Vec F S1x1x2048 .f32) (x3 : Vec F S2048x3200 .bf16) (x13 : Vec F S512x128 .f32) (x14 : Vec F S512x128 .f32) (x15 : Vec F S512x128 .f32) : FVec F S512x128 .bf16 :=
  k0_pay39 (normed x0 x1 x2) (cosB x13) (sinLoB x14) (sinHiB x15) (View.ld x3 r0_20)

/-- What the body stores in window 16, the last store first. -/
def out0_16 (x0 : Vec F S512x2048 .f32) (x1 : Vec F S1x1x2048 .f32) (x2 : Vec F S1x1x2048 .f32) (x3 : Vec F S2048x3200 .bf16) (x10 : Vec F S512x128 .f32) (x11 : Vec F S512x128 .f32) (x12 : Vec F S512x128 .f32) : Vec F S512x1024 .bf16 :=
  View.canon [⟨r0_12, k0_pay20 (cosA x10) (sinLoA x11) (sinHiA x12) (accQ x0 x1 x2 x3)⟩,
    ⟨r0_11, k0_pay19 (cosA x10) (sinLoA x11) (sinHiA x12) (accQ x0 x1 x2 x3)⟩,
    ⟨r0_10, k0_pay18 (k0_pay17 (normed x0 x1 x2) (cosA x10) (sinLoA x11) (sinHiA x12) (View.ld x3 r0_8))⟩,
    ⟨r0_9, k0_pay16 (normed x0 x1 x2) (cosA x10) (sinLoA x11) (sinHiA x12) (View.ld x3 r0_8)⟩,
    ⟨r0_7, k0_pay14 (cosA x10) (sinLoA x11) (sinHiA x12) (k0_pay9 (normed x0 x1 x2) (View.ld x3 r0_3))⟩,
    ⟨r0_6, k0_pay13 (k0_pay12 (normed x0 x1 x2) (cosA x10) (sinLoA x11) (sinHiA x12) (View.ld x3 r0_3))⟩,
    ⟨r0_5, k0_pay11 (normed x0 x1 x2) (cosA x10) (sinLoA x11) (sinHiA x12) (View.ld x3 r0_3)⟩,
    ⟨r0_4, k0_pay10 (normed x0 x1 x2) (cosA x10) (sinLoA x11) (sinHiA x12) (View.ld x3 r0_3)⟩]

/-- The stores cover the window. -/
theorem cover0_16 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_12, p0⟩, ⟨r0_11, p1⟩, ⟨r0_10, p2⟩, ⟨r0_9, p3⟩, ⟨r0_7, p4⟩, ⟨r0_6, p5⟩, ⟨r0_5, p6⟩, ⟨r0_4, p7⟩] : List (View.Piece (Elt F) S512x1024 .bf16)), y ∈ pc.1.set :=
  View.cover_of_tiled [⟨r0_12, p0⟩, ⟨r0_11, p1⟩, ⟨r0_10, p2⟩, ⟨r0_9, p3⟩, ⟨r0_7, p4⟩, ⟨r0_6, p5⟩, ⟨r0_5, p6⟩, ⟨r0_4, p7⟩] S512x128.size (by rfl) y

/-- What the body stores in window 17, the last store first. -/
def out0_17 (x0 : Vec F S512x2048 .f32) (x1 : Vec F S1x1x2048 .f32) (x2 : Vec F S1x1x2048 .f32) (x3 : Vec F S2048x3200 .bf16) (x10 : Vec F S512x128 .f32) (x11 : Vec F S512x128 .f32) (x12 : Vec F S512x128 .f32) : Vec F S512x1024 .bf16 :=
  View.canon [⟨r0_12, k0_pay34 (cosA x10) (sinLoA x11) (sinHiA x12) (accK2 x0 x1 x2 x3)⟩,
    ⟨r0_11, k0_pay33 (cosA x10) (sinLoA x11) (sinHiA x12) (accK2 x0 x1 x2 x3)⟩,
    ⟨r0_10, k0_pay32 (cosA x10) (sinLoA x11) (sinHiA x12) (accK2 x0 x1 x2 x3)⟩,
    ⟨r0_9, k0_pay31 (sinLoA x11) (sinHiA x12) (k0_pay28 (normed x0 x1 x2) (View.ld x3 r0_14)) (k0_pay29 (normed x0 x1 x2) (cosA x10) (View.ld x3 r0_14)) (k0_pay30 (normed x0 x1 x2) (View.ld x3 r0_14))⟩,
    ⟨r0_7, k0_pay26 (cosA x10) (sinLoA x11) (sinHiA x12) (accK x0 x1 x2 x3)⟩,
    ⟨r0_6, k0_pay25 (cosA x10) (sinLoA x11) (sinHiA x12) (accK x0 x1 x2 x3)⟩,
    ⟨r0_5, k0_pay24 (cosA x10) (sinLoA x11) (sinHiA x12) (accK x0 x1 x2 x3)⟩,
    ⟨r0_4, k0_pay23 (k0_pay22 (normed x0 x1 x2) (cosA x10) (sinLoA x11) (sinHiA x12) (View.ld x3 r0_13))⟩]

/-- The stores cover the window. -/
theorem cover0_17 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_12, p0⟩, ⟨r0_11, p1⟩, ⟨r0_10, p2⟩, ⟨r0_9, p3⟩, ⟨r0_7, p4⟩, ⟨r0_6, p5⟩, ⟨r0_5, p6⟩, ⟨r0_4, p7⟩] : List (View.Piece (Elt F) S512x1024 .bf16)), y ∈ pc.1.set :=
  View.cover_of_tiled [⟨r0_12, p0⟩, ⟨r0_11, p1⟩, ⟨r0_10, p2⟩, ⟨r0_9, p3⟩, ⟨r0_7, p4⟩, ⟨r0_6, p5⟩, ⟨r0_5, p6⟩, ⟨r0_4, p7⟩] S512x128.size (by rfl) y

/-- What the body stores in window 18, the last store first. -/
def out0_18 (x0 : Vec F S512x2048 .f32) (x1 : Vec F S1x1x2048 .f32) (x2 : Vec F S1x1x2048 .f32) (x4 : Vec F S1024x2048 .bf16) : Vec F S1024x512 .bf16 :=
  View.canon [⟨r0_16, k0_pay36 (normed x0 x1 x2) (k0_pay35 (View.ld x4 r0_15))⟩]

/-- The stores cover the window. -/
theorem cover0_18 (p0 : Vec F S1024x512 .bf16) (y : S1024x512.Idx) :
    ∃ pc ∈ ([⟨r0_16, p0⟩] : List (View.Piece (Elt F) S1024x512 .bf16)), y ∈ pc.1.set :=
  View.cover_of_tiled [⟨r0_16, p0⟩] S1024x512.size (by rfl) y

/-- What the body stores in window 19, the last store first. -/
def out0_19 (x0 : Vec F S512x2048 .f32) (x1 : Vec F S1x1x2048 .f32) (x2 : Vec F S1x1x2048 .f32) (x3 : Vec F S2048x3200 .bf16) (x5 : Vec F S512x2048 .bf16) (x8 : Vec F S1x512 .f32) (x13 : Vec F S512x128 .f32) (x14 : Vec F S512x128 .f32) (x15 : Vec F S512x128 .f32) : Vec F S512x2048 .bf16 :=
  View.canon [⟨r0_40, k0_pay67 (sinLoB x14) (sinHiB x15) (k0_pay64 (latentQ x0 x1 x2 x3 x8) (View.ld x5 r0_36)) (k0_pay66 (cosB x13) (latentQ x0 x1 x2 x3 x8) (View.ld x5 r0_36)) 96#32⟩,
    ⟨r0_39, k0_pay65 (latentQ x0 x1 x2 x3 x8) (View.ld x5 r0_36)⟩,
    ⟨r0_38, k0_pay63 (cosB x13) (sinLoB x14) (sinHiB x15) (latentQ x0 x1 x2 x3 x8) (View.ld x5 r0_36)⟩,
    ⟨r0_37, k0_pay62 (latentQ x0 x1 x2 x3 x8) (View.ld x5 r0_36)⟩,
    ⟨r0_35, k0_pay60 (sinLoB x14) (sinHiB x15) (k0_pay57 (latentQ x0 x1 x2 x3 x8) (View.ld x5 r0_31)) (k0_pay59 (cosB x13) (latentQ x0 x1 x2 x3 x8) (View.ld x5 r0_31)) 96#32⟩,
    ⟨r0_34, k0_pay58 (latentQ x0 x1 x2 x3 x8) (View.ld x5 r0_31)⟩,
    ⟨r0_33, k0_pay56 (cosB x13) (sinLoB x14) (sinHiB x15) (latentQ x0 x1 x2 x3 x8) (View.ld x5 r0_31)⟩,
    ⟨r0_32, k0_pay55 (latentQ x0 x1 x2 x3 x8) (View.ld x5 r0_31)⟩,
    ⟨r0_30, k0_pay53 (sinLoB x14) (sinHiB x15) (k0_pay50 (latentQ x0 x1 x2 x3 x8) (View.ld x5 r0_26)) (k0_pay52 (cosB x13) (latentQ x0 x1 x2 x3 x8) (View.ld x5 r0_26)) 96#32⟩,
    ⟨r0_29, k0_pay51 (latentQ x0 x1 x2 x3 x8) (View.ld x5 r0_26)⟩,
    ⟨r0_28, k0_pay49 (cosB x13) (sinLoB x14) (sinHiB x15) (latentQ x0 x1 x2 x3 x8) (View.ld x5 r0_26)⟩,
    ⟨r0_27, k0_pay48 (latentQ x0 x1 x2 x3 x8) (View.ld x5 r0_26)⟩,
    ⟨r0_25, k0_pay46 (sinLoB x14) (sinHiB x15) (k0_pay43 (latentQ x0 x1 x2 x3 x8) (View.ld x5 r0_21)) (k0_pay45 (cosB x13) (latentQ x0 x1 x2 x3 x8) (View.ld x5 r0_21)) 96#32⟩,
    ⟨r0_24, k0_pay44 (latentQ x0 x1 x2 x3 x8) (View.ld x5 r0_21)⟩,
    ⟨r0_23, k0_pay42 (cosB x13) (sinLoB x14) (sinHiB x15) (latentQ x0 x1 x2 x3 x8) (View.ld x5 r0_21)⟩,
    ⟨r0_22, k0_pay41 (latentQ x0 x1 x2 x3 x8) (View.ld x5 r0_21)⟩]

/-- The stores cover the window. -/
theorem cover0_19 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (p12 : Vec F S512x128 .bf16) (p13 : Vec F S512x128 .bf16) (p14 : Vec F S512x128 .bf16) (p15 : Vec F S512x128 .bf16) (y : S512x2048.Idx) :
    ∃ pc ∈ ([⟨r0_40, p0⟩, ⟨r0_39, p1⟩, ⟨r0_38, p2⟩, ⟨r0_37, p3⟩, ⟨r0_35, p4⟩, ⟨r0_34, p5⟩, ⟨r0_33, p6⟩, ⟨r0_32, p7⟩, ⟨r0_30, p8⟩, ⟨r0_29, p9⟩, ⟨r0_28, p10⟩, ⟨r0_27, p11⟩, ⟨r0_25, p12⟩, ⟨r0_24, p13⟩, ⟨r0_23, p14⟩, ⟨r0_22, p15⟩] : List (View.Piece (Elt F) S512x2048 .bf16)), y ∈ pc.1.set :=
  View.cover_of_tiled [⟨r0_40, p0⟩, ⟨r0_39, p1⟩, ⟨r0_38, p2⟩, ⟨r0_37, p3⟩, ⟨r0_35, p4⟩, ⟨r0_34, p5⟩, ⟨r0_33, p6⟩, ⟨r0_32, p7⟩, ⟨r0_30, p8⟩, ⟨r0_29, p9⟩, ⟨r0_28, p10⟩, ⟨r0_27, p11⟩, ⟨r0_25, p12⟩, ⟨r0_24, p13⟩, ⟨r0_23, p14⟩, ⟨r0_22, p15⟩] S512x128.size (by rfl) y

/-- What the body stores in window 20, the last store first. -/
def out0_20 (x0 : Vec F S512x2048 .f32) (x1 : Vec F S1x1x2048 .f32) (x2 : Vec F S1x1x2048 .f32) (x3 : Vec F S2048x3200 .bf16) (x6 : Vec F S512x1024 .bf16) (x9 : Vec F S1x512 .f32) (x13 : Vec F S512x128 .f32) (x14 : Vec F S512x128 .f32) (x15 : Vec F S512x128 .f32) : Vec F S512x2048 .bf16 :=
  View.canon [⟨r0_40, keyRot x0 x1 x2 x3 x13 x14 x15⟩,
    ⟨r0_39, k0_pay77 (latentKV x0 x1 x2 x3 x9) (View.ld x6 r0_42)⟩,
    ⟨r0_38, keyRot x0 x1 x2 x3 x13 x14 x15⟩,
    ⟨r0_37, k0_pay76 (latentKV x0 x1 x2 x3 x9) (View.ld x6 r0_42)⟩,
    ⟨r0_35, keyRot x0 x1 x2 x3 x13 x14 x15⟩,
    ⟨r0_34, k0_pay75 (latentKV x0 x1 x2 x3 x9) (View.ld x6 r0_42)⟩,
    ⟨r0_33, keyRot x0 x1 x2 x3 x13 x14 x15⟩,
    ⟨r0_32, k0_pay74 (latentKV x0 x1 x2 x3 x9) (View.ld x6 r0_42)⟩,
    ⟨r0_30, keyRot x0 x1 x2 x3 x13 x14 x15⟩,
    ⟨r0_29, k0_pay72 (latentKV x0 x1 x2 x3 x9) (View.ld x6 r0_41)⟩,
    ⟨r0_28, keyRot x0 x1 x2 x3 x13 x14 x15⟩,
    ⟨r0_27, k0_pay71 (latentKV x0 x1 x2 x3 x9) (View.ld x6 r0_41)⟩,
    ⟨r0_25, keyRot x0 x1 x2 x3 x13 x14 x15⟩,
    ⟨r0_24, k0_pay70 (latentKV x0 x1 x2 x3 x9) (View.ld x6 r0_41)⟩,
    ⟨r0_23, keyRot x0 x1 x2 x3 x13 x14 x15⟩,
    ⟨r0_22, k0_pay69 (latentKV x0 x1 x2 x3 x9) (View.ld x6 r0_41)⟩]

/-- The stores cover the window. -/
theorem cover0_20 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (p12 : Vec F S512x128 .bf16) (p13 : Vec F S512x128 .bf16) (p14 : Vec F S512x128 .bf16) (p15 : Vec F S512x128 .bf16) (y : S512x2048.Idx) :
    ∃ pc ∈ ([⟨r0_40, p0⟩, ⟨r0_39, p1⟩, ⟨r0_38, p2⟩, ⟨r0_37, p3⟩, ⟨r0_35, p4⟩, ⟨r0_34, p5⟩, ⟨r0_33, p6⟩, ⟨r0_32, p7⟩, ⟨r0_30, p8⟩, ⟨r0_29, p9⟩, ⟨r0_28, p10⟩, ⟨r0_27, p11⟩, ⟨r0_25, p12⟩, ⟨r0_24, p13⟩, ⟨r0_23, p14⟩, ⟨r0_22, p15⟩] : List (View.Piece (Elt F) S512x2048 .bf16)), y ∈ pc.1.set :=
  View.cover_of_tiled [⟨r0_40, p0⟩, ⟨r0_39, p1⟩, ⟨r0_38, p2⟩, ⟨r0_37, p3⟩, ⟨r0_35, p4⟩, ⟨r0_34, p5⟩, ⟨r0_33, p6⟩, ⟨r0_32, p7⟩, ⟨r0_30, p8⟩, ⟨r0_29, p9⟩, ⟨r0_28, p10⟩, ⟨r0_27, p11⟩, ⟨r0_25, p12⟩, ⟨r0_24, p13⟩, ⟨r0_23, p14⟩, ⟨r0_22, p15⟩] S512x128.size (by rfl) y

/-- What the body stores in window 21, the last store first. -/
def out0_21 (x0 : Vec F S512x2048 .f32) (x1 : Vec F S1x1x2048 .f32) (x2 : Vec F S1x1x2048 .f32) (x3 : Vec F S2048x3200 .bf16) (x7 : Vec F S1024x512 .bf16) (x9 : Vec F S1x512 .f32) : Vec F S1024x512 .bf16 :=
  View.canon [⟨r0_16, k0_pay1 (latentKV x0 x1 x2 x3 x9) (View.ld x7 r0_16)⟩]

/-- The stores cover the window. -/
theorem cover0_21 (p0 : Vec F S1024x512 .bf16) (y : S1024x512.Idx) :
    ∃ pc ∈ ([⟨r0_16, p0⟩] : List (View.Piece (Elt F) S1024x512 .bf16)), y ∈ pc.1.set :=
  View.cover_of_tiled [⟨r0_16, p0⟩] S1024x512.size (by rfl) y

/-! ## The body's triple -/

set_option maxHeartbeats 1000000 in
/-- The body, given whole windows with the inputs at `x0` to `x15`, leaves those and what it stores in the others. -/
theorem sound_kernel (c : Dev nD) (E : Set ℕ) (i : grid0.Coords) (arg1 : Memref sig .tc .vmem S512x2048 .f32) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S2048x3200 .bf16) (harg4 : arg4.IsWhole) (arg5 : Memref sig .tc .vmem S1024x2048 .bf16) (harg5 : arg5.IsWhole) (arg6 : Memref sig .tc .vmem S512x2048 .bf16) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x1024 .bf16) (harg17 : arg17.IsWhole) (arg18 : Memref sig .tc .vmem S512x1024 .bf16) (harg18 : arg18.IsWhole) (arg19 : Memref sig .tc .vmem S1024x512 .bf16) (harg19 : arg19.IsWhole) (arg20 : Memref sig .tc .vmem S512x2048 .bf16) (harg20 : arg20.IsWhole) (arg21 : Memref sig .tc .vmem S512x2048 .bf16) (harg21 : arg21.IsWhole) (arg22 : Memref sig .tc .vmem S1024x512 .bf16) (harg22 : arg22.IsWhole)
    (x0 : Vec F S512x2048 .f32) (x1 : Vec F S1x1x2048 .f32) (x2 : Vec F S1x1x2048 .f32) (x3 : Vec F S2048x3200 .bf16) (x4 : Vec F S1024x2048 .bf16) (x5 : Vec F S512x2048 .bf16) (x6 : Vec F S512x1024 .bf16) (x7 : Vec F S1024x512 .bf16) (x8 : Vec F S1x512 .f32) (x9 : Vec F S1x512 .f32) (x10 : Vec F S512x128 .f32) (x11 : Vec F S512x128 .f32) (x12 : Vec F S512x128 .f32) (x13 : Vec F S512x128 .f32) (x14 : Vec F S512x128 .f32) (x15 : Vec F S512x128 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x10 x11 x12) ∗ owns (c : Thread nD τ) arg18 fullShare (out0_17 x0 x1 x2 x3 x10 x11 x12) ∗ owns (c : Thread nD τ) arg19 fullShare (out0_18 x0 x1 x2 x4) ∗ owns (c : Thread nD τ) arg20 fullShare (out0_19 x0 x1 x2 x3 x5 x8 x13 x14 x15) ∗ owns (c : Thread nD τ) arg21 fullShare (out0_20 x0 x1 x2 x3 x6 x9 x13 x14 x15) ∗ owns (c : Thread nD τ) arg22 fullShare (out0_21 x0 x1 x2 x3 x7 x9)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _ _ _ _ _ _ _ _)).trans ?_
    rfl
  isplitl [H17]
  · iexists _; isplitr
    swap; · iexact H17
    ipureintro
    refine (View.read_writes_eq_canon _ _ _ (cover0_17 _ _ _ _ _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _ _ _ _ _ _ _ _ _ _ _ _ _ _ _)).trans ?_
    rfl
  isplitl [H20]
  · iexists _; isplitr
    swap; · iexact H20
    ipureintro
    refine (View.read_writes_eq_canon _ _ _ (cover0_20 _ _ _ _ _ _ _ _ _ _ _ _ _ _ _ _)).trans ?_
    rfl
  iexists _; isplitr
  swap; · iexact H21
  ipureintro
  refine (View.read_writes_eq_canon _ _ _ (cover0_21 _)).trans ?_
  rfl

/-! ## The pipeline's proof data -/

/-- What the windows hold after the body at every point: the inputs their blocks, the outputs what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 10 t) (iblk m c 11 t) (iblk m c 12 t)
    | ⟨17, _⟩ => out0_17 (iblk m c 0 t) (iblk m c 1 t) (iblk m c 2 t) (iblk m c 3 t) (iblk m c 10 t) (iblk m c 11 t) (iblk m c 12 t)
    | ⟨18, _⟩ => out0_18 (iblk m c 0 t) (iblk m c 1 t) (iblk m c 2 t) (iblk m c 4 t)
    | ⟨19, _⟩ => out0_19 (iblk m c 0 t) (iblk m c 1 t) (iblk m c 2 t) (iblk m c 3 t) (iblk m c 5 t) (iblk m c 8 t) (iblk m c 13 t) (iblk m c 14 t) (iblk m c 15 t)
    | ⟨20, _⟩ => out0_20 (iblk m c 0 t) (iblk m c 1 t) (iblk m c 2 t) (iblk m c 3 t) (iblk m c 6 t) (iblk m c 9 t) (iblk m c 13 t) (iblk m c 14 t) (iblk m c 15 t)
    | ⟨21, _⟩ => out0_21 (iblk m c 0 t) (iblk m c 1 t) (iblk m c 2 t) (iblk m c 3 t) (iblk m c 7 t) (iblk m c 9 t)
    | ⟨_ + 22, h⟩ => absurd h (Nat.not_lt.2 (Nat.le_add_left _ _))
  Φ _ := Pipeline.ΦA spec0 c
  q w := Pipeline.shareOf spec0 w
  owed _ := 0

/-- The arrays are those the call begins with. -/
theorem A_eq (c : Dev nD) (w : Fin cfg0.W) : (dats m 0 c).A w = V m c (Pipeline.arrRef spec0 w) := by
  dsimp only [dats]

/-- The windows one by one, after the body … -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 4 t) := by dsimp only [dats]
theorem after0_19 (c : Dev nD) (t : Fin cfg0.N) : (dats m 0 c).after 19 t = out0_19 (iblk m c 0 t) (iblk m c 1 t) (iblk m c 2 t) (iblk m c 3 t) (iblk m c 5 t) (iblk m c 8 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 6 t) (iblk m c 9 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 7 t) (iblk m c 9 t) := by dsimp only [dats]

/-- … and the inputs before it. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)

/-! ## The body obligation, at a generic point -/

/-- What the body is given at point `t` … -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- … and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at a point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body that the call runs at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's triple as the launch asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- unifying the launch's conclusion unfolds definitions in the types of metavariables
set_option backward.isDefEq.respectTransparency.types false in
set_option maxHeartbeats 800000 in
/-- The run: every array at what the blocks make of it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are kept. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments are kept and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel2Ideal.In

end
-- ==== Proof.ProjBlock.lean ====
/-
  What a grid step of the second call leaves in its six output blocks, row by row.
-/
module

public import proofs.«01_k».proof.Proof.Proj
public import proofs.«01_k».proof.Proof.InFrameIdeal

@[expose] public section

noncomputable section

namespace Cert.Proj

open Idealize.ShloMosaic Idealize.ShloMosaic.TcCoe Cert.At Cert.Norm Cert.Kernel2Ideal Cert.Kernel2Ideal.Gen Cert.Kernel2Ideal.In
open scoped BigOperators

theorem scaleA_named : Named.named (F := Ideal) Cert.Kernel2Ideal.κ "scale_a" (φ := .f32) 0x3E0293EE#32 = scaleA :=
  IdealRules.named_const.ideal_named_scalar _ _ _ _ rfl

theorem scaleB_named : Named.named (F := Ideal) Cert.Kernel2Ideal.κ "scale_b" (φ := .f32) 0x3DD53B95#32 = scaleB :=
  IdealRules.named_const.ideal_named_scalar _ _ _ _ rfl

/-! ## Vector operations at an index -/

/-- The rotation as the call forms it: two shifts of the lanes against three tables. -/
abbrev turn (s₁ s₂ : BitVec 32) (a c lo hi : FVec Ideal S512x128 .f32) : FVec Ideal S512x128 .f32 :=
  addf (addf (mulf a c) (mulf (dynamicRotate 1 s₁ none a rotates_S512x128_d1) lo)) (mulf (dynamicRotate 1 s₂ none a rotates_S512x128_d1) hi)

/-- A shift of the lanes by `s`. -/
theorem shift_at (s : BitVec 32) (hs : s.toNat ≤ 128) (a : FVec Ideal S512x128 .f32) (i : Fin 512) (e : Fin 128) (f : ℕ → EReal)
    (ha : ∀ k : Fin 128, a (ValueIdx.ix2 i k) = f k.val) :
    dynamicRotate 1 s none a rotates_S512x128_d1 (ValueIdx.ix2 i e) = f ((e.val + 128 - s.toNat) % 128) := by
  refine Eq.trans ?_ (ha ⟨(e.val + 128 - s.toNat) % 128, Nat.mod_lt _ (by norm_num)⟩)
  unfold dynamicRotate
  refine congrArg a (funext fun b => ?_)
  match b with
  | ⟨0, _⟩ => rfl
  | ⟨1, _⟩ =>
    refine Fin.ext ?_
    show (e.val + 128 - (s.toNat + 0) % 128) % 128 = (e.val + 128 - s.toNat) % 128
    have he := e.isLt
    omega

theorem turn_at (n : ℕ) (s₁ s₂ : BitVec 32) (h₁ : s₁.toNat + n = 128) (h₂ : s₂.toNat = n) (a c lo hi : FVec Ideal S512x128 .f32) (i : Fin 512)
    (f fc fl fh : ℕ → EReal) (ha : ∀ k : Fin 128, a (ValueIdx.ix2 i k) = f k.val) (hc : ∀ k : Fin 128, c (ValueIdx.ix2 i k) = fc k.val)
    (hl : ∀ k : Fin 128, lo (ValueIdx.ix2 i k) = fl k.val) (hh : ∀ k : Fin 128, hi (ValueIdx.ix2 i k) = fh k.val) (e : Fin 128) :
    turn s₁ s₂ a c lo hi (ValueIdx.ix2 i e) = lanes n fc fl fh f e.val := by
  have e₁ := shift_at s₁ (by omega) a i e f ha
  have e₂ := shift_at s₂ (by omega) a i e f ha
  rw [show e.val + 128 - s₁.toNat = e.val + n by omega] at e₁
  rw [h₂] at e₂
  exact congrArg₂ (fun p q : EReal => p + q) (congrArg₂ (fun p q : EReal => p + q) (congrArg₂ (fun p q : EReal => p * q) (ha e) (hc e))
    (congrArg₂ (fun p q : EReal => p * q) e₁ (hl e))) (congrArg₂ (fun p q : EReal => p * q) e₂ (hh e))

/-- 128 columns of 512. -/
theorem cols_at (o : ℕ) (a : FVec Ideal S512x512 .f32) (hs : S512x512.Slices ![0, o] S512x128) (ho : o + 128 ≤ 512) (i : Fin 512) (e : Fin 128) (f : ℕ → EReal)
    (ha : ∀ k : Fin 512, a (ValueIdx.ix2 i k) = f k.val) : extractStridedSlice S512x128 ![0, o] a hs (ValueIdx.ix2 i e) = f (o + e.val) := by
  have he := e.isLt
  refine (extractStridedSlice_apply ![0, o] a hs _ (ValueIdx.ix2 i (⟨o + e.val, by omega⟩ : Fin 512)) fun b => ?_).trans (ha ⟨o + e.val, by omega⟩)
  match b with
  | ⟨0, _⟩ => exact (Nat.zero_add _).symm
  | ⟨1, _⟩ => rfl

/-! ## The blocks -/

/-- The sixteen input blocks of a step. -/
structure Windows where
  x0 : Vec Ideal S512x2048 .f32
  x1 : Vec Ideal S1x1x2048 .f32
  x2 : Vec Ideal S1x1x2048 .f32
  x3 : Vec Ideal S2048x3200 .bf16
  x4 : Vec Ideal S1024x2048 .bf16
  x5 : Vec Ideal S512x2048 .bf16
  x6 : Vec Ideal S512x1024 .bf16
  x7 : Vec Ideal S1024x512 .bf16
  x8 : Vec Ideal S1x512 .f32
  x9 : Vec Ideal S1x512 .f32
  x10 : Vec Ideal S512x128 .f32
  x11 : Vec Ideal S512x128 .f32
  x12 : Vec Ideal S512x128 .f32
  x13 : Vec Ideal S512x128 .f32
  x14 : Vec Ideal S512x128 .f32
  x15 : Vec Ideal S512x128 .f32

/-- A row of them. -/
def Windows.row (X : Windows) (r : ℕ) : Block where
  x := at2 (A := 512) (B := 2048) X.x0 r
  scale := at3 (A := 1) (B := 1) (C := 2048) X.x1 0 0
  shift := at3 (A := 1) (B := 1) (C := 2048) X.x2 0 0
  w := at2 (A := 2048) (B := 3200) X.x3
  wv := at2 (A := 1024) (B := 2048) X.x4
  uq := at2 (A := 512) (B := 2048) X.x5
  uk := at2 (A := 512) (B := 1024) X.x6
  uv := at2 (A := 1024) (B := 512) X.x7
  gq := at2 (A := 1) (B := 512) X.x8 0
  gkv := at2 (A := 1) (B := 512) X.x9 0
  ca := at2 (A := 512) (B := 128) X.x10 r
  la := at2 (A := 512) (B := 128) X.x11 r
  ha := at2 (A := 512) (B := 128) X.x12 r
  cb := at2 (A := 512) (B := 128) X.x13 r
  lb := at2 (A := 512) (B := 128) X.x14 r
  hb := at2 (A := 512) (B := 128) X.x15 r

section Blocks

variable (X : Windows)

/-- The six output blocks. -/
def outQa : Vec Ideal S512x1024 .bf16 := fun y => (X.row (y 0).val).qa (y 1).val
def outKa : Vec Ideal S512x1024 .bf16 := fun y => (X.row (y 0).val).ka (y 1).val
def outVa : Vec Ideal S1024x512 .bf16 := fun y => (X.row (y 1).val).va (y 0).val
def outQb : Vec Ideal S512x2048 .bf16 := fun y => (X.row (y 0).val).qb (y 1).val
def outKb : Vec Ideal S512x2048 .bf16 := fun y => (X.row (y 0).val).kb (y 1).val
def outVb : Vec Ideal S1024x512 .bf16 := fun y => (X.row (y 1).val).vb (y 0).val

theorem cosA_at (i : Fin 512) (e : Fin 128) : cosA X.x10 (ValueIdx.ix2 i e) = (X.row i.val).ca e.val := by
  have h : View.ld X.x10 r0_2 = X.x10 := View.ld_unit_lit _ _ (by decide)
  unfold cosA k0_pay3
  simp only [shapeCast_self]
  rw [h]
  exact (at2_eq (A := 512) (B := 128) X.x10 _ rfl rfl).symm

theorem sinLoA_at (i : Fin 512) (e : Fin 128) : sinLoA X.x11 (ValueIdx.ix2 i e) = (X.row i.val).la e.val := by
  have h : View.ld X.x11 r0_2 = X.x11 := View.ld_unit_lit _ _ (by decide)
  unfold sinLoA k0_pay4
  simp only [shapeCast_self]
  rw [h]
  exact (at2_eq (A := 512) (B := 128) X.x11 _ rfl rfl).symm

theorem sinHiA_at (i : Fin 512) (e : Fin 128) : sinHiA X.x12 (ValueIdx.ix2 i e) = (X.row i.val).ha e.val := by
  have h : View.ld X.x12 r0_2 = X.x12 := View.ld_unit_lit _ _ (by decide)
  unfold sinHiA k0_pay5
  simp only [shapeCast_self]
  rw [h]
  exact (at2_eq (A := 512) (B := 128) X.x12 _ rfl rfl).symm

theorem cosB_at (i : Fin 512) (e : Fin 128) : cosB X.x13 (ValueIdx.ix2 i e) = (X.row i.val).cb e.val := by
  have h : View.ld X.x13 r0_2 = X.x13 := View.ld_unit_lit _ _ (by decide)
  unfold cosB k0_pay6
  simp only [shapeCast_self]
  rw [h]
  exact (at2_eq (A := 512) (B := 128) X.x13 _ rfl rfl).symm

theorem sinLoB_at (i : Fin 512) (e : Fin 128) : sinLoB X.x14 (ValueIdx.ix2 i e) = (X.row i.val).lb e.val := by
  have h : View.ld X.x14 r0_2 = X.x14 := View.ld_unit_lit _ _ (by decide)
  unfold sinLoB k0_pay7
  simp only [shapeCast_self]
  rw [h]
  exact (at2_eq (A := 512) (B := 128) X.x14 _ rfl rfl).symm

theorem sinHiB_at (i : Fin 512) (e : Fin 128) : sinHiB X.x15 (ValueIdx.ix2 i e) = (X.row i.val).hb e.val := by
  have h : View.ld X.x15 r0_2 = X.x15 := View.ld_unit_lit _ _ (by decide)
  unfold sinHiB k0_pay8
  simp only [shapeCast_self]
  rw [h]
  exact (at2_eq (A := 512) (B := 128) X.x15 _ rfl rfl).symm

/-- The modulated layer normalisation. -/
theorem normed_at (i : Fin 512) (j : Fin 2048) : normed X.x0 X.x1 X.x2 (ValueIdx.ix2 i j) = (X.row i.val).h j.val := by
  have e0 : View.ld X.x0 r0_0 = X.x0 := View.ld_unit_lit _ _ (by decide)
  have e1 : View.ld X.x1 r0_1 = X.x1 := View.ld_unit_lit _ _ (by decide)
  have e2 : View.ld X.x2 r0_1 = X.x2 := View.ld_unit_lit _ _ (by decide)
  have hx : ∀ k : Fin 2048, X.x0 (ValueIdx.ix2 i k) = (X.row i.val).x k.val := fun k => (at2_eq (A := 512) (B := 2048) X.x0 _ rfl rfl).symm
  unfold normed k0_pay2
  simp only [shapeCast_self]
  rw [e0, e1, e2]
  refine congrArg₂ (fun a b : EReal => a + b) (congrArg₂ (fun a b : EReal => a * b) ?_ ?_) ?_
  · exact layerVec_of_mean _ reduces_S512x2048_S512 (.inl rfl) rfl shapeCasts_S512_S512x1 broadcasts_S512x1_S512x2048 i _ _ _ _ hx
      (meanVec _ reduces_S512x2048_S512 (.inl rfl) rfl shapeCasts_S512_S512x1 i _ _ hx 0) j
  · refine (spreadRow (R := 512) i _ broadcasts_S1x2048_S512x2048 j).trans ?_
    exact congrArg (fun a : EReal => Ideal.ofBits .f32 0x3F800000#32 + a) (row3 X.x1 shapeCasts_S1x1x2048_S1x2048 0 j)
  · exact (spreadRow (R := 512) i _ broadcasts_S1x2048_S512x2048 j).trans (row3 X.x2 shapeCasts_S1x1x2048_S1x2048 0 j)

/-- 512 columns of the product with the input weights, from column `q`. -/
theorem acc_at (q : ℕ) (inb : ∀ a, (![0, q] : Fin 2 → ℕ) a + S2048x512.size a ≤ S2048x3200.size a) (i j : Fin 512) :
    k0_pay9 (normed X.x0 X.x1 X.x2) (View.ld (Val := Elt Ideal) (e' := .bf16) X.x3 (Rect.unit (s := S2048x3200) ![0, q] S2048x512.size inb)) (ValueIdx.ix2 i j)
      = (X.row i.val).proj (q + j.val) := by
  unfold k0_pay9
  simp only [shapeCast_self]
  refine product (M := 512) (K := 2048) (N := 512) (φ₁ := .bf16) (φ₂ := .bf16) _ _ i j (X.row i.val).h (fun k => (X.row i.val).w k (q + j.val)) (normed_at X i) fun k => ?_
  refine (ld_at2 X.x3 0 q inb k j).trans ?_
  rw [Nat.zero_add]
  rfl

/-- The two normalised latents. -/
theorem latentQ_at (i r : Fin 512) : latentQ X.x0 X.x1 X.x2 X.x3 X.x8 (ValueIdx.ix2 i r) = (X.row i.val).cq r.val := by
  have e : View.ld X.x8 r0_18 = X.x8 := View.ld_unit_lit _ _ (by decide)
  unfold latentQ k0_pay37
  rw [e]
  simp only [shapeCast_self]
  have ha := acc_at X 2048 inb_S2048x3200_S2048x512_0_2048 i
  unfold k0_pay9 at ha
  simp only [shapeCast_self] at ha
  exact congrArg₂ (fun a b : EReal => a * b)
    (rmsVec (N := 512) _ reduces_S512x512_S512 (.inl rfl) rfl shapeCasts_S512_S512x1 broadcasts_S512x1_S512x512 i (fun k => (X.row i.val).proj (2048 + k)) _ _ ha r)
    ((spreadRow (R := 512) i _ broadcasts_S1x512_S512x512 r).trans (at2_eq (A := 1) (B := 512) X.x8 _ rfl rfl).symm)

theorem latentKV_at (i r : Fin 512) : latentKV X.x0 X.x1 X.x2 X.x3 X.x9 (ValueIdx.ix2 i r) = (X.row i.val).ckv r.val := by
  have e : View.ld X.x9 r0_18 = X.x9 := View.ld_unit_lit _ _ (by decide)
  unfold latentKV k0_pay38
  rw [e]
  simp only [shapeCast_self]
  have ha := acc_at X 2560 inb_S2048x3200_S2048x512_0_2560 i
  unfold k0_pay9 at ha
  simp only [shapeCast_self] at ha
  exact congrArg₂ (fun a b : EReal => a * b)
    (rmsVec (N := 512) _ reduces_S512x512_S512 (.inl rfl) rfl shapeCasts_S512_S512x1 broadcasts_S512x1_S512x512 i (fun k => (X.row i.val).proj (2560 + k)) _ _ ha r)
    ((spreadRow (R := 512) i _ broadcasts_S1x512_S512x512 r).trans (at2_eq (A := 1) (B := 512) X.x9 _ rfl rfl).symm)

/-- The rotated key columns. -/
theorem keyRot_at (i : Fin 512) (e : Fin 128) : keyRot X.x0 X.x1 X.x2 X.x3 X.x13 X.x14 X.x15 (ValueIdx.ix2 i e) = (X.row i.val).kr e.val := by
  unfold keyRot k0_pay39
  simp only [shapeCast_self]
  refine turn_at 32 96#32 32#32 rfl rfl _ _ _ _ i (fun k => (X.row i.val).proj (3072 + k)) _ _ _ (fun k => ?_) (cosB_at X i) (sinLoB_at X i) (sinHiB_at X i) e
  refine product (M := 512) (K := 2048) (N := 128) (φ₁ := .bf16) (φ₂ := .bf16) _ _ i k (X.row i.val).h (fun l => (X.row i.val).w l (3072 + k.val)) (normed_at X i) fun l => ?_
  refine (ld_at2 X.x3 0 3072 inb_S2048x3200_S2048x128_0_3072 l k).trans ?_
  rw [Nat.zero_add]
  rfl

/-- 512 columns of the product of a latent with its up-projection, from column `q`. -/
theorem upQ_at (q : ℕ) (inb : ∀ a, (![0, q] : Fin 2 → ℕ) a + S512x512.size a ≤ S512x2048.size a) (i j : Fin 512) :
    k0_pay40 (latentQ X.x0 X.x1 X.x2 X.x3 X.x8) (View.ld (Val := Elt Ideal) (e' := .bf16) X.x5 (Rect.unit (s := S512x2048) ![0, q] S512x512.size inb)) (ValueIdx.ix2 i j)
      = up (X.row i.val).cq (X.row i.val).uq (q + j.val) := by
  unfold k0_pay40
  simp only [shapeCast_self]
  refine product (M := 512) (K := 512) (N := 512) (φ₁ := .bf16) (φ₂ := .bf16) _ _ i j (X.row i.val).cq (fun k => (X.row i.val).uq k (q + j.val)) (latentQ_at X i) fun k => ?_
  refine (ld_at2 X.x5 0 q inb k j).trans ?_
  rw [Nat.zero_add]
  rfl

theorem upK_at (q : ℕ) (inb : ∀ a, (![0, q] : Fin 2 → ℕ) a + S512x512.size a ≤ S512x1024.size a) (i j : Fin 512) :
    k0_pay40 (latentKV X.x0 X.x1 X.x2 X.x3 X.x9) (View.ld (Val := Elt Ideal) (e' := .bf16) X.x6 (Rect.unit (s := S512x1024) ![0, q] S512x512.size inb)) (ValueIdx.ix2 i j)
      = up (X.row i.val).ckv (X.row i.val).uk (q + j.val) := by
  unfold k0_pay40
  simp only [shapeCast_self]
  refine product (M := 512) (K := 512) (N := 512) (φ₁ := .bf16) (φ₂ := .bf16) _ _ i j (X.row i.val).ckv (fun k => (X.row i.val).uk k (q + j.val)) (latentKV_at X i) fun k => ?_
  refine (ld_at2 X.x6 0 q inb k j).trans ?_
  rw [Nat.zero_add]
  rfl

/-! ## The pieces -/

/-- An index of a piece of 128 columns from column `p`, in the block. -/
theorem emb_at {N : ℕ} (p : ℕ) (inb : ∀ a, (![0, p] : Fin 2 → ℕ) a + S512x128.size a ≤ (⟨2, ![512, N]⟩ : Shape).size a) (x : S512x128.Idx) :
    ((Rect.unit (s := ⟨2, ![512, N]⟩) ![0, p] S512x128.size inb).emb x 0).val = (x 0).val
      ∧ ((Rect.unit (s := ⟨2, ![512, N]⟩) ![0, p] S512x128.size inb).emb x 1).val = p + (x 1).val :=
  ⟨(Rect.idx_unit_val (s := ⟨2, ![512, N]⟩) ![0, p] S512x128.size inb x 0).trans (Nat.zero_add _),
    Rect.idx_unit_val (s := ⟨2, ![512, N]⟩) ![0, p] S512x128.size inb x 1⟩

/-- The columns of the input product that a piece takes. -/
abbrev chunk (q o : ℕ) (inbW : ∀ a, (![0, q] : Fin 2 → ℕ) a + S2048x512.size a ≤ S2048x3200.size a) (hs : S512x512.Slices ![0, o] S512x128) : FVec Ideal S512x128 .f32 :=
  extractStridedSlice S512x128 ![0, o] (k0_pay9 (normed X.x0 X.x1 X.x2)
    (View.ld (Val := Elt Ideal) (e' := .bf16) X.x3 (Rect.unit (s := S2048x3200) ![0, q] S2048x512.size inbW))) hs

/-- A piece of the scaled queries. -/
theorem qaTile (q o p : ℕ) (inbW : ∀ a, (![0, q] : Fin 2 → ℕ) a + S2048x512.size a ≤ S2048x3200.size a) (hs : S512x512.Slices ![0, o] S512x128)
    (inb : ∀ a, (![0, p] : Fin 2 → ℕ) a + S512x128.size a ≤ S512x1024.size a) (ho : o + 128 ≤ 512) (hp : q + o = p) (h128 : p % 128 = 0) (x : S512x128.Idx) :
    truncf .bf16 (mulf (turn 112#32 16#32 (chunk X q o inbW hs) (cosA X.x10) (sinLoA X.x11) (sinHiA X.x12))
        (broadcast S512x128 (Named.named κ "scale_a" 0x3E0293EE#32))) bitsLt_bf16_f32 x
      = outQa X ((Rect.unit (s := S512x1024) ![0, p] S512x128.size inb).emb x) := by
  obtain ⟨h0, h1⟩ := emb_at (N := 1024) p inb x
  have hx : (x 1).val < 128 := (x 1).isLt
  unfold outQa
  rw [h0, h1, ValueIdx.eq_ix2 x]
  show _ = lanes 16 _ _ _ (fun e => (X.row (x 0).val).proj ((p + (x 1).val) / 128 * 128 + e)) ((p + (x 1).val) % 128) * scaleA
  rw [show (p + (x 1).val) / 128 * 128 = q + o by omega, show (p + (x 1).val) % 128 = (x 1).val by omega]
  refine congrArg₂ (fun a b : EReal => a * b) (turn_at 16 112#32 16#32 rfl rfl _ _ _ _ (x 0) (fun e => (X.row (x 0).val).proj (q + o + e)) _ _ _ (fun k => ?_)
    (cosA_at X (x 0)) (sinLoA_at X (x 0)) (sinHiA_at X (x 0)) (x 1)) scaleA_named
  rw [Nat.add_assoc]
  exact cols_at o _ hs ho (x 0) k (fun j => (X.row (x 0).val).proj (q + j)) (acc_at X q inbW (x 0))

/-- A piece of the keys. -/
theorem kaTile (q o p : ℕ) (inbW : ∀ a, (![0, q] : Fin 2 → ℕ) a + S2048x512.size a ≤ S2048x3200.size a) (hs : S512x512.Slices ![0, o] S512x128)
    (inb : ∀ a, (![0, p] : Fin 2 → ℕ) a + S512x128.size a ≤ S512x1024.size a) (ho : o + 128 ≤ 512) (hp : q + o = 1024 + p) (h128 : p % 128 = 0) (x : S512x128.Idx) :
    truncf .bf16 (turn 112#32 16#32 (chunk X q o inbW hs) (cosA X.x10) (sinLoA X.x11) (sinHiA X.x12)) bitsLt_bf16_f32 x
      = outKa X ((Rect.unit (s := S512x1024) ![0, p] S512x128.size inb).emb x) := by
  obtain ⟨h0, h1⟩ := emb_at (N := 1024) p inb x
  have hx : (x 1).val < 128 := (x 1).isLt
  unfold outKa
  rw [h0, h1, ValueIdx.eq_ix2 x]
  show _ = lanes 16 _ _ _ (fun e => (X.row (x 0).val).proj (1024 + (p + (x 1).val) / 128 * 128 + e)) ((p + (x 1).val) % 128)
  rw [show 1024 + (p + (x 1).val) / 128 * 128 = q + o by omega, show (p + (x 1).val) % 128 = (x 1).val by omega]
  refine turn_at 16 112#32 16#32 rfl rfl _ _ _ _ (x 0) (fun e => (X.row (x 0).val).proj (q + o + e)) _ _ _ (fun k => ?_)
    (cosA_at X (x 0)) (sinLoA_at X (x 0)) (sinHiA_at X (x 0)) (x 1)
  rw [Nat.add_assoc]
  exact cols_at o _ hs ho (x 0) k (fun j => (X.row (x 0).val).proj (q + j)) (acc_at X q inbW (x 0))

/-- The columns of the query product that a piece takes. -/
abbrev chunkQ (q o : ℕ) (inbW : ∀ a, (![0, q] : Fin 2 → ℕ) a + S512x512.size a ≤ S512x2048.size a) (hs : S512x512.Slices ![0, o] S512x128) : FVec Ideal S512x128 .f32 :=
  extractStridedSlice S512x128 ![0, o] (k0_pay40 (latentQ X.x0 X.x1 X.x2 X.x3 X.x8)
    (View.ld (Val := Elt Ideal) (e' := .bf16) X.x5 (Rect.unit (s := S512x2048) ![0, q] S512x512.size inbW))) hs

/-- A piece of the latent attention's queries that is not rotated, -/
theorem qbTile (q o p : ℕ) (inbW : ∀ a, (![0, q] : Fin 2 → ℕ) a + S512x512.size a ≤ S512x2048.size a) (hs : S512x512.Slices ![0, o] S512x128)
    (inb : ∀ a, (![0, p] : Fin 2 → ℕ) a + S512x128.size a ≤ S512x2048.size a) (ho : o + 128 ≤ 512) (hp : q + o = p) (h256 : p % 256 = 0) (x : S512x128.Idx) :
    truncf .bf16 (mulf (chunkQ X q o inbW hs) (broadcast S512x128 (Named.named κ "scale_b" 0x3DD53B95#32))) bitsLt_bf16_f32 x
      = outQb X ((Rect.unit (s := S512x2048) ![0, p] S512x128.size inb).emb x) := by
  obtain ⟨h0, h1⟩ := emb_at (N := 2048) p inb x
  have hx : (x 1).val < 128 := (x 1).isLt
  unfold outQb
  rw [h0, h1, ValueIdx.eq_ix2 x]
  unfold Block.qb
  rw [if_pos (show (p + (x 1).val) % 256 < 128 by omega), show (p + (x 1).val) / 256 * 256 + (p + (x 1).val) % 256 = q + (o + (x 1).val) by omega]
  exact congrArg₂ (fun a b : EReal => a * b)
    (cols_at o _ hs ho (x 0) (x 1) (fun j => up (X.row (x 0).val).cq (X.row (x 0).val).uq (q + j)) (upQ_at X q inbW (x 0))) scaleB_named

/-- and one that is. -/
theorem qbTurned (q o p : ℕ) (inbW : ∀ a, (![0, q] : Fin 2 → ℕ) a + S512x512.size a ≤ S512x2048.size a) (hs : S512x512.Slices ![0, o] S512x128)
    (inb : ∀ a, (![0, p] : Fin 2 → ℕ) a + S512x128.size a ≤ S512x2048.size a) (ho : o + 128 ≤ 512) (hp : q + o = p) (h256 : p % 256 = 128) (x : S512x128.Idx) :
    truncf .bf16 (mulf (turn 96#32 32#32 (chunkQ X q o inbW hs) (cosB X.x13) (sinLoB X.x14) (sinHiB X.x15))
        (broadcast S512x128 (Named.named κ "scale_b" 0x3DD53B95#32))) bitsLt_bf16_f32 x
      = outQb X ((Rect.unit (s := S512x2048) ![0, p] S512x128.size inb).emb x) := by
  obtain ⟨h0, h1⟩ := emb_at (N := 2048) p inb x
  have hx : (x 1).val < 128 := (x 1).isLt
  unfold outQb
  rw [h0, h1, ValueIdx.eq_ix2 x]
  unfold Block.qb
  rw [if_neg (show ¬ (p + (x 1).val) % 256 < 128 by omega), show (p + (x 1).val) / 256 * 256 + 128 = q + o by omega,
    show (p + (x 1).val) % 256 - 128 = (x 1).val by omega]
  refine congrArg₂ (fun a b : EReal => a * b) (turn_at 32 96#32 32#32 rfl rfl _ _ _ _ (x 0)
    (fun e => up (X.row (x 0).val).cq (X.row (x 0).val).uq (q + o + e)) _ _ _ (fun k => ?_)
    (cosB_at X (x 0)) (sinLoB_at X (x 0)) (sinHiB_at X (x 0)) (x 1)) scaleB_named
  rw [Nat.add_assoc]
  exact cols_at o _ hs ho (x 0) k (fun j => up (X.row (x 0).val).cq (X.row (x 0).val).uq (q + j)) (upQ_at X q inbW (x 0))

/-- A piece of the latent attention's keys that is not rotated, -/
theorem kbTile (q o p : ℕ) (inbW : ∀ a, (![0, q] : Fin 2 → ℕ) a + S512x512.size a ≤ S512x1024.size a) (hs : S512x512.Slices ![0, o] S512x128)
    (inb : ∀ a, (![0, p] : Fin 2 → ℕ) a + S512x128.size a ≤ S512x2048.size a) (ho : o + 128 ≤ 512) (hp : 2 * (q + o) = p) (h256 : p % 256 = 0) (x : S512x128.Idx) :
    truncf .bf16 (extractStridedSlice S512x128 ![0, o] (k0_pay40 (latentKV X.x0 X.x1 X.x2 X.x3 X.x9)
        (View.ld (Val := Elt Ideal) (e' := .bf16) X.x6 (Rect.unit (s := S512x1024) ![0, q] S512x512.size inbW))) hs) bitsLt_bf16_f32 x
      = outKb X ((Rect.unit (s := S512x2048) ![0, p] S512x128.size inb).emb x) := by
  obtain ⟨h0, h1⟩ := emb_at (N := 2048) p inb x
  have hx : (x 1).val < 128 := (x 1).isLt
  unfold outKb
  rw [h0, h1, ValueIdx.eq_ix2 x]
  unfold Block.kb
  rw [if_pos (show (p + (x 1).val) % 256 < 128 by omega), show (p + (x 1).val) / 256 * 128 + (p + (x 1).val) % 256 = q + (o + (x 1).val) by omega]
  exact cols_at o _ hs ho (x 0) (x 1) (fun j => up (X.row (x 0).val).ckv (X.row (x 0).val).uk (q + j)) (upK_at X q inbW (x 0))

/-- and one that is. -/
theorem kbTurned (p : ℕ) (inb : ∀ a, (![0, p] : Fin 2 → ℕ) a + S512x128.size a ≤ S512x2048.size a) (h256 : p % 256 = 128) (x : S512x128.Idx) :
    keyRot X.x0 X.x1 X.x2 X.x3 X.x13 X.x14 X.x15 x = outKb X ((Rect.unit (s := S512x2048) ![0, p] S512x128.size inb).emb x) := by
  obtain ⟨h0, h1⟩ := emb_at (N := 2048) p inb x
  have hx : (x 1).val < 128 := (x 1).isLt
  unfold outKb
  rw [h0, h1, ValueIdx.eq_ix2 x]
  unfold Block.kb
  rw [if_neg (show ¬ (p + (x 1).val) % 256 < 128 by omega), show (p + (x 1).val) % 256 - 128 = (x 1).val by omega]
  exact keyRot_at X (x 0) (x 1)

/-! ## The blocks, whole -/

theorem out16_eq : out0_16 X.x0 X.x1 X.x2 X.x3 X.x10 X.x11 X.x12 = outQa X := by
  funext y
  unfold out0_16
  refine View.canon_apply_of_pieces (outQa X) _ ?_ y (cover0_16 _ _ _ _ _ _ _ _ y)
  refine List.forall_mem_cons.mpr ⟨qaTile X 512 384 896 inb_S2048x3200_S2048x512_0_512 slices_S512x512_o0_384_S512x128 inb_S512x1024_S512x128_0_896 (by norm_num) rfl rfl, ?_⟩
  refine List.forall_mem_cons.mpr ⟨qaTile X 512 256 768 inb_S2048x3200_S2048x512_0_512 slices_S512x512_o0_256_S512x128 inb_S512x1024_S512x128_0_768 (by norm_num) rfl rfl, ?_⟩
  refine List.forall_mem_cons.mpr ⟨qaTile X 512 128 640 inb_S2048x3200_S2048x512_0_512 slices_S512x512_o0_128_S512x128 inb_S512x1024_S512x128_0_640 (by norm_num) rfl rfl, ?_⟩
  refine List.forall_mem_cons.mpr ⟨qaTile X 512 0 512 inb_S2048x3200_S2048x512_0_512 slices_S512x512_o0_0_S512x128 inb_S512x1024_S512x128_0_512 (by norm_num) rfl rfl, ?_⟩
  refine List.forall_mem_cons.mpr ⟨qaTile X 0 384 384 inb_S2048x3200_S2048x512_0_0 slices_S512x512_o0_384_S512x128 inb_S512x1024_S512x128_0_384 (by norm_num) rfl rfl, ?_⟩
  refine List.forall_mem_cons.mpr ⟨qaTile X 0 256 256 inb_S2048x3200_S2048x512_0_0 slices_S512x512_o0_256_S512x128 inb_S512x1024_S512x128_0_256 (by norm_num) rfl rfl, ?_⟩
  refine List.forall_mem_cons.mpr ⟨qaTile X 0 128 128 inb_S2048x3200_S2048x512_0_0 slices_S512x512_o0_128_S512x128 inb_S512x1024_S512x128_0_128 (by norm_num) rfl rfl, ?_⟩
  exact List.forall_mem_cons.mpr ⟨qaTile X 0 0 0 inb_S2048x3200_S2048x512_0_0 slices_S512x512_o0_0_S512x128 inb_S512x1024_S512x128_0_0 (by norm_num) rfl rfl,
    fun _ h => absurd h List.not_mem_nil⟩

theorem out17_eq : out0_17 X.x0 X.x1 X.x2 X.x3 X.x10 X.x11 X.x12 = outKa X := by
  funext y
  unfold out0_17
  refine View.canon_apply_of_pieces (outKa X) _ ?_ y (cover0_17 _ _ _ _ _ _ _ _ y)
  refine List.forall_mem_cons.mpr ⟨kaTile X 1536 384 896 inb_S2048x3200_S2048x512_0_1536 slices_S512x512_o0_384_S512x128 inb_S512x1024_S512x128_0_896 (by norm_num) rfl rfl, ?_⟩
  refine List.forall_mem_cons.mpr ⟨kaTile X 1536 256 768 inb_S2048x3200_S2048x512_0_1536 slices_S512x512_o0_256_S512x128 inb_S512x1024_S512x128_0_768 (by norm_num) rfl rfl, ?_⟩
  refine List.forall_mem_cons.mpr ⟨kaTile X 1536 128 640 inb_S2048x3200_S2048x512_0_1536 slices_S512x512_o0_128_S512x128 inb_S512x1024_S512x128_0_640 (by norm_num) rfl rfl, ?_⟩
  refine List.forall_mem_cons.mpr ⟨kaTile X 1536 0 512 inb_S2048x3200_S2048x512_0_1536 slices_S512x512_o0_0_S512x128 inb_S512x1024_S512x128_0_512 (by norm_num) rfl rfl, ?_⟩
  refine List.forall_mem_cons.mpr ⟨kaTile X 1024 384 384 inb_S2048x3200_S2048x512_0_1024 slices_S512x512_o0_384_S512x128 inb_S512x1024_S512x128_0_384 (by norm_num) rfl rfl, ?_⟩
  refine List.forall_mem_cons.mpr ⟨kaTile X 1024 256 256 inb_S2048x3200_S2048x512_0_1024 slices_S512x512_o0_256_S512x128 inb_S512x1024_S512x128_0_256 (by norm_num) rfl rfl, ?_⟩
  refine List.forall_mem_cons.mpr ⟨kaTile X 1024 128 128 inb_S2048x3200_S2048x512_0_1024 slices_S512x512_o0_128_S512x128 inb_S512x1024_S512x128_0_128 (by norm_num) rfl rfl, ?_⟩
  exact List.forall_mem_cons.mpr ⟨kaTile X 1024 0 0 inb_S2048x3200_S2048x512_0_1024 slices_S512x512_o0_0_S512x128 inb_S512x1024_S512x128_0_0 (by norm_num) rfl rfl,
    fun _ h => absurd h List.not_mem_nil⟩

theorem out19_eq : out0_19 X.x0 X.x1 X.x2 X.x3 X.x5 X.x8 X.x13 X.x14 X.x15 = outQb X := by
  funext y
  unfold out0_19
  refine View.canon_apply_of_pieces (outQb X) _ ?_ y (cover0_19 _ _ _ _ _ _ _ _ _ _ _ _ _ _ _ _ y)
  refine List.forall_mem_cons.mpr ⟨qbTurned X 1536 384 1920 inb_S512x2048_S512x512_0_1536 slices_S512x512_o0_384_S512x128 inb_S512x2048_S512x128_0_1920 (by norm_num) rfl rfl, ?_⟩
  refine List.forall_mem_cons.mpr ⟨qbTile X 1536 256 1792 inb_S512x2048_S512x512_0_1536 slices_S512x512_o0_256_S512x128 inb_S512x2048_S512x128_0_1792 (by norm_num) rfl rfl, ?_⟩
  refine List.forall_mem_cons.mpr ⟨qbTurned X 1536 128 1664 inb_S512x2048_S512x512_0_1536 slices_S512x512_o0_128_S512x128 inb_S512x2048_S512x128_0_1664 (by norm_num) rfl rfl, ?_⟩
  refine List.forall_mem_cons.mpr ⟨qbTile X 1536 0 1536 inb_S512x2048_S512x512_0_1536 slices_S512x512_o0_0_S512x128 inb_S512x2048_S512x128_0_1536 (by norm_num) rfl rfl, ?_⟩
  refine List.forall_mem_cons.mpr ⟨qbTurned X 1024 384 1408 inb_S512x2048_S512x512_0_1024 slices_S512x512_o0_384_S512x128 inb_S512x2048_S512x128_0_1408 (by norm_num) rfl rfl, ?_⟩
  refine List.forall_mem_cons.mpr ⟨qbTile X 1024 256 1280 inb_S512x2048_S512x512_0_1024 slices_S512x512_o0_256_S512x128 inb_S512x2048_S512x128_0_1280 (by norm_num) rfl rfl, ?_⟩
  refine List.forall_mem_cons.mpr ⟨qbTurned X 1024 128 1152 inb_S512x2048_S512x512_0_1024 slices_S512x512_o0_128_S512x128 inb_S512x2048_S512x128_0_1152 (by norm_num) rfl rfl, ?_⟩
  refine List.forall_mem_cons.mpr ⟨qbTile X 1024 0 1024 inb_S512x2048_S512x512_0_1024 slices_S512x512_o0_0_S512x128 inb_S512x2048_S512x128_0_1024 (by norm_num) rfl rfl, ?_⟩
  refine List.forall_mem_cons.mpr ⟨qbTurned X 512 384 896 inb_S512x2048_S512x512_0_512 slices_S512x512_o0_384_S512x128 inb_S512x2048_S512x128_0_896 (by norm_num) rfl rfl, ?_⟩
  refine List.forall_mem_cons.mpr ⟨qbTile X 512 256 768 inb_S512x2048_S512x512_0_512 slices_S512x512_o0_256_S512x128 inb_S512x2048_S512x128_0_768 (by norm_num) rfl rfl, ?_⟩
  refine List.forall_mem_cons.mpr ⟨qbTurned X 512 128 640 inb_S512x2048_S512x512_0_512 slices_S512x512_o0_128_S512x128 inb_S512x2048_S512x128_0_640 (by norm_num) rfl rfl, ?_⟩
  refine List.forall_mem_cons.mpr ⟨qbTile X 512 0 512 inb_S512x2048_S512x512_0_512 slices_S512x512_o0_0_S512x128 inb_S512x2048_S512x128_0_512 (by norm_num) rfl rfl, ?_⟩
  refine List.forall_mem_cons.mpr ⟨qbTurned X 0 384 384 inb_S512x2048_S512x512_0_0 slices_S512x512_o0_384_S512x128 inb_S512x2048_S512x128_0_384 (by norm_num) rfl rfl, ?_⟩
  refine List.forall_mem_cons.mpr ⟨qbTile X 0 256 256 inb_S512x2048_S512x512_0_0 slices_S512x512_o0_256_S512x128 inb_S512x2048_S512x128_0_256 (by norm_num) rfl rfl, ?_⟩
  refine List.forall_mem_cons.mpr ⟨qbTurned X 0 128 128 inb_S512x2048_S512x512_0_0 slices_S512x512_o0_128_S512x128 inb_S512x2048_S512x128_0_128 (by norm_num) rfl rfl, ?_⟩
  exact List.forall_mem_cons.mpr ⟨qbTile X 0 0 0 inb_S512x2048_S512x512_0_0 slices_S512x512_o0_0_S512x128 inb_S512x2048_S512x128_0_0 (by norm_num) rfl rfl,
    fun _ h => absurd h List.not_mem_nil⟩

theorem out20_eq : out0_20 X.x0 X.x1 X.x2 X.x3 X.x6 X.x9 X.x13 X.x14 X.x15 = outKb X := by
  funext y
  unfold out0_20
  refine View.canon_apply_of_pieces (outKb X) _ ?_ y (cover0_20 _ _ _ _ _ _ _ _ _ _ _ _ _ _ _ _ y)
  refine List.forall_mem_cons.mpr ⟨kbTurned X 1920 inb_S512x2048_S512x128_0_1920 rfl, ?_⟩
  refine List.forall_mem_cons.mpr ⟨kbTile X 512 384 1792 inb_S512x1024_S512x512_0_512 slices_S512x512_o0_384_S512x128 inb_S512x2048_S512x128_0_1792 (by norm_num) rfl rfl, ?_⟩
  refine List.forall_mem_cons.mpr ⟨kbTurned X 1664 inb_S512x2048_S512x128_0_1664 rfl, ?_⟩
  refine List.forall_mem_cons.mpr ⟨kbTile X 512 256 1536 inb_S512x1024_S512x512_0_512 slices_S512x512_o0_256_S512x128 inb_S512x2048_S512x128_0_1536 (by norm_num) rfl rfl, ?_⟩
  refine List.forall_mem_cons.mpr ⟨kbTurned X 1408 inb_S512x2048_S512x128_0_1408 rfl, ?_⟩
  refine List.forall_mem_cons.mpr ⟨kbTile X 512 128 1280 inb_S512x1024_S512x512_0_512 slices_S512x512_o0_128_S512x128 inb_S512x2048_S512x128_0_1280 (by norm_num) rfl rfl, ?_⟩
  refine List.forall_mem_cons.mpr ⟨kbTurned X 1152 inb_S512x2048_S512x128_0_1152 rfl, ?_⟩
  refine List.forall_mem_cons.mpr ⟨kbTile X 512 0 1024 inb_S512x1024_S512x512_0_512 slices_S512x512_o0_0_S512x128 inb_S512x2048_S512x128_0_1024 (by norm_num) rfl rfl, ?_⟩
  refine List.forall_mem_cons.mpr ⟨kbTurned X 896 inb_S512x2048_S512x128_0_896 rfl, ?_⟩
  refine List.forall_mem_cons.mpr ⟨kbTile X 0 384 768 inb_S512x1024_S512x512_0_0 slices_S512x512_o0_384_S512x128 inb_S512x2048_S512x128_0_768 (by norm_num) rfl rfl, ?_⟩
  refine List.forall_mem_cons.mpr ⟨kbTurned X 640 inb_S512x2048_S512x128_0_640 rfl, ?_⟩
  refine List.forall_mem_cons.mpr ⟨kbTile X 0 256 512 inb_S512x1024_S512x512_0_0 slices_S512x512_o0_256_S512x128 inb_S512x2048_S512x128_0_512 (by norm_num) rfl rfl, ?_⟩
  refine List.forall_mem_cons.mpr ⟨kbTurned X 384 inb_S512x2048_S512x128_0_384 rfl, ?_⟩
  refine List.forall_mem_cons.mpr ⟨kbTile X 0 128 256 inb_S512x1024_S512x512_0_0 slices_S512x512_o0_128_S512x128 inb_S512x2048_S512x128_0_256 (by norm_num) rfl rfl, ?_⟩
  refine List.forall_mem_cons.mpr ⟨kbTurned X 128 inb_S512x2048_S512x128_0_128 rfl, ?_⟩
  exact List.forall_mem_cons.mpr ⟨kbTile X 0 0 0 inb_S512x1024_S512x512_0_0 slices_S512x512_o0_0_S512x128 inb_S512x2048_S512x128_0_0 (by norm_num) rfl rfl,
    fun _ h => absurd h List.not_mem_nil⟩

theorem out18_eq : out0_18 X.x0 X.x1 X.x2 X.x4 = outVa X := by
  have e : View.ld X.x4 r0_15 = X.x4 := View.ld_unit_lit _ _ (by decide)
  refine (View.canon_cons_unit_lit _ _ _ (by decide)).trans (funext fun y => ?_)
  unfold k0_pay36 k0_pay35
  rw [e, ValueIdx.eq_ix2 y]
  simp only [shapeCast_self]
  exact productT (M := 1024) (K := 2048) (N := 512) (φ₁ := .bf16) (φ₂ := .bf16) _ _ (y 0) (y 1) (fun k => (X.row (y 1).val).wv (y 0).val k) (X.row (y 1).val).h
    (fun k => (at2_eq (A := 1024) (B := 2048) X.x4 _ rfl rfl).symm) (normed_at X (y 1))

theorem out21_eq : out0_21 X.x0 X.x1 X.x2 X.x3 X.x7 X.x9 = outVb X := by
  have e : View.ld X.x7 r0_16 = X.x7 := View.ld_unit_lit _ _ (by decide)
  refine (View.canon_cons_unit_lit _ _ _ (by decide)).trans (funext fun y => ?_)
  unfold k0_pay1
  rw [e, ValueIdx.eq_ix2 y]
  simp only [shapeCast_self]
  exact productT (M := 1024) (K := 512) (N := 512) (φ₁ := .bf16) (φ₂ := .bf16) _ _ (y 0) (y 1) (fun k => (X.row (y 1).val).uv (y 0).val k) (X.row (y 1).val).ckv
    (fun k => (at2_eq (A := 1024) (B := 512) X.x7 _ rfl rfl).symm) (latentKV_at X (y 1))

end Blocks

end Cert.Proj
end
-- ==== Proof.ProjArgs.lean ====
/-
  A row of the second call's arguments, its weights, and the angles of a position; and a concatenation of three pieces at an
  index.
-/
module

public import proofs.«01_k».proof.Proof.Proj
public import proofs.«01_k».proof.Proof.At
public import Idealize.ShloMosaic.Lib.Pipeline.Value

@[expose] public section

noncomputable section

namespace Cert.Proj

open Idealize.ShloMosaic Cert.At Cert.Norm
open scoped BigOperators

/-- The angle of position `p` at frequency `e`, where the rotation is over as many elements as the float `d` says: the position
    times 500000 to the power `-2 e / d`, in the host's operations. -/
def angle (d : BitVec 32) (p e : ℕ) : EReal :=
  FloatOps.mulf (F := Ideal) (φ := .f32) (FloatOps.sitofp .f32 (BitVec.ofNat 32 p))
    (FloatOps.hostPowf (FloatOps.ofBits .f32 0x48F42400#32)
      (FloatOps.hostDivf (FloatOps.mulf (FloatOps.hostNegf (FloatOps.sitofp .f32 (BitVec.ofNat 32 e))) (FloatOps.ofBits .f32 0x40000000#32)) (FloatOps.ofBits .f32 d)))

def cosine (d : BitVec 32) (p e : ℕ) : EReal := FloatOps.hostUnary (F := Ideal) (φ := .f32) .cos (angle d p e)
def sine (d : BitVec 32) (p e : ℕ) : EReal := FloatOps.hostUnary (F := Ideal) (φ := .f32) .sin (angle d p e)

/-- Row `r` of batch `b`. -/
def argRow (x : (⟨3, ![16, 2048, 2048]⟩ : Shape).Idx → EReal) (mod : (⟨2, ![16, 12288]⟩ : Shape).Idx → EReal) (b r : ℕ) : Row where
  x := at3 x b r
  scale := cut 2048 fun k => at2 mod b (2048 + k)
  shift := cut 2048 fun k => at2 mod b k
  ca := cosine 0x42000000#32 r
  sa := sine 0x42000000#32 r
  cb := cosine 0x42800000#32 r
  sb := sine 0x42800000#32 r

def argWeights (w : (⟨2, ![2048, 4160]⟩ : Shape).Idx → EReal) (gq gkv : (⟨1, ![512]⟩ : Shape).Idx → EReal)
    (uq : (⟨2, ![512, 1536]⟩ : Shape).Idx → EReal) (uk uv : (⟨2, ![512, 1024]⟩ : Shape).Idx → EReal) : Weights where
  w := at2 w
  gq := at1 gq
  gkv := at1 gkv
  uq := at2 uq
  uk := at2 uk
  uv := at2 uv

/-! ## Three pieces side by side -/

theorem three2_at (n k : ℕ) (hn : n + n + k = 128) (x y : (⟨2, ![2048, n]⟩ : Shape).Idx → EReal) (z : (⟨2, ![2048, k]⟩ : Shape).Idx → EReal)
    (h : Shape.Concatenates ([(⟨_, x⟩ : (s : Shape) × (s.Idx → EReal)), ⟨_, y⟩, ⟨_, z⟩].map (·.1)) ⟨2, ![2048, 128]⟩ 1)
    (p : Fin 2048) (e : Fin 128) (f g : ℕ → EReal) (w : EReal)
    (hx : ∀ j : Fin n, x (ValueIdx.ix2 p j) = f j.val) (hy : ∀ j : Fin n, y (ValueIdx.ix2 p j) = g j.val) (hz : ∀ j : Fin k, z (ValueIdx.ix2 p j) = w) :
    concatenate ⟨2, ![2048, 128]⟩ 1 [(⟨_, x⟩ : (s : Shape) × (s.Idx → EReal)), ⟨_, y⟩, ⟨_, z⟩] h (ValueIdx.ix2 p e)
      = if e.val < n then f e.val else if e.val < 2 * n then g (e.val - n) else w := by
  have he := e.isLt
  by_cases h1 : e.val < n
  · rw [if_pos h1]
    refine (concatenate_apply_piece (t := ⟨2, ![2048, 128]⟩) (1 : Fin 2) [(⟨_, x⟩ : (s : Shape) × (s.Idx → EReal)), ⟨_, y⟩, ⟨_, z⟩] h (ValueIdx.ix2 p e) 0 (by decide : 0 < 3) ⟨2, ![2048, n]⟩ x rfl rfl 0 rfl (ValueIdx.ix2 p ⟨e.val, h1⟩)
      (fun b : Fin 2 => match b with | ⟨0, _⟩ => fun _ => rfl | ⟨1, _⟩ => fun hb => absurd rfl hb) (Nat.zero_add _)).trans (hx ⟨e.val, h1⟩)
  · rw [if_neg h1]
    by_cases h2 : e.val < 2 * n
    · rw [if_pos h2]
      refine (concatenate_apply_piece (t := ⟨2, ![2048, 128]⟩) (1 : Fin 2) [(⟨_, x⟩ : (s : Shape) × (s.Idx → EReal)), ⟨_, y⟩, ⟨_, z⟩] h (ValueIdx.ix2 p e) 1 (by decide : 1 < 3) ⟨2, ![2048, n]⟩ y rfl rfl n rfl (ValueIdx.ix2 p ⟨e.val - n, by omega⟩)
        (fun b : Fin 2 => match b with | ⟨0, _⟩ => fun _ => rfl | ⟨1, _⟩ => fun hb => absurd rfl hb)
        (show n + (e.val - n) = e.val by omega)).trans (hy ⟨e.val - n, by omega⟩)
    · rw [if_neg h2]
      exact (concatenate_apply_piece (t := ⟨2, ![2048, 128]⟩) (1 : Fin 2) [(⟨_, x⟩ : (s : Shape) × (s.Idx → EReal)), ⟨_, y⟩, ⟨_, z⟩] h (ValueIdx.ix2 p e) 2 (by decide : 2 < 3) ⟨2, ![2048, k]⟩ z rfl rfl (n + n) rfl (ValueIdx.ix2 p ⟨e.val - (n + n), by omega⟩)
        (fun b : Fin 2 => match b with | ⟨0, _⟩ => fun _ => rfl | ⟨1, _⟩ => fun hb => absurd rfl hb)
        (show n + n + (e.val - (n + n)) = e.val by omega)).trans (hz ⟨e.val - (n + n), by omega⟩)

theorem three4_at {H : ℕ} (a b c N : ℕ) (hN : a + b + c = N) (x : (⟨4, ![16, 2048, H, a]⟩ : Shape).Idx → EReal)
    (y : (⟨4, ![16, 2048, H, b]⟩ : Shape).Idx → EReal) (z : (⟨4, ![16, 2048, H, c]⟩ : Shape).Idx → EReal)
    (h : Shape.Concatenates ([(⟨_, x⟩ : (s : Shape) × (s.Idx → EReal)), ⟨_, y⟩, ⟨_, z⟩].map (·.1)) ⟨4, ![16, 2048, H, N]⟩ 3)
    (i : (⟨4, ![16, 2048, H, N]⟩ : Shape).Idx) (f g w : ℕ → EReal)
    (hx : ∀ j : Fin a, x (ValueIdx.ix4 (i 0) (i 1) (i 2) j) = f j.val) (hy : ∀ j : Fin b, y (ValueIdx.ix4 (i 0) (i 1) (i 2) j) = g j.val)
    (hz : ∀ j : Fin c, z (ValueIdx.ix4 (i 0) (i 1) (i 2) j) = w j.val) :
    concatenate ⟨4, ![16, 2048, H, N]⟩ 3 [(⟨_, x⟩ : (s : Shape) × (s.Idx → EReal)), ⟨_, y⟩, ⟨_, z⟩] h i
      = if (i 3).val < a then f (i 3).val else if (i 3).val < a + b then g ((i 3).val - a) else w ((i 3).val - (a + b)) := by
  have he : (i 3).val < N := (i 3).isLt
  by_cases h1 : (i 3).val < a
  · rw [if_pos h1]
    refine (concatenate_apply_piece (t := ⟨4, ![16, 2048, H, N]⟩) (3 : Fin 4) [(⟨_, x⟩ : (s : Shape) × (s.Idx → EReal)), ⟨_, y⟩, ⟨_, z⟩] h i 0 (by decide : 0 < 3) ⟨4, ![16, 2048, H, a]⟩ x rfl rfl 0 rfl (ValueIdx.ix4 (i 0) (i 1) (i 2) ⟨(i 3).val, h1⟩)
      (fun b : Fin 4 => match b with | ⟨0, _⟩ => fun _ => rfl | ⟨1, _⟩ => fun _ => rfl | ⟨2, _⟩ => fun _ => rfl | ⟨3, _⟩ => fun hb => absurd rfl hb)
      (Nat.zero_add _)).trans (hx ⟨(i 3).val, h1⟩)
  · rw [if_neg h1]
    by_cases h2 : (i 3).val < a + b
    · rw [if_pos h2]
      refine (concatenate_apply_piece (t := ⟨4, ![16, 2048, H, N]⟩) (3 : Fin 4) [(⟨_, x⟩ : (s : Shape) × (s.Idx → EReal)), ⟨_, y⟩, ⟨_, z⟩] h i 1 (by decide : 1 < 3) ⟨4, ![16, 2048, H, b]⟩ y rfl rfl a rfl (ValueIdx.ix4 (i 0) (i 1) (i 2) ⟨(i 3).val - a, by omega⟩)
        (fun b : Fin 4 => match b with | ⟨0, _⟩ => fun _ => rfl | ⟨1, _⟩ => fun _ => rfl | ⟨2, _⟩ => fun _ => rfl | ⟨3, _⟩ => fun hb => absurd rfl hb)
        (show a + ((i 3).val - a) = (i 3).val by omega)).trans (hy ⟨(i 3).val - a, by omega⟩)
    · rw [if_neg h2]
      exact (concatenate_apply_piece (t := ⟨4, ![16, 2048, H, N]⟩) (3 : Fin 4) [(⟨_, x⟩ : (s : Shape) × (s.Idx → EReal)), ⟨_, y⟩, ⟨_, z⟩] h i 2 (by decide : 2 < 3) ⟨4, ![16, 2048, H, c]⟩ z rfl rfl (a + b) rfl (ValueIdx.ix4 (i 0) (i 1) (i 2) ⟨(i 3).val - (a + b), by omega⟩)
        (fun b : Fin 4 => match b with | ⟨0, _⟩ => fun _ => rfl | ⟨1, _⟩ => fun _ => rfl | ⟨2, _⟩ => fun _ => rfl | ⟨3, _⟩ => fun hb => absurd rfl hb)
        (show a + b + ((i 3).val - (a + b)) = (i 3).val by omega)).trans (hz ⟨(i 3).val - (a + b), by omega⟩)

end Cert.Proj
end
-- ==== Proof.ProjHost.lean ====
/-
  The arrays that the host hands to the second call, at an index.
-/
module

public import proofs.«01_k».proof.Proof.ProjArgs
public import proofs.«01_k».proof.Proof.InFrameIdeal
public import Idealize.ShloMosaic.Lib.StableHlo.ReadAt
public import Idealize.ShloMosaic.Lib.KernelVsHost

@[expose] public section

noncomputable section

namespace Cert.Proj

open Idealize.ShloMosaic Idealize.ShloMosaic.TcCoe Cert.At Cert.Norm Cert.Kernel2Ideal Cert.Kernel2Ideal.Gen Cert.Kernel2Ideal.In
open scoped BigOperators

variable (m : (ℓ : Loc nD τ sig) → Buf (Elt Ideal) ℓ) (c : Dev nD)

/-- The arguments. -/
abbrev arg0 : Vec Ideal S16x2048x2048 .f32 := m ((c.tc : Thread nD τ).loc main_arg0)
abbrev arg1 : Vec Ideal S16x12288 .f32 := m ((c.tc : Thread nD τ).loc main_arg1)
abbrev arg2 : Vec Ideal S2048x4160 .f32 := m ((c.tc : Thread nD τ).loc main_arg2)
abbrev arg3 : Vec Ideal S512 .f32 := m ((c.tc : Thread nD τ).loc main_arg3)
abbrev arg4 : Vec Ideal S512 .f32 := m ((c.tc : Thread nD τ).loc main_arg4)
abbrev arg5 : Vec Ideal S512x1536 .f32 := m ((c.tc : Thread nD τ).loc main_arg5)
abbrev arg6 : Vec Ideal S512x1024 .f32 := m ((c.tc : Thread nD τ).loc main_arg6)
abbrev arg7 : Vec Ideal S512x1024 .f32 := m ((c.tc : Thread nD τ).loc main_arg7)

theorem host0 (i : Fin 32768) (j : Fin 2048) : V m c main_v0 (ValueIdx.ix2 i j) = at3 (A := 16) (B := 2048) (C := 2048) (arg0 m c) (i.val / 2048) (i.val % 2048) j.val := by
  unfold V
  after_reads_at
  exact (at3_eq _ _ rfl rfl rfl).symm

theorem host1 (i : Fin 96) (j : Fin 1) (k : Fin 2048) : V m c main_v1 (ValueIdx.ix3 i j k) = at2 (A := 16) (B := 12288) (arg1 m c) (i.val / 6) (i.val % 6 * 2048 + k.val) := by
  unfold V
  after_reads_at
  exact (at2_eq _ _ rfl rfl).symm

/-- The input weights but for the values' columns, and 64 columns of zeros. -/
theorem host6 (i : Fin 2048) (j : Fin 3200) : V m c main_v6 (ValueIdx.ix2 i j)
    = if j.val < 2048 then at2 (A := 2048) (B := 4160) (arg2 m c) i.val j.val
      else if j.val < 3136 then at2 (A := 2048) (B := 4160) (arg2 m c) i.val (1024 + j.val) else 0 := by
  unfold V
  after_reads_at
  after_reads_at
  by_cases h : j.val < 2048
  · rw [if_pos h]
    exact (dif_pos (show j.val < 3136 by omega)).trans ((dif_pos h).trans (at2_eq _ _ rfl rfl).symm)
  rw [if_neg h]
  by_cases h' : j.val < 3136
  · rw [if_pos h']
    refine (dif_pos h').trans ((dif_neg h).trans ?_)
    rw [show 1024 + j.val = 3072 + (j.val - 2048) by omega]
    exact (at2_eq _ _ rfl rfl).symm
  · rw [if_neg h']
    refine (dif_neg h').trans ?_
    show ((((0#32 : BitVec 32).toInt : ℤ) : ℝ) : EReal) = 0
    simp

theorem host8 (i : Fin 1024) (j : Fin 2048) : V m c main_v8 (ValueIdx.ix2 i j) = at2 (A := 2048) (B := 4160) (arg2 m c) j.val (2048 + i.val) := by
  unfold V
  after_reads_at
  exact (at2_eq _ _ rfl rfl).symm

/-- The queries' up-projection, each head's 192 columns with 64 of zeros. -/
theorem host12 (i : Fin 512) (j : Fin 2048) : V m c main_v12 (ValueIdx.ix2 i j)
    = if j.val % 256 < 192 then at2 (A := 512) (B := 1536) (arg5 m c) i.val (j.val / 256 * 192 + j.val % 256) else 0 := by
  unfold V
  after_reads_at
  by_cases h : j.val / 256 < 8 ∧ j.val % 256 < 192
  · rw [dif_pos h]
    refine Eq.trans ?_ (if_pos h.2).symm
    exact (at2_eq (A := 512) (B := 1536) (arg5 m c) _ rfl rfl).symm
  · rw [dif_neg h, if_neg (fun h' => h ⟨by omega, h'⟩)]
    show ((((0#32 : BitVec 32).toInt : ℤ) : ℝ) : EReal) = 0
    simp

theorem host59 (i : Fin 512) (j : Fin 1024) : V m c main_v59 (ValueIdx.ix2 i j) = at2 (A := 512) (B := 1024) (arg6 m c) i.val j.val := by
  unfold V
  after_reads_at
  exact (at2_eq _ _ rfl rfl).symm

theorem host61 (i : Fin 1024) (j : Fin 512) : V m c main_v61 (ValueIdx.ix2 i j) = at2 (A := 512) (B := 1024) (arg7 m c) j.val i.val := by
  unfold V
  after_reads_at
  exact (at2_eq _ _ rfl rfl).symm

theorem host62 (i : Fin 1) (j : Fin 512) : V m c main_v62 (ValueIdx.ix2 i j) = at1 (A := 512) (arg3 m c) j.val := by
  unfold V
  after_reads_at
  exact (at1_eq _ _ rfl).symm

theorem host63 (i : Fin 1) (j : Fin 512) : V m c main_v63 (ValueIdx.ix2 i j) = at1 (A := 512) (arg4 m c) j.val := by
  unfold V
  after_reads_at
  exact (at1_eq _ _ rfl).symm

/-- The cosines, twice, and ones. -/
theorem host32 (p : Fin 2048) (e : Fin 128) : V m c main_v32 (ValueIdx.ix2 p e) = tableC 16 (cosine 0x42000000#32 p.val) e.val := by
  unfold V
  after_reads_at
  unfold tableC
  by_cases h : e.val < 16
  · rw [if_pos h]
    refine (dif_pos h).trans ?_
    after_reads_at
    rfl
  rw [if_neg h]
  refine (dif_neg h).trans ?_
  by_cases h' : e.val < 2 * 16
  · rw [if_pos h']
    refine (dif_pos (show e.val - 16 < 16 by omega)).trans ?_
    after_reads_at
    rfl
  · rw [if_neg h']
    refine (dif_neg (show ¬ e.val - 16 < 16 by omega)).trans ?_
    after_reads_at
    done

/-- The sines with the sign changed, and zeros. -/
theorem host34 (p : Fin 2048) (e : Fin 128) : V m c main_v34 (ValueIdx.ix2 p e) = tableL 16 (sine 0x42000000#32 p.val) e.val := by
  unfold V
  after_reads_at
  unfold tableL
  by_cases h : e.val < 16
  · rw [if_pos h]
    refine (dif_pos h).trans ?_
    after_reads_at
    rfl
  rw [if_neg h]
  refine (dif_neg h).trans ?_
  by_cases h' : e.val < 2 * 16
  · refine (dif_pos (show e.val - 16 < 16 by omega)).trans ?_
    after_reads_at
  · refine (dif_neg (show ¬ e.val - 16 < 16 by omega)).trans ?_
    after_reads_at

/-- The sines in the second half, and zeros. -/
theorem host35 (p : Fin 2048) (e : Fin 128) : V m c main_v35 (ValueIdx.ix2 p e) = tableH 16 (sine 0x42000000#32 p.val) e.val := by
  unfold V
  after_reads_at
  unfold tableH
  by_cases h : e.val < 16
  · rw [if_pos h]
    refine (dif_pos h).trans ?_
    after_reads_at
  rw [if_neg h]
  refine (dif_neg h).trans ?_
  by_cases h' : e.val < 2 * 16
  · rw [if_pos h']
    refine (dif_pos (show e.val - 16 < 16 by omega)).trans ?_
    after_reads_at
    rfl
  · rw [if_neg h']
    refine (dif_neg (show ¬ e.val - 16 < 16 by omega)).trans ?_
    after_reads_at

/-- The cosines, twice, and ones. -/
theorem host55 (p : Fin 2048) (e : Fin 128) : V m c main_v55 (ValueIdx.ix2 p e) = tableC 32 (cosine 0x42800000#32 p.val) e.val := by
  unfold V
  after_reads_at
  unfold tableC
  by_cases h : e.val < 32
  · rw [if_pos h]
    refine (dif_pos h).trans ?_
    after_reads_at
    rfl
  rw [if_neg h]
  refine (dif_neg h).trans ?_
  by_cases h' : e.val < 2 * 32
  · rw [if_pos h']
    refine (dif_pos (show e.val - 32 < 32 by omega)).trans ?_
    after_reads_at
    rfl
  · rw [if_neg h']
    refine (dif_neg (show ¬ e.val - 32 < 32 by omega)).trans ?_
    after_reads_at
    done

/-- The sines with the sign changed, and zeros. -/
theorem host57 (p : Fin 2048) (e : Fin 128) : V m c main_v57 (ValueIdx.ix2 p e) = tableL 32 (sine 0x42800000#32 p.val) e.val := by
  unfold V
  after_reads_at
  unfold tableL
  by_cases h : e.val < 32
  · rw [if_pos h]
    refine (dif_pos h).trans ?_
    after_reads_at
    rfl
  rw [if_neg h]
  refine (dif_neg h).trans ?_
  by_cases h' : e.val < 2 * 32
  · refine (dif_pos (show e.val - 32 < 32 by omega)).trans ?_
    after_reads_at
  · refine (dif_neg (show ¬ e.val - 32 < 32 by omega)).trans ?_
    after_reads_at

/-- The sines in the second half, and zeros. -/
theorem host58 (p : Fin 2048) (e : Fin 128) : V m c main_v58 (ValueIdx.ix2 p e) = tableH 32 (sine 0x42800000#32 p.val) e.val := by
  unfold V
  after_reads_at
  unfold tableH
  by_cases h : e.val < 32
  · rw [if_pos h]
    refine (dif_pos h).trans ?_
    after_reads_at
  rw [if_neg h]
  refine (dif_neg h).trans ?_
  by_cases h' : e.val < 2 * 32
  · rw [if_pos h']
    refine (dif_pos (show e.val - 32 < 32 by omega)).trans ?_
    after_reads_at
    rfl
  · rw [if_neg h']
    refine (dif_neg (show ¬ e.val - 32 < 32 by omega)).trans ?_
    after_reads_at

end Cert.Proj
end
-- ==== Proof.ProjArray.lean ====
/-
  The blocks that a grid point of the second call stages, and the six arrays after the run.
-/
module

public import proofs.«01_k».proof.Proof.ProjBlock
public import proofs.«01_k».proof.Proof.ProjHost
public import Idealize.ShloMosaic.Lib.Pipeline.ValueKit
public import Idealize.ShloMosaic.Lib.Claim

@[expose] public section

noncomputable section

namespace Cert.Proj

open Idealize.ShloMosaic Idealize.ShloMosaic.TcCoe Cert.At Cert.Norm Cert.Kernel2Ideal Cert.Kernel2Ideal.Gen Cert.Kernel2Ideal.In
open scoped BigOperators

variable (m : (ℓ : Loc nD τ sig) → Buf (Elt Ideal) ℓ) (c : Dev nD)

/-! ## The blocks -/

/-- The block that a point stages or writes: point `t` is batch `t / 4`, rows `512 (t % 4)`. -/
theorem idx : ∀ t : Fin cfg0.N, win0_0.index t = ![t.val, 0] ∧ win0_1.index t = ![t.val / 4 * 6 + 1, 0, 0] ∧ win0_2.index t = ![t.val / 4 * 6 + 0, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val % 4, 0] ∧ win0_11.index t = ![t.val % 4, 0]
    ∧ win0_12.index t = ![t.val % 4, 0] ∧ win0_13.index t = ![t.val % 4, 0] ∧ win0_14.index t = ![t.val % 4, 0] ∧ win0_15.index t = ![t.val % 4, 0]
    ∧ win0_16.index t = ![t.val, 0] ∧ win0_17.index t = ![t.val, 0] ∧ win0_18.index t = ![0, t.val] ∧ win0_19.index t = ![t.val, 0]
    ∧ win0_20.index t = ![t.val, 0] ∧ win0_21.index t = ![0, t.val] :=
  (by decide +kernel : ∀ t : Fin grid0.N, _)

theorem blk0 (t : Fin cfg0.N) (i : Fin 512) : at2 (A := 512) (B := 2048) (iblk m c 0 t) i.val
    = at3 (A := 16) (B := 2048) (C := 2048) (arg0 m c) ((t.val * 512 + i.val) / 2048) ((t.val * 512 + i.val) % 2048) := by
  have ht : t.val < 64 := t.isLt
  refine row_ext _ _ _ (fun j => ?_) (fun j hj => at3_out _ (.inr (.inr hj)))
  rw [at2_of_lt _ i.isLt j.isLt]
  refine Eq.trans ?_ (host0 m c ⟨t.val * 512 + i.val, by omega⟩ j)
  refine congrArg (V m c main_v0) (a₂ := ValueIdx.ix2 (⟨t.val * 512 + i.val, by omega⟩ : Fin 32768) j) (a₁ := ((cfg0.win 0).blk t).view.emb (ValueIdx.ix2 i j)) (funext fun a => Fin.ext ?_)
  match a with
  | ⟨0, _⟩ => blk_simp [idx t]
  | ⟨1, _⟩ => blk_simp [idx t]

theorem blk1 (t : Fin cfg0.N) (i : Fin 512) : at3 (A := 1) (B := 1) (C := 2048) (iblk m c 1 t) 0 0
    = cut 2048 fun k => at2 (A := 16) (B := 12288) (arg1 m c) ((t.val * 512 + i.val) / 2048) (2048 + k) := by
  have ht : t.val < 64 := t.isLt
  refine row3_ext _ _ _ _ (fun k => ?_) (fun k hk => cut_out hk)
  rw [cut_of_lt k.isLt]
  refine (at3_eq (A := 1) (B := 1) (C := 2048) (iblk m c 1 t) (ValueIdx.ix3 (0 : Fin 1) (0 : Fin 1) k) rfl rfl rfl).trans ?_
  have h := host1 m c ⟨t.val / 4 * 6 + 1, by omega⟩ 0 k
  simp only at h
  rw [show (t.val / 4 * 6 + 1) / 6 = (t.val * 512 + i.val) / 2048 by omega, show (t.val / 4 * 6 + 1) % 6 * 2048 = 2048 by omega] at h
  refine Eq.trans ?_ h
  refine congrArg (V m c main_v1) (a₂ := ValueIdx.ix3 (⟨t.val / 4 * 6 + 1, by omega⟩ : Fin 96) (0 : Fin 1) k) (a₁ := ((cfg0.win 1).blk t).view.emb (ValueIdx.ix3 (0 : Fin 1) (0 : Fin 1) k)) (funext fun a => Fin.ext ?_)
  match a with
  | ⟨0, _⟩ => blk_simp [idx t]
  | ⟨1, _⟩ => blk_simp [idx t]
  | ⟨2, _⟩ => blk_simp [idx t]

theorem blk2 (t : Fin cfg0.N) (i : Fin 512) : at3 (A := 1) (B := 1) (C := 2048) (iblk m c 2 t) 0 0
    = cut 2048 fun k => at2 (A := 16) (B := 12288) (arg1 m c) ((t.val * 512 + i.val) / 2048) (k) := by
  have ht : t.val < 64 := t.isLt
  refine row3_ext _ _ _ _ (fun k => ?_) (fun k hk => cut_out hk)
  rw [cut_of_lt k.isLt]
  refine (at3_eq (A := 1) (B := 1) (C := 2048) (iblk m c 2 t) (ValueIdx.ix3 (0 : Fin 1) (0 : Fin 1) k) rfl rfl rfl).trans ?_
  have h := host1 m c ⟨t.val / 4 * 6 + 0, by omega⟩ 0 k
  simp only at h
  rw [show (t.val / 4 * 6 + 0) / 6 = (t.val * 512 + i.val) / 2048 by omega, show (t.val / 4 * 6 + 0) % 6 * 2048 = 0 by omega, Nat.zero_add] at h
  refine Eq.trans ?_ h
  refine congrArg (V m c main_v1) (a₂ := ValueIdx.ix3 (⟨t.val / 4 * 6 + 0, by omega⟩ : Fin 96) (0 : Fin 1) k) (a₁ := ((cfg0.win 2).blk t).view.emb (ValueIdx.ix3 (0 : Fin 1) (0 : Fin 1) k)) (funext fun a => Fin.ext ?_)
  match a with
  | ⟨0, _⟩ => blk_simp [idx t]
  | ⟨1, _⟩ => blk_simp [idx t]
  | ⟨2, _⟩ => blk_simp [idx t]

/-- The launch's weights. -/
abbrev weightsOf : Weights := argWeights (arg2 m c) (arg3 m c) (arg4 m c) (arg5 m c) (arg6 m c) (arg7 m c)

theorem blk3 (t : Fin cfg0.N) : at2 (A := 2048) (B := 3200) (iblk m c 3 t) = fun k j => if j < 2048 then at2 (A := 2048) (B := 4160) (arg2 m c) k j
      else if j < 3136 then at2 (A := 2048) (B := 4160) (arg2 m c) k (1024 + j) else 0 := by
  funext i
  by_cases hi : i < 2048
  · refine row_ext _ _ _ (fun j => ?_) (fun j hj => (if_neg (by omega)).trans (if_neg (by omega)))
    rw [at2_of_lt _ hi j.isLt]
    refine Eq.trans ?_ (host6 m c ⟨i, hi⟩ j)
    refine congrArg (V m c main_v6) (a₂ := ValueIdx.ix2 (⟨i, hi⟩ : Fin 2048) j) (a₁ := ((cfg0.win 3).blk t).view.emb (ValueIdx.ix2 (⟨i, hi⟩ : Fin 2048) j)) (funext fun a => Fin.ext ?_)
    match a with
    | ⟨0, _⟩ => blk_simp [idx t]
    | ⟨1, _⟩ => blk_simp [idx t]
  · funext j
    rw [at2_out _ (.inl (by omega)), at2_out (arg2 m c) (.inl (by omega)), at2_out (arg2 m c) (.inl (by omega)), ite_self, ite_self]

theorem blk4 (t : Fin cfg0.N) : at2 (A := 1024) (B := 2048) (iblk m c 4 t) = fun j k => if j < 1024 then at2 (A := 2048) (B := 4160) (arg2 m c) k (2048 + j) else 0 := by
  funext i
  by_cases hi : i < 1024
  · refine row_ext _ _ _ (fun j => ?_) (fun j hj => (if_pos hi).trans (at2_out _ (.inl hj)))
    rw [at2_of_lt _ hi j.isLt]
    refine Eq.trans ?_ ((host8 m c ⟨i, hi⟩ j).trans (if_pos hi).symm)
    refine congrArg (V m c main_v8) (a₂ := ValueIdx.ix2 (⟨i, hi⟩ : Fin 1024) j) (a₁ := ((cfg0.win 4).blk t).view.emb (ValueIdx.ix2 (⟨i, hi⟩ : Fin 1024) j)) (funext fun a => Fin.ext ?_)
    match a with
    | ⟨0, _⟩ => blk_simp [idx t]
    | ⟨1, _⟩ => blk_simp [idx t]
  · funext j
    rw [at2_out _ (.inl (by omega)), if_neg hi]

theorem blk5 (t : Fin cfg0.N) : at2 (A := 512) (B := 2048) (iblk m c 5 t) = fun r j => if j < 2048 then (if j % 256 < 192 then at2 (A := 512) (B := 1536) (arg5 m c) r (j / 256 * 192 + j % 256) else 0) else 0 := by
  funext i
  by_cases hi : i < 512
  · refine row_ext _ _ _ (fun j => ?_) (fun j hj => if_neg (by omega))
    rw [at2_of_lt _ hi j.isLt]
    refine Eq.trans ?_ ((host12 m c ⟨i, hi⟩ j).trans (if_pos j.isLt).symm)
    refine congrArg (V m c main_v12) (a₂ := ValueIdx.ix2 (⟨i, hi⟩ : Fin 512) j) (a₁ := ((cfg0.win 5).blk t).view.emb (ValueIdx.ix2 (⟨i, hi⟩ : Fin 512) j)) (funext fun a => Fin.ext ?_)
    match a with
    | ⟨0, _⟩ => blk_simp [idx t]
    | ⟨1, _⟩ => blk_simp [idx t]
  · funext j
    rw [at2_out _ (.inl (by omega)), at2_out (arg5 m c) (.inl (by omega)), ite_self, ite_self]

theorem blk6 (t : Fin cfg0.N) : at2 (A := 512) (B := 1024) (iblk m c 6 t) = at2 (A := 512) (B := 1024) (arg6 m c) := by
  funext i
  by_cases hi : i < 512
  · refine row_ext _ _ _ (fun j => ?_) (fun j hj => at2_out _ (.inr hj))
    rw [at2_of_lt _ hi j.isLt]
    refine Eq.trans ?_ (host59 m c ⟨i, hi⟩ j)
    refine congrArg (V m c main_v59) (a₂ := ValueIdx.ix2 (⟨i, hi⟩ : Fin 512) j) (a₁ := ((cfg0.win 6).blk t).view.emb (ValueIdx.ix2 (⟨i, hi⟩ : Fin 512) j)) (funext fun a => Fin.ext ?_)
    match a with
    | ⟨0, _⟩ => blk_simp [idx t]
    | ⟨1, _⟩ => blk_simp [idx t]
  · funext j
    rw [at2_out _ (.inl (by omega)), at2_out _ (.inl (by omega))]

theorem blk7 (t : Fin cfg0.N) : at2 (A := 1024) (B := 512) (iblk m c 7 t) = fun j r => at2 (A := 512) (B := 1024) (arg7 m c) r j := by
  funext i
  by_cases hi : i < 1024
  · refine row_ext _ _ _ (fun j => ?_) (fun j hj => at2_out _ (.inl hj))
    rw [at2_of_lt _ hi j.isLt]
    refine Eq.trans ?_ (host61 m c ⟨i, hi⟩ j)
    refine congrArg (V m c main_v61) (a₂ := ValueIdx.ix2 (⟨i, hi⟩ : Fin 1024) j) (a₁ := ((cfg0.win 7).blk t).view.emb (ValueIdx.ix2 (⟨i, hi⟩ : Fin 1024) j)) (funext fun a => Fin.ext ?_)
    match a with
    | ⟨0, _⟩ => blk_simp [idx t]
    | ⟨1, _⟩ => blk_simp [idx t]
  · funext j
    rw [at2_out _ (.inl (by omega)), at2_out _ (.inr (by omega))]

theorem blk8 (t : Fin cfg0.N) : at2 (A := 1) (B := 512) (iblk m c 8 t) 0 = at1 (A := 512) (arg3 m c) := by
  refine row_ext _ _ _ (fun j => ?_) (fun j hj => at1_out _ hj)
  rw [at2_of_lt _ (show 0 < 1 by norm_num) j.isLt]
  refine Eq.trans ?_ (host62 m c 0 j)
  refine congrArg (V m c main_v62) (a₂ := ValueIdx.ix2 (0 : Fin 1) j) (a₁ := ((cfg0.win 8).blk t).view.emb (ValueIdx.ix2 (0 : Fin 1) j)) (funext fun a => Fin.ext ?_)
  match a with
  | ⟨0, _⟩ => blk_simp [idx t]
  | ⟨1, _⟩ => blk_simp [idx t]

theorem blk9 (t : Fin cfg0.N) : at2 (A := 1) (B := 512) (iblk m c 9 t) 0 = at1 (A := 512) (arg4 m c) := by
  refine row_ext _ _ _ (fun j => ?_) (fun j hj => at1_out _ hj)
  rw [at2_of_lt _ (show 0 < 1 by norm_num) j.isLt]
  refine Eq.trans ?_ (host63 m c 0 j)
  refine congrArg (V m c main_v63) (a₂ := ValueIdx.ix2 (0 : Fin 1) j) (a₁ := ((cfg0.win 9).blk t).view.emb (ValueIdx.ix2 (0 : Fin 1) j)) (funext fun a => Fin.ext ?_)
  match a with
  | ⟨0, _⟩ => blk_simp [idx t]
  | ⟨1, _⟩ => blk_simp [idx t]

theorem blk10 (t : Fin cfg0.N) (i : Fin 512) : at2 (A := 512) (B := 128) (iblk m c 10 t) i.val
    = cut 128 (tableC 16 (cosine 0x42000000#32 ((t.val * 512 + i.val) % 2048))) := by
  have ht : t.val < 64 := t.isLt
  refine row_ext _ _ _ (fun j => ?_) (fun j hj => cut_out hj)
  rw [at2_of_lt _ i.isLt j.isLt, cut_of_lt j.isLt, show (t.val * 512 + i.val) % 2048 = t.val % 4 * 512 + i.val by omega]
  refine Eq.trans ?_ (host32 m c ⟨t.val % 4 * 512 + i.val, by omega⟩ j)
  refine congrArg (V m c main_v32) (a₂ := ValueIdx.ix2 (⟨t.val % 4 * 512 + i.val, by omega⟩ : Fin 2048) j) (a₁ := ((cfg0.win 10).blk t).view.emb (ValueIdx.ix2 i j)) (funext fun a => Fin.ext ?_)
  match a with
  | ⟨0, _⟩ => blk_simp [idx t]
  | ⟨1, _⟩ => blk_simp [idx t]

theorem blk11 (t : Fin cfg0.N) (i : Fin 512) : at2 (A := 512) (B := 128) (iblk m c 11 t) i.val
    = cut 128 (tableL 16 (sine 0x42000000#32 ((t.val * 512 + i.val) % 2048))) := by
  have ht : t.val < 64 := t.isLt
  refine row_ext _ _ _ (fun j => ?_) (fun j hj => cut_out hj)
  rw [at2_of_lt _ i.isLt j.isLt, cut_of_lt j.isLt, show (t.val * 512 + i.val) % 2048 = t.val % 4 * 512 + i.val by omega]
  refine Eq.trans ?_ (host34 m c ⟨t.val % 4 * 512 + i.val, by omega⟩ j)
  refine congrArg (V m c main_v34) (a₂ := ValueIdx.ix2 (⟨t.val % 4 * 512 + i.val, by omega⟩ : Fin 2048) j) (a₁ := ((cfg0.win 11).blk t).view.emb (ValueIdx.ix2 i j)) (funext fun a => Fin.ext ?_)
  match a with
  | ⟨0, _⟩ => blk_simp [idx t]
  | ⟨1, _⟩ => blk_simp [idx t]

theorem blk12 (t : Fin cfg0.N) (i : Fin 512) : at2 (A := 512) (B := 128) (iblk m c 12 t) i.val
    = cut 128 (tableH 16 (sine 0x42000000#32 ((t.val * 512 + i.val) % 2048))) := by
  have ht : t.val < 64 := t.isLt
  refine row_ext _ _ _ (fun j => ?_) (fun j hj => cut_out hj)
  rw [at2_of_lt _ i.isLt j.isLt, cut_of_lt j.isLt, show (t.val * 512 + i.val) % 2048 = t.val % 4 * 512 + i.val by omega]
  refine Eq.trans ?_ (host35 m c ⟨t.val % 4 * 512 + i.val, by omega⟩ j)
  refine congrArg (V m c main_v35) (a₂ := ValueIdx.ix2 (⟨t.val % 4 * 512 + i.val, by omega⟩ : Fin 2048) j) (a₁ := ((cfg0.win 12).blk t).view.emb (ValueIdx.ix2 i j)) (funext fun a => Fin.ext ?_)
  match a with
  | ⟨0, _⟩ => blk_simp [idx t]
  | ⟨1, _⟩ => blk_simp [idx t]

theorem blk13 (t : Fin cfg0.N) (i : Fin 512) : at2 (A := 512) (B := 128) (iblk m c 13 t) i.val
    = cut 128 (tableC 32 (cosine 0x42800000#32 ((t.val * 512 + i.val) % 2048))) := by
  have ht : t.val < 64 := t.isLt
  refine row_ext _ _ _ (fun j => ?_) (fun j hj => cut_out hj)
  rw [at2_of_lt _ i.isLt j.isLt, cut_of_lt j.isLt, show (t.val * 512 + i.val) % 2048 = t.val % 4 * 512 + i.val by omega]
  refine Eq.trans ?_ (host55 m c ⟨t.val % 4 * 512 + i.val, by omega⟩ j)
  refine congrArg (V m c main_v55) (a₂ := ValueIdx.ix2 (⟨t.val % 4 * 512 + i.val, by omega⟩ : Fin 2048) j) (a₁ := ((cfg0.win 13).blk t).view.emb (ValueIdx.ix2 i j)) (funext fun a => Fin.ext ?_)
  match a with
  | ⟨0, _⟩ => blk_simp [idx t]
  | ⟨1, _⟩ => blk_simp [idx t]

theorem blk14 (t : Fin cfg0.N) (i : Fin 512) : at2 (A := 512) (B := 128) (iblk m c 14 t) i.val
    = cut 128 (tableL 32 (sine 0x42800000#32 ((t.val * 512 + i.val) % 2048))) := by
  have ht : t.val < 64 := t.isLt
  refine row_ext _ _ _ (fun j => ?_) (fun j hj => cut_out hj)
  rw [at2_of_lt _ i.isLt j.isLt, cut_of_lt j.isLt, show (t.val * 512 + i.val) % 2048 = t.val % 4 * 512 + i.val by omega]
  refine Eq.trans ?_ (host57 m c ⟨t.val % 4 * 512 + i.val, by omega⟩ j)
  refine congrArg (V m c main_v57) (a₂ := ValueIdx.ix2 (⟨t.val % 4 * 512 + i.val, by omega⟩ : Fin 2048) j) (a₁ := ((cfg0.win 14).blk t).view.emb (ValueIdx.ix2 i j)) (funext fun a => Fin.ext ?_)
  match a with
  | ⟨0, _⟩ => blk_simp [idx t]
  | ⟨1, _⟩ => blk_simp [idx t]

theorem blk15 (t : Fin cfg0.N) (i : Fin 512) : at2 (A := 512) (B := 128) (iblk m c 15 t) i.val
    = cut 128 (tableH 32 (sine 0x42800000#32 ((t.val * 512 + i.val) % 2048))) := by
  have ht : t.val < 64 := t.isLt
  refine row_ext _ _ _ (fun j => ?_) (fun j hj => cut_out hj)
  rw [at2_of_lt _ i.isLt j.isLt, cut_of_lt j.isLt, show (t.val * 512 + i.val) % 2048 = t.val % 4 * 512 + i.val by omega]
  refine Eq.trans ?_ (host58 m c ⟨t.val % 4 * 512 + i.val, by omega⟩ j)
  refine congrArg (V m c main_v58) (a₂ := ValueIdx.ix2 (⟨t.val % 4 * 512 + i.val, by omega⟩ : Fin 2048) j) (a₁ := ((cfg0.win 15).blk t).view.emb (ValueIdx.ix2 i j)) (funext fun a => Fin.ext ?_)
  match a with
  | ⟨0, _⟩ => blk_simp [idx t]
  | ⟨1, _⟩ => blk_simp [idx t]

/-! ## The results -/

/-- A row of the launch's arguments. -/
abbrev rowOf (b r : ℕ) : Row := argRow (arg0 m c) (arg1 m c) b r

/-- What a point stages. -/
def winOf (t : Fin cfg0.N) : Windows where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

theorem row_eq (t : Fin cfg0.N) (i : Fin 512) : (winOf m c t).row i.val
    = block (rowOf m c ((t.val * 512 + i.val) / 2048) ((t.val * 512 + i.val) % 2048)) (weightsOf m c) := by
  unfold Windows.row winOf block rowOf argRow weightsOf argWeights
  simp only
  rw [blk0 m c t i, blk1 m c t i, blk2 m c t i, blk3 m c t, blk4 m c t, blk5 m c t, blk6 m c t, blk7 m c t, blk8 m c t, blk9 m c t, blk10 m c t i,
    blk11 m c t i, blk12 m c t i, blk13 m c t i, blk14 m c t i, blk15 m c t i]

/-- The six result arrays. -/
def resultQa : Vec Ideal S32768x1024 .bf16 := fun i => qa (rowOf m c ((i 0).val / 2048) ((i 0).val % 2048)) (weightsOf m c) (i 1).val
def resultKa : Vec Ideal S32768x1024 .bf16 := fun i => ka (rowOf m c ((i 0).val / 2048) ((i 0).val % 2048)) (weightsOf m c) (i 1).val
def resultVa : Vec Ideal S1024x32768 .bf16 := fun i => va (rowOf m c ((i 1).val / 2048) ((i 1).val % 2048)) (weightsOf m c) (i 0).val
def resultQb : Vec Ideal S32768x2048 .bf16 := fun i => qb (rowOf m c ((i 0).val / 2048) ((i 0).val % 2048)) (weightsOf m c) (i 1).val
def resultKb : Vec Ideal S32768x2048 .bf16 := fun i => kb (rowOf m c ((i 0).val / 2048) ((i 0).val % 2048)) (weightsOf m c) (i 1).val
def resultVb : Vec Ideal S1024x32768 .bf16 := fun i => vb (rowOf m c ((i 1).val / 2048) ((i 1).val % 2048)) (weightsOf m c) (i 0).val

theorem step16 (t : Fin cfg0.N) : out0_16 (iblk m c 0 t) (iblk m c 1 t) (iblk m c 2 t) (iblk m c 3 t) (iblk m c 10 t) (iblk m c 11 t) (iblk m c 12 t) = outQa (winOf m c t) := by
  rw [← out16_eq]
  simp only [winOf]

theorem array16 : (dats m 0 c).arrAt 16 cfg0.N = resultQa m c := by
  refine (dats m 0 c).arrAt_eq_of_covers 16 _ (by decide +kernel) fun t hf y => ?_
  have h0 : (((cfg0.win 16).blk t).view.emb y 0).val = t.val * 512 + (y 0).val := by blk_simp [idx t]
  have h1 : (((cfg0.win 16).blk t).view.emb y 1).val = (y 1).val := by blk_simp [idx t]
  have h : outQa (winOf m c t) y = resultQa m c (((cfg0.win 16).blk t).view.emb y) := by
    unfold outQa resultQa
    rw [h0, h1]
    exact (congrArg (fun X : Block => X.qa (y 1).val) (row_eq m c t (y 0))).trans (qa_eq _ _ _ (y 1).isLt)
  refine Eq.trans ?_ h
  rw [after0_16, step16]
  rfl

theorem step17 (t : Fin cfg0.N) : out0_17 (iblk m c 0 t) (iblk m c 1 t) (iblk m c 2 t) (iblk m c 3 t) (iblk m c 10 t) (iblk m c 11 t) (iblk m c 12 t) = outKa (winOf m c t) := by
  rw [← out17_eq]
  simp only [winOf]

theorem array17 : (dats m 0 c).arrAt 17 cfg0.N = resultKa m c := by
  refine (dats m 0 c).arrAt_eq_of_covers 17 _ (by decide +kernel) fun t hf y => ?_
  have h0 : (((cfg0.win 17).blk t).view.emb y 0).val = t.val * 512 + (y 0).val := by blk_simp [idx t]
  have h1 : (((cfg0.win 17).blk t).view.emb y 1).val = (y 1).val := by blk_simp [idx t]
  have h : outKa (winOf m c t) y = resultKa m c (((cfg0.win 17).blk t).view.emb y) := by
    unfold outKa resultKa
    rw [h0, h1]
    exact (congrArg (fun X : Block => X.ka (y 1).val) (row_eq m c t (y 0))).trans (ka_eq _ _ _ (y 1).isLt)
  refine Eq.trans ?_ h
  rw [after0_17, step17]
  rfl

theorem step18 (t : Fin cfg0.N) : out0_18 (iblk m c 0 t) (iblk m c 1 t) (iblk m c 2 t) (iblk m c 4 t) = outVa (winOf m c t) := by
  rw [← out18_eq]
  simp only [winOf]

theorem array18 : (dats m 0 c).arrAt 18 cfg0.N = resultVa m c := by
  refine (dats m 0 c).arrAt_eq_of_covers 18 _ (by decide +kernel) fun t hf y => ?_
  have h0 : (((cfg0.win 18).blk t).view.emb y 1).val = t.val * 512 + (y 1).val := by blk_simp [idx t]
  have h1 : (((cfg0.win 18).blk t).view.emb y 0).val = (y 0).val := by blk_simp [idx t]
  have h : outVa (winOf m c t) y = resultVa m c (((cfg0.win 18).blk t).view.emb y) := by
    unfold outVa resultVa
    rw [h0, h1]
    exact (congrArg (fun X : Block => X.va (y 0).val) (row_eq m c t (y 1))).trans (va_eq _ _ _ (y 0).isLt)
  refine Eq.trans ?_ h
  rw [after0_18, step18]
  rfl

theorem step19 (t : Fin cfg0.N) : out0_19 (iblk m c 0 t) (iblk m c 1 t) (iblk m c 2 t) (iblk m c 3 t) (iblk m c 5 t) (iblk m c 8 t) (iblk m c 13 t) (iblk m c 14 t) (iblk m c 15 t) = outQb (winOf m c t) := by
  rw [← out19_eq]
  simp only [winOf]

theorem array19 : (dats m 0 c).arrAt 19 cfg0.N = resultQb m c := by
  refine (dats m 0 c).arrAt_eq_of_covers 19 _ (by decide +kernel) fun t hf y => ?_
  have h0 : (((cfg0.win 19).blk t).view.emb y 0).val = t.val * 512 + (y 0).val := by blk_simp [idx t]
  have h1 : (((cfg0.win 19).blk t).view.emb y 1).val = (y 1).val := by blk_simp [idx t]
  have h : outQb (winOf m c t) y = resultQb m c (((cfg0.win 19).blk t).view.emb y) := by
    unfold outQb resultQb
    rw [h0, h1]
    exact (congrArg (fun X : Block => X.qb (y 1).val) (row_eq m c t (y 0))).trans (qb_eq _ _ _ (y 1).isLt)
  refine Eq.trans ?_ h
  rw [after0_19, step19]
  rfl

theorem step20 (t : Fin cfg0.N) : out0_20 (iblk m c 0 t) (iblk m c 1 t) (iblk m c 2 t) (iblk m c 3 t) (iblk m c 6 t) (iblk m c 9 t) (iblk m c 13 t) (iblk m c 14 t) (iblk m c 15 t) = outKb (winOf m c t) := by
  rw [← out20_eq]
  simp only [winOf]

theorem array20 : (dats m 0 c).arrAt 20 cfg0.N = resultKb m c := by
  refine (dats m 0 c).arrAt_eq_of_covers 20 _ (by decide +kernel) fun t hf y => ?_
  have h0 : (((cfg0.win 20).blk t).view.emb y 0).val = t.val * 512 + (y 0).val := by blk_simp [idx t]
  have h1 : (((cfg0.win 20).blk t).view.emb y 1).val = (y 1).val := by blk_simp [idx t]
  have h : outKb (winOf m c t) y = resultKb m c (((cfg0.win 20).blk t).view.emb y) := by
    unfold outKb resultKb
    rw [h0, h1]
    exact (congrArg (fun X : Block => X.kb (y 1).val) (row_eq m c t (y 0))).trans (kb_eq _ _ _ (y 1).isLt)
  refine Eq.trans ?_ h
  rw [after0_20, step20]
  rfl

theorem step21 (t : Fin cfg0.N) : out0_21 (iblk m c 0 t) (iblk m c 1 t) (iblk m c 2 t) (iblk m c 3 t) (iblk m c 7 t) (iblk m c 9 t) = outVb (winOf m c t) := by
  rw [← out21_eq]
  simp only [winOf]

theorem array21 : (dats m 0 c).arrAt 21 cfg0.N = resultVb m c := by
  refine (dats m 0 c).arrAt_eq_of_covers 21 _ (by decide +kernel) fun t hf y => ?_
  have h0 : (((cfg0.win 21).blk t).view.emb y 1).val = t.val * 512 + (y 1).val := by blk_simp [idx t]
  have h1 : (((cfg0.win 21).blk t).view.emb y 0).val = (y 0).val := by blk_simp [idx t]
  have h : outVb (winOf m c t) y = resultVb m c (((cfg0.win 21).blk t).view.emb y) := by
    unfold outVb resultVb
    rw [h0, h1]
    exact (congrArg (fun X : Block => X.vb (y 0).val) (row_eq m c t (y 1))).trans (vb_eq _ _ _)
  refine Eq.trans ?_ h
  rw [after0_21, step21]
  rfl

theorem post16 (r : PUnit × MemSt nD τ sig (Elt Ideal)) (h : Pipeline.FramePost cfgs (dats m) 0 (V m) r) (c : Dev nD) :
    r.2.mem ((c : Thread nD τ).loc main_v64_0) = resultQa m c := by
  rw [← array16]
  exact (h c).1 16

theorem post17 (r : PUnit × MemSt nD τ sig (Elt Ideal)) (h : Pipeline.FramePost cfgs (dats m) 0 (V m) r) (c : Dev nD) :
    r.2.mem ((c : Thread nD τ).loc main_v64_1) = resultKa m c := by
  rw [← array17]
  exact (h c).1 17

theorem post18 (r : PUnit × MemSt nD τ sig (Elt Ideal)) (h : Pipeline.FramePost cfgs (dats m) 0 (V m) r) (c : Dev nD) :
    r.2.mem ((c : Thread nD τ).loc main_v64_2) = resultVa m c := by
  rw [← array18]
  exact (h c).1 18

theorem post19 (r : PUnit × MemSt nD τ sig (Elt Ideal)) (h : Pipeline.FramePost cfgs (dats m) 0 (V m) r) (c : Dev nD) :
    r.2.mem ((c : Thread nD τ).loc main_v64_3) = resultQb m c := by
  rw [← array19]
  exact (h c).1 19

theorem post20 (r : PUnit × MemSt nD τ sig (Elt Ideal)) (h : Pipeline.FramePost cfgs (dats m) 0 (V m) r) (c : Dev nD) :
    r.2.mem ((c : Thread nD τ).loc main_v64_4) = resultKb m c := by
  rw [← array20]
  exact (h c).1 20

theorem post21 (r : PUnit × MemSt nD τ sig (Elt Ideal)) (h : Pipeline.FramePost cfgs (dats m) 0 (V m) r) (c : Dev nD) :
    r.2.mem ((c : Thread nD τ).loc main_v64_5) = resultVb m c := by
  rw [← array21]
  exact (h c).1 21

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The call's results and its arguments after the run. -/
theorem run_blocks (ρ : Dev nD → PrngReg) : θ_run defs (onTc (τ := τ) (main (F := Ideal))) ⟨m, fun _ => 0, ρ⟩ fun r => ∀ c : Dev nD,
      r.2.mem ((c : Thread nD τ).loc main_v64_0) = resultQa m c
      ∧ r.2.mem ((c : Thread nD τ).loc main_v64_1) = resultKa m c
      ∧ r.2.mem ((c : Thread nD τ).loc main_v64_2) = resultVa m c
      ∧ r.2.mem ((c : Thread nD τ).loc main_v64_3) = resultQb m c
      ∧ r.2.mem ((c : Thread nD τ).loc main_v64_4) = resultKb m c
      ∧ r.2.mem ((c : Thread nD τ).loc main_v64_5) = resultVb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post16 m r h c, post17 m r h c, post18 m r h c, post19 m r h c, post20 m r h c, post21 m r h c, kept0 m r h c, kept1 m r h c, kept2 m r h c, kept3 m r h c, kept4 m r h c, kept5 m r h c, kept6 m r h c, kept7 m r h c⟩)
    (run_main m ρ)

end Cert.Proj
end
-- ==== Proof.ProjRef.lean ====
/-
  The reference of the second call at an index of its results.
-/
module

public import proofs.«01_k».proof.Proof.ProjArgs
public import proofs.«01_k».proof.Proof.Gen.Reference2Ideal.Read

@[expose] public section

noncomputable section

namespace Cert.Proj.Ref

open Idealize.ShloMosaic Idealize.ShloMosaic.TcCoe Cert.At Cert.Norm Cert.Reference2Ideal Cert.Reference2Ideal.Gen Cert.Reference2Ideal.Read
open scoped BigOperators

theorem ofBits_2 : Ideal.ofBits .f32 0x40000000#32 = ((2 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_192 : Ideal.ofBits .f32 0x43400000#32 = ((192 : ℝ) : EReal) := by
  simp [Ideal.ofBits, Ideal.ieee, -EReal.coe_mul]; norm_num

/-- Dividing by the root of a width times the logarithm of two is multiplying by the inverses. -/
theorem div_scale (w : ℝ) (hw : 0 < w) (a : EReal) :
    Ideal.div a (((w : ℝ) : EReal) |> Ideal.sqrt |> (· * Ideal.log ((2 : ℝ) : EReal))) = a * (((Real.sqrt w)⁻¹ * (Real.log 2)⁻¹ : ℝ) : EReal) := by
  have hl : Real.log 2 ≠ 0 := (Real.log_pos (by norm_num)).ne'
  have hs : Real.sqrt w ≠ 0 := (Real.sqrt_pos.2 hw).ne'
  show Ideal.div a (Ideal.sqrt ((w : ℝ) : EReal) * Ideal.log ((2 : ℝ) : EReal)) = _
  rw [Ideal.sqrt_coe, if_neg (not_lt.2 hw.le), Ideal.log_coe, if_neg (by norm_num), ← EReal.coe_mul, Ideal.div_coe (mul_ne_zero hs hl)]
  refine congrArg (fun r : ℝ => a * (r : EReal)) ?_
  rw [one_div, mul_inv]

/-- The pieces of a rotation, one after the other, are the rotation. -/
theorem rot_pieces (n N : ℕ) (hN : n + n = N) (c s f : ℕ → EReal) (e : ℕ) :
    (if e < n then f e * c e - f (n + e) * s e else if e < n + n then f (n + (e - n)) * c (e - n) + f (e - n) * s (e - n)
      else f (N + (e - (n + n)))) = rot n c s f e := by
  unfold rot
  by_cases h1 : e < n
  · rw [if_pos h1, if_pos h1]
  · rw [if_neg h1, if_neg h1]
    by_cases h2 : e < n + n
    · rw [if_pos h2, if_pos (show e < 2 * n by omega), show n + (e - n) = e by omega]
    · rw [if_neg h2, if_neg (show ¬ e < 2 * n by omega), show N + (e - (n + n)) = e by omega]

variable (x0 : (⟨S16x2048x2048, .f32⟩ : BufTy).Contents (Elt Ideal)) (x1 : (⟨S16x12288, .f32⟩ : BufTy).Contents (Elt Ideal))
  (x2 : (⟨S2048x4160, .f32⟩ : BufTy).Contents (Elt Ideal)) (x3 x4 : (⟨S512, .f32⟩ : BufTy).Contents (Elt Ideal))
  (x5 : (⟨S512x1536, .f32⟩ : BufTy).Contents (Elt Ideal)) (x6 x7 : (⟨S512x1024, .f32⟩ : BufTy).Contents (Elt Ideal))

/-- A row and the weights. -/
abbrev row (b r : ℕ) : Row := argRow x0 x1 b r
abbrev wts : Weights := argWeights x2 x3 x4 x5 x6 x7

/-! ## The modulated layer normalisation -/

theorem mean_at (i : S16x2048x1.Idx) : val_main_v12 (F := Ideal) x0 i = mean 2048 d2048 (at3 (A := 16) (B := 2048) (C := 2048) x0 (i 0).val (i 1).val) := by
  rw [val_main_v12_apply, val_main_v10_apply, val_main_v9_apply, val_main_v11_apply, Ideal.hostDivf_def]
  refine congrArg (fun a => Ideal.div a d2048) ?_
  show Ideal.ofBits .f32 0x00000000#32 + _ = _
  rw [Ideal.ofBits_zero_f32, zero_add]
  exact Finset.sum_congr rfl fun k _ => (at3_eq (A := 16) (B := 2048) (C := 2048) x0 _ rfl rfl rfl).symm

theorem centred_at (i : S16x2048x2048.Idx) : val_main_v14 (F := Ideal) x0 i
    = at3 (A := 16) (B := 2048) (C := 2048) x0 (i 0).val (i 1).val (i 2).val - mean 2048 d2048 (at3 (A := 16) (B := 2048) (C := 2048) x0 (i 0).val (i 1).val) := by
  rw [val_main_v14_apply, val_main_v13_apply, mean_at]
  exact congrArg (fun a : EReal => a - _) (at3_eq (A := 16) (B := 2048) (C := 2048) x0 _ rfl rfl rfl).symm

theorem square_at (i : S16x2048x1.Idx) : val_main_v19 (F := Ideal) x0 i
    = mean 2048 d2048 fun k => (at3 (A := 16) (B := 2048) (C := 2048) x0 (i 0).val (i 1).val k - mean 2048 d2048 (at3 (A := 16) (B := 2048) (C := 2048) x0 (i 0).val (i 1).val))
        * (at3 (A := 16) (B := 2048) (C := 2048) x0 (i 0).val (i 1).val k - mean 2048 d2048 (at3 (A := 16) (B := 2048) (C := 2048) x0 (i 0).val (i 1).val)) := by
  rw [val_main_v19_apply, val_main_v17_apply, val_main_v16_apply, val_main_v18_apply, Ideal.hostDivf_def]
  refine congrArg (fun a => Ideal.div a d2048) ?_
  show Ideal.ofBits .f32 0x00000000#32 + _ = _
  rw [Ideal.ofBits_zero_f32, zero_add]
  refine Finset.sum_congr rfl fun k _ => ?_
  rw [val_main_v15_apply, centred_at]
  rfl

theorem layer_at (i : S16x2048x2048.Idx) : val_main_v26 (F := Ideal) x0 i
    = layer 2048 d2048 epsLayer (at3 (A := 16) (B := 2048) (C := 2048) x0 (i 0).val (i 1).val) (i 2).val := by
  rw [val_main_v26_apply, val_main_v21_apply, val_main_v20_apply, mean_at, val_main_v25_apply, val_main_v24_apply, val_main_v23_apply, square_at,
    val_main_v22_apply, Ideal.hostUnary_rsqrt_def]
  exact congrArg₂ (fun a b : EReal => a * b) (congrArg (fun a : EReal => a - _) (at3_eq (A := 16) (B := 2048) (C := 2048) x0 _ rfl rfl rfl).symm) rfl

/-- A piece of the modulation at a column. -/
theorem mod_at (f : ℕ → ℕ) (b k : ℕ) (hk : k < 2048) (y : S16x12288.Idx) (h0 : (y 0).val = b) (h1 : (y 1).val = f k) :
    x1 y = cut 2048 (fun k => at2 (A := 16) (B := 12288) x1 b (f k)) k :=
  (at2_eq (A := 16) (B := 12288) x1 y h0 h1).symm.trans (cut_of_lt (f := fun k => at2 (A := 16) (B := 12288) x1 b (f k)) hk).symm

theorem h_at (i : S16x2048x2048.Idx) : val_main_v32 (F := Ideal) x0 x1 i = h (row x0 x1 (i 0).val (i 1).val) (i 2).val := by
  rw [val_main_v32_apply, val_main_v30_apply, layer_at, val_main_v29_apply, val_main_v28_apply, val_main_v27_apply, val_main_v8_apply, val_main_v2_apply,
    val_main_v31_apply, val_main_v7_apply, val_main_v1_apply]
  exact congrArg₂ (fun a b : EReal => a + b)
    (congrArg (fun a : EReal => _ * (Ideal.ofBits .f32 0x3F800000#32 + a)) (mod_at x1 (fun k => 2048 + k) (i 0).val (i 2).val (i 2).isLt _ rfl rfl))
    (mod_at x1 (fun k => k) (i 0).val (i 2).val (i 2).isLt _ rfl rfl)

theorem proj_at (i : S16x2048x4160.Idx) : val_main_v33 (F := Ideal) x0 x1 x2 i
    = proj (row x0 x1 (i 0).val (i 1).val) (wts x2 x3 x4 x5 x6 x7) (i 2).val := by
  rw [val_main_v33_apply]
  exact Finset.sum_congr rfl fun k _ => congrArg₂ (fun a b : EReal => a * b) (h_at x0 x1 _) (at2_eq (A := 2048) (B := 4160) x2 _ rfl rfl).symm

/-! ## The latents -/

theorem cq_mean_at (i : S16x2048x1.Idx) : val_main_v116 (F := Ideal) x0 x1 x2 i
    = mean 512 d512 fun k => proj (row x0 x1 (i 0).val (i 1).val) (wts x2 x3 x4 x5 x6 x7) (3072 + k) * proj (row x0 x1 (i 0).val (i 1).val) (wts x2 x3 x4 x5 x6 x7) (3072 + k) := by
  rw [val_main_v116_apply, val_main_v114_apply, val_main_v113_apply, val_main_v115_apply, Ideal.hostDivf_def]
  refine congrArg (fun a => Ideal.div a d512) ?_
  show Ideal.ofBits .f32 0x00000000#32 + _ = _
  rw [Ideal.ofBits_zero_f32, zero_add]
  refine Finset.sum_congr rfl fun k _ => ?_
  rw [val_main_v112_apply, val_main_v37_apply, proj_at x0 x1 x2 x3 x4 x5 x6 x7]
  rfl

theorem cq_at (i : S16x2048x512.Idx) : val_main_v124 (F := Ideal) x0 x1 x2 x3 i = cq (row x0 x1 (i 0).val (i 1).val) (wts x2 x3 x4 x5 x6 x7) (i 2).val := by
  rw [val_main_v124_apply, val_main_v121_apply, val_main_v37_apply, proj_at x0 x1 x2 x3 x4 x5 x6 x7, val_main_v120_apply, val_main_v119_apply, val_main_v118_apply, cq_mean_at x0 x1 x2 x3 x4 x5 x6 x7, val_main_v117_apply, val_main_v123_apply, val_main_v122_apply, Ideal.hostUnary_rsqrt_def]
  exact congrArg₂ (fun a b : EReal => a * b) rfl (at1_eq (A := 512) x3 _ (i := (i 2).val) rfl).symm

theorem ckv_mean_at (i : S16x2048x1.Idx) : val_main_v129 (F := Ideal) x0 x1 x2 i
    = mean 512 d512 fun k => proj (row x0 x1 (i 0).val (i 1).val) (wts x2 x3 x4 x5 x6 x7) (3584 + k) * proj (row x0 x1 (i 0).val (i 1).val) (wts x2 x3 x4 x5 x6 x7) (3584 + k) := by
  rw [val_main_v129_apply, val_main_v127_apply, val_main_v126_apply, val_main_v128_apply, Ideal.hostDivf_def]
  refine congrArg (fun a => Ideal.div a d512) ?_
  show Ideal.ofBits .f32 0x00000000#32 + _ = _
  rw [Ideal.ofBits_zero_f32, zero_add]
  refine Finset.sum_congr rfl fun k _ => ?_
  rw [val_main_v125_apply, val_main_v38_apply, proj_at x0 x1 x2 x3 x4 x5 x6 x7]
  rfl

theorem ckv_at (i : S16x2048x512.Idx) : val_main_v137 (F := Ideal) x0 x1 x2 x4 i = ckv (row x0 x1 (i 0).val (i 1).val) (wts x2 x3 x4 x5 x6 x7) (i 2).val := by
  rw [val_main_v137_apply, val_main_v134_apply, val_main_v38_apply, proj_at x0 x1 x2 x3 x4 x5 x6 x7, val_main_v133_apply, val_main_v132_apply, val_main_v131_apply, ckv_mean_at x0 x1 x2 x3 x4 x5 x6 x7, val_main_v130_apply, val_main_v136_apply, val_main_v135_apply, Ideal.hostUnary_rsqrt_def]
  exact congrArg₂ (fun a b : EReal => a * b) rfl (at1_eq (A := 512) x4 _ (i := (i 2).val) rfl).symm

theorem upQ_at (i : S16x2048x1536.Idx) : val_main_v138 (F := Ideal) x0 x1 x2 x3 x5 i
    = up (cq (row x0 x1 (i 0).val (i 1).val) (wts x2 x3 x4 x5 x6 x7)) (wts x2 x3 x4 x5 x6 x7).uq (i 2).val := by
  rw [val_main_v138_apply]
  exact Finset.sum_congr rfl fun k _ => congrArg₂ (fun a b : EReal => a * b) (cq_at x0 x1 x2 x3 x4 x5 x6 x7 _) (at2_eq (A := 512) (B := 1536) x5 _ rfl rfl).symm

theorem upK_at (i : S16x2048x1024.Idx) : val_main_v176 (F := Ideal) x0 x1 x2 x4 x6 i
    = up (ckv (row x0 x1 (i 0).val (i 1).val) (wts x2 x3 x4 x5 x6 x7)) (wts x2 x3 x4 x5 x6 x7).uk (i 2).val := by
  rw [val_main_v176_apply]
  exact Finset.sum_congr rfl fun k _ => congrArg₂ (fun a b : EReal => a * b) (ckv_at x0 x1 x2 x3 x4 x5 x6 x7 _) (at2_eq (A := 512) (B := 1024) x6 _ rfl rfl).symm

theorem upV_at (i : S16x2048x1024.Idx) : val_main_v178 (F := Ideal) x0 x1 x2 x4 x7 i
    = up (ckv (row x0 x1 (i 0).val (i 1).val) (wts x2 x3 x4 x5 x6 x7)) (wts x2 x3 x4 x5 x6 x7).uv (i 2).val := by
  rw [val_main_v178_apply]
  exact Finset.sum_congr rfl fun k _ => congrArg₂ (fun a b : EReal => a * b) (ckv_at x0 x1 x2 x3 x4 x5 x6 x7 _) (at2_eq (A := 512) (B := 1024) x7 _ rfl rfl).symm

/-! ## The rotations -/

theorem headsQ_at (i : S16x2048x8x128.Idx) : val_main_v40 (F := Ideal) x0 x1 x2 i
    = proj (row x0 x1 (i 0).val (i 1).val) (wts x2 x3 x4 x5 x6 x7) ((i 2).val * 128 + (i 3).val) := by
  have b1 : (i 1).val < 2048 := (i 1).isLt
  have b2 : (i 2).val < 8 := (i 2).isLt
  have b3 : (i 3).val < 128 := (i 3).isLt
  rw [val_main_v40_apply, val_main_v34_apply, proj_at x0 x1 x2 x3 x4 x5 x6 x7]
  show proj (row x0 x1 (((((i 0).val * 2048 + (i 1).val) * 8 + (i 2).val) * 128 + (i 3).val) / 2097152) (((((i 0).val * 2048 + (i 1).val) * 8 + (i 2).val) * 128 + (i 3).val) / 1024 % 2048)) (wts x2 x3 x4 x5 x6 x7) (((((i 0).val * 2048 + (i 1).val) * 8 + (i 2).val) * 128 + (i 3).val) % 1024) = _
  rw [show ((((i 0).val * 2048 + (i 1).val) * 8 + (i 2).val) * 128 + (i 3).val) / 2097152 = (i 0).val by omega, show ((((i 0).val * 2048 + (i 1).val) * 8 + (i 2).val) * 128 + (i 3).val) / 1024 % 2048 = (i 1).val by omega,
    show ((((i 0).val * 2048 + (i 1).val) * 8 + (i 2).val) * 128 + (i 3).val) % 1024 = (i 2).val * 128 + (i 3).val by omega]

theorem headsK_at (i : S16x2048x8x128.Idx) : val_main_v76 (F := Ideal) x0 x1 x2 i
    = proj (row x0 x1 (i 0).val (i 1).val) (wts x2 x3 x4 x5 x6 x7) (1024 + (i 2).val * 128 + (i 3).val) := by
  have b1 : (i 1).val < 2048 := (i 1).isLt
  have b2 : (i 2).val < 8 := (i 2).isLt
  have b3 : (i 3).val < 128 := (i 3).isLt
  rw [val_main_v76_apply, val_main_v35_apply, proj_at x0 x1 x2 x3 x4 x5 x6 x7]
  show proj (row x0 x1 (((((i 0).val * 2048 + (i 1).val) * 8 + (i 2).val) * 128 + (i 3).val) / 2097152) (((((i 0).val * 2048 + (i 1).val) * 8 + (i 2).val) * 128 + (i 3).val) / 1024 % 2048)) (wts x2 x3 x4 x5 x6 x7) (1024 + ((((i 0).val * 2048 + (i 1).val) * 8 + (i 2).val) * 128 + (i 3).val) % 1024) = _
  rw [show ((((i 0).val * 2048 + (i 1).val) * 8 + (i 2).val) * 128 + (i 3).val) / 2097152 = (i 0).val by omega, show ((((i 0).val * 2048 + (i 1).val) * 8 + (i 2).val) * 128 + (i 3).val) / 1024 % 2048 = (i 1).val by omega,
    show 1024 + ((((i 0).val * 2048 + (i 1).val) * 8 + (i 2).val) * 128 + (i 3).val) % 1024 = 1024 + (i 2).val * 128 + (i 3).val by omega]

theorem headsB_at (i : S16x2048x8x192.Idx) : val_main_v139 (F := Ideal) x0 x1 x2 x3 x5 i
    = up (cq (row x0 x1 (i 0).val (i 1).val) (wts x2 x3 x4 x5 x6 x7)) (wts x2 x3 x4 x5 x6 x7).uq ((i 2).val * 192 + (i 3).val) := by
  have b1 : (i 1).val < 2048 := (i 1).isLt
  have b2 : (i 2).val < 8 := (i 2).isLt
  have b3 : (i 3).val < 192 := (i 3).isLt
  rw [val_main_v139_apply, upQ_at x0 x1 x2 x3 x4 x5 x6 x7]
  show up (cq (row x0 x1 (((((i 0).val * 2048 + (i 1).val) * 8 + (i 2).val) * 192 + (i 3).val) / 3145728) (((((i 0).val * 2048 + (i 1).val) * 8 + (i 2).val) * 192 + (i 3).val) / 1536 % 2048)) (wts x2 x3 x4 x5 x6 x7)) (wts x2 x3 x4 x5 x6 x7).uq (((((i 0).val * 2048 + (i 1).val) * 8 + (i 2).val) * 192 + (i 3).val) % 1536) = _
  rw [show ((((i 0).val * 2048 + (i 1).val) * 8 + (i 2).val) * 192 + (i 3).val) / 3145728 = (i 0).val by omega, show ((((i 0).val * 2048 + (i 1).val) * 8 + (i 2).val) * 192 + (i 3).val) / 1536 % 2048 = (i 1).val by omega,
    show ((((i 0).val * 2048 + (i 1).val) * 8 + (i 2).val) * 192 + (i 3).val) % 1536 = (i 2).val * 192 + (i 3).val by omega]

theorem headsU_at (i : S16x2048x8x128.Idx) : val_main_v177 (F := Ideal) x0 x1 x2 x4 x6 i
    = up (ckv (row x0 x1 (i 0).val (i 1).val) (wts x2 x3 x4 x5 x6 x7)) (wts x2 x3 x4 x5 x6 x7).uk ((i 2).val * 128 + (i 3).val) := by
  have b1 : (i 1).val < 2048 := (i 1).isLt
  have b2 : (i 2).val < 8 := (i 2).isLt
  have b3 : (i 3).val < 128 := (i 3).isLt
  rw [val_main_v177_apply, upK_at x0 x1 x2 x3 x4 x5 x6 x7]
  show up (ckv (row x0 x1 (((((i 0).val * 2048 + (i 1).val) * 8 + (i 2).val) * 128 + (i 3).val) / 2097152) (((((i 0).val * 2048 + (i 1).val) * 8 + (i 2).val) * 128 + (i 3).val) / 1024 % 2048)) (wts x2 x3 x4 x5 x6 x7)) (wts x2 x3 x4 x5 x6 x7).uk (((((i 0).val * 2048 + (i 1).val) * 8 + (i 2).val) * 128 + (i 3).val) % 1024) = _
  rw [show ((((i 0).val * 2048 + (i 1).val) * 8 + (i 2).val) * 128 + (i 3).val) / 2097152 = (i 0).val by omega, show ((((i 0).val * 2048 + (i 1).val) * 8 + (i 2).val) * 128 + (i 3).val) / 1024 % 2048 = (i 1).val by omega,
    show ((((i 0).val * 2048 + (i 1).val) * 8 + (i 2).val) * 128 + (i 3).val) % 1024 = (i 2).val * 128 + (i 3).val by omega]

/-- The turned part of the queries' heads. -/
theorem turnedB_at (i : S16x2048x8x64.Idx) : val_main_v140 (F := Ideal) x0 x1 x2 x3 x5 i
    = up (cq (row x0 x1 (i 0).val (i 1).val) (wts x2 x3 x4 x5 x6 x7)) (wts x2 x3 x4 x5 x6 x7).uq ((i 2).val * 192 + 128 + (i 3).val) := by
  rw [val_main_v140_apply, headsB_at x0 x1 x2 x3 x4 x5 x6 x7, Nat.add_assoc]

theorem keyB_at (i : S16x2048x1x64.Idx) : val_main_v179 (F := Ideal) x0 x1 x2 i = proj (row x0 x1 (i 0).val (i 1).val) (wts x2 x3 x4 x5 x6 x7) (4096 + (i 3).val) := by
  rw [val_main_v179_apply, val_main_v39_apply, proj_at x0 x1 x2 x3 x4 x5 x6 x7]

theorem rotQ_angle (i : S2048x16.Idx) : val_main_v53 (F := Ideal) i = angle 0x42000000#32 (i 0).val (i 1).val := by
  rw [val_main_v53_apply, val_main_v51_apply, val_main_v49_apply, val_main_v52_apply, val_main_v50_apply, val_main_v48_apply, val_main_v47_apply, val_main_v46_apply, val_main_v44_apply, val_main_v42_apply, val_main_v43_apply, val_main_v45_apply]
  rfl

theorem rotQ_cos (i : S2048x1x16.Idx) : val_main_v55 (F := Ideal) i = cosine 0x42000000#32 (i 0).val (i 2).val := by
  rw [val_main_v55_apply, val_main_v54_apply, rotQ_angle]
  rfl

theorem rotQ_sin (i : S2048x1x16.Idx) : val_main_v57 (F := Ideal) i = sine 0x42000000#32 (i 0).val (i 2).val := by
  rw [val_main_v57_apply, val_main_v56_apply, rotQ_angle]
  rfl

theorem rotQ_at (i : S16x2048x8x128.Idx) : val_main_v75 (F := Ideal) x0 x1 x2 i
    = rot 16 (cosine 0x42000000#32 (i 1).val) (sine 0x42000000#32 (i 1).val) (fun e => proj (row x0 x1 (i 0).val (i 1).val) (wts x2 x3 x4 x5 x6 x7) ((i 2).val * 128 + e)) (i 3).val := by
  refine Eq.trans ?_ (rot_pieces 16 32 rfl (cosine 0x42000000#32 (i 1).val) (sine 0x42000000#32 (i 1).val) (fun e => proj (row x0 x1 (i 0).val (i 1).val) (wts x2 x3 x4 x5 x6 x7) ((i 2).val * 128 + e)) (i 3).val)
  unfold val_main_v75
  refine three4_at 16 16 96 128 rfl _ _ _ _ i (fun e => proj (row x0 x1 (i 0).val (i 1).val) (wts x2 x3 x4 x5 x6 x7) ((i 2).val * 128 + e) * cosine 0x42000000#32 (i 1).val e - proj (row x0 x1 (i 0).val (i 1).val) (wts x2 x3 x4 x5 x6 x7) ((i 2).val * 128 + (16 + e)) * sine 0x42000000#32 (i 1).val e)
    (fun e => proj (row x0 x1 (i 0).val (i 1).val) (wts x2 x3 x4 x5 x6 x7) ((i 2).val * 128 + (16 + e)) * cosine 0x42000000#32 (i 1).val e + proj (row x0 x1 (i 0).val (i 1).val) (wts x2 x3 x4 x5 x6 x7) ((i 2).val * 128 + e) * sine 0x42000000#32 (i 1).val e) (fun e => proj (row x0 x1 (i 0).val (i 1).val) (wts x2 x3 x4 x5 x6 x7) ((i 2).val * 128 + (32 + e))) (fun j => ?_) (fun j => ?_) (fun j => ?_)
  · rw [val_main_v66_apply, val_main_v62_apply, val_main_v65_apply, val_main_v58_apply, val_main_v59_apply, headsQ_at x0 x1 x2 x3 x4 x5 x6 x7, headsQ_at x0 x1 x2 x3 x4 x5 x6 x7, val_main_v61_apply, val_main_v60_apply, rotQ_cos, val_main_v64_apply, val_main_v63_apply, rotQ_sin]
    rfl
  · rw [val_main_v73_apply, val_main_v69_apply, val_main_v72_apply, val_main_v58_apply, val_main_v59_apply, headsQ_at x0 x1 x2 x3 x4 x5 x6 x7, headsQ_at x0 x1 x2 x3 x4 x5 x6 x7, val_main_v68_apply, val_main_v67_apply, rotQ_cos, val_main_v71_apply, val_main_v70_apply, rotQ_sin]
    rfl
  · rw [val_main_v74_apply, headsQ_at x0 x1 x2 x3 x4 x5 x6 x7]

theorem rotK_angle (i : S2048x16.Idx) : val_main_v89 (F := Ideal) i = angle 0x42000000#32 (i 0).val (i 1).val := by
  rw [val_main_v89_apply, val_main_v87_apply, val_main_v85_apply, val_main_v88_apply, val_main_v86_apply, val_main_v84_apply, val_main_v83_apply, val_main_v82_apply, val_main_v80_apply, val_main_v78_apply, val_main_v79_apply, val_main_v81_apply]
  rfl

theorem rotK_cos (i : S2048x1x16.Idx) : val_main_v91 (F := Ideal) i = cosine 0x42000000#32 (i 0).val (i 2).val := by
  rw [val_main_v91_apply, val_main_v90_apply, rotK_angle]
  rfl

theorem rotK_sin (i : S2048x1x16.Idx) : val_main_v93 (F := Ideal) i = sine 0x42000000#32 (i 0).val (i 2).val := by
  rw [val_main_v93_apply, val_main_v92_apply, rotK_angle]
  rfl

theorem rotK_at (i : S16x2048x8x128.Idx) : val_main_v111 (F := Ideal) x0 x1 x2 i
    = rot 16 (cosine 0x42000000#32 (i 1).val) (sine 0x42000000#32 (i 1).val) (fun e => proj (row x0 x1 (i 0).val (i 1).val) (wts x2 x3 x4 x5 x6 x7) (1024 + (i 2).val * 128 + e)) (i 3).val := by
  refine Eq.trans ?_ (rot_pieces 16 32 rfl (cosine 0x42000000#32 (i 1).val) (sine 0x42000000#32 (i 1).val) (fun e => proj (row x0 x1 (i 0).val (i 1).val) (wts x2 x3 x4 x5 x6 x7) (1024 + (i 2).val * 128 + e)) (i 3).val)
  unfold val_main_v111
  refine three4_at 16 16 96 128 rfl _ _ _ _ i (fun e => proj (row x0 x1 (i 0).val (i 1).val) (wts x2 x3 x4 x5 x6 x7) (1024 + (i 2).val * 128 + e) * cosine 0x42000000#32 (i 1).val e - proj (row x0 x1 (i 0).val (i 1).val) (wts x2 x3 x4 x5 x6 x7) (1024 + (i 2).val * 128 + (16 + e)) * sine 0x42000000#32 (i 1).val e)
    (fun e => proj (row x0 x1 (i 0).val (i 1).val) (wts x2 x3 x4 x5 x6 x7) (1024 + (i 2).val * 128 + (16 + e)) * cosine 0x42000000#32 (i 1).val e + proj (row x0 x1 (i 0).val (i 1).val) (wts x2 x3 x4 x5 x6 x7) (1024 + (i 2).val * 128 + e) * sine 0x42000000#32 (i 1).val e) (fun e => proj (row x0 x1 (i 0).val (i 1).val) (wts x2 x3 x4 x5 x6 x7) (1024 + (i 2).val * 128 + (32 + e))) (fun j => ?_) (fun j => ?_) (fun j => ?_)
  · rw [val_main_v102_apply, val_main_v98_apply, val_main_v101_apply, val_main_v94_apply, val_main_v95_apply, headsK_at x0 x1 x2 x3 x4 x5 x6 x7, headsK_at x0 x1 x2 x3 x4 x5 x6 x7, val_main_v97_apply, val_main_v96_apply, rotK_cos, val_main_v100_apply, val_main_v99_apply, rotK_sin]
    rfl
  · rw [val_main_v109_apply, val_main_v105_apply, val_main_v108_apply, val_main_v94_apply, val_main_v95_apply, headsK_at x0 x1 x2 x3 x4 x5 x6 x7, headsK_at x0 x1 x2 x3 x4 x5 x6 x7, val_main_v104_apply, val_main_v103_apply, rotK_cos, val_main_v107_apply, val_main_v106_apply, rotK_sin]
    rfl
  · rw [val_main_v110_apply, headsK_at x0 x1 x2 x3 x4 x5 x6 x7]

theorem rotB_angle (i : S2048x32.Idx) : val_main_v153 (F := Ideal) i = angle 0x42800000#32 (i 0).val (i 1).val := by
  rw [val_main_v153_apply, val_main_v151_apply, val_main_v149_apply, val_main_v152_apply, val_main_v150_apply, val_main_v148_apply, val_main_v147_apply, val_main_v146_apply, val_main_v144_apply, val_main_v142_apply, val_main_v143_apply, val_main_v145_apply]
  rfl

theorem rotB_cos (i : S2048x1x32.Idx) : val_main_v155 (F := Ideal) i = cosine 0x42800000#32 (i 0).val (i 2).val := by
  rw [val_main_v155_apply, val_main_v154_apply, rotB_angle]
  rfl

theorem rotB_sin (i : S2048x1x32.Idx) : val_main_v157 (F := Ideal) i = sine 0x42800000#32 (i 0).val (i 2).val := by
  rw [val_main_v157_apply, val_main_v156_apply, rotB_angle]
  rfl

theorem rotB_at (i : S16x2048x8x64.Idx) : val_main_v175 (F := Ideal) x0 x1 x2 x3 x5 i
    = rot 32 (cosine 0x42800000#32 (i 1).val) (sine 0x42800000#32 (i 1).val) (fun e => up (cq (row x0 x1 (i 0).val (i 1).val) (wts x2 x3 x4 x5 x6 x7)) (wts x2 x3 x4 x5 x6 x7).uq ((i 2).val * 192 + 128 + e)) (i 3).val := by
  refine Eq.trans ?_ (rot_pieces 32 64 rfl (cosine 0x42800000#32 (i 1).val) (sine 0x42800000#32 (i 1).val) (fun e => up (cq (row x0 x1 (i 0).val (i 1).val) (wts x2 x3 x4 x5 x6 x7)) (wts x2 x3 x4 x5 x6 x7).uq ((i 2).val * 192 + 128 + e)) (i 3).val)
  unfold val_main_v175
  refine three4_at 32 32 0 64 rfl _ _ _ _ i (fun e => up (cq (row x0 x1 (i 0).val (i 1).val) (wts x2 x3 x4 x5 x6 x7)) (wts x2 x3 x4 x5 x6 x7).uq ((i 2).val * 192 + 128 + e) * cosine 0x42800000#32 (i 1).val e - up (cq (row x0 x1 (i 0).val (i 1).val) (wts x2 x3 x4 x5 x6 x7)) (wts x2 x3 x4 x5 x6 x7).uq ((i 2).val * 192 + 128 + (32 + e)) * sine 0x42800000#32 (i 1).val e)
    (fun e => up (cq (row x0 x1 (i 0).val (i 1).val) (wts x2 x3 x4 x5 x6 x7)) (wts x2 x3 x4 x5 x6 x7).uq ((i 2).val * 192 + 128 + (32 + e)) * cosine 0x42800000#32 (i 1).val e + up (cq (row x0 x1 (i 0).val (i 1).val) (wts x2 x3 x4 x5 x6 x7)) (wts x2 x3 x4 x5 x6 x7).uq ((i 2).val * 192 + 128 + e) * sine 0x42800000#32 (i 1).val e) (fun e => up (cq (row x0 x1 (i 0).val (i 1).val) (wts x2 x3 x4 x5 x6 x7)) (wts x2 x3 x4 x5 x6 x7).uq ((i 2).val * 192 + 128 + (64 + e))) (fun j => ?_) (fun j => ?_) (fun j => ?_)
  · rw [val_main_v166_apply, val_main_v162_apply, val_main_v165_apply, val_main_v158_apply, val_main_v159_apply, turnedB_at x0 x1 x2 x3 x4 x5 x6 x7, turnedB_at x0 x1 x2 x3 x4 x5 x6 x7, val_main_v161_apply, val_main_v160_apply, rotB_cos, val_main_v164_apply, val_main_v163_apply, rotB_sin]
    rfl
  · rw [val_main_v173_apply, val_main_v169_apply, val_main_v172_apply, val_main_v158_apply, val_main_v159_apply, turnedB_at x0 x1 x2 x3 x4 x5 x6 x7, turnedB_at x0 x1 x2 x3 x4 x5 x6 x7, val_main_v168_apply, val_main_v167_apply, rotB_cos, val_main_v171_apply, val_main_v170_apply, rotB_sin]
    rfl
  · exact j.elim0

theorem rotKey_angle (i : S2048x32.Idx) : val_main_v192 (F := Ideal) i = angle 0x42800000#32 (i 0).val (i 1).val := by
  rw [val_main_v192_apply, val_main_v190_apply, val_main_v188_apply, val_main_v191_apply, val_main_v189_apply, val_main_v187_apply, val_main_v186_apply, val_main_v185_apply, val_main_v183_apply, val_main_v181_apply, val_main_v182_apply, val_main_v184_apply]
  rfl

theorem rotKey_cos (i : S2048x1x32.Idx) : val_main_v194 (F := Ideal) i = cosine 0x42800000#32 (i 0).val (i 2).val := by
  rw [val_main_v194_apply, val_main_v193_apply, rotKey_angle]
  rfl

theorem rotKey_sin (i : S2048x1x32.Idx) : val_main_v196 (F := Ideal) i = sine 0x42800000#32 (i 0).val (i 2).val := by
  rw [val_main_v196_apply, val_main_v195_apply, rotKey_angle]
  rfl

theorem rotKey_at (i : S16x2048x1x64.Idx) : val_main_v214 (F := Ideal) x0 x1 x2 i
    = rot 32 (cosine 0x42800000#32 (i 1).val) (sine 0x42800000#32 (i 1).val) (fun e => proj (row x0 x1 (i 0).val (i 1).val) (wts x2 x3 x4 x5 x6 x7) (4096 + e)) (i 3).val := by
  refine Eq.trans ?_ (rot_pieces 32 64 rfl (cosine 0x42800000#32 (i 1).val) (sine 0x42800000#32 (i 1).val) (fun e => proj (row x0 x1 (i 0).val (i 1).val) (wts x2 x3 x4 x5 x6 x7) (4096 + e)) (i 3).val)
  unfold val_main_v214
  refine three4_at 32 32 0 64 rfl _ _ _ _ i (fun e => proj (row x0 x1 (i 0).val (i 1).val) (wts x2 x3 x4 x5 x6 x7) (4096 + e) * cosine 0x42800000#32 (i 1).val e - proj (row x0 x1 (i 0).val (i 1).val) (wts x2 x3 x4 x5 x6 x7) (4096 + (32 + e)) * sine 0x42800000#32 (i 1).val e)
    (fun e => proj (row x0 x1 (i 0).val (i 1).val) (wts x2 x3 x4 x5 x6 x7) (4096 + (32 + e)) * cosine 0x42800000#32 (i 1).val e + proj (row x0 x1 (i 0).val (i 1).val) (wts x2 x3 x4 x5 x6 x7) (4096 + e) * sine 0x42800000#32 (i 1).val e) (fun e => proj (row x0 x1 (i 0).val (i 1).val) (wts x2 x3 x4 x5 x6 x7) (4096 + (64 + e))) (fun j => ?_) (fun j => ?_) (fun j => ?_)
  · rw [val_main_v205_apply, val_main_v201_apply, val_main_v204_apply, val_main_v197_apply, val_main_v198_apply, keyB_at x0 x1 x2 x3 x4 x5 x6 x7, keyB_at x0 x1 x2 x3 x4 x5 x6 x7, val_main_v200_apply, val_main_v199_apply, rotKey_cos, val_main_v203_apply, val_main_v202_apply, rotKey_sin]
    rfl
  · rw [val_main_v212_apply, val_main_v208_apply, val_main_v211_apply, val_main_v197_apply, val_main_v198_apply, keyB_at x0 x1 x2 x3 x4 x5 x6 x7, keyB_at x0 x1 x2 x3 x4 x5 x6 x7, val_main_v207_apply, val_main_v206_apply, rotKey_cos, val_main_v210_apply, val_main_v209_apply, rotKey_sin]
    rfl
  · exact j.elim0

/-! ## The scaled and padded heads -/

theorem scaleA_at (i : S16x2048x8x128.Idx) (a : EReal) : Ideal.div a (val_main_v220 (F := Ideal) i) = a * scaleA := by
  rw [val_main_v220_apply, val_main_v219_apply, val_main_v217_apply, val_main_v218_apply, Ideal.hostUnary_sqrt_def]
  show Ideal.div a (Ideal.sqrt (Ideal.ofBits .f32 0x43000000#32) * Ideal.log (Ideal.ofBits .f32 0x40000000#32)) = _
  rw [ofBits_128, ofBits_2]
  exact div_scale 128 (by norm_num) a

theorem scaleB_at (i : S16x2048x8x256.Idx) (a : EReal) : Ideal.div a (val_main_v227 (F := Ideal) i) = a * scaleB := by
  rw [val_main_v227_apply, val_main_v226_apply, val_main_v224_apply, val_main_v225_apply, Ideal.hostUnary_sqrt_def]
  show Ideal.div a (Ideal.sqrt (Ideal.ofBits .f32 0x43400000#32) * Ideal.log (Ideal.ofBits .f32 0x40000000#32)) = _
  rw [ofBits_192, ofBits_2]
  exact div_scale 192 (by norm_num) a

theorem zeros_at (i : S16x2048x8x64.Idx) : val_main_v216 (F := Ideal) i = 0 := by
  rw [val_main_v216_apply]
  exact Ideal.ofBits_zero_f32

theorem paddedQ_at (i : S16x2048x8x256.Idx) : val_main_v223 (F := Ideal) x0 x1 x2 x3 x5 i
    = if (i 3).val < 128 then up (cq (row x0 x1 (i 0).val (i 1).val) (wts x2 x3 x4 x5 x6 x7)) (wts x2 x3 x4 x5 x6 x7).uq ((i 2).val * 192 + (i 3).val)
      else if (i 3).val < 192 then rot 32 (cosine 0x42800000#32 (i 1).val) (sine 0x42800000#32 (i 1).val) (fun e => up (cq (row x0 x1 (i 0).val (i 1).val) (wts x2 x3 x4 x5 x6 x7)) (wts x2 x3 x4 x5 x6 x7).uq ((i 2).val * 192 + 128 + e)) ((i 3).val - 128) else 0 := by
  unfold val_main_v223
  refine three4_at 128 64 64 256 rfl _ _ _ _ i (fun e => up (cq (row x0 x1 (i 0).val (i 1).val) (wts x2 x3 x4 x5 x6 x7)) (wts x2 x3 x4 x5 x6 x7).uq ((i 2).val * 192 + e))
    (fun e => rot 32 (cosine 0x42800000#32 (i 1).val) (sine 0x42800000#32 (i 1).val) (fun e => up (cq (row x0 x1 (i 0).val (i 1).val) (wts x2 x3 x4 x5 x6 x7)) (wts x2 x3 x4 x5 x6 x7).uq ((i 2).val * 192 + 128 + e)) e) (fun _ => 0) (fun j => ?_) (fun j => ?_) (fun j => zeros_at _)
  · rw [val_main_v222_apply, headsB_at x0 x1 x2 x3 x4 x5 x6 x7]
  · rw [rotB_at x0 x1 x2 x3 x4 x5 x6 x7]

theorem paddedK_at (i : S16x2048x8x256.Idx) : val_main_v229 (F := Ideal) x0 x1 x2 x4 x6 i
    = if (i 3).val < 128 then up (ckv (row x0 x1 (i 0).val (i 1).val) (wts x2 x3 x4 x5 x6 x7)) (wts x2 x3 x4 x5 x6 x7).uk ((i 2).val * 128 + (i 3).val)
      else if (i 3).val < 192 then rot 32 (cosine 0x42800000#32 (i 1).val) (sine 0x42800000#32 (i 1).val) (fun e => proj (row x0 x1 (i 0).val (i 1).val) (wts x2 x3 x4 x5 x6 x7) (4096 + e)) ((i 3).val - 128) else 0 := by
  unfold val_main_v229
  refine three4_at 128 64 64 256 rfl _ _ _ _ i (fun e => up (ckv (row x0 x1 (i 0).val (i 1).val) (wts x2 x3 x4 x5 x6 x7)) (wts x2 x3 x4 x5 x6 x7).uk ((i 2).val * 128 + e))
    (fun e => rot 32 (cosine 0x42800000#32 (i 1).val) (sine 0x42800000#32 (i 1).val) (fun e => proj (row x0 x1 (i 0).val (i 1).val) (wts x2 x3 x4 x5 x6 x7) (4096 + e)) e) (fun _ => 0) (fun j => ?_) (fun j => ?_) (fun j => zeros_at _)
  · rw [headsU_at x0 x1 x2 x3 x4 x5 x6 x7]
  · rw [val_main_v215_apply, rotKey_at x0 x1 x2 x3 x4 x5 x6 x7]

/-! ## The results -/

theorem resultQa_at (i : S32768x1024.Idx) : val_main_v238 (F := Ideal) x0 x1 x2 i = qa (row x0 x1 ((i 0).val / 2048) ((i 0).val % 2048)) (wts x2 x3 x4 x5 x6 x7) (i 1).val := by
  have b1 : (i 1).val < 1024 := (i 1).isLt
  rw [val_main_v238_apply, val_main_v230_apply, val_main_v221_apply, Ideal.truncf_def, Ideal.hostDivf_def, scaleA_at, rotQ_at x0 x1 x2 x3 x4 x5 x6 x7]
  show rot 16 (cosine 0x42000000#32 (((i 0).val * 1024 + (i 1).val) / 1024 % 2048)) (sine 0x42000000#32 (((i 0).val * 1024 + (i 1).val) / 1024 % 2048)) (fun e => proj (row x0 x1 (((i 0).val * 1024 + (i 1).val) / 2097152) (((i 0).val * 1024 + (i 1).val) / 1024 % 2048)) (wts x2 x3 x4 x5 x6 x7) (((i 0).val * 1024 + (i 1).val) / 128 % 8 * 128 + e)) (((i 0).val * 1024 + (i 1).val) % 128) * scaleA = _
  rw [show ((i 0).val * 1024 + (i 1).val) / 2097152 = (i 0).val / 2048 by omega, show ((i 0).val * 1024 + (i 1).val) / 1024 % 2048 = (i 0).val % 2048 by omega,
    show ((i 0).val * 1024 + (i 1).val) / 128 % 8 = (i 1).val / 128 by omega, show ((i 0).val * 1024 + (i 1).val) % 128 = (i 1).val % 128 by omega]
  rfl

theorem resultKa_at (i : S32768x1024.Idx) : val_main_v239 (F := Ideal) x0 x1 x2 i = ka (row x0 x1 ((i 0).val / 2048) ((i 0).val % 2048)) (wts x2 x3 x4 x5 x6 x7) (i 1).val := by
  have b1 : (i 1).val < 1024 := (i 1).isLt
  rw [val_main_v239_apply, val_main_v231_apply, Ideal.truncf_def, rotK_at x0 x1 x2 x3 x4 x5 x6 x7]
  show rot 16 (cosine 0x42000000#32 (((i 0).val * 1024 + (i 1).val) / 1024 % 2048)) (sine 0x42000000#32 (((i 0).val * 1024 + (i 1).val) / 1024 % 2048)) (fun e => proj (row x0 x1 (((i 0).val * 1024 + (i 1).val) / 2097152) (((i 0).val * 1024 + (i 1).val) / 1024 % 2048)) (wts x2 x3 x4 x5 x6 x7) (1024 + ((i 0).val * 1024 + (i 1).val) / 128 % 8 * 128 + e)) (((i 0).val * 1024 + (i 1).val) % 128) = _
  rw [show ((i 0).val * 1024 + (i 1).val) / 2097152 = (i 0).val / 2048 by omega, show ((i 0).val * 1024 + (i 1).val) / 1024 % 2048 = (i 0).val % 2048 by omega,
    show ((i 0).val * 1024 + (i 1).val) / 128 % 8 = (i 1).val / 128 by omega, show ((i 0).val * 1024 + (i 1).val) % 128 = (i 1).val % 128 by omega]
  rfl

theorem resultVa_at (i : S1024x32768.Idx) : val_main_v240 (F := Ideal) x0 x1 x2 i = va (row x0 x1 ((i 1).val / 2048) ((i 1).val % 2048)) (wts x2 x3 x4 x5 x6 x7) (i 0).val := by
  have b0 : (i 0).val < 1024 := (i 0).isLt
  rw [val_main_v240_apply, val_main_v233_apply, val_main_v232_apply, val_main_v36_apply, Ideal.truncf_def, proj_at x0 x1 x2 x3 x4 x5 x6 x7]
  show proj (row x0 x1 (((i 1).val * 1024 + (i 0).val) / 2097152) (((i 1).val * 1024 + (i 0).val) / 1024 % 2048)) (wts x2 x3 x4 x5 x6 x7) (2048 + ((i 1).val * 1024 + (i 0).val) % 1024) = _
  rw [show ((i 1).val * 1024 + (i 0).val) / 2097152 = (i 1).val / 2048 by omega, show ((i 1).val * 1024 + (i 0).val) / 1024 % 2048 = (i 1).val % 2048 by omega, show ((i 1).val * 1024 + (i 0).val) % 1024 = (i 0).val by omega]
  rfl

theorem resultVb_at (i : S1024x32768.Idx) : val_main_v243 (F := Ideal) x0 x1 x2 x4 x7 i = vb (row x0 x1 ((i 1).val / 2048) ((i 1).val % 2048)) (wts x2 x3 x4 x5 x6 x7) (i 0).val := by
  have b0 : (i 0).val < 1024 := (i 0).isLt
  rw [val_main_v243_apply, val_main_v237_apply, val_main_v236_apply, Ideal.truncf_def, upV_at x0 x1 x2 x3 x4 x5 x6 x7]
  show up (ckv (row x0 x1 (((i 1).val * 1024 + (i 0).val) / 2097152) (((i 1).val * 1024 + (i 0).val) / 1024 % 2048)) (wts x2 x3 x4 x5 x6 x7)) (wts x2 x3 x4 x5 x6 x7).uv (((i 1).val * 1024 + (i 0).val) % 1024) = _
  rw [show ((i 1).val * 1024 + (i 0).val) / 2097152 = (i 1).val / 2048 by omega, show ((i 1).val * 1024 + (i 0).val) / 1024 % 2048 = (i 1).val % 2048 by omega, show ((i 1).val * 1024 + (i 0).val) % 1024 = (i 0).val by omega]
  rfl

theorem resultQb_at (i : S32768x2048.Idx) : val_main_v241 (F := Ideal) x0 x1 x2 x3 x5 i = qb (row x0 x1 ((i 0).val / 2048) ((i 0).val % 2048)) (wts x2 x3 x4 x5 x6 x7) (i 1).val := by
  have b1 : (i 1).val < 2048 := (i 1).isLt
  rw [val_main_v241_apply, val_main_v234_apply, val_main_v228_apply, Ideal.truncf_def, Ideal.hostDivf_def, scaleB_at, paddedQ_at x0 x1 x2 x3 x4 x5 x6 x7]
  show (if ((i 0).val * 2048 + (i 1).val) % 256 < 128 then up (cq (row x0 x1 (((i 0).val * 2048 + (i 1).val) / 4194304) (((i 0).val * 2048 + (i 1).val) / 2048 % 2048)) (wts x2 x3 x4 x5 x6 x7)) (wts x2 x3 x4 x5 x6 x7).uq (((i 0).val * 2048 + (i 1).val) / 256 % 8 * 192 + ((i 0).val * 2048 + (i 1).val) % 256)
    else if ((i 0).val * 2048 + (i 1).val) % 256 < 192 then rot 32 (cosine 0x42800000#32 (((i 0).val * 2048 + (i 1).val) / 2048 % 2048)) (sine 0x42800000#32 (((i 0).val * 2048 + (i 1).val) / 2048 % 2048)) (fun e => up (cq (row x0 x1 (((i 0).val * 2048 + (i 1).val) / 4194304) (((i 0).val * 2048 + (i 1).val) / 2048 % 2048)) (wts x2 x3 x4 x5 x6 x7)) (wts x2 x3 x4 x5 x6 x7).uq (((i 0).val * 2048 + (i 1).val) / 256 % 8 * 192 + 128 + e)) (((i 0).val * 2048 + (i 1).val) % 256 - 128) else 0) * scaleB = _
  rw [show ((i 0).val * 2048 + (i 1).val) / 4194304 = (i 0).val / 2048 by omega, show ((i 0).val * 2048 + (i 1).val) / 2048 % 2048 = (i 0).val % 2048 by omega,
    show ((i 0).val * 2048 + (i 1).val) / 256 % 8 = (i 1).val / 256 by omega, show ((i 0).val * 2048 + (i 1).val) % 256 = (i 1).val % 256 by omega]
  rfl

theorem resultKb_at (i : S32768x2048.Idx) : val_main_v242 (F := Ideal) x0 x1 x2 x4 x6 i = kb (row x0 x1 ((i 0).val / 2048) ((i 0).val % 2048)) (wts x2 x3 x4 x5 x6 x7) (i 1).val := by
  have b1 : (i 1).val < 2048 := (i 1).isLt
  rw [val_main_v242_apply, val_main_v235_apply, Ideal.truncf_def, paddedK_at x0 x1 x2 x3 x4 x5 x6 x7]
  show (if ((i 0).val * 2048 + (i 1).val) % 256 < 128 then up (ckv (row x0 x1 (((i 0).val * 2048 + (i 1).val) / 4194304) (((i 0).val * 2048 + (i 1).val) / 2048 % 2048)) (wts x2 x3 x4 x5 x6 x7)) (wts x2 x3 x4 x5 x6 x7).uk (((i 0).val * 2048 + (i 1).val) / 256 % 8 * 128 + ((i 0).val * 2048 + (i 1).val) % 256)
    else if ((i 0).val * 2048 + (i 1).val) % 256 < 192 then rot 32 (cosine 0x42800000#32 (((i 0).val * 2048 + (i 1).val) / 2048 % 2048)) (sine 0x42800000#32 (((i 0).val * 2048 + (i 1).val) / 2048 % 2048)) (fun e => proj (row x0 x1 (((i 0).val * 2048 + (i 1).val) / 4194304) (((i 0).val * 2048 + (i 1).val) / 2048 % 2048)) (wts x2 x3 x4 x5 x6 x7) (4096 + e)) (((i 0).val * 2048 + (i 1).val) % 256 - 128) else 0) = _
  rw [show ((i 0).val * 2048 + (i 1).val) / 4194304 = (i 0).val / 2048 by omega, show ((i 0).val * 2048 + (i 1).val) / 2048 % 2048 = (i 0).val % 2048 by omega,
    show ((i 0).val * 2048 + (i 1).val) / 256 % 8 = (i 1).val / 256 by omega, show ((i 0).val * 2048 + (i 1).val) % 256 = (i 1).val % 256 by omega]
  rfl

end Cert.Proj.Ref
end
-- ==== Proof.ProjClaim.lean ====
/-
  The claim of the second call: the kernel's six results are the reference's.
-/
module

public import proofs.«01_k».proof.Defs
public import proofs.«01_k».proof.Proof.ProjArray
public import proofs.«01_k».proof.Proof.ProjRef
public import proofs.«01_k».proof.Proof.Gen.Reference2Ideal.Run
public import Idealize.ShloMosaic.Lib.Quiescent

@[expose] public section

noncomputable section

namespace Cert.Proj

open Idealize.ShloMosaic Idealize.ShloMosaic.TcCoe Idealize.SL.Sem

/-- The reference has no semaphore: its run ends with every counter at zero and its arguments as they were. -/
theorem frame_reference : Cert.quiescent_Reference2Ideal := fun m g _ =>
  (θ_run Cert.Reference2Ideal.defs _ _).mono (fun r h => ⟨fun c => (h c).2.2.2.2.2.2, sem_eq_zero_of_no_sems (by decide) r.2⟩)
    (Cert.Reference2Ideal.Value.run m g)

/-- The two literals that the kernel multiplies its queries by stand for the inverses of a root times a logarithm. -/
theorem preserves : Cert.preserves_Kernel2_Kernel2Ideal :=
  ⟨IdealRules.named_const.statement Cert.Kernel2Ideal.κ "scale_a" .f32 0x3E0293EE#32 (((Real.sqrt 128)⁻¹ * (Real.log 2)⁻¹ : ℝ) : EReal) rfl,
    IdealRules.named_const.statement Cert.Kernel2Ideal.κ "scale_b" .f32 0x3DD53B95#32 (((Real.sqrt 192)⁻¹ * (Real.log 2)⁻¹ : ℝ) : EReal) rfl⟩

theorem algebraic : Cert.algebraic_Kernel2Ideal_Reference2Ideal := fun m g m' g' _ hargs =>
  ⟨fun c => resultQa m c, fun c => resultKa m c, fun c => resultVa m c, fun c => resultQb m c, fun c => resultKb m c, fun c => resultVb m c,
    run_blocks m g,
    (θ_run Cert.Reference2Ideal.defs _ _).mono (fun r h c => by
      obtain ⟨h0, h1, h2, h3, h4, h5, h6, h7⟩ := hargs c
      have e0 : StableHlo.launchContents m' c (Proc.devRef .tc Cert.Reference2Ideal.main_arg0) = _ := h0
      have e1 : StableHlo.launchContents m' c (Proc.devRef .tc Cert.Reference2Ideal.main_arg1) = _ := h1
      have e2 : StableHlo.launchContents m' c (Proc.devRef .tc Cert.Reference2Ideal.main_arg2) = _ := h2
      have e3 : StableHlo.launchContents m' c (Proc.devRef .tc Cert.Reference2Ideal.main_arg3) = _ := h3
      have e4 : StableHlo.launchContents m' c (Proc.devRef .tc Cert.Reference2Ideal.main_arg4) = _ := h4
      have e5 : StableHlo.launchContents m' c (Proc.devRef .tc Cert.Reference2Ideal.main_arg5) = _ := h5
      have e6 : StableHlo.launchContents m' c (Proc.devRef .tc Cert.Reference2Ideal.main_arg6) = _ := h6
      have e7 : StableHlo.launchContents m' c (Proc.devRef .tc Cert.Reference2Ideal.main_arg7) = _ := h7
      refine ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩
      · rw [Cert.Reference2Ideal.Read.val_main_v238_eq, e0, e1, e2]
        exact funext fun i => Ref.resultQa_at _ _ _ (arg3 m c) (arg4 m c) (arg5 m c) (arg6 m c) (arg7 m c) i
      · rw [Cert.Reference2Ideal.Read.val_main_v239_eq, e0, e1, e2]
        exact funext fun i => Ref.resultKa_at _ _ _ (arg3 m c) (arg4 m c) (arg5 m c) (arg6 m c) (arg7 m c) i
      · rw [Cert.Reference2Ideal.Read.val_main_v240_eq, e0, e1, e2]
        exact funext fun i => Ref.resultVa_at _ _ _ (arg3 m c) (arg4 m c) (arg5 m c) (arg6 m c) (arg7 m c) i
      · rw [Cert.Reference2Ideal.Read.val_main_v241_eq, e0, e1, e2, e3, e5]
        exact funext fun i => Ref.resultQb_at _ _ _ _ (arg4 m c) _ (arg6 m c) (arg7 m c) i
      · rw [Cert.Reference2Ideal.Read.val_main_v242_eq, e0, e1, e2, e4, e6]
        exact funext fun i => Ref.resultKb_at _ _ _ (arg3 m c) _ (arg5 m c) _ (arg7 m c) i
      · rw [Cert.Reference2Ideal.Read.val_main_v243_eq, e0, e1, e2, e4, e7]
        exact funext fun i => Ref.resultVb_at _ _ _ (arg3 m c) _ (arg5 m c) (arg6 m c) _ i)
      (Cert.Reference2Ideal.Value.run m' g')⟩

end Cert.Proj
end
-- ==== Proof.Post.lean ====
/-
  The end of the attention half and the queries of the mixture, as functions of one row of the arguments: the two
  normalised attention outputs through the output projection, the residual sum and its layer normalisation (`x1`), the
  modulated second normalisation (`h`) and its copy kept within the range of an eight-bit float (`clipped`), the queries (`q`)
  and the scores of the sub-keys (`st`).
-/
module

public import proofs.«01_k».proof.Proof.Norm

@[expose] public section

noncomputable section

namespace Cert.Post

open Idealize.ShloMosaic Cert.At Cert.Norm
open scoped BigOperators

/-- One row of the arguments: the two attention outputs, the residual stream, and of the modulation the gate, the shift and
    the scale. -/
structure Row where
  a : ℕ → EReal
  b : ℕ → EReal
  x : ℕ → EReal
  gate : ℕ → EReal
  shift : ℕ → EReal
  scale : ℕ → EReal

/-- The weights: the gains of the two outputs, the output projection, the gain and shift of the layer normalisation, the query
    projection and the two tables of sub-keys. -/
structure Weights where
  ga : ℕ → EReal
  gb : ℕ → EReal
  wo : ℕ → ℕ → EReal
  lg : ℕ → EReal
  lb : ℕ → EReal
  wpq : ℕ → ℕ → EReal
  sk : ℕ → ℕ → ℕ → EReal

variable (R : Row) (W : Weights)

/-- The normalised attention outputs. -/
def na (k : ℕ) : EReal := rms 1024 d1024 epsRms R.a k * W.ga k
def nb (k : ℕ) : EReal := rms 1024 d1024 epsRms R.b k * W.gb k

/-- The output projection of the two side by side. -/
def mix (j : ℕ) : EReal := (∑ k : Fin 1024, na R W k.val * W.wo k.val j) + ∑ k : Fin 1024, nb R W k.val * W.wo (1024 + k.val) j

/-- The residual sum. -/
def resid (j : ℕ) : EReal := alpha * R.x j + R.gate j * mix R W j

/-- The first half's result. -/
def x1 (j : ℕ) : EReal := layer 2048 d2048 epsLayer (resid R W) j * W.lg j + W.lb j

/-- The modulated normalisation. -/
def h (j : ℕ) : EReal := layer 2048 d2048 epsLayer (x1 R W) j * (Ideal.ofBits .f32 0x3F800000#32 + R.scale j) + R.shift j

/-- Its copy within the range of the eight-bit float. -/
def clipped (j : ℕ) : EReal := min (max (h R W j) ((-448 : ℝ) : EReal)) ((448 : ℝ) : EReal)

/-- The queries. -/
def q (j : ℕ) : EReal := ∑ k : Fin 2048, h R W k.val * W.wpq k.val j

/-- The scores: 16 groups of 128, the groups' queries with the two tables in turn. -/
def st (n : ℕ) : EReal := ∑ e : Fin 128, W.sk (n / 128 % 2) (n % 128) e.val * q R W (n / 128 * 128 + e.val)

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul, -EReal.coe_neg]; norm_num

/-! ## The rows and the weights of the arguments -/

/-- Row `r` of batch `b`. -/
def argRow (x0 x1 : (⟨3, ![16, 2048, 1024]⟩ : Shape).Idx → EReal) (x2 : (⟨3, ![16, 2048, 2048]⟩ : Shape).Idx → EReal)
    (x3 : (⟨2, ![16, 12288]⟩ : Shape).Idx → EReal) (b r : ℕ) : Row where
  a := at3 x0 b r
  b := at3 x1 b r
  x := at3 x2 b r
  gate := cut 2048 fun k => at2 x3 b (4096 + k)
  shift := cut 2048 fun k => at2 x3 b (6144 + k)
  scale := cut 2048 fun k => at2 x3 b (8192 + k)

def argWeights (x4 x5 : (⟨1, ![1024]⟩ : Shape).Idx → EReal) (x6 : (⟨2, ![2048, 2048]⟩ : Shape).Idx → EReal) (x7 x8 : (⟨1, ![2048]⟩ : Shape).Idx → EReal)
    (x9 : (⟨2, ![2048, 2048]⟩ : Shape).Idx → EReal) (x10 x11 : (⟨2, ![128, 128]⟩ : Shape).Idx → EReal) : Weights where
  ga := at1 x4
  gb := at1 x5
  wo := at2 x6
  lg := at1 x7
  lb := at1 x8
  wpq := at2 x9
  sk p n e := if p = 0 then at2 x10 n e else if p = 1 then at2 x11 n e else 0

end Cert.Post
end
-- ==== Proof.PostBlock.lean ====
/-
  What a grid step of the third call leaves in its three output blocks, row by row.
-/
module

public import proofs.«01_k».proof.Proof.Post
public import proofs.«01_k».proof.Proof.Gen.Kernel3Ideal.Frame

@[expose] public section

noncomputable section

namespace Cert.Post

open Idealize.ShloMosaic Idealize.ShloMosaic.TcCoe Cert.At Cert.Norm Cert.Kernel3Ideal Cert.Kernel3Ideal.Gen
open scoped BigOperators

theorem alpha_named : Named.named (F := Ideal) Cert.Kernel3Ideal.κ "alpha" (φ := .f32) 0x3F9837F0#32 = alpha :=
  IdealRules.named_const.ideal_named_scalar _ _ _ _ rfl

/-! ## The payloads, from rows -/

section Payloads

variable (R : Row) (W : Weights) (i : Fin 512)

theorem pay2_at (v17 : Vec Ideal S512x1024 .f32) (v19 : Vec Ideal S1x1024 .f32) (hb : ∀ k : Fin 1024, v17 (ValueIdx.ix2 i k) = R.b k.val)
    (hg : ∀ k : Fin 1024, v19 (ValueIdx.ix2 (0 : Fin 1) k) = W.gb k.val) (k : Fin 1024) : k0_pay2 v17 v19 (ValueIdx.ix2 i k) = nb R W k.val := by
  unfold k0_pay2
  simp only [shapeCast_self]
  exact congrArg₂ (fun a b : EReal => a * b)
    (rmsVec (N := 1024) v17 reduces_S512x1024_S512 (.inl rfl) rfl shapeCasts_S512_S512x1 broadcasts_S512x1_S512x1024 i R.b _ _ hb k)
    ((spreadRow (R := 512) i _ broadcasts_S1x1024_S512x1024 k).trans (hg k))

theorem pay3_at (v0 : Vec Ideal S512x1024 .f32) (v2 : Vec Ideal S1x1024 .f32) (v34 : Vec Ideal S1024x2048 .bf16)
    (ha : ∀ k : Fin 1024, v0 (ValueIdx.ix2 i k) = R.a k.val) (hg : ∀ k : Fin 1024, v2 (ValueIdx.ix2 (0 : Fin 1) k) = W.ga k.val) (j : Fin 2048)
    (hw : ∀ k : Fin 1024, v34 (ValueIdx.ix2 k j) = W.wo k.val j.val) :
    k0_pay3 v0 v2 v34 (ValueIdx.ix2 i j) = ∑ k : Fin 1024, na R W k.val * W.wo k.val j.val := by
  unfold k0_pay3
  simp only [shapeCast_self]
  refine product (M := 512) (K := 1024) (N := 2048) (φ₁ := .bf16) (φ₂ := .bf16) _ _ i j (na R W) (fun k => W.wo k j.val) (fun k => ?_) hw
  exact congrArg₂ (fun a b : EReal => a * b)
    (rmsVec (N := 1024) v0 reduces_S512x1024_S512 (.inl rfl) rfl shapeCasts_S512_S512x1 broadcasts_S512x1_S512x1024 i R.a _ _ ha k)
    ((spreadRow (R := 512) i _ broadcasts_S1x1024_S512x1024 k).trans (hg k))

theorem pay5_at (v33 : FVec Ideal S512x1024 .bf16) (v36 : FVec Ideal S512x2048 .f32) (v38 : FVec Ideal S1024x2048 .bf16) (v41 : Vec Ideal S512x2048 .f32)
    (v45 : Vec Ideal S1x1x2048 .f32) (v66 v70 : Vec Ideal S1x2048 .f32)
    (h33 : ∀ k : Fin 1024, v33 (ValueIdx.ix2 i k) = nb R W k.val)
    (h36 : ∀ j : Fin 2048, v36 (ValueIdx.ix2 i j) = ∑ k : Fin 1024, na R W k.val * W.wo k.val j.val)
    (h38 : ∀ (k : Fin 1024) (j : Fin 2048), v38 (ValueIdx.ix2 k j) = W.wo (1024 + k.val) j.val)
    (h41 : ∀ j : Fin 2048, v41 (ValueIdx.ix2 i j) = R.x j.val)
    (h45 : ∀ j : Fin 2048, at3 (A := 1) (B := 1) (C := 2048) v45 0 0 j.val = R.gate j.val)
    (h66 : ∀ j : Fin 2048, v66 (ValueIdx.ix2 (0 : Fin 1) j) = W.lg j.val)
    (h70 : ∀ j : Fin 2048, v70 (ValueIdx.ix2 (0 : Fin 1) j) = W.lb j.val) (j : Fin 2048) :
    k0_pay5 v33 v36 v38 (constant S512x2048 .f32 0x00000000#32) v41 v45 v66 v70 (ValueIdx.ix2 i j) = x1 R W j.val := by
  unfold k0_pay5
  simp only [shapeCast_self]
  have hx : ∀ k : Fin 2048, (addf (mulf (broadcast S512x2048 (Named.named κ "alpha" 0x3F9837F0#32)) v41)
      (mulf (broadcastTo S512x2048 (shapeCast S1x2048 v45 shapeCasts_S1x1x2048_S1x2048) broadcasts_S1x2048_S512x2048)
        (addf v36 (matmul dot_S512x1024_S1024x2048_S512x2048_1_0_0_1_n_n none v33 v38 (constant S512x2048 .f32 0x00000000#32)))) : FVec Ideal S512x2048 .f32)
          (ValueIdx.ix2 i k) = resid R W k.val := by
    intro k
    refine congrArg₂ (fun a b : EReal => a + b) (congrArg₂ (fun a b : EReal => a * b) alpha_named (h41 k))
      (congrArg₂ (fun a b : EReal => a * b) ?_ (congrArg₂ (fun a b : EReal => a + b) (h36 k) ?_))
    · exact (spreadRow (R := 512) i _ broadcasts_S1x2048_S512x2048 k).trans ((row3 v45 shapeCasts_S1x1x2048_S1x2048 0 k).trans (h45 k))
    · exact product (M := 512) (K := 1024) (N := 2048) (φ₁ := .bf16) (φ₂ := .bf16) v33 v38 i k (nb R W) (fun l => W.wo (1024 + l) k.val) h33 (fun l => h38 l k)
  refine congrArg₂ (fun a b : EReal => a + b) (congrArg₂ (fun a b : EReal => a * b) ?_ ?_) ?_
  · exact layerVec_of_mean _ reduces_S512x2048_S512 (.inl rfl) rfl shapeCasts_S512_S512x1 broadcasts_S512x1_S512x2048 i _ _ _ _ hx
      (meanVec _ reduces_S512x2048_S512 (.inl rfl) rfl shapeCasts_S512_S512x1 i _ _ hx 0) j
  · exact (spreadRow (R := 512) i _ broadcasts_S1x2048_S512x2048 j).trans (h66 j)
  · exact (spreadRow (R := 512) i _ broadcasts_S1x2048_S512x2048 j).trans (h70 j)

theorem pay7_at (v73 : FVec Ideal S512x2048 .f32) (v78 : FVec Ideal S512x1 .f32) (v91 v97 : Vec Ideal S1x1x2048 .f32)
    (h73 : ∀ j : Fin 2048, v73 (ValueIdx.ix2 i j) = x1 R W j.val)
    (h78 : v78 (ValueIdx.ix2 i (0 : Fin 1)) = mean 2048 d2048 (x1 R W))
    (h91 : ∀ j : Fin 2048, at3 (A := 1) (B := 1) (C := 2048) v91 0 0 j.val = R.scale j.val)
    (h97 : ∀ j : Fin 2048, at3 (A := 1) (B := 1) (C := 2048) v97 0 0 j.val = R.shift j.val) (j : Fin 2048) :
    k0_pay7 v73 v78 v91 v97 (ValueIdx.ix2 i j) = h R W j.val := by
  unfold k0_pay7
  refine congrArg₂ (fun a b : EReal => a + b) (congrArg₂ (fun a b : EReal => a * b) ?_ ?_) ?_
  · exact layerVec_of_mean _ reduces_S512x2048_S512 (.inl rfl) rfl shapeCasts_S512_S512x1 broadcasts_S512x1_S512x2048 i _ _ _ _ h73 h78 j
  · refine (spreadRow (R := 512) i _ broadcasts_S1x2048_S512x2048 j).trans ?_
    exact congrArg (fun a : EReal => Ideal.ofBits .f32 0x3F800000#32 + a) ((row3 v91 shapeCasts_S1x1x2048_S1x2048 0 j).trans (h91 j))
  · exact (spreadRow (R := 512) i _ broadcasts_S1x2048_S512x2048 j).trans ((row3 v97 shapeCasts_S1x1x2048_S1x2048 0 j).trans (h97 j))

theorem pay8_at (v73 : FVec Ideal S512x2048 .f32) (v78 : FVec Ideal S512x1 .f32) (v91 v97 : Vec Ideal S1x1x2048 .f32) (j : Fin 2048)
    (hh : k0_pay7 v73 v78 v91 v97 (ValueIdx.ix2 i j) = h R W j.val) :
    k0_pay8 v73 v78 v91 v97 (ValueIdx.ix2 i j) = clipped R W j.val := by
  unfold k0_pay8
  show min (max (k0_pay7 v73 v78 v91 v97 (ValueIdx.ix2 i j)) (Ideal.ofBits .f32 0x00000000#32 - Ideal.ofBits .f32 0x43E00000#32)) (Ideal.ofBits .f32 0x43E00000#32) = _
  rw [hh, Ideal.ofBits_zero_f32, ofBits_448, zero_sub, ← EReal.coe_neg]
  rfl

theorem pay9_at (v73 : FVec Ideal S512x2048 .f32) (v78 : FVec Ideal S512x1 .f32) (v91 v97 : Vec Ideal S1x1x2048 .f32) (v109 : Vec Ideal S2048x2048 .bf16)
    (hh : ∀ k : Fin 2048, k0_pay7 v73 v78 v91 v97 (ValueIdx.ix2 i k) = h R W k.val) (j : Fin 2048)
    (hw : ∀ k : Fin 2048, v109 (ValueIdx.ix2 k j) = W.wpq k.val j.val) :
    k0_pay9 v73 v78 v91 v97 v109 (ValueIdx.ix2 i j) = q R W j.val := by
  unfold k0_pay9
  simp only [shapeCast_self]
  exact product (M := 512) (K := 2048) (N := 2048) (φ₁ := .bf16) (φ₂ := .bf16) _ _ i j (h R W) (fun k => W.wpq k j.val) hh hw

/-- A group's scores. -/
theorem scores_at (K : Vec Ideal S1x128x128 .bf16) (Q : FVec Ideal S512x2048 .bf16) (o : ℕ) (hs : S512x2048.Slices ![0, o] S512x128)
    (ho : o % 128 = 0) (ho' : o < 2048) (n : Fin 128) (hK : ∀ e : Fin 128, K (ValueIdx.ix3 (0 : Fin 1) n e) = W.sk (o / 128 % 2) n.val e.val)
    (hQ : ∀ j : Fin 2048, Q (ValueIdx.ix2 i j) = q R W j.val) :
    FloatOps.matmul (F := Ideal) (φ₁ := .bf16) (φ₂ := .bf16) (DotDims.transposedRhs 128 128 512) none (shapeCast S128x128 K shapeCasts_S1x128x128_S128x128)
        (extractStridedSlice S512x128 ![0, o] Q hs) (constant S128x512 .f32 0x00000000#32) (ValueIdx.ix2 n i) = st R W (o + n.val) := by
  have hn := n.isLt
  refine (productT (M := 128) (K := 128) (N := 512) (φ₁ := .bf16) (φ₂ := .bf16) _ _ n i (fun e => W.sk (o / 128 % 2) n.val e) (fun e => q R W (o + e))
    (fun e => ?_) (fun e => ?_)).trans ?_
  · refine (shapeCast_apply K shapeCasts_S1x128x128_S128x128 _ (ValueIdx.ix3 (0 : Fin 1) n e) ?_).trans (hK e)
    rw [Shape.rowMajor_val_three, Shape.rowMajor_val_two]
    show (0 * 128 + n.val) * 128 + e.val = n.val * 128 + e.val
    omega
  · have he := e.isLt
    refine (extractStridedSlice_apply ![0, o] Q hs _ (ValueIdx.ix2 i (⟨o + e.val, by omega⟩ : Fin 2048)) fun a => ?_).trans (hQ ⟨o + e.val, by omega⟩)
    match a with
    | ⟨0, _⟩ => exact (Nat.zero_add _).symm
    | ⟨1, _⟩ => rfl
  · unfold st
    rw [show (o + n.val) / 128 = o / 128 by omega, show (o + n.val) % 128 = n.val by omega, show o / 128 * 128 = o by omega]

end Payloads

/-! ## The blocks -/

section Block

variable (x0 x1' : Vec Ideal S512x1024 .f32) (x2 : Vec Ideal S512x2048 .f32) (x3 x4 x5 : Vec Ideal S1x1x2048 .f32) (x6 x7 : Vec Ideal S1x1024 .f32)
  (x8 : Vec Ideal S2048x2048 .bf16) (x9 x10 : Vec Ideal S1x2048 .f32) (x11 : Vec Ideal S2048x2048 .bf16) (x12 : Vec Ideal S2x128x128 .bf16)

/-- A row of the input blocks, and the weights. -/
def blockRow (r : ℕ) : Row where
  a := at2 (A := 512) (B := 1024) x0 r
  b := at2 (A := 512) (B := 1024) x1' r
  x := at2 (A := 512) (B := 2048) x2 r
  gate := at3 (A := 1) (B := 1) (C := 2048) x3 0 0
  scale := at3 (A := 1) (B := 1) (C := 2048) x4 0 0
  shift := at3 (A := 1) (B := 1) (C := 2048) x5 0 0

def blockWeights : Weights where
  ga := at2 (A := 1) (B := 1024) x6 0
  gb := at2 (A := 1) (B := 1024) x7 0
  wo := at2 (A := 2048) (B := 2048) x8
  lg := at2 (A := 1) (B := 2048) x9 0
  lb := at2 (A := 1) (B := 2048) x10 0
  wpq := at2 (A := 2048) (B := 2048) x11
  sk := at3 (A := 2) (B := 128) (C := 128) x12

/-- The three output blocks. -/
def outX : Vec Ideal S512x2048 .f32 := fun y => x1 (blockRow x0 x1' x2 x3 x4 x5 (y 0).val) (blockWeights x6 x7 x8 x9 x10 x11 x12) (y 1).val
def outH : Vec Ideal S512x2048 .fp8e4m3 := fun y => clipped (blockRow x0 x1' x2 x3 x4 x5 (y 0).val) (blockWeights x6 x7 x8 x9 x10 x11 x12) (y 1).val
def outS : Vec Ideal S2048x512 .f32 := fun y => st (blockRow x0 x1' x2 x3 x4 x5 (y 1).val) (blockWeights x6 x7 x8 x9 x10 x11 x12) (y 0).val

theorem pay37_at (i : Fin 512) (j : Fin 2048) : k0_pay37 x0 x1' x2 x3 x4 x5 x6 x7 x8 x9 x10 x11 x12 (ValueIdx.ix2 i j)
    = x1 (blockRow x0 x1' x2 x3 x4 x5 i.val) (blockWeights x6 x7 x8 x9 x10 x11 x12) j.val := by
  have e0 : View.ld x0 r0_0 = x0 := View.ld_unit_lit _ _ (by decide)
  have e1 : View.ld x1' r0_0 = x1' := View.ld_unit_lit _ _ (by decide)
  have e2 : View.ld x2 r0_4 = x2 := View.ld_unit_lit _ _ (by decide)
  have e3 : View.ld x3 r0_5 = x3 := View.ld_unit_lit _ _ (by decide)
  have e6 : View.ld x6 r0_1 = x6 := View.ld_unit_lit _ _ (by decide)
  have e7 : View.ld x7 r0_1 = x7 := View.ld_unit_lit _ _ (by decide)
  have e9 : View.ld x9 r0_6 = x9 := View.ld_unit_lit _ _ (by decide)
  have e10 : View.ld x10 r0_6 = x10 := View.ld_unit_lit _ _ (by decide)
  unfold k0_pay37 k0_pay36 k0_pay35 k0_pay34 k0_pay33
  rw [e0, e1, e2, e3, e6, e7, e9, e10]
  refine pay5_at (blockRow x0 x1' x2 x3 x4 x5 i.val) (blockWeights x6 x7 x8 x9 x10 x11 x12) i _ _ _ _ _ _ _ ?_ ?_ ?_ ?_ (fun _ => rfl) ?_ ?_ j
  · exact pay2_at _ _ i _ _ (fun k => (at2_eq (A := 512) (B := 1024) x1' _ rfl rfl).symm) (fun k => (at2_eq (A := 1) (B := 1024) x7 _ rfl rfl).symm)
  · intro j
    refine pay3_at _ _ i _ _ _ (fun k => (at2_eq (A := 512) (B := 1024) x0 _ rfl rfl).symm) (fun k => (at2_eq (A := 1) (B := 1024) x6 _ rfl rfl).symm) j fun k => ?_
    refine (ld_at2 x8 0 0 inb_S2048x2048_S1024x2048_0_0 k j).trans ?_
    rw [Nat.zero_add, Nat.zero_add]
    rfl
  · intro k j
    unfold k0_pay4
    simp only [shapeCast_self]
    refine (ld_at2 x8 1024 0 inb_S2048x2048_S1024x2048_1024_0 k j).trans ?_
    rw [Nat.zero_add]
    rfl
  · exact fun j => (at2_eq (A := 512) (B := 2048) x2 _ rfl rfl).symm
  · exact fun j => (at2_eq (A := 1) (B := 2048) x9 _ rfl rfl).symm
  · exact fun j => (at2_eq (A := 1) (B := 2048) x10 _ rfl rfl).symm

theorem pay38_at (i : Fin 512) : k0_pay38 x0 x1' x2 x3 x4 x5 x6 x7 x8 x9 x10 x11 x12 (ValueIdx.ix2 i (0 : Fin 1))
    = mean 2048 d2048 (x1 (blockRow x0 x1' x2 x3 x4 x5 i.val) (blockWeights x6 x7 x8 x9 x10 x11 x12)) :=
  meanVec (N := 2048) _ reduces_S512x2048_S512 (.inl rfl) rfl shapeCasts_S512_S512x1 i _ _
    (fun j => pay37_at x0 x1' x2 x3 x4 x5 x6 x7 x8 x9 x10 x11 x12 i j) 0

theorem h_at (i : Fin 512) (j : Fin 2048) :
    k0_pay7 (k0_pay37 x0 x1' x2 x3 x4 x5 x6 x7 x8 x9 x10 x11 x12) (k0_pay38 x0 x1' x2 x3 x4 x5 x6 x7 x8 x9 x10 x11 x12) x4 x5 (ValueIdx.ix2 i j)
      = h (blockRow x0 x1' x2 x3 x4 x5 i.val) (blockWeights x6 x7 x8 x9 x10 x11 x12) j.val :=
  pay7_at _ _ i _ _ _ _ (pay37_at x0 x1' x2 x3 x4 x5 x6 x7 x8 x9 x10 x11 x12 i) (pay38_at x0 x1' x2 x3 x4 x5 x6 x7 x8 x9 x10 x11 x12 i)
    (fun _ => rfl) (fun _ => rfl) j

theorem q_at (i : Fin 512) (j : Fin 2048) : k0_pay39 x0 x1' x2 x3 x4 x5 x6 x7 x8 x9 x10 x11 x12 (ValueIdx.ix2 i j)
    = q (blockRow x0 x1' x2 x3 x4 x5 i.val) (blockWeights x6 x7 x8 x9 x10 x11 x12) j.val := by
  have e4 : View.ld x4 r0_5 = x4 := View.ld_unit_lit _ _ (by decide)
  have e5 : View.ld x5 r0_5 = x5 := View.ld_unit_lit _ _ (by decide)
  have e11 : View.ld x11 r0_7 = x11 := View.ld_unit_lit _ _ (by decide)
  unfold k0_pay39
  rw [e4, e5, e11]
  exact pay9_at _ _ i _ _ _ _ _ (h_at x0 x1' x2 x3 x4 x5 x6 x7 x8 x9 x10 x11 x12 i) j (fun k => (at2_eq (A := 2048) (B := 2048) x11 _ rfl rfl).symm)

theorem out13_eq : out0_13 x0 x1' x2 x3 x4 x5 x6 x7 x8 x9 x10 x11 x12 = outX x0 x1' x2 x3 x4 x5 x6 x7 x8 x9 x10 x11 x12 := by
  refine (View.canon_cons_unit_lit _ _ _ (by decide)).trans (funext fun y => ?_)
  rw [ValueIdx.eq_ix2 y]
  exact pay37_at x0 x1' x2 x3 x4 x5 x6 x7 x8 x9 x10 x11 x12 (y 0) (y 1)

theorem out14_eq : out0_14 x0 x1' x2 x3 x4 x5 x6 x7 x8 x9 x10 x11 x12 = outH x0 x1' x2 x3 x4 x5 x6 x7 x8 x9 x10 x11 x12 := by
  have e4 : View.ld x4 r0_5 = x4 := View.ld_unit_lit _ _ (by decide)
  have e5 : View.ld x5 r0_5 = x5 := View.ld_unit_lit _ _ (by decide)
  refine (View.canon_cons_unit_lit _ _ _ (by decide)).trans (funext fun y => ?_)
  rw [e4, e5, ValueIdx.eq_ix2 y]
  exact pay8_at _ _ (y 0) _ _ _ _ (y 1) (h_at x0 x1' x2 x3 x4 x5 x6 x7 x8 x9 x10 x11 x12 (y 0) (y 1))

/-- A load of one of the two tables. -/
theorem ldKeys (p : ℕ) (inb : ∀ a, (![p, 0, 0] : Fin 3 → ℕ) a + S1x128x128.size a ≤ S2x128x128.size a) (n e : Fin 128) :
    View.ld (Val := Elt Ideal) (e' := .bf16) x12 (Rect.unit (s := S2x128x128) ![p, 0, 0] S1x128x128.size inb) (ValueIdx.ix3 (0 : Fin 1) n e)
      = at3 (A := 2) (B := 128) (C := 128) x12 p n.val e.val :=
  (at3_eq (A := 2) (B := 128) (C := 128) x12 _ (Rect.idx_unit_val (s := S2x128x128) ![p, 0, 0] S1x128x128.size inb (ValueIdx.ix3 (0 : Fin 1) n e) 0)
    ((Rect.idx_unit_val (s := S2x128x128) ![p, 0, 0] S1x128x128.size inb (ValueIdx.ix3 (0 : Fin 1) n e) 1).trans (Nat.zero_add _))
    ((Rect.idx_unit_val (s := S2x128x128) ![p, 0, 0] S1x128x128.size inb (ValueIdx.ix3 (0 : Fin 1) n e) 2).trans (Nat.zero_add _))).symm

/-- A group's stored scores are the block's. -/
theorem tile (p o : ℕ) (inbK : ∀ a, (![p, 0, 0] : Fin 3 → ℕ) a + S1x128x128.size a ≤ S2x128x128.size a) (hs : S512x2048.Slices ![0, o] S512x128)
    (inb : ∀ a, (![o, 0] : Fin 2 → ℕ) a + S128x512.size a ≤ S2048x512.size a) (ho : o % 128 = 0) (ho' : o < 2048) (hp : o / 128 % 2 = p)
    (x : S128x512.Idx) :
    FloatOps.matmul (F := Ideal) (φ₁ := .bf16) (φ₂ := .bf16) (DotDims.transposedRhs 128 128 512) none
        (shapeCast S128x128 (View.ld (Val := Elt Ideal) (e' := .bf16) x12 (Rect.unit (s := S2x128x128) ![p, 0, 0] S1x128x128.size inbK)) shapeCasts_S1x128x128_S128x128)
        (extractStridedSlice S512x128 ![0, o] (k0_pay39 x0 x1' x2 x3 x4 x5 x6 x7 x8 x9 x10 x11 x12) hs) (constant S128x512 .f32 0x00000000#32) x
      = outS x0 x1' x2 x3 x4 x5 x6 x7 x8 x9 x10 x11 x12 ((Rect.unit (s := S2048x512) ![o, 0] S128x512.size inb).emb x) := by
  have h0 : ((Rect.unit (s := S2048x512) ![o, 0] S128x512.size inb).emb x 0).val = o + (x 0).val :=
    Rect.idx_unit_val (s := S2048x512) ![o, 0] S128x512.size inb x 0
  have h1 : ((Rect.unit (s := S2048x512) ![o, 0] S128x512.size inb).emb x 1).val = (x 1).val :=
    (Rect.idx_unit_val (s := S2048x512) ![o, 0] S128x512.size inb x 1).trans (Nat.zero_add _)
  unfold outS
  rw [h0, h1, ValueIdx.eq_ix2 x]
  subst hp
  exact scores_at (blockRow x0 x1' x2 x3 x4 x5 (x 1).val) (blockWeights x6 x7 x8 x9 x10 x11 x12) (x 1) _ _ o hs ho ho' (x 0)
    (fun e => ldKeys x12 _ inbK (x 0) e) (q_at x0 x1' x2 x3 x4 x5 x6 x7 x8 x9 x10 x11 x12 (x 1))

theorem out15_eq : out0_15 x0 x1' x2 x3 x4 x5 x6 x7 x8 x9 x10 x11 x12 = outS x0 x1' x2 x3 x4 x5 x6 x7 x8 x9 x10 x11 x12 := by
  funext y
  unfold out0_15
  have t := tile x0 x1' x2 x3 x4 x5 x6 x7 x8 x9 x10 x11 x12
  refine View.canon_apply_of_pieces (outS x0 x1' x2 x3 x4 x5 x6 x7 x8 x9 x10 x11 x12) _ ?_ y (cover0_15 _ _ _ _ _ _ _ _ _ _ _ _ _ _ _ _ y)
  refine List.forall_mem_cons.mpr ⟨t 1 1920 inb_S2x128x128_S1x128x128_1_0_0 slices_S512x2048_o0_1920_S512x128 inb_S2048x512_S128x512_1920_0 rfl (by norm_num) rfl, ?_⟩
  refine List.forall_mem_cons.mpr ⟨t 0 1792 inb_S2x128x128_S1x128x128_0_0_0 slices_S512x2048_o0_1792_S512x128 inb_S2048x512_S128x512_1792_0 rfl (by norm_num) rfl, ?_⟩
  refine List.forall_mem_cons.mpr ⟨t 1 1664 inb_S2x128x128_S1x128x128_1_0_0 slices_S512x2048_o0_1664_S512x128 inb_S2048x512_S128x512_1664_0 rfl (by norm_num) rfl, ?_⟩
  refine List.forall_mem_cons.mpr ⟨t 0 1536 inb_S2x128x128_S1x128x128_0_0_0 slices_S512x2048_o0_1536_S512x128 inb_S2048x512_S128x512_1536_0 rfl (by norm_num) rfl, ?_⟩
  refine List.forall_mem_cons.mpr ⟨t 1 1408 inb_S2x128x128_S1x128x128_1_0_0 slices_S512x2048_o0_1408_S512x128 inb_S2048x512_S128x512_1408_0 rfl (by norm_num) rfl, ?_⟩
  refine List.forall_mem_cons.mpr ⟨t 0 1280 inb_S2x128x128_S1x128x128_0_0_0 slices_S512x2048_o0_1280_S512x128 inb_S2048x512_S128x512_1280_0 rfl (by norm_num) rfl, ?_⟩
  refine List.forall_mem_cons.mpr ⟨t 1 1152 inb_S2x128x128_S1x128x128_1_0_0 slices_S512x2048_o0_1152_S512x128 inb_S2048x512_S128x512_1152_0 rfl (by norm_num) rfl, ?_⟩
  refine List.forall_mem_cons.mpr ⟨t 0 1024 inb_S2x128x128_S1x128x128_0_0_0 slices_S512x2048_o0_1024_S512x128 inb_S2048x512_S128x512_1024_0 rfl (by norm_num) rfl, ?_⟩
  refine List.forall_mem_cons.mpr ⟨t 1 896 inb_S2x128x128_S1x128x128_1_0_0 slices_S512x2048_o0_896_S512x128 inb_S2048x512_S128x512_896_0 rfl (by norm_num) rfl, ?_⟩
  refine List.forall_mem_cons.mpr ⟨t 0 768 inb_S2x128x128_S1x128x128_0_0_0 slices_S512x2048_o0_768_S512x128 inb_S2048x512_S128x512_768_0 rfl (by norm_num) rfl, ?_⟩
  refine List.forall_mem_cons.mpr ⟨t 1 640 inb_S2x128x128_S1x128x128_1_0_0 slices_S512x2048_o0_640_S512x128 inb_S2048x512_S128x512_640_0 rfl (by norm_num) rfl, ?_⟩
  refine List.forall_mem_cons.mpr ⟨t 0 512 inb_S2x128x128_S1x128x128_0_0_0 slices_S512x2048_o0_512_S512x128 inb_S2048x512_S128x512_512_0 rfl (by norm_num) rfl, ?_⟩
  refine List.forall_mem_cons.mpr ⟨t 1 384 inb_S2x128x128_S1x128x128_1_0_0 slices_S512x2048_o0_384_S512x128 inb_S2048x512_S128x512_384_0 rfl (by norm_num) rfl, ?_⟩
  refine List.forall_mem_cons.mpr ⟨t 0 256 inb_S2x128x128_S1x128x128_0_0_0 slices_S512x2048_o0_256_S512x128 inb_S2048x512_S128x512_256_0 rfl (by norm_num) rfl, ?_⟩
  refine List.forall_mem_cons.mpr ⟨t 1 128 inb_S2x128x128_S1x128x128_1_0_0 slices_S512x2048_o0_128_S512x128 inb_S2048x512_S128x512_128_0 rfl (by norm_num) rfl, ?_⟩
  exact List.forall_mem_cons.mpr ⟨t 0 0 inb_S2x128x128_S1x128x128_0_0_0 slices_S512x2048_o0_0_S512x128 inb_S2048x512_S128x512_0_0 rfl (by norm_num) rfl,
    fun _ h => absurd h List.not_mem_nil⟩

end Block

end Cert.Post
end
-- ==== Proof.PostArray.lean ====
/-
  The arrays that the host hands to the third call, the blocks that a grid point stages of them, and the three arrays after the
  run.
-/
module

public import proofs.«01_k».proof.Proof.PostBlock
public import proofs.«01_k».proof.Proof.Gen.Kernel3Ideal.Value
public import Idealize.ShloMosaic.Lib.StableHlo.ReadAt
public import Idealize.ShloMosaic.Lib.Pipeline.ValueKit
public import Idealize.ShloMosaic.Lib.Claim

@[expose] public section

noncomputable section

namespace Cert.Post

open Idealize.ShloMosaic Idealize.ShloMosaic.TcCoe Cert.At Cert.Norm Cert.Kernel3Ideal Cert.Kernel3Ideal.Gen
open scoped BigOperators

variable (m : (ℓ : Loc nD τ sig) → Buf (Elt Ideal) ℓ) (c : Dev nD)

/-! ## The host's arrays -/

theorem host0 (i : Fin 32768) (j : Fin 2048) : V m c main_v0 (ValueIdx.ix2 i j) = at3 (A := 16) (B := 2048) (C := 2048) (m ((c.tc : Thread nD τ).loc main_arg2)) (i.val / 2048) (i.val % 2048) j.val := by
  unfold V
  after_reads_at
  exact (at3_eq _ _ rfl rfl rfl).symm

theorem host6 (i : Fin 32768) (j : Fin 1024) : V m c main_v6 (ValueIdx.ix2 i j) = at3 (A := 16) (B := 2048) (C := 1024) (m ((c.tc : Thread nD τ).loc main_arg0)) (i.val / 2048) (i.val % 2048) j.val := by
  unfold V
  after_reads_at
  exact (at3_eq _ _ rfl rfl rfl).symm

theorem host7 (i : Fin 32768) (j : Fin 1024) : V m c main_v7 (ValueIdx.ix2 i j) = at3 (A := 16) (B := 2048) (C := 1024) (m ((c.tc : Thread nD τ).loc main_arg1)) (i.val / 2048) (i.val % 2048) j.val := by
  unfold V
  after_reads_at
  exact (at3_eq _ _ rfl rfl rfl).symm

theorem host1 (i : Fin 96) (j : Fin 1) (k : Fin 2048) : V m c main_v1 (ValueIdx.ix3 i j k) = at2 (A := 16) (B := 12288) (m ((c.tc : Thread nD τ).loc main_arg3)) (i.val / 6) (i.val % 6 * 2048 + k.val) := by
  unfold V
  after_reads_at
  exact (at2_eq _ _ rfl rfl).symm

theorem host8 (i : Fin 1) (j : Fin 1024) : V m c main_v8 (ValueIdx.ix2 i j) = at1 (A := 1024) (m ((c.tc : Thread nD τ).loc main_arg4)) j.val := by
  unfold V
  after_reads_at
  exact (at1_eq _ _ rfl).symm

theorem host9 (i : Fin 1) (j : Fin 1024) : V m c main_v9 (ValueIdx.ix2 i j) = at1 (A := 1024) (m ((c.tc : Thread nD τ).loc main_arg5)) j.val := by
  unfold V
  after_reads_at
  exact (at1_eq _ _ rfl).symm

theorem host11 (i : Fin 1) (j : Fin 2048) : V m c main_v11 (ValueIdx.ix2 i j) = at1 (A := 2048) (m ((c.tc : Thread nD τ).loc main_arg7)) j.val := by
  unfold V
  after_reads_at
  exact (at1_eq _ _ rfl).symm

theorem host12 (i : Fin 1) (j : Fin 2048) : V m c main_v12 (ValueIdx.ix2 i j) = at1 (A := 2048) (m ((c.tc : Thread nD τ).loc main_arg8)) j.val := by
  unfold V
  after_reads_at
  exact (at1_eq _ _ rfl).symm

theorem host10 (i : Fin 2048) (j : Fin 2048) : V m c main_v10 (ValueIdx.ix2 i j) = at2 (A := 2048) (B := 2048) (m ((c.tc : Thread nD τ).loc main_arg6)) i.val j.val := by
  unfold V
  after_reads_at
  exact (at2_eq _ _ rfl rfl).symm

theorem host13 (i : Fin 2048) (j : Fin 2048) : V m c main_v13 (ValueIdx.ix2 i j) = at2 (A := 2048) (B := 2048) (m ((c.tc : Thread nD τ).loc main_arg9)) i.val j.val := by
  unfold V
  after_reads_at
  exact (at2_eq _ _ rfl rfl).symm

theorem host5 (p : Fin 2) (n e : Fin 128) : V m c main_v5 (ValueIdx.ix3 p n e) = if p.val = 0 then at2 (A := 128) (B := 128) (m ((c.tc : Thread nD τ).loc main_arg10)) n.val e.val
      else if p.val = 1 then at2 (A := 128) (B := 128) (m ((c.tc : Thread nD τ).loc main_arg11)) n.val e.val else 0 := by
  unfold V
  after_reads_at
  after_reads_at
  by_cases hp : p.val = 0
  · exact (dif_pos (show p.val < 1 by omega)).trans ((at2_eq _ _ rfl rfl).symm.trans (if_pos hp).symm)
  · have hp1 : p.val = 1 := by omega
    exact (dif_neg (show ¬ p.val < 1 by omega)).trans ((at2_eq _ _ rfl rfl).symm.trans ((if_pos hp1).symm.trans (if_neg hp).symm))

/-! ## The blocks -/

/-- The block that a point stages or writes: point `t` is batch `t / 4`, rows `512 (t % 4)`. -/
theorem idx : ∀ t : Fin cfg0.N, win0_0.index t = ![t.val, 0] ∧ win0_1.index t = ![t.val, 0] ∧ win0_2.index t = ![t.val, 0]
    ∧ win0_3.index t = ![t.val / 4 * 6 + 2, 0, 0] ∧ win0_4.index t = ![t.val / 4 * 6 + 4, 0, 0] ∧ win0_5.index t = ![t.val / 4 * 6 + 3, 0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0, 0] ∧ win0_13.index t = ![t.val, 0] ∧ win0_14.index t = ![t.val, 0] ∧ win0_15.index t = ![0, t.val] :=
  (by decide +kernel : ∀ t : Fin grid0.N, _)

theorem blk0 (t : Fin cfg0.N) (i : Fin 512) : at2 (A := 512) (B := 1024) (iblk m c 0 t) i.val
    = at3 (A := 16) (B := 2048) (C := 1024) (m ((c.tc : Thread nD τ).loc main_arg0)) ((t.val * 512 + i.val) / 2048) ((t.val * 512 + i.val) % 2048) := by
  have ht : t.val < 64 := t.isLt
  refine row_ext _ _ _ (fun j => ?_) (fun j hj => at3_out _ (.inr (.inr hj)))
  rw [at2_of_lt _ i.isLt j.isLt]
  refine Eq.trans ?_ (host6 m c ⟨t.val * 512 + i.val, by omega⟩ j)
  refine congrArg (V m c main_v6) (a₂ := ValueIdx.ix2 (⟨t.val * 512 + i.val, by omega⟩ : Fin 32768) j) (a₁ := ((cfg0.win 0).blk t).view.emb (ValueIdx.ix2 i j)) (funext fun a => Fin.ext ?_)
  match a with
  | ⟨0, _⟩ => blk_simp [idx t]
  | ⟨1, _⟩ => blk_simp [idx t]

theorem blk1 (t : Fin cfg0.N) (i : Fin 512) : at2 (A := 512) (B := 1024) (iblk m c 1 t) i.val
    = at3 (A := 16) (B := 2048) (C := 1024) (m ((c.tc : Thread nD τ).loc main_arg1)) ((t.val * 512 + i.val) / 2048) ((t.val * 512 + i.val) % 2048) := by
  have ht : t.val < 64 := t.isLt
  refine row_ext _ _ _ (fun j => ?_) (fun j hj => at3_out _ (.inr (.inr hj)))
  rw [at2_of_lt _ i.isLt j.isLt]
  refine Eq.trans ?_ (host7 m c ⟨t.val * 512 + i.val, by omega⟩ j)
  refine congrArg (V m c main_v7) (a₂ := ValueIdx.ix2 (⟨t.val * 512 + i.val, by omega⟩ : Fin 32768) j) (a₁ := ((cfg0.win 1).blk t).view.emb (ValueIdx.ix2 i j)) (funext fun a => Fin.ext ?_)
  match a with
  | ⟨0, _⟩ => blk_simp [idx t]
  | ⟨1, _⟩ => blk_simp [idx t]

theorem blk2 (t : Fin cfg0.N) (i : Fin 512) : at2 (A := 512) (B := 2048) (iblk m c 2 t) i.val
    = at3 (A := 16) (B := 2048) (C := 2048) (m ((c.tc : Thread nD τ).loc main_arg2)) ((t.val * 512 + i.val) / 2048) ((t.val * 512 + i.val) % 2048) := by
  have ht : t.val < 64 := t.isLt
  refine row_ext _ _ _ (fun j => ?_) (fun j hj => at3_out _ (.inr (.inr hj)))
  rw [at2_of_lt _ i.isLt j.isLt]
  refine Eq.trans ?_ (host0 m c ⟨t.val * 512 + i.val, by omega⟩ j)
  refine congrArg (V m c main_v0) (a₂ := ValueIdx.ix2 (⟨t.val * 512 + i.val, by omega⟩ : Fin 32768) j) (a₁ := ((cfg0.win 2).blk t).view.emb (ValueIdx.ix2 i j)) (funext fun a => Fin.ext ?_)
  match a with
  | ⟨0, _⟩ => blk_simp [idx t]
  | ⟨1, _⟩ => blk_simp [idx t]

theorem blk3 (t : Fin cfg0.N) (i : Fin 512) : at3 (A := 1) (B := 1) (C := 2048) (iblk m c 3 t) 0 0
    = cut 2048 fun k => at2 (A := 16) (B := 12288) (m ((c.tc : Thread nD τ).loc main_arg3)) ((t.val * 512 + i.val) / 2048) (4096 + k) := by
  have ht : t.val < 64 := t.isLt
  refine row3_ext _ _ _ _ (fun k => ?_) (fun k hk => cut_out hk)
  rw [cut_of_lt k.isLt]
  refine (at3_eq (A := 1) (B := 1) (C := 2048) (iblk m c 3 t) (ValueIdx.ix3 (0 : Fin 1) (0 : Fin 1) k) rfl rfl rfl).trans ?_
  have h := host1 m c ⟨t.val / 4 * 6 + 2, by omega⟩ 0 k
  simp only at h
  rw [show (t.val / 4 * 6 + 2) / 6 = (t.val * 512 + i.val) / 2048 by omega, show (t.val / 4 * 6 + 2) % 6 * 2048 = 4096 by omega] at h
  refine Eq.trans ?_ h
  refine congrArg (V m c main_v1) (a₂ := ValueIdx.ix3 (⟨t.val / 4 * 6 + 2, by omega⟩ : Fin 96) (0 : Fin 1) k) (a₁ := ((cfg0.win 3).blk t).view.emb (ValueIdx.ix3 (0 : Fin 1) (0 : Fin 1) k)) (funext fun a => Fin.ext ?_)
  match a with
  | ⟨0, _⟩ => blk_simp [idx t]
  | ⟨1, _⟩ => blk_simp [idx t]
  | ⟨2, _⟩ => blk_simp [idx t]

theorem blk4 (t : Fin cfg0.N) (i : Fin 512) : at3 (A := 1) (B := 1) (C := 2048) (iblk m c 4 t) 0 0
    = cut 2048 fun k => at2 (A := 16) (B := 12288) (m ((c.tc : Thread nD τ).loc main_arg3)) ((t.val * 512 + i.val) / 2048) (8192 + k) := by
  have ht : t.val < 64 := t.isLt
  refine row3_ext _ _ _ _ (fun k => ?_) (fun k hk => cut_out hk)
  rw [cut_of_lt k.isLt]
  refine (at3_eq (A := 1) (B := 1) (C := 2048) (iblk m c 4 t) (ValueIdx.ix3 (0 : Fin 1) (0 : Fin 1) k) rfl rfl rfl).trans ?_
  have h := host1 m c ⟨t.val / 4 * 6 + 4, by omega⟩ 0 k
  simp only at h
  rw [show (t.val / 4 * 6 + 4) / 6 = (t.val * 512 + i.val) / 2048 by omega, show (t.val / 4 * 6 + 4) % 6 * 2048 = 8192 by omega] at h
  refine Eq.trans ?_ h
  refine congrArg (V m c main_v1) (a₂ := ValueIdx.ix3 (⟨t.val / 4 * 6 + 4, by omega⟩ : Fin 96) (0 : Fin 1) k) (a₁ := ((cfg0.win 4).blk t).view.emb (ValueIdx.ix3 (0 : Fin 1) (0 : Fin 1) k)) (funext fun a => Fin.ext ?_)
  match a with
  | ⟨0, _⟩ => blk_simp [idx t]
  | ⟨1, _⟩ => blk_simp [idx t]
  | ⟨2, _⟩ => blk_simp [idx t]

theorem blk5 (t : Fin cfg0.N) (i : Fin 512) : at3 (A := 1) (B := 1) (C := 2048) (iblk m c 5 t) 0 0
    = cut 2048 fun k => at2 (A := 16) (B := 12288) (m ((c.tc : Thread nD τ).loc main_arg3)) ((t.val * 512 + i.val) / 2048) (6144 + k) := by
  have ht : t.val < 64 := t.isLt
  refine row3_ext _ _ _ _ (fun k => ?_) (fun k hk => cut_out hk)
  rw [cut_of_lt k.isLt]
  refine (at3_eq (A := 1) (B := 1) (C := 2048) (iblk m c 5 t) (ValueIdx.ix3 (0 : Fin 1) (0 : Fin 1) k) rfl rfl rfl).trans ?_
  have h := host1 m c ⟨t.val / 4 * 6 + 3, by omega⟩ 0 k
  simp only at h
  rw [show (t.val / 4 * 6 + 3) / 6 = (t.val * 512 + i.val) / 2048 by omega, show (t.val / 4 * 6 + 3) % 6 * 2048 = 6144 by omega] at h
  refine Eq.trans ?_ h
  refine congrArg (V m c main_v1) (a₂ := ValueIdx.ix3 (⟨t.val / 4 * 6 + 3, by omega⟩ : Fin 96) (0 : Fin 1) k) (a₁ := ((cfg0.win 5).blk t).view.emb (ValueIdx.ix3 (0 : Fin 1) (0 : Fin 1) k)) (funext fun a => Fin.ext ?_)
  match a with
  | ⟨0, _⟩ => blk_simp [idx t]
  | ⟨1, _⟩ => blk_simp [idx t]
  | ⟨2, _⟩ => blk_simp [idx t]

theorem blk6 (t : Fin cfg0.N) : at2 (A := 1) (B := 1024) (iblk m c 6 t) 0 = at1 (A := 1024) (m ((c.tc : Thread nD τ).loc main_arg4)) := by
  refine row_ext _ _ _ (fun j => ?_) (fun j hj => at1_out _ hj)
  rw [at2_of_lt _ (show 0 < 1 by norm_num) j.isLt]
  refine Eq.trans ?_ (host8 m c 0 j)
  refine congrArg (V m c main_v8) (a₂ := ValueIdx.ix2 (0 : Fin 1) j) (a₁ := ((cfg0.win 6).blk t).view.emb (ValueIdx.ix2 (0 : Fin 1) j)) (funext fun a => Fin.ext ?_)
  match a with
  | ⟨0, _⟩ => blk_simp [idx t]
  | ⟨1, _⟩ => blk_simp [idx t]

theorem blk7 (t : Fin cfg0.N) : at2 (A := 1) (B := 1024) (iblk m c 7 t) 0 = at1 (A := 1024) (m ((c.tc : Thread nD τ).loc main_arg5)) := by
  refine row_ext _ _ _ (fun j => ?_) (fun j hj => at1_out _ hj)
  rw [at2_of_lt _ (show 0 < 1 by norm_num) j.isLt]
  refine Eq.trans ?_ (host9 m c 0 j)
  refine congrArg (V m c main_v9) (a₂ := ValueIdx.ix2 (0 : Fin 1) j) (a₁ := ((cfg0.win 7).blk t).view.emb (ValueIdx.ix2 (0 : Fin 1) j)) (funext fun a => Fin.ext ?_)
  match a with
  | ⟨0, _⟩ => blk_simp [idx t]
  | ⟨1, _⟩ => blk_simp [idx t]

theorem blk8 (t : Fin cfg0.N) : at2 (A := 2048) (B := 2048) (iblk m c 8 t) = at2 (A := 2048) (B := 2048) (m ((c.tc : Thread nD τ).loc main_arg6)) := by
  funext i
  by_cases hi : i < 2048
  · refine row_ext _ _ _ (fun j => ?_) (fun j hj => at2_out _ (.inr hj))
    rw [at2_of_lt _ hi j.isLt]
    refine Eq.trans ?_ (host10 m c ⟨i, hi⟩ j)
    refine congrArg (V m c main_v10) (a₂ := ValueIdx.ix2 (⟨i, hi⟩ : Fin 2048) j) (a₁ := ((cfg0.win 8).blk t).view.emb (ValueIdx.ix2 (⟨i, hi⟩ : Fin 2048) j)) (funext fun a => Fin.ext ?_)
    match a with
    | ⟨0, _⟩ => blk_simp [idx t]
    | ⟨1, _⟩ => blk_simp [idx t]
  · funext j
    rw [at2_out _ (.inl (by omega)), at2_out _ (.inl (by omega))]

theorem blk9 (t : Fin cfg0.N) : at2 (A := 1) (B := 2048) (iblk m c 9 t) 0 = at1 (A := 2048) (m ((c.tc : Thread nD τ).loc main_arg7)) := by
  refine row_ext _ _ _ (fun j => ?_) (fun j hj => at1_out _ hj)
  rw [at2_of_lt _ (show 0 < 1 by norm_num) j.isLt]
  refine Eq.trans ?_ (host11 m c 0 j)
  refine congrArg (V m c main_v11) (a₂ := ValueIdx.ix2 (0 : Fin 1) j) (a₁ := ((cfg0.win 9).blk t).view.emb (ValueIdx.ix2 (0 : Fin 1) j)) (funext fun a => Fin.ext ?_)
  match a with
  | ⟨0, _⟩ => blk_simp [idx t]
  | ⟨1, _⟩ => blk_simp [idx t]

theorem blk10 (t : Fin cfg0.N) : at2 (A := 1) (B := 2048) (iblk m c 10 t) 0 = at1 (A := 2048) (m ((c.tc : Thread nD τ).loc main_arg8)) := by
  refine row_ext _ _ _ (fun j => ?_) (fun j hj => at1_out _ hj)
  rw [at2_of_lt _ (show 0 < 1 by norm_num) j.isLt]
  refine Eq.trans ?_ (host12 m c 0 j)
  refine congrArg (V m c main_v12) (a₂ := ValueIdx.ix2 (0 : Fin 1) j) (a₁ := ((cfg0.win 10).blk t).view.emb (ValueIdx.ix2 (0 : Fin 1) j)) (funext fun a => Fin.ext ?_)
  match a with
  | ⟨0, _⟩ => blk_simp [idx t]
  | ⟨1, _⟩ => blk_simp [idx t]

theorem blk11 (t : Fin cfg0.N) : at2 (A := 2048) (B := 2048) (iblk m c 11 t) = at2 (A := 2048) (B := 2048) (m ((c.tc : Thread nD τ).loc main_arg9)) := by
  funext i
  by_cases hi : i < 2048
  · refine row_ext _ _ _ (fun j => ?_) (fun j hj => at2_out _ (.inr hj))
    rw [at2_of_lt _ hi j.isLt]
    refine Eq.trans ?_ (host13 m c ⟨i, hi⟩ j)
    refine congrArg (V m c main_v13) (a₂ := ValueIdx.ix2 (⟨i, hi⟩ : Fin 2048) j) (a₁ := ((cfg0.win 11).blk t).view.emb (ValueIdx.ix2 (⟨i, hi⟩ : Fin 2048) j)) (funext fun a => Fin.ext ?_)
    match a with
    | ⟨0, _⟩ => blk_simp [idx t]
    | ⟨1, _⟩ => blk_simp [idx t]
  · funext j
    rw [at2_out _ (.inl (by omega)), at2_out _ (.inl (by omega))]

theorem blk12 (t : Fin cfg0.N) : at3 (A := 2) (B := 128) (C := 128) (iblk m c 12 t)
    = fun p n e => if p = 0 then at2 (A := 128) (B := 128) (m ((c.tc : Thread nD τ).loc main_arg10)) n e else if p = 1 then at2 (A := 128) (B := 128) (m ((c.tc : Thread nD τ).loc main_arg11)) n e else 0 := by
  funext p n e
  by_cases h : p < 2 ∧ n < 128 ∧ e < 128
  · obtain ⟨hp, hn, he⟩ := h
    rw [at3_of_lt _ hp hn he]
    refine Eq.trans ?_ (host5 m c ⟨p, hp⟩ ⟨n, hn⟩ ⟨e, he⟩)
    refine congrArg (V m c main_v5) (a₂ := ValueIdx.ix3 (⟨p, hp⟩ : Fin 2) (⟨n, hn⟩ : Fin 128) (⟨e, he⟩ : Fin 128))
      (a₁ := ((cfg0.win 12).blk t).view.emb (ValueIdx.ix3 (⟨p, hp⟩ : Fin 2) (⟨n, hn⟩ : Fin 128) (⟨e, he⟩ : Fin 128))) (funext fun a => Fin.ext ?_)
    match a with
    | ⟨0, _⟩ => blk_simp [idx t]
    | ⟨1, _⟩ => blk_simp [idx t]
    | ⟨2, _⟩ => blk_simp [idx t]
  · rw [at3_out _ (by omega)]
    by_cases hp : p < 2
    · rw [at2_out _ (by omega), at2_out _ (by omega)]
      simp
    · rw [if_neg (by omega), if_neg (by omega)]

/-! ## The results -/

/-- A row of the arguments of the launch, and their weights. -/
abbrev rowOf (b r : ℕ) : Row := argRow (m ((c.tc : Thread nD τ).loc main_arg0)) (m ((c.tc : Thread nD τ).loc main_arg1)) (m ((c.tc : Thread nD τ).loc main_arg2)) (m ((c.tc : Thread nD τ).loc main_arg3)) b r
abbrev weightsOf : Weights := argWeights (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))

theorem blockRow_eq (t : Fin cfg0.N) (i : Fin 512) :
    blockRow (iblk m c 0 t) (iblk m c 1 t) (iblk m c 2 t) (iblk m c 3 t) (iblk m c 4 t) (iblk m c 5 t) i.val
      = rowOf m c ((t.val * 512 + i.val) / 2048) ((t.val * 512 + i.val) % 2048) := by
  unfold blockRow rowOf argRow
  rw [blk0 m c t i, blk1 m c t i, blk2 m c t i, blk3 m c t i, blk4 m c t i, blk5 m c t i]

theorem blockWeights_eq (t : Fin cfg0.N) :
    blockWeights (iblk m c 6 t) (iblk m c 7 t) (iblk m c 8 t) (iblk m c 9 t) (iblk m c 10 t) (iblk m c 11 t) (iblk m c 12 t) = weightsOf m c := by
  unfold blockWeights weightsOf argWeights
  rw [blk6 m c t, blk7 m c t, blk8 m c t, blk9 m c t, blk10 m c t, blk11 m c t, blk12 m c t]

/-- The three result arrays. -/
def resultX : Vec Ideal S32768x2048 .f32 := fun i => x1 (rowOf m c ((i 0).val / 2048) ((i 0).val % 2048)) (weightsOf m c) (i 1).val
def resultH : Vec Ideal S32768x2048 .fp8e4m3 := fun i => clipped (rowOf m c ((i 0).val / 2048) ((i 0).val % 2048)) (weightsOf m c) (i 1).val
def resultS : Vec Ideal S2048x32768 .f32 := fun i => st (rowOf m c ((i 1).val / 2048) ((i 1).val % 2048)) (weightsOf m c) (i 0).val

theorem array13 : (dats m 0 c).arrAt 13 cfg0.N = resultX m c := by
  refine (dats m 0 c).arrAt_eq_of_covers 13 _ (by decide +kernel) fun t hf y => ?_
  have h0 : (((cfg0.win 13).blk t).view.emb y 0).val = t.val * 512 + (y 0).val := by blk_simp [idx t]
  have h1 : (((cfg0.win 13).blk t).view.emb y 1).val = (y 1).val := by blk_simp [idx t]
  have h : outX (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resultX m c (((cfg0.win 13).blk t).view.emb y) := by
    unfold outX resultX
    rw [h0, h1, blockWeights_eq]
    exact congrArg (fun R => x1 R (weightsOf m c) (y 1).val) (blockRow_eq m c t (y 0))
  refine Eq.trans ?_ h
  rw [after0_13, out13_eq]
  rfl

theorem array14 : (dats m 0 c).arrAt 14 cfg0.N = resultH m c := by
  refine (dats m 0 c).arrAt_eq_of_covers 14 _ (by decide +kernel) fun t hf y => ?_
  have h0 : (((cfg0.win 14).blk t).view.emb y 0).val = t.val * 512 + (y 0).val := by blk_simp [idx t]
  have h1 : (((cfg0.win 14).blk t).view.emb y 1).val = (y 1).val := by blk_simp [idx t]
  have h : outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resultH m c (((cfg0.win 14).blk t).view.emb y) := by
    unfold outH resultH
    rw [h0, h1, blockWeights_eq]
    exact congrArg (fun R => clipped R (weightsOf m c) (y 1).val) (blockRow_eq m c t (y 0))
  refine Eq.trans ?_ h
  rw [after0_14, out14_eq]
  rfl

theorem array15 : (dats m 0 c).arrAt 15 cfg0.N = resultS m c := by
  refine (dats m 0 c).arrAt_eq_of_covers 15 _ (by decide +kernel) fun t hf y => ?_
  have h0 : (((cfg0.win 15).blk t).view.emb y 1).val = t.val * 512 + (y 1).val := by blk_simp [idx t]
  have h1 : (((cfg0.win 15).blk t).view.emb y 0).val = (y 0).val := by blk_simp [idx t]
  have h : outS (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = resultS m c (((cfg0.win 15).blk t).view.emb y) := by
    unfold outS resultS
    rw [h0, h1, blockWeights_eq]
    exact congrArg (fun R => st R (weightsOf m c) (y 0).val) (blockRow_eq m c t (y 1))
  refine Eq.trans ?_ h
  rw [after0_15, out15_eq]
  rfl

end Cert.Post
end
-- ==== Proof.PostRef.lean ====
/-
  The reference of the third call at an index of its results, and the claims about the pair.
-/
module

public import proofs.«01_k».proof.Defs
public import proofs.«01_k».proof.Proof.PostArray
public import proofs.«01_k».proof.Proof.Gen.Reference3Ideal.Read
public import proofs.«01_k».proof.Proof.Gen.Reference3Ideal.Run
public import Idealize.ShloMosaic.Lib.Quiescent

@[expose] public section

noncomputable section

namespace Cert.Post.Ref

open Idealize.ShloMosaic Idealize.ShloMosaic.TcCoe Cert.At Cert.Norm Cert.Reference3Ideal Cert.Reference3Ideal.Gen Cert.Reference3Ideal.Read
open scoped BigOperators

theorem ofBits_2 : Ideal.ofBits .f32 0x40000000#32 = ((2 : ℝ) : EReal) := by
  simp [Ideal.ofBits, Ideal.ieee, -EReal.coe_mul]; norm_num

variable (x0 x1' : (⟨S16x2048x1024, .f32⟩ : BufTy).Contents (Elt Ideal)) (x2 : (⟨S16x2048x2048, .f32⟩ : BufTy).Contents (Elt Ideal))
  (x3 : (⟨S16x12288, .f32⟩ : BufTy).Contents (Elt Ideal)) (x4 x5 : (⟨S1024, .f32⟩ : BufTy).Contents (Elt Ideal))
  (x6 : (⟨S2048x2048, .f32⟩ : BufTy).Contents (Elt Ideal)) (x7 x8 : (⟨S2048, .f32⟩ : BufTy).Contents (Elt Ideal))
  (x9 : (⟨S2048x2048, .f32⟩ : BufTy).Contents (Elt Ideal)) (x10 x11 : (⟨S128x128, .f32⟩ : BufTy).Contents (Elt Ideal))

/-- A row and the weights. -/
abbrev row (b r : ℕ) : Row := argRow x0 x1' x2 x3 b r
abbrev wts : Weights := argWeights x4 x5 x6 x7 x8 x9 x10 x11

theorem na_mean (i : S16x2048x1.Idx) : val_main_v16 (F := Ideal) x0 i
    = mean 1024 d1024 fun k => at3 (A := 16) (B := 2048) (C := 1024) x0 (i 0).val (i 1).val k * at3 (A := 16) (B := 2048) (C := 1024) x0 (i 0).val (i 1).val k := by
  rw [val_main_v16_apply, val_main_v14_apply, val_main_v13_apply, val_main_v15_apply, Ideal.hostDivf_def]
  refine congrArg (fun a => Ideal.div a d1024) ?_
  show Ideal.ofBits .f32 0x00000000#32 + _ = _
  rw [Ideal.ofBits_zero_f32, zero_add]
  refine Finset.sum_congr rfl fun k _ => ?_
  rw [val_main_v12_apply]
  exact congrArg₂ (fun a b : EReal => a * b) (at3_eq _ _ rfl rfl rfl).symm (at3_eq _ _ rfl rfl rfl).symm

theorem na_at (i : S16x2048x1024.Idx) : val_main_v24 (F := Ideal) x0 x4 i
    = na (row x0 x1' x2 x3 (i 0).val (i 1).val) (wts x4 x5 x6 x7 x8 x9 x10 x11) (i 2).val := by
  rw [val_main_v24_apply, val_main_v21_apply, val_main_v20_apply, val_main_v19_apply, val_main_v18_apply, na_mean, val_main_v17_apply,
    val_main_v23_apply, val_main_v22_apply, Ideal.hostUnary_rsqrt_def]
  exact congrArg₂ (fun a b : EReal => a * b) (congrArg₂ (fun a b : EReal => a * b) (at3_eq _ _ rfl rfl rfl).symm rfl)
    (at1_eq (A := 1024) x4 _ (i := (i 2).val) rfl).symm

theorem nb_mean (i : S16x2048x1.Idx) : val_main_v29 (F := Ideal) x1' i
    = mean 1024 d1024 fun k => at3 (A := 16) (B := 2048) (C := 1024) x1' (i 0).val (i 1).val k * at3 (A := 16) (B := 2048) (C := 1024) x1' (i 0).val (i 1).val k := by
  rw [val_main_v29_apply, val_main_v27_apply, val_main_v26_apply, val_main_v28_apply, Ideal.hostDivf_def]
  refine congrArg (fun a => Ideal.div a d1024) ?_
  show Ideal.ofBits .f32 0x00000000#32 + _ = _
  rw [Ideal.ofBits_zero_f32, zero_add]
  refine Finset.sum_congr rfl fun k _ => ?_
  rw [val_main_v25_apply]
  exact congrArg₂ (fun a b : EReal => a * b) (at3_eq _ _ rfl rfl rfl).symm (at3_eq _ _ rfl rfl rfl).symm

theorem nb_at (i : S16x2048x1024.Idx) : val_main_v37 (F := Ideal) x1' x5 i
    = nb (row x0 x1' x2 x3 (i 0).val (i 1).val) (wts x4 x5 x6 x7 x8 x9 x10 x11) (i 2).val := by
  rw [val_main_v37_apply, val_main_v34_apply, val_main_v33_apply, val_main_v32_apply, val_main_v31_apply, nb_mean, val_main_v30_apply,
    val_main_v36_apply, val_main_v35_apply, Ideal.hostUnary_rsqrt_def]
  exact congrArg₂ (fun a b : EReal => a * b) (congrArg₂ (fun a b : EReal => a * b) (at3_eq _ _ rfl rfl rfl).symm rfl)
    (at1_eq (A := 1024) x5 _ (i := (i 2).val) rfl).symm

/-- The two normalised outputs side by side. -/
theorem concat_lo (i : S16x2048x2048.Idx) (h : (i 2).val < 1024) : val_main_v38 (F := Ideal) x0 x1' x4 x5 i
    = na (row x0 x1' x2 x3 (i 0).val (i 1).val) (wts x4 x5 x6 x7 x8 x9 x10 x11) (i 2).val :=
  (concatenate_pair_apply_left (s₁ := S16x2048x1024) (s₂ := S16x2048x1024) (2 : Fin 3) _ _ _ i rfl
    (show S16x2048x1024.Idx from fun b => match b with | ⟨0, _⟩ => i 0 | ⟨1, _⟩ => i 1 | ⟨2, _⟩ => (⟨(i 2).val, h⟩ : Fin 1024))
    (fun b : Fin 3 => match b with | ⟨0, _⟩ => rfl | ⟨1, _⟩ => rfl | ⟨2, _⟩ => rfl)).trans (na_at x0 x1' x2 x3 x4 x5 x6 x7 x8 x9 x10 x11 _)

theorem concat_hi (i : S16x2048x2048.Idx) (k : ℕ) (hk : k < 1024) (h : (i 2).val = 1024 + k) : val_main_v38 (F := Ideal) x0 x1' x4 x5 i
    = nb (row x0 x1' x2 x3 (i 0).val (i 1).val) (wts x4 x5 x6 x7 x8 x9 x10 x11) k :=
  (concatenate_pair_apply_right (s₁ := S16x2048x1024) (s₂ := S16x2048x1024) (2 : Fin 3) _ _ _ i rfl rfl
    (show S16x2048x1024.Idx from fun b => match b with | ⟨0, _⟩ => i 0 | ⟨1, _⟩ => i 1 | ⟨2, _⟩ => (⟨k, hk⟩ : Fin 1024))
    (fun b : Fin 3 => match b with | ⟨0, _⟩ => fun _ => rfl | ⟨1, _⟩ => fun _ => rfl | ⟨2, _⟩ => fun hb => absurd rfl hb)
    ((Nat.add_comm _ _).trans h.symm)).trans (nb_at x0 x1' x2 x3 x4 x5 x6 x7 x8 x9 x10 x11 _)

/-- A sum over 2048 elements is the sum of the halves' sums. -/
theorem sum_halves (f : Fin 2048 → EReal) : ∑ k : Fin 2048, f k
    = (∑ k : Fin 1024, f ⟨k.val, by omega⟩) + ∑ k : Fin 1024, f ⟨1024 + k.val, by omega⟩ :=
  Fin.sum_univ_add (a := 1024) (b := 1024) f

theorem mix_at (i : S16x2048x2048.Idx) : val_main_v39 (F := Ideal) x0 x1' x4 x5 x6 i
    = mix (row x0 x1' x2 x3 (i 0).val (i 1).val) (wts x4 x5 x6 x7 x8 x9 x10 x11) (i 2).val := by
  rw [val_main_v39_apply, sum_halves]
  refine congrArg₂ (fun a b : EReal => a + b) (Finset.sum_congr rfl fun k _ => ?_) (Finset.sum_congr rfl fun k _ => ?_)
  · exact congrArg₂ (fun a b : EReal => a * b) (concat_lo x0 x1' x2 x3 x4 x5 x6 x7 x8 x9 x10 x11 _ k.isLt) (at2_eq (A := 2048) (B := 2048) x6 _ rfl rfl).symm
  · exact congrArg₂ (fun a b : EReal => a * b) (concat_hi x0 x1' x2 x3 x4 x5 x6 x7 x8 x9 x10 x11 _ k.val k.isLt rfl) (at2_eq (A := 2048) (B := 2048) x6 _ rfl rfl).symm

theorem alpha_at (i : S_.Idx) : val_main_v41 (F := Ideal) i = alpha := by
  rw [val_main_v41_apply, val_main_v40_apply, Ideal.hostUnary_sqrt_def, Ideal.hostUnary_sqrt_def]
  show Ideal.sqrt (Ideal.sqrt (Ideal.ofBits .f32 0x40000000#32)) = _
  rw [ofBits_2, Ideal.sqrt_coe, if_neg (by norm_num), Ideal.sqrt_coe, if_neg (not_lt.2 (Real.sqrt_nonneg 2))]
  rfl

/-- A piece of the modulation at a column. -/
theorem mod_at (o : ℕ) (b k : ℕ) (hk : k < 2048) (y : S16x12288.Idx) (h0 : (y 0).val = b) (h1 : (y 1).val = o + k) :
    x3 y = cut 2048 (fun k => at2 (A := 16) (B := 12288) x3 b (o + k)) k :=
  (at2_eq (A := 16) (B := 12288) x3 y h0 h1).symm.trans (cut_of_lt (f := fun k => at2 (A := 16) (B := 12288) x3 b (o + k)) hk).symm

theorem resid_at (i : S16x2048x2048.Idx) : val_main_v46 (F := Ideal) x0 x1' x2 x3 x4 x5 x6 i
    = resid (row x0 x1' x2 x3 (i 0).val (i 1).val) (wts x4 x5 x6 x7 x8 x9 x10 x11) (i 2).val := by
  rw [val_main_v46_apply, val_main_v43_apply, val_main_v42_apply, alpha_at, val_main_v45_apply, val_main_v44_apply, val_main_v8_apply, val_main_v2_apply,
    mix_at x0 x1' x2 x3 x4 x5 x6 x7 x8 x9 x10 x11]
  exact congrArg₂ (fun a b : EReal => a + b) (congrArg (fun a : EReal => alpha * a) (at3_eq _ _ rfl rfl rfl).symm)
    (congrArg (fun a : EReal => a * _) (mod_at x3 4096 (i 0).val (i 2).val (i 2).isLt _ rfl rfl))

theorem first_mean_at (i : S16x2048x1.Idx) : val_main_v50 (F := Ideal) x0 x1' x2 x3 x4 x5 x6 i = mean 2048 d2048 (resid (row x0 x1' x2 x3 (i 0).val (i 1).val) (wts x4 x5 x6 x7 x8 x9 x10 x11)) := by
  rw [val_main_v50_apply, val_main_v48_apply, val_main_v47_apply, val_main_v49_apply, Ideal.hostDivf_def]
  refine congrArg (fun a => Ideal.div a d2048) ?_
  show Ideal.ofBits .f32 0x00000000#32 + _ = _
  rw [Ideal.ofBits_zero_f32, zero_add]
  exact Finset.sum_congr rfl fun k _ => resid_at x0 x1' x2 x3 x4 x5 x6 x7 x8 x9 x10 x11 _

theorem first_centred_at (i : S16x2048x2048.Idx) : val_main_v52 (F := Ideal) x0 x1' x2 x3 x4 x5 x6 i
    = resid (row x0 x1' x2 x3 (i 0).val (i 1).val) (wts x4 x5 x6 x7 x8 x9 x10 x11) (i 2).val - mean 2048 d2048 (resid (row x0 x1' x2 x3 (i 0).val (i 1).val) (wts x4 x5 x6 x7 x8 x9 x10 x11)) := by
  rw [val_main_v52_apply, val_main_v51_apply, resid_at x0 x1' x2 x3 x4 x5 x6 x7 x8 x9 x10 x11, first_mean_at x0 x1' x2 x3 x4 x5 x6 x7 x8 x9 x10 x11]
  rfl

theorem first_square_at (i : S16x2048x1.Idx) : val_main_v57 (F := Ideal) x0 x1' x2 x3 x4 x5 x6 i
    = mean 2048 d2048 fun k => (resid (row x0 x1' x2 x3 (i 0).val (i 1).val) (wts x4 x5 x6 x7 x8 x9 x10 x11) k - mean 2048 d2048 (resid (row x0 x1' x2 x3 (i 0).val (i 1).val) (wts x4 x5 x6 x7 x8 x9 x10 x11)))
        * (resid (row x0 x1' x2 x3 (i 0).val (i 1).val) (wts x4 x5 x6 x7 x8 x9 x10 x11) k - mean 2048 d2048 (resid (row x0 x1' x2 x3 (i 0).val (i 1).val) (wts x4 x5 x6 x7 x8 x9 x10 x11))) := by
  rw [val_main_v57_apply, val_main_v55_apply, val_main_v54_apply, val_main_v56_apply, Ideal.hostDivf_def]
  refine congrArg (fun a => Ideal.div a d2048) ?_
  show Ideal.ofBits .f32 0x00000000#32 + _ = _
  rw [Ideal.ofBits_zero_f32, zero_add]
  refine Finset.sum_congr rfl fun k _ => ?_
  rw [val_main_v53_apply, first_centred_at x0 x1' x2 x3 x4 x5 x6 x7 x8 x9 x10 x11]
  rfl

theorem first_layer_at (i : S16x2048x2048.Idx) : val_main_v64 (F := Ideal) x0 x1' x2 x3 x4 x5 x6 i
    = layer 2048 d2048 epsLayer (resid (row x0 x1' x2 x3 (i 0).val (i 1).val) (wts x4 x5 x6 x7 x8 x9 x10 x11)) (i 2).val := by
  rw [val_main_v64_apply, val_main_v59_apply, val_main_v58_apply, resid_at x0 x1' x2 x3 x4 x5 x6 x7 x8 x9 x10 x11, first_mean_at x0 x1' x2 x3 x4 x5 x6 x7 x8 x9 x10 x11, val_main_v63_apply, val_main_v62_apply,
    val_main_v61_apply, first_square_at x0 x1' x2 x3 x4 x5 x6 x7 x8 x9 x10 x11, val_main_v60_apply, Ideal.hostUnary_rsqrt_def]
  rfl

theorem x1_at (i : S16x2048x2048.Idx) : val_main_v70 (F := Ideal) x0 x1' x2 x3 x4 x5 x6 x7 x8 i
    = x1 (row x0 x1' x2 x3 (i 0).val (i 1).val) (wts x4 x5 x6 x7 x8 x9 x10 x11) (i 2).val := by
  rw [val_main_v70_apply, val_main_v67_apply, first_layer_at x0 x1' x2 x3 x4 x5 x6 x7 x8 x9 x10 x11, val_main_v66_apply, val_main_v65_apply, val_main_v69_apply, val_main_v68_apply]
  exact congrArg₂ (fun a b : EReal => a + b) (congrArg₂ (fun a b : EReal => a * b) rfl (at1_eq (A := 2048) x7 _ (i := (i 2).val) rfl).symm)
    (at1_eq (A := 2048) x8 _ (i := (i 2).val) rfl).symm

theorem second_mean_at (i : S16x2048x1.Idx) : val_main_v74 (F := Ideal) x0 x1' x2 x3 x4 x5 x6 x7 x8 i = mean 2048 d2048 (x1 (row x0 x1' x2 x3 (i 0).val (i 1).val) (wts x4 x5 x6 x7 x8 x9 x10 x11)) := by
  rw [val_main_v74_apply, val_main_v72_apply, val_main_v71_apply, val_main_v73_apply, Ideal.hostDivf_def]
  refine congrArg (fun a => Ideal.div a d2048) ?_
  show Ideal.ofBits .f32 0x00000000#32 + _ = _
  rw [Ideal.ofBits_zero_f32, zero_add]
  exact Finset.sum_congr rfl fun k _ => x1_at x0 x1' x2 x3 x4 x5 x6 x7 x8 x9 x10 x11 _

theorem second_centred_at (i : S16x2048x2048.Idx) : val_main_v76 (F := Ideal) x0 x1' x2 x3 x4 x5 x6 x7 x8 i
    = x1 (row x0 x1' x2 x3 (i 0).val (i 1).val) (wts x4 x5 x6 x7 x8 x9 x10 x11) (i 2).val - mean 2048 d2048 (x1 (row x0 x1' x2 x3 (i 0).val (i 1).val) (wts x4 x5 x6 x7 x8 x9 x10 x11)) := by
  rw [val_main_v76_apply, val_main_v75_apply, x1_at x0 x1' x2 x3 x4 x5 x6 x7 x8 x9 x10 x11, second_mean_at x0 x1' x2 x3 x4 x5 x6 x7 x8 x9 x10 x11]
  rfl

theorem second_square_at (i : S16x2048x1.Idx) : val_main_v81 (F := Ideal) x0 x1' x2 x3 x4 x5 x6 x7 x8 i
    = mean 2048 d2048 fun k => (x1 (row x0 x1' x2 x3 (i 0).val (i 1).val) (wts x4 x5 x6 x7 x8 x9 x10 x11) k - mean 2048 d2048 (x1 (row x0 x1' x2 x3 (i 0).val (i 1).val) (wts x4 x5 x6 x7 x8 x9 x10 x11)))
        * (x1 (row x0 x1' x2 x3 (i 0).val (i 1).val) (wts x4 x5 x6 x7 x8 x9 x10 x11) k - mean 2048 d2048 (x1 (row x0 x1' x2 x3 (i 0).val (i 1).val) (wts x4 x5 x6 x7 x8 x9 x10 x11))) := by
  rw [val_main_v81_apply, val_main_v79_apply, val_main_v78_apply, val_main_v80_apply, Ideal.hostDivf_def]
  refine congrArg (fun a => Ideal.div a d2048) ?_
  show Ideal.ofBits .f32 0x00000000#32 + _ = _
  rw [Ideal.ofBits_zero_f32, zero_add]
  refine Finset.sum_congr rfl fun k _ => ?_
  rw [val_main_v77_apply, second_centred_at x0 x1' x2 x3 x4 x5 x6 x7 x8 x9 x10 x11]
  rfl

theorem second_layer_at (i : S16x2048x2048.Idx) : val_main_v88 (F := Ideal) x0 x1' x2 x3 x4 x5 x6 x7 x8 i
    = layer 2048 d2048 epsLayer (x1 (row x0 x1' x2 x3 (i 0).val (i 1).val) (wts x4 x5 x6 x7 x8 x9 x10 x11)) (i 2).val := by
  rw [val_main_v88_apply, val_main_v83_apply, val_main_v82_apply, x1_at x0 x1' x2 x3 x4 x5 x6 x7 x8 x9 x10 x11, second_mean_at x0 x1' x2 x3 x4 x5 x6 x7 x8 x9 x10 x11, val_main_v87_apply, val_main_v86_apply,
    val_main_v85_apply, second_square_at x0 x1' x2 x3 x4 x5 x6 x7 x8 x9 x10 x11, val_main_v84_apply, Ideal.hostUnary_rsqrt_def]
  rfl

theorem h_at (i : S16x2048x2048.Idx) : val_main_v94 (F := Ideal) x0 x1' x2 x3 x4 x5 x6 x7 x8 i = h (row x0 x1' x2 x3 (i 0).val (i 1).val) (wts x4 x5 x6 x7 x8 x9 x10 x11) (i 2).val := by
  rw [val_main_v94_apply, val_main_v92_apply, second_layer_at x0 x1' x2 x3 x4 x5 x6 x7 x8 x9 x10 x11, val_main_v91_apply, val_main_v90_apply, val_main_v89_apply, val_main_v10_apply, val_main_v4_apply,
    val_main_v93_apply, val_main_v9_apply, val_main_v3_apply]
  exact congrArg₂ (fun a b : EReal => a + b)
    (congrArg (fun a : EReal => _ * (Ideal.ofBits .f32 0x3F800000#32 + a)) (mod_at x3 8192 (i 0).val (i 2).val (i 2).isLt _ rfl rfl))
    (mod_at x3 6144 (i 0).val (i 2).val (i 2).isLt _ rfl rfl)

theorem clipped_at (i : S16x2048x2048.Idx) : val_main_v108 (F := Ideal) x0 x1' x2 x3 x4 x5 x6 x7 x8 i = clipped (row x0 x1' x2 x3 (i 0).val (i 1).val) (wts x4 x5 x6 x7 x8 x9 x10 x11) (i 2).val := by
  rw [val_main_v108_apply, val_main_v107_apply, val_main_call0_v4_apply, val_main_call0_v3_apply, val_main_call0_v2_apply, val_main_call0_v1_apply,
    val_main_call0_v0_apply, h_at x0 x1' x2 x3 x4 x5 x6 x7 x8 x9 x10 x11]
  show min (Ideal.ofBits .f32 0x43E00000#32) (max (Ideal.ofBits .f32 0xC3E00000#32) _) = _
  rw [ofBits_448, ofBits_neg448, min_comm, max_comm]
  rfl

theorem q_at (i : S16x2048x2048.Idx) : val_main_v95 (F := Ideal) x0 x1' x2 x3 x4 x5 x6 x7 x8 x9 i = q (row x0 x1' x2 x3 (i 0).val (i 1).val) (wts x4 x5 x6 x7 x8 x9 x10 x11) (i 2).val := by
  rw [val_main_v95_apply]
  exact Finset.sum_congr rfl fun k _ => congrArg₂ (fun a b : EReal => a * b) (h_at x0 x1' x2 x3 x4 x5 x6 x7 x8 x9 x10 x11 _) (at2_eq (A := 2048) (B := 2048) x9 _ rfl rfl).symm

/-- The queries by group, table and element. -/
theorem groups_at (i : S16x2048x8x2x128.Idx) : val_main_v96 (F := Ideal) x0 x1' x2 x3 x4 x5 x6 x7 x8 x9 i
    = q (row x0 x1' x2 x3 (i 0).val (i 1).val) (wts x4 x5 x6 x7 x8 x9 x10 x11) ((i 2).val * 256 + (i 3).val * 128 + (i 4).val) := by
  have b1 : (i 1).val < 2048 := (i 1).isLt
  have b2 : (i 2).val < 8 := (i 2).isLt
  have b3 : (i 3).val < 2 := (i 3).isLt
  have b4 : (i 4).val < 128 := (i 4).isLt
  rw [val_main_v96_apply, q_at x0 x1' x2 x3 x4 x5 x6 x7 x8 x9 x10 x11]
  show q (row x0 x1' x2 x3 ((((((i 0).val * 2048 + (i 1).val) * 8 + (i 2).val) * 2 + (i 3).val) * 128 + (i 4).val) / 4194304)
      ((((((i 0).val * 2048 + (i 1).val) * 8 + (i 2).val) * 2 + (i 3).val) * 128 + (i 4).val) / 2048 % 2048)) _
      ((((((i 0).val * 2048 + (i 1).val) * 8 + (i 2).val) * 2 + (i 3).val) * 128 + (i 4).val) % 2048) = _
  rw [show (((((i 0).val * 2048 + (i 1).val) * 8 + (i 2).val) * 2 + (i 3).val) * 128 + (i 4).val) / 4194304 = (i 0).val by omega,
    show (((((i 0).val * 2048 + (i 1).val) * 8 + (i 2).val) * 2 + (i 3).val) * 128 + (i 4).val) / 2048 % 2048 = (i 1).val by omega,
    show (((((i 0).val * 2048 + (i 1).val) * 8 + (i 2).val) * 2 + (i 3).val) * 128 + (i 4).val) % 2048 = (i 2).val * 256 + (i 3).val * 128 + (i 4).val by omega]

theorem half0_at (i : S16x2048x8x128.Idx) : val_main_v98 (F := Ideal) x0 x1' x2 x3 x4 x5 x6 x7 x8 x9 i
    = q (row x0 x1' x2 x3 (i 0).val (i 1).val) (wts x4 x5 x6 x7 x8 x9 x10 x11) ((i 2).val * 256 + (i 3).val) := by
  have b1 : (i 1).val < 2048 := (i 1).isLt
  have b2 : (i 2).val < 8 := (i 2).isLt
  have b3 : (i 3).val < 128 := (i 3).isLt
  rw [val_main_v98_apply, val_main_v97_apply, groups_at x0 x1' x2 x3 x4 x5 x6 x7 x8 x9 x10 x11]
  show q (row x0 x1' x2 x3 (((((i 0).val * 2048 + (i 1).val) * 8 + (i 2).val) * 128 + (i 3).val) / 2097152) (((((i 0).val * 2048 + (i 1).val) * 8 + (i 2).val) * 128 + (i 3).val) / 1024 % 2048)) _
      (((((i 0).val * 2048 + (i 1).val) * 8 + (i 2).val) * 128 + (i 3).val) / 128 % 8 * 256 + 0 * 128 + ((((i 0).val * 2048 + (i 1).val) * 8 + (i 2).val) * 128 + (i 3).val) % 128) = _
  rw [show ((((i 0).val * 2048 + (i 1).val) * 8 + (i 2).val) * 128 + (i 3).val) / 2097152 = (i 0).val by omega,
    show ((((i 0).val * 2048 + (i 1).val) * 8 + (i 2).val) * 128 + (i 3).val) / 1024 % 2048 = (i 1).val by omega,
    show ((((i 0).val * 2048 + (i 1).val) * 8 + (i 2).val) * 128 + (i 3).val) / 128 % 8 * 256 + 0 * 128 + ((((i 0).val * 2048 + (i 1).val) * 8 + (i 2).val) * 128 + (i 3).val) % 128 = (i 2).val * 256 + (i 3).val by omega]

theorem scores0_at (i : S16x2048x8x128.Idx) : val_main_v99 (F := Ideal) x0 x1' x2 x3 x4 x5 x6 x7 x8 x9 x10 i
    = st (row x0 x1' x2 x3 (i 0).val (i 1).val) (wts x4 x5 x6 x7 x8 x9 x10 x11) ((i 2).val * 256 + (i 3).val) := by
  have b3 : (i 3).val < 128 := (i 3).isLt
  rw [val_main_v99_apply]
  unfold st
  rw [show ((i 2).val * 256 + (i 3).val) / 128 % 2 = 0 by omega, show ((i 2).val * 256 + (i 3).val) % 128 = (i 3).val by omega,
    show ((i 2).val * 256 + (i 3).val) / 128 * 128 = (i 2).val * 256 by omega]
  refine Finset.sum_congr rfl fun e _ => ?_
  refine (mul_comm _ _).trans (congrArg₂ (fun a b : EReal => a * b) ?_ (half0_at x0 x1' x2 x3 x4 x5 x6 x7 x8 x9 x10 x11 _))
  exact (at2_eq (A := 128) (B := 128) x10 _ rfl rfl).symm

theorem half1_at (i : S16x2048x8x128.Idx) : val_main_v101 (F := Ideal) x0 x1' x2 x3 x4 x5 x6 x7 x8 x9 i
    = q (row x0 x1' x2 x3 (i 0).val (i 1).val) (wts x4 x5 x6 x7 x8 x9 x10 x11) ((i 2).val * 256 + 128 + (i 3).val) := by
  have b1 : (i 1).val < 2048 := (i 1).isLt
  have b2 : (i 2).val < 8 := (i 2).isLt
  have b3 : (i 3).val < 128 := (i 3).isLt
  rw [val_main_v101_apply, val_main_v100_apply, groups_at x0 x1' x2 x3 x4 x5 x6 x7 x8 x9 x10 x11]
  show q (row x0 x1' x2 x3 (((((i 0).val * 2048 + (i 1).val) * 8 + (i 2).val) * 128 + (i 3).val) / 2097152) (((((i 0).val * 2048 + (i 1).val) * 8 + (i 2).val) * 128 + (i 3).val) / 1024 % 2048)) _
      (((((i 0).val * 2048 + (i 1).val) * 8 + (i 2).val) * 128 + (i 3).val) / 128 % 8 * 256 + 1 * 128 + ((((i 0).val * 2048 + (i 1).val) * 8 + (i 2).val) * 128 + (i 3).val) % 128) = _
  rw [show ((((i 0).val * 2048 + (i 1).val) * 8 + (i 2).val) * 128 + (i 3).val) / 2097152 = (i 0).val by omega,
    show ((((i 0).val * 2048 + (i 1).val) * 8 + (i 2).val) * 128 + (i 3).val) / 1024 % 2048 = (i 1).val by omega,
    show ((((i 0).val * 2048 + (i 1).val) * 8 + (i 2).val) * 128 + (i 3).val) / 128 % 8 * 256 + 1 * 128 + ((((i 0).val * 2048 + (i 1).val) * 8 + (i 2).val) * 128 + (i 3).val) % 128 = (i 2).val * 256 + 128 + (i 3).val by omega]

theorem scores1_at (i : S16x2048x8x128.Idx) : val_main_v102 (F := Ideal) x0 x1' x2 x3 x4 x5 x6 x7 x8 x9 x11 i
    = st (row x0 x1' x2 x3 (i 0).val (i 1).val) (wts x4 x5 x6 x7 x8 x9 x10 x11) ((i 2).val * 256 + 128 + (i 3).val) := by
  have b3 : (i 3).val < 128 := (i 3).isLt
  rw [val_main_v102_apply]
  unfold st
  rw [show ((i 2).val * 256 + 128 + (i 3).val) / 128 % 2 = 1 by omega, show ((i 2).val * 256 + 128 + (i 3).val) % 128 = (i 3).val by omega,
    show ((i 2).val * 256 + 128 + (i 3).val) / 128 * 128 = (i 2).val * 256 + 128 by omega]
  refine Finset.sum_congr rfl fun e _ => ?_
  refine (mul_comm _ _).trans (congrArg₂ (fun a b : EReal => a * b) ?_ (half1_at x0 x1' x2 x3 x4 x5 x6 x7 x8 x9 x10 x11 _))
  exact (at2_eq (A := 128) (B := 128) x11 _ rfl rfl).symm

/-- The scores by group, table and element. -/
theorem scores_at (i : S16x2048x8x2x128.Idx) : val_main_v105 (F := Ideal) x0 x1' x2 x3 x4 x5 x6 x7 x8 x9 x10 x11 i
    = st (row x0 x1' x2 x3 (i 0).val (i 1).val) (wts x4 x5 x6 x7 x8 x9 x10 x11) ((i 2).val * 256 + (i 3).val * 128 + (i 4).val) := by
  have b3 : (i 3).val < 2 := (i 3).isLt
  by_cases hp : (i 3).val = 0
  · refine (concatenate_pair_apply_left (s₁ := S16x2048x8x1x128) (s₂ := S16x2048x8x1x128) (3 : Fin 5) _ _ _ i rfl
      (show S16x2048x8x1x128.Idx from fun b => match b with | ⟨0, _⟩ => i 0 | ⟨1, _⟩ => i 1 | ⟨2, _⟩ => i 2 | ⟨3, _⟩ => (⟨0, Nat.one_pos⟩ : Fin 1) | ⟨4, _⟩ => i 4)
      (fun b : Fin 5 => match b with | ⟨0, _⟩ => rfl | ⟨1, _⟩ => rfl | ⟨2, _⟩ => rfl | ⟨3, _⟩ => hp.symm | ⟨4, _⟩ => rfl)).trans
      ((val_main_v103_apply _ _ _ _ _ _ _ _ _ _ _ _).trans ((scores0_at x0 x1' x2 x3 x4 x5 x6 x7 x8 x9 x10 x11 _).trans ?_))
    show st _ _ ((i 2).val * 256 + (i 4).val) = _
    rw [hp, Nat.zero_mul, Nat.add_zero]
  · have hp1 : (i 3).val = 1 := by omega
    refine (concatenate_pair_apply_right (s₁ := S16x2048x8x1x128) (s₂ := S16x2048x8x1x128) (3 : Fin 5) _ _ _ i rfl rfl
      (show S16x2048x8x1x128.Idx from fun b => match b with | ⟨0, _⟩ => i 0 | ⟨1, _⟩ => i 1 | ⟨2, _⟩ => i 2 | ⟨3, _⟩ => (⟨0, Nat.one_pos⟩ : Fin 1) | ⟨4, _⟩ => i 4)
      (fun b : Fin 5 => match b with | ⟨0, _⟩ => fun _ => rfl | ⟨1, _⟩ => fun _ => rfl | ⟨2, _⟩ => fun _ => rfl | ⟨3, _⟩ => fun hb => absurd rfl hb | ⟨4, _⟩ => fun _ => rfl)
      hp1.symm).trans
      ((val_main_v104_apply _ _ _ _ _ _ _ _ _ _ _ _).trans ((scores1_at x0 x1' x2 x3 x4 x5 x6 x7 x8 x9 x10 x11 _).trans ?_))
    show st _ _ ((i 2).val * 256 + 128 + (i 4).val) = _
    rw [hp1, Nat.one_mul]

/-! ## The results -/

theorem resultX_at (i : S32768x2048.Idx) : val_main_v106 (F := Ideal) x0 x1' x2 x3 x4 x5 x6 x7 x8 i
    = x1 (row x0 x1' x2 x3 ((i 0).val / 2048) ((i 0).val % 2048)) (wts x4 x5 x6 x7 x8 x9 x10 x11) (i 1).val := by
  have b1 : (i 1).val < 2048 := (i 1).isLt
  rw [val_main_v106_apply, x1_at x0 x1' x2 x3 x4 x5 x6 x7 x8 x9 x10 x11]
  show x1 (row x0 x1' x2 x3 (((i 0).val * 2048 + (i 1).val) / 4194304) (((i 0).val * 2048 + (i 1).val) / 2048 % 2048)) _ (((i 0).val * 2048 + (i 1).val) % 2048) = _
  rw [show ((i 0).val * 2048 + (i 1).val) / 4194304 = (i 0).val / 2048 by omega, show ((i 0).val * 2048 + (i 1).val) / 2048 % 2048 = (i 0).val % 2048 by omega, show ((i 0).val * 2048 + (i 1).val) % 2048 = (i 1).val by omega]

theorem resultH_at (i : S32768x2048.Idx) : val_main_v109 (F := Ideal) x0 x1' x2 x3 x4 x5 x6 x7 x8 i
    = clipped (row x0 x1' x2 x3 ((i 0).val / 2048) ((i 0).val % 2048)) (wts x4 x5 x6 x7 x8 x9 x10 x11) (i 1).val := by
  have b1 : (i 1).val < 2048 := (i 1).isLt
  rw [val_main_v109_apply, clipped_at x0 x1' x2 x3 x4 x5 x6 x7 x8 x9 x10 x11]
  show clipped (row x0 x1' x2 x3 (((i 0).val * 2048 + (i 1).val) / 4194304) (((i 0).val * 2048 + (i 1).val) / 2048 % 2048)) _ (((i 0).val * 2048 + (i 1).val) % 2048) = _
  rw [show ((i 0).val * 2048 + (i 1).val) / 4194304 = (i 0).val / 2048 by omega, show ((i 0).val * 2048 + (i 1).val) / 2048 % 2048 = (i 0).val % 2048 by omega, show ((i 0).val * 2048 + (i 1).val) % 2048 = (i 1).val by omega]

theorem resultS_at (i : S2048x32768.Idx) : val_main_v111 (F := Ideal) x0 x1' x2 x3 x4 x5 x6 x7 x8 x9 x10 x11 i
    = st (row x0 x1' x2 x3 ((i 1).val / 2048) ((i 1).val % 2048)) (wts x4 x5 x6 x7 x8 x9 x10 x11) (i 0).val := by
  have b0 : (i 0).val < 2048 := (i 0).isLt
  rw [val_main_v111_apply, val_main_v110_apply, scores_at]
  show st (row x0 x1' x2 x3 (((i 1).val * 2048 + (i 0).val) / 4194304) (((i 1).val * 2048 + (i 0).val) / 2048 % 2048)) _ (((i 1).val * 2048 + (i 0).val) / 256 % 8 * 256 + ((i 1).val * 2048 + (i 0).val) / 128 % 2 * 128 + ((i 1).val * 2048 + (i 0).val) % 128) = _
  rw [show ((i 1).val * 2048 + (i 0).val) / 4194304 = (i 1).val / 2048 by omega, show ((i 1).val * 2048 + (i 0).val) / 2048 % 2048 = (i 1).val % 2048 by omega,
    show ((i 1).val * 2048 + (i 0).val) / 256 % 8 * 256 + ((i 1).val * 2048 + (i 0).val) / 128 % 2 * 128 + ((i 1).val * 2048 + (i 0).val) % 128 = (i 0).val by omega]

end Cert.Post.Ref

namespace Cert.Post

open Idealize.ShloMosaic Idealize.ShloMosaic.TcCoe Idealize.SL.Sem

/-- The reference has no semaphore: its run ends with every counter at zero and its arguments as they were. -/
theorem frame_reference : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run m g)

/-- The literal that the kernel multiplies the residual stream by stands for the fourth root of two. -/
theorem preserves : Cert.preserves_Kernel3_Kernel3Ideal :=
  IdealRules.named_const.statement Cert.Kernel3Ideal.κ "alpha" .f32 0x3F9837F0#32 ((Real.sqrt (Real.sqrt 2) : ℝ) : EReal) rfl

theorem algebraic : Cert.algebraic_Kernel3Ideal_Reference3Ideal := fun m g m' g' _ hargs =>
  ⟨fun c => resultX m c, fun c => resultH m c, fun c => resultS m c,
    (θ_run Cert.Kernel3Ideal.defs _ _).mono (fun r h c => ⟨(h c).1.trans (array13 m c), (h c).2.1.trans (array14 m c), (h c).2.2.1.trans (array15 m c), (h c).2.2.2⟩)
      (Cert.Kernel3Ideal.Value.run_blocks m g),
    (θ_run Cert.Reference3Ideal.defs _ _).mono (fun r h c => by
      obtain ⟨h0, h1, h2, h3, h4, h5, h6, h7, h8, h9, h10, h11⟩ := hargs c
      have e0 : StableHlo.launchContents m' c (Proc.devRef .tc Cert.Reference3Ideal.main_arg0) = _ := h0
      have e1 : StableHlo.launchContents m' c (Proc.devRef .tc Cert.Reference3Ideal.main_arg1) = _ := h1
      have e2 : StableHlo.launchContents m' c (Proc.devRef .tc Cert.Reference3Ideal.main_arg2) = _ := h2
      have e3 : StableHlo.launchContents m' c (Proc.devRef .tc Cert.Reference3Ideal.main_arg3) = _ := h3
      have e4 : StableHlo.launchContents m' c (Proc.devRef .tc Cert.Reference3Ideal.main_arg4) = _ := h4
      have e5 : StableHlo.launchContents m' c (Proc.devRef .tc Cert.Reference3Ideal.main_arg5) = _ := h5
      have e6 : StableHlo.launchContents m' c (Proc.devRef .tc Cert.Reference3Ideal.main_arg6) = _ := h6
      have e7 : StableHlo.launchContents m' c (Proc.devRef .tc Cert.Reference3Ideal.main_arg7) = _ := h7
      have e8 : StableHlo.launchContents m' c (Proc.devRef .tc Cert.Reference3Ideal.main_arg8) = _ := h8
      have e9 : StableHlo.launchContents m' c (Proc.devRef .tc Cert.Reference3Ideal.main_arg9) = _ := h9
      have e10 : StableHlo.launchContents m' c (Proc.devRef .tc Cert.Reference3Ideal.main_arg10) = _ := h10
      have e11 : StableHlo.launchContents m' c (Proc.devRef .tc Cert.Reference3Ideal.main_arg11) = _ := h11
      refine ⟨(h c).1.trans ?_, (h c).2.1.trans ?_, (h c).2.2.1.trans ?_, (h c).2.2.2⟩
      · rw [Cert.Reference3Ideal.Read.val_main_v106_eq, e0, e1, e2, e3, e4, e5, e6, e7, e8]
        exact funext fun i => Ref.resultX_at _ _ _ _ _ _ _ _ _ (m ((c.tc : Thread _ _).loc Cert.Kernel3Ideal.main_arg9)) (m ((c.tc : Thread _ _).loc Cert.Kernel3Ideal.main_arg10))
          (m ((c.tc : Thread _ _).loc Cert.Kernel3Ideal.main_arg11)) i
      · rw [Cert.Reference3Ideal.Read.val_main_v109_eq, e0, e1, e2, e3, e4, e5, e6, e7, e8]
        exact funext fun i => Ref.resultH_at _ _ _ _ _ _ _ _ _ (m ((c.tc : Thread _ _).loc Cert.Kernel3Ideal.main_arg9)) (m ((c.tc : Thread _ _).loc Cert.Kernel3Ideal.main_arg10))
          (m ((c.tc : Thread _ _).loc Cert.Kernel3Ideal.main_arg11)) i
      · rw [Cert.Reference3Ideal.Read.val_main_v111_eq, e0, e1, e2, e3, e4, e5, e6, e7, e8, e9, e10, e11]
        exact funext fun i => Ref.resultS_at _ _ _ _ _ _ _ _ _ _ _ _ i)
      (Cert.Reference3Ideal.Value.run m' g')⟩

end Cert.Post
end
-- ==== Proof.Final.lean ====
/-
  The last layer normalisation, kernel's side: what a grid step leaves, the arrays that the host hands to the launch, and
  the array after the run.
-/
module

public import proofs.«01_k».proof.Proof.Norm
public import proofs.«01_k».proof.Proof.Gen.Kernel4Ideal.Value
public import Idealize.ShloMosaic.Lib.StableHlo.ReadAt
public import Idealize.ShloMosaic.Lib.Pipeline.ValueKit
public import Idealize.ShloMosaic.Lib.Claim

@[expose] public section

noncomputable section

namespace Cert.Final

open Idealize.ShloMosaic Idealize.ShloMosaic.TcCoe Cert.At Cert.Norm Cert.Kernel4Ideal Cert.Kernel4Ideal.Gen
open scoped BigOperators

theorem alpha_named : Named.named (F := Ideal) Cert.Kernel4Ideal.κ "alpha" (φ := .f32) 0x3F9837F0#32 = alpha :=
  IdealRules.named_const.ideal_named_scalar _ _ _ _ rfl

/-- An element of the result, over the arguments: the normalised sum of the residual stream and the modulated output of
    the mixture, with the gain and the shift. -/
def final (x1 ffn : ℕ → ℕ → ℕ → EReal) (mod : ℕ → ℕ → EReal) (gain shift : ℕ → EReal) (b r i : ℕ) : EReal :=
  layer 2048 d2048 epsLayer (fun k => alpha * x1 b r k + mod b (10240 + k) * ffn b r k) i * gain i + shift i

section Block

variable (x0 : Vec Ideal S512x2048 .f32) (x1 : Vec Ideal S2048x512 .f32) (x2 : Vec Ideal S1x1x2048 .f32) (x3 x4 : Vec Ideal S1x2048 .f32)

/-- The sum that is normalised. -/
def row (r k : ℕ) : EReal :=
  alpha * at2 (A := 512) (B := 2048) x0 r k + at3 (A := 1) (B := 1) (C := 2048) x2 0 0 k * at2 (A := 2048) (B := 512) x1 k r

/-- What a step leaves. -/
def out : Vec Ideal S512x2048 .f32 := fun y =>
  layer 2048 d2048 epsLayer (row x0 x1 x2 (y 0).val) (y 1).val * at2 (A := 1) (B := 2048) x3 0 (y 1).val + at2 (A := 1) (B := 2048) x4 0 (y 1).val

theorem pay (i : Fin 512) (j : Fin 2048) :
    k0_pay1 x0 x2 x1 x3 x4 (ValueIdx.ix2 i j) = out x0 x1 x2 x3 x4 (ValueIdx.ix2 i j) := by
  unfold k0_pay1
  simp only [shapeCast_self]
  have hx : ∀ k : Fin 2048, (addf (mulf (broadcast S512x2048 (Named.named κ "alpha" 0x3F9837F0#32)) x0)
      (mulf (broadcastTo S512x2048 (shapeCast S1x2048 x2 shapeCasts_S1x1x2048_S1x2048) broadcasts_S1x2048_S512x2048)
        (transpose S512x2048 [1, 0] x1 transposes_S2048x512_p1_0_S512x2048)) : FVec Ideal S512x2048 .f32) (ValueIdx.ix2 i k) = row x0 x1 x2 i.val k.val := by
    intro k
    refine congrArg₂ (fun a b : EReal => a + b) (congrArg₂ (fun a b : EReal => a * b) alpha_named (at2_eq (A := 512) (B := 2048) x0 _ rfl rfl).symm)
      (congrArg₂ (fun a b : EReal => a * b) ?_ ?_)
    · exact (spreadRow (R := 512) i _ broadcasts_S1x2048_S512x2048 k).trans (row3 x2 shapeCasts_S1x1x2048_S1x2048 0 k)
    · exact (ValueIdx.transpose_ix2_apply (x1 : FVec Ideal S2048x512 .f32) transposes_S2048x512_p1_0_S512x2048 i k).trans (at2_eq (A := 2048) (B := 512) x1 _ rfl rfl).symm
  refine congrArg₂ (fun a b : EReal => a + b) (congrArg₂ (fun a b : EReal => a * b) ?_ ?_) ?_
  · exact layerVec_of_mean _ reduces_S512x2048_S512 (.inl rfl) rfl shapeCasts_S512_S512x1 broadcasts_S512x1_S512x2048 i _ _ _ _ hx
      (meanVec _ reduces_S512x2048_S512 (.inl rfl) rfl shapeCasts_S512_S512x1 i _ _ hx 0) j
  · exact (spreadRow (R := 512) i _ broadcasts_S1x2048_S512x2048 j).trans (at2_eq (A := 1) (B := 2048) x3 _ rfl rfl).symm
  · exact (spreadRow (R := 512) i _ broadcasts_S1x2048_S512x2048 j).trans (at2_eq (A := 1) (B := 2048) x4 _ rfl rfl).symm

/-- The block that the body leaves. -/
theorem out_eq : out0_5 x0 x1 x2 x3 x4 = out x0 x1 x2 x3 x4 := by
  have e0 : View.ld x0 r0_0 = x0 := View.ld_unit_lit _ _ (by decide)
  have e1 : View.ld x1 r0_2 = x1 := View.ld_unit_lit _ _ (by decide)
  have e2 : View.ld x2 r0_1 = x2 := View.ld_unit_lit _ _ (by decide)
  have e3 : View.ld x3 r0_3 = x3 := View.ld_unit_lit _ _ (by decide)
  have e4 : View.ld x4 r0_3 = x4 := View.ld_unit_lit _ _ (by decide)
  refine (View.canon_cons_unit_lit _ _ _ (by decide)).trans (funext fun y => ?_)
  rw [e0, e1, e2, e3, e4, ValueIdx.eq_ix2 y]
  exact pay x0 x1 x2 x3 x4 (y 0) (y 1)

end Block

section Arrays

variable (m : (ℓ : Loc nD τ sig) → Buf (Elt Ideal) ℓ) (c : Dev nD)

/-- The arguments at an index: the residual stream, the mixture's output, the modulation, the gain and the shift. -/
abbrev x1At : ℕ → ℕ → ℕ → EReal := at3 (A := 16) (B := 2048) (C := 2048) (m ((c.tc : Thread nD τ).loc main_arg0))
abbrev ffnAt : ℕ → ℕ → ℕ → EReal := at3 (A := 16) (B := 2048) (C := 2048) (m ((c.tc : Thread nD τ).loc main_arg1))
abbrev modAt : ℕ → ℕ → EReal := at2 (A := 16) (B := 12288) (m ((c.tc : Thread nD τ).loc main_arg2))
abbrev gainAt : ℕ → EReal := at1 (A := 2048) (m ((c.tc : Thread nD τ).loc main_arg3))
abbrev shiftAt : ℕ → EReal := at1 (A := 2048) (m ((c.tc : Thread nD τ).loc main_arg4))

theorem host0 (i : Fin 32768) (j : Fin 2048) : V m c main_v0 (ValueIdx.ix2 i j) = x1At m c (i.val / 2048) (i.val % 2048) j.val := by
  unfold V
  after_reads_at
  exact (at3_eq _ _ rfl rfl rfl).symm

theorem host2 (i : Fin 2048) (j : Fin 32768) : V m c main_v2 (ValueIdx.ix2 i j) = ffnAt m c (j.val / 2048) (j.val % 2048) i.val := by
  unfold V
  after_reads_at
  exact (at3_eq _ _ rfl rfl rfl).symm

theorem host3 (i : Fin 96) (j : Fin 1) (k : Fin 2048) :
    V m c main_v3 (ValueIdx.ix3 i j k) = modAt m c (i.val / 6) (i.val % 6 * 2048 + k.val) := by
  unfold V
  after_reads_at
  exact (at2_eq _ _ rfl rfl).symm

theorem host4 (i : Fin 1) (j : Fin 2048) : V m c main_v4 (ValueIdx.ix2 i j) = gainAt m c j.val := by
  unfold V
  after_reads_at
  exact (at1_eq _ _ rfl).symm

theorem host5 (i : Fin 1) (j : Fin 2048) : V m c main_v5 (ValueIdx.ix2 i j) = shiftAt m c j.val := by
  unfold V
  after_reads_at
  exact (at1_eq _ _ rfl).symm

/-- The block that a point stages or writes: point `t` is batch `t / 4`, rows `512 (t % 4)`. -/
theorem idx : ∀ t : Fin cfg0.N, win0_0.index t = ![t.val, 0] ∧ win0_1.index t = ![0, t.val]
    ∧ win0_2.index t = ![t.val / 4 * 6 + 5, 0, 0] ∧ win0_3.index t = ![0, 0] ∧ win0_4.index t = ![0, 0] ∧ win0_5.index t = ![t.val, 0] :=
  (by decide +kernel : ∀ t : Fin grid0.N, _)

theorem blk0 (t : Fin cfg0.N) (i : Fin 512) (j : Fin 2048) :
    at2 (A := 512) (B := 2048) (iblk m c 0 t) i.val j.val = at2 (A := 32768) (B := 2048) (V m c main_v0) (t.val * 512 + i.val) (j.val) := by
  rw [at2_of_lt _ i.isLt j.isLt]
  refine Eq.trans ?_ (at2_eq (A := 32768) (B := 2048) (V m c main_v0) (((cfg0.win 0).blk t).view.emb (ValueIdx.ix2 i j)) ?_ ?_).symm
  · rfl
  · blk_simp [idx t]
  · blk_simp [idx t]

theorem blk1 (t : Fin cfg0.N) (i : Fin 2048) (j : Fin 512) :
    at2 (A := 2048) (B := 512) (iblk m c 1 t) i.val j.val = at2 (A := 2048) (B := 32768) (V m c main_v2) (i.val) (t.val * 512 + j.val) := by
  rw [at2_of_lt _ i.isLt j.isLt]
  refine Eq.trans ?_ (at2_eq (A := 2048) (B := 32768) (V m c main_v2) (((cfg0.win 1).blk t).view.emb (ValueIdx.ix2 i j)) ?_ ?_).symm
  · rfl
  · blk_simp [idx t]
  · blk_simp [idx t]

theorem blk2 (t : Fin cfg0.N) (k : Fin 2048) :
    at3 (A := 1) (B := 1) (C := 2048) (iblk m c 2 t) 0 0 k.val = at3 (A := 96) (B := 1) (C := 2048) (V m c main_v3) (t.val / 4 * 6 + 5) 0 k.val := by
  refine (at3_eq (A := 1) (B := 1) (C := 2048) (iblk m c 2 t) (ValueIdx.ix3 (0 : Fin 1) (0 : Fin 1) k) rfl rfl rfl).trans ?_
  refine Eq.trans ?_ (at3_eq (A := 96) (B := 1) (C := 2048) (V m c main_v3) (((cfg0.win 2).blk t).view.emb (ValueIdx.ix3 (0 : Fin 1) (0 : Fin 1) k)) ?_ ?_ ?_).symm
  · rfl
  · blk_simp [idx t]
  · blk_simp [idx t]
  · blk_simp [idx t]

theorem blk3 (t : Fin cfg0.N) (i : Fin 1) (j : Fin 2048) :
    at2 (A := 1) (B := 2048) (iblk m c 3 t) i.val j.val = at2 (A := 1) (B := 2048) (V m c main_v4) (i.val) (j.val) := by
  rw [at2_of_lt _ i.isLt j.isLt]
  refine Eq.trans ?_ (at2_eq (A := 1) (B := 2048) (V m c main_v4) (((cfg0.win 3).blk t).view.emb (ValueIdx.ix2 i j)) ?_ ?_).symm
  · rfl
  · blk_simp [idx t]
  · blk_simp [idx t]

theorem blk4 (t : Fin cfg0.N) (i : Fin 1) (j : Fin 2048) :
    at2 (A := 1) (B := 2048) (iblk m c 4 t) i.val j.val = at2 (A := 1) (B := 2048) (V m c main_v5) (i.val) (j.val) := by
  rw [at2_of_lt _ i.isLt j.isLt]
  refine Eq.trans ?_ (at2_eq (A := 1) (B := 2048) (V m c main_v5) (((cfg0.win 4).blk t).view.emb (ValueIdx.ix2 i j)) ?_ ?_).symm
  · rfl
  · blk_simp [idx t]
  · blk_simp [idx t]

/-- The result array. -/
def result : Vec Ideal S32768x2048 .f32 := fun i =>
  final (x1At m c) (ffnAt m c) (modAt m c) (gainAt m c) (shiftAt m c) ((i 0).val / 2048) ((i 0).val % 2048) (i 1).val

/-- What a point's body leaves, at an index of its block, is the result there. -/
theorem out_row (t : Fin cfg0.N) (y : S512x2048.Idx) (i : S32768x2048.Idx)
    (h0 : (i 0).val = t.val * 512 + (y 0).val) (h1 : (i 1).val = (y 1).val) :
    out (iblk m c 0 t) (iblk m c 1 t) (iblk m c 2 t) (iblk m c 3 t) (iblk m c 4 t) y = result m c i := by
  have hy0 : (y 0).val < 512 := (y 0).isLt
  have hy1 : (y 1).val < 2048 := (y 1).isLt
  have ht : t.val < 64 := t.isLt
  unfold out result final
  rw [h0, h1]
  refine congrArg₂ (fun a b : EReal => a + b) (congrArg₂ (fun a b : EReal => a * b) (layer_congr (fun k hk => ?_) hy1) ?_) ?_
  · refine congrArg₂ (fun a b : EReal => a + b) (congrArg (fun a : EReal => alpha * a) ?_) (congrArg₂ (fun a b : EReal => a * b) ?_ ?_)
    · refine (blk0 m c t (y 0) ⟨k, hk⟩).trans ?_
      rw [at2_of_lt _ (show t.val * 512 + (y 0).val < 32768 by omega) hk, host0]
    · refine (blk2 m c t ⟨k, hk⟩).trans ?_
      rw [at3_of_lt _ (show t.val / 4 * 6 + 5 < 96 by omega) (by norm_num) hk, host3]
      simp only
      rw [show (t.val / 4 * 6 + 5) / 6 = (t.val * 512 + (y 0).val) / 2048 by omega, show (t.val / 4 * 6 + 5) % 6 * 2048 + k = 10240 + k by omega]
    · refine (blk1 m c t ⟨k, hk⟩ (y 0)).trans ?_
      rw [at2_of_lt _ hk (show t.val * 512 + (y 0).val < 32768 by omega), host2]
  · refine (blk3 m c t 0 (y 1)).trans ?_
    rw [at2_of_lt _ (by norm_num) hy1, host4]
  · refine (blk4 m c t 0 (y 1)).trans ?_
    rw [at2_of_lt _ (by norm_num) hy1, host5]

/-- The array after the run. -/
theorem final_array : (dats m 0 c).arrAt 5 cfg0.N = result m c := by
  refine (dats m 0 c).arrAt_eq_of_covers 5 _ (by decide +kernel) fun t hf y => ?_
  have h := out_row m c t y (((cfg0.win 5).blk t).view.emb y) (by blk_simp [idx t]) (by blk_simp [idx t])
  refine Eq.trans ?_ h
  rw [after0_5, out_eq]
  rfl

end Arrays

end Cert.Final
end
-- ==== Proof.FinalRef.lean ====
/-
  The reference's last layer normalisation at an index of its result, and the claims about the pair.
-/
module

public import proofs.«01_k».proof.Defs
public import proofs.«01_k».proof.Proof.Final
public import proofs.«01_k».proof.Proof.Gen.Reference4Ideal.Read
public import proofs.«01_k».proof.Proof.Gen.Reference4Ideal.Run
public import Idealize.ShloMosaic.Lib.Quiescent

@[expose] public section

noncomputable section

namespace Cert.Final.Ref

open Idealize.ShloMosaic Idealize.ShloMosaic.TcCoe Cert.At Cert.Norm Cert.Reference4Ideal Cert.Reference4Ideal.Gen Cert.Reference4Ideal.Read
open scoped BigOperators

theorem ofBits_2 : Ideal.ofBits .f32 0x40000000#32 = ((2 : ℝ) : EReal) := by
  simp [Ideal.ofBits, Ideal.ieee, -EReal.coe_mul]; norm_num

variable (x0 x1 : (⟨S16x2048x2048, .f32⟩ : BufTy).Contents (Elt Ideal)) (x2 : (⟨S16x12288, .f32⟩ : BufTy).Contents (Elt Ideal))
  (x3 x4 : (⟨S2048, .f32⟩ : BufTy).Contents (Elt Ideal))

/-- The sum that is normalised. -/
abbrev row (b r : ℕ) : ℕ → EReal := fun k =>
  alpha * at3 (A := 16) (B := 2048) (C := 2048) x0 b r k
    + at2 (A := 16) (B := 12288) x2 b (10240 + k) * at3 (A := 16) (B := 2048) (C := 2048) x1 b r k

theorem alpha_at (i : S_.Idx) : val_main_v3 (F := Ideal) i = alpha := by
  rw [val_main_v3_apply, val_main_v2_apply, Ideal.hostUnary_sqrt_def, Ideal.hostUnary_sqrt_def]
  show Ideal.sqrt (Ideal.sqrt (Ideal.ofBits .f32 0x40000000#32)) = _
  rw [ofBits_2, Ideal.sqrt_coe, if_neg (by norm_num), Ideal.sqrt_coe, if_neg (not_lt.2 (Real.sqrt_nonneg 2))]
  rfl

theorem row_at (i : S16x2048x2048.Idx) : val_main_v8 (F := Ideal) x0 x1 x2 i = row x0 x1 x2 (i 0).val (i 1).val (i 2).val := by
  rw [val_main_v8_apply, val_main_v5_apply, val_main_v4_apply, alpha_at, val_main_v7_apply, val_main_v6_apply, val_main_v1_apply, val_main_v0_apply]
  refine congrArg₂ (fun a b : EReal => a + b) (congrArg (fun a : EReal => alpha * a) (at3_eq _ _ rfl rfl rfl).symm)
    (congrArg₂ (fun a b : EReal => a * b) (at2_eq _ _ rfl rfl).symm (at3_eq _ _ rfl rfl rfl).symm)

theorem mean_at (i : S16x2048x1.Idx) : val_main_v12 (F := Ideal) x0 x1 x2 i = mean 2048 d2048 (row x0 x1 x2 (i 0).val (i 1).val) := by
  rw [val_main_v12_apply, val_main_v10_apply, val_main_v9_apply, val_main_v11_apply, Ideal.hostDivf_def]
  refine congrArg (fun a => Ideal.div a d2048) ?_
  show Ideal.ofBits .f32 0x00000000#32 + _ = _
  rw [Ideal.ofBits_zero_f32, zero_add]
  exact Finset.sum_congr rfl fun k _ => row_at x0 x1 x2 _

theorem centred_at (i : S16x2048x2048.Idx) : val_main_v14 (F := Ideal) x0 x1 x2 i
    = row x0 x1 x2 (i 0).val (i 1).val (i 2).val - mean 2048 d2048 (row x0 x1 x2 (i 0).val (i 1).val) := by
  rw [val_main_v14_apply, val_main_v13_apply, row_at, mean_at]
  rfl

theorem square_at (i : S16x2048x1.Idx) : val_main_v19 (F := Ideal) x0 x1 x2 i
    = mean 2048 d2048 fun k => (row x0 x1 x2 (i 0).val (i 1).val k - mean 2048 d2048 (row x0 x1 x2 (i 0).val (i 1).val))
        * (row x0 x1 x2 (i 0).val (i 1).val k - mean 2048 d2048 (row x0 x1 x2 (i 0).val (i 1).val)) := by
  rw [val_main_v19_apply, val_main_v17_apply, val_main_v16_apply, val_main_v18_apply, Ideal.hostDivf_def]
  refine congrArg (fun a => Ideal.div a d2048) ?_
  show Ideal.ofBits .f32 0x00000000#32 + _ = _
  rw [Ideal.ofBits_zero_f32, zero_add]
  refine Finset.sum_congr rfl fun k _ => ?_
  rw [val_main_v15_apply, centred_at]
  rfl

theorem layer_at (i : S16x2048x2048.Idx) : val_main_v26 (F := Ideal) x0 x1 x2 i
    = layer 2048 d2048 epsLayer (row x0 x1 x2 (i 0).val (i 1).val) (i 2).val := by
  rw [val_main_v26_apply, val_main_v21_apply, val_main_v20_apply, row_at, mean_at, val_main_v25_apply, val_main_v24_apply, val_main_v23_apply,
    square_at, val_main_v22_apply, Ideal.hostUnary_rsqrt_def]
  rfl

theorem sum_at (i : S16x2048x2048.Idx) : val_main_v32 (F := Ideal) x0 x1 x2 x3 x4 i
    = final (at3 (A := 16) (B := 2048) (C := 2048) x0) (at3 (A := 16) (B := 2048) (C := 2048) x1) (at2 (A := 16) (B := 12288) x2)
        (at1 (A := 2048) x3) (at1 (A := 2048) x4) (i 0).val (i 1).val (i 2).val := by
  rw [val_main_v32_apply, val_main_v29_apply, layer_at, val_main_v28_apply, val_main_v27_apply, val_main_v31_apply, val_main_v30_apply]
  exact congrArg₂ (fun a b : EReal => a + b) (congrArg₂ (fun a b : EReal => a * b) rfl (at1_eq (A := 2048) x3 _ (i := (i 2).val) rfl).symm)
    (at1_eq (A := 2048) x4 _ (i := (i 2).val) rfl).symm

theorem result_at (i : S32768x2048.Idx) : val_main_v33 (F := Ideal) x0 x1 x2 x3 x4 i
    = final (at3 (A := 16) (B := 2048) (C := 2048) x0) (at3 (A := 16) (B := 2048) (C := 2048) x1) (at2 (A := 16) (B := 12288) x2)
        (at1 (A := 2048) x3) (at1 (A := 2048) x4) ((i 0).val / 2048) ((i 0).val % 2048) (i 1).val := by
  have h1 : (i 1).val < 2048 := (i 1).isLt
  rw [val_main_v33_apply, sum_at]
  show final _ _ _ _ _ (((i 0).val * 2048 + (i 1).val) / 4194304) (((i 0).val * 2048 + (i 1).val) / 2048 % 2048) (((i 0).val * 2048 + (i 1).val) % 2048) = _
  rw [show ((i 0).val * 2048 + (i 1).val) / 4194304 = (i 0).val / 2048 by omega,
    show ((i 0).val * 2048 + (i 1).val) / 2048 % 2048 = (i 0).val % 2048 by omega, show ((i 0).val * 2048 + (i 1).val) % 2048 = (i 1).val by omega]

end Cert.Final.Ref

namespace Cert.Final

open Idealize.ShloMosaic Idealize.ShloMosaic.TcCoe Idealize.SL.Sem

/-- The reference has no semaphore: its run ends with every counter at zero and its arguments as they were. -/
theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The literal that the kernel multiplies the residual stream by stands for the fourth root of two. -/
theorem preserves : Cert.preserves_Kernel4_Kernel4Ideal :=
  IdealRules.named_const.statement Cert.Kernel4Ideal.κ "alpha" .f32 0x3F9837F0#32 ((Real.sqrt (Real.sqrt 2) : ℝ) : EReal) rfl

theorem algebraic : Cert.algebraic_Kernel4Ideal_Reference4Ideal := fun m g m' g' _ hargs =>
  ⟨fun c => result m c,
    (θ_run Cert.Kernel4Ideal.defs _ _).mono (fun r h c => ⟨(h c).1.trans (final_array m c), (h c).2⟩) (Cert.Kernel4Ideal.Value.run_blocks m g),
    (θ_run Cert.Reference4Ideal.defs _ _).mono (fun r h c => ⟨(h c).1.trans (by
      obtain ⟨h0, h1, h2, h3, h4⟩ := hargs c
      rw [Cert.Reference4Ideal.Read.val_main_v33_eq, h0, h1, h2, h3, h4]
      exact funext fun i => Ref.result_at _ _ _ _ _ i), (h c).2⟩) (Cert.Reference4Ideal.Value.run m' g')⟩

end Cert.Final
end
-- ==== Proof.lean ====
/-
  The claims about the latent attention, the input projections, the block after the attentions, the last norm and the dilated
  attention, assembled.
-/
module

public import proofs.«01_k».proof.Proof.Gen.Kernel3.Frame
public import proofs.«01_k».proof.Proof.Gen.Reference3Ideal.Read
public import proofs.«01_k».proof.Proof.Gen.Kernel4.Frame
public import proofs.«01_k».proof.Proof.Gen.Reference4Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Latent
public import proofs.«01_k».proof.Proof.DilClaim
public import proofs.«01_k».proof.Proof.Gen.Kernel5.Frame
public import proofs.«01_k».proof.Proof.Gen.Kernel5Ideal.Frame
public import proofs.«01_k».proof.Proof.InFrame
public import proofs.«01_k».proof.Proof.ProjClaim
public import proofs.«01_k».proof.Proof.PostRef
public import proofs.«01_k».proof.Proof.FinalRef
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_qk.Gen.facts, Cert.Pre_finite_qk_a.Gen.facts,
    fun m ρ _ => Cert.Kernel.Gen.frame m ρ, fun m ρ _ => Cert.KernelIdeal.Gen.frame m ρ, fun m ρ _ => Cert.KernelIdeal.Gen.frame m ρ,
    fun m ρ _ => Cert.Latent.frame_reference m ρ, fun m ρ _ => Cert.Latent.frame_reference m ρ,
    fun m ρ _ => Cert.Kernel2.In.frame m ρ, fun m ρ _ => Cert.Kernel2Ideal.In.frame m ρ, Cert.Proj.frame_reference,
    fun m ρ _ => Cert.Kernel3.Gen.frame m ρ, fun m ρ _ => Cert.Kernel3Ideal.Gen.frame m ρ, Cert.Post.frame_reference,
    fun m ρ _ => Cert.Kernel4.Gen.frame m ρ, fun m ρ _ => Cert.Kernel4Ideal.Gen.frame m ρ, Cert.Final.frame_reference,
    fun m ρ _ => Cert.Kernel5.Gen.frame m ρ, fun m ρ _ => Cert.Kernel5Ideal.Gen.frame m ρ, fun m ρ _ => Cert.Kernel5Ideal.Gen.frame m ρ,
    fun m ρ _ => Cert.DilClaim.frame_reference m ρ, fun m ρ _ => Cert.DilClaim.frame_reference m ρ,
    trivial, Cert.Latent.algebraic, Cert.Proj.preserves, Cert.Proj.algebraic, Cert.Post.preserves, Cert.Post.algebraic, Cert.Final.preserves, Cert.Final.algebraic,
    trivial, Cert.DilClaim.algebraic⟩

end Cert.Proof

end
